-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "inv_o" .f32 0x38F2B9D6#32 ((1 / 8640 : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v10)) (v1 : (c : Dev Cert.KernelIdeal.nD) → Buf (Elt Ideal) ((c.tc : Thread Cert.KernelIdeal.nD Cert.KernelIdeal.τ).loc Cert.KernelIdeal.main_v9_0)) (v2 : (c : Dev Cert.KernelIdeal.nD) → Buf (Elt Ideal) ((c.tc : Thread Cert.KernelIdeal.nD Cert.KernelIdeal.τ).loc Cert.KernelIdeal.main_v11)) (v3 : (c : Dev Cert.KernelIdeal.nD) → Buf (Elt Ideal) ((c.tc : Thread Cert.KernelIdeal.nD Cert.KernelIdeal.τ).loc Cert.KernelIdeal.main_v13)) (v4 : (c : Dev Cert.KernelIdeal.nD) → Buf (Elt Ideal) ((c.tc : Thread Cert.KernelIdeal.nD Cert.KernelIdeal.τ).loc Cert.KernelIdeal.main_v14)) (v5 : (c : Dev Cert.KernelIdeal.nD) → Buf (Elt Ideal) ((c.tc : Thread Cert.KernelIdeal.nD Cert.KernelIdeal.τ).loc Cert.KernelIdeal.main_v7_0)) (v6 : (c : Dev Cert.KernelIdeal.nD) → Buf (Elt Ideal) ((c.tc : Thread Cert.KernelIdeal.nD Cert.KernelIdeal.τ).loc Cert.KernelIdeal.main_arg3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_v9_0) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_v14) = v4 c
          ∧ r.2.mem ((c.tc : Thread Cert.KernelIdeal.nD Cert.KernelIdeal.τ).loc Cert.KernelIdeal.main_v7_0) = v5 c
          ∧ r.2.mem ((c.tc : Thread Cert.KernelIdeal.nD Cert.KernelIdeal.τ).loc Cert.KernelIdeal.main_arg3) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v31) = v0 c
          ∧ r.2.mem ((c.tc : Thread Cert.ReferenceIdeal.nD Cert.ReferenceIdeal.τ).loc Cert.ReferenceIdeal.main_v41) = v1 c
          ∧ r.2.mem ((c.tc : Thread Cert.ReferenceIdeal.nD Cert.ReferenceIdeal.τ).loc Cert.ReferenceIdeal.main_v42) = v2 c
          ∧ r.2.mem ((c.tc : Thread Cert.ReferenceIdeal.nD Cert.ReferenceIdeal.τ).loc Cert.ReferenceIdeal.main_v43) = v3 c
          ∧ r.2.mem ((c.tc : Thread Cert.ReferenceIdeal.nD Cert.ReferenceIdeal.τ).loc Cert.ReferenceIdeal.main_v47) = v4 c
          ∧ r.2.mem ((c.tc : Thread Cert.ReferenceIdeal.nD Cert.ReferenceIdeal.τ).loc Cert.ReferenceIdeal.main_v11_0) = v5 c
          ∧ r.2.mem ((c.tc : Thread Cert.ReferenceIdeal.nD Cert.ReferenceIdeal.τ).loc Cert.ReferenceIdeal.main_arg3) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S5x3072x2880 : Shape := ⟨3, ![5, 3072, 2880]⟩
abbrev S5x3072x90 : Shape := ⟨3, ![5, 3072, 90]⟩
abbrev S8640x2880 : Shape := ⟨2, ![8640, 2880]⟩
abbrev S8640 : Shape := ⟨1, ![8640]⟩
abbrev S2880 : Shape := ⟨1, ![2880]⟩
abbrev S5x3072x8640 : Shape := ⟨3, ![5, 3072, 8640]⟩
abbrev S15360x2880 : Shape := ⟨2, ![15360, 2880]⟩
abbrev S15360x90 : Shape := ⟨2, ![15360, 90]⟩
abbrev S15360x8640 : Shape := ⟨2, ![15360, 8640]⟩
abbrev S_ : Shape := ⟨0, ![]⟩
abbrev S15360x8704 : Shape := ⟨2, ![15360, 8704]⟩
abbrev S8640x1 : Shape := ⟨2, ![8640, 1]⟩
abbrev S1x2880 : Shape := ⟨2, ![1, 2880]⟩
abbrev S8640x3072 : Shape := ⟨2, ![8640, 3072]⟩
abbrev S96x2880 : Shape := ⟨2, ![96, 2880]⟩
abbrev S96x1 : Shape := ⟨2, ![96, 1]⟩
abbrev S96x3072 : Shape := ⟨2, ![96, 3072]⟩
abbrev S96x192 : Shape := ⟨2, ![96, 192]⟩
abbrev S15x1x1024 : Shape := ⟨3, ![15, 1, 1024]⟩
abbrev S1024x2880 : Shape := ⟨2, ![1024, 2880]⟩
abbrev S1024x90 : Shape := ⟨2, ![1024, 90]⟩
abbrev S1024x1024 : Shape := ⟨2, ![1024, 1024]⟩
abbrev S960x3072 : Shape := ⟨2, ![960, 3072]⟩
abbrev S960x1 : Shape := ⟨2, ![960, 1]⟩
abbrev S1x1x1024 : Shape := ⟨3, ![1, 1, 1024]⟩
abbrev S960x2880 : Shape := ⟨2, ![960, 2880]⟩
abbrev S1024x3072 : Shape := ⟨2, ![1024, 3072]⟩
abbrev S960x1024 : Shape := ⟨2, ![960, 1024]⟩
abbrev S1024x128 : Shape := ⟨2, ![1024, 128]⟩
abbrev S15x8x1024 : Shape := ⟨3, ![15, 8, 1024]⟩
abbrev S1024x128x1 : Shape := ⟨3, ![1024, 128, 1]⟩
abbrev S1024x64 : Shape := ⟨2, ![1024, 64]⟩
abbrev S1024x192 : Shape := ⟨2, ![1024, 192]⟩
abbrev S8x256 : Shape := ⟨2, ![8, 256]⟩
abbrev S480x3072 : Shape := ⟨2, ![480, 3072]⟩
abbrev S256x3072 : Shape := ⟨2, ![256, 3072]⟩
abbrev S480x256 : Shape := ⟨2, ![480, 256]⟩
abbrev S480x1 : Shape := ⟨2, ![480, 1]⟩
abbrev S60x8x256 : Shape := ⟨3, ![60, 8, 256]⟩
abbrev S1x8x256 : Shape := ⟨3, ![1, 8, 256]⟩
abbrev S1x8x1024 : Shape := ⟨3, ![1, 8, 1024]⟩
abbrev S8x1024 : Shape := ⟨2, ![8, 1024]⟩
abbrev S1024 : Shape := ⟨1, ![1024]⟩
abbrev S1x1024 : Shape := ⟨2, ![1, 1024]⟩
abbrev S480x1024 : Shape := ⟨2, ![480, 1024]⟩
abbrev S1024x256 : Shape := ⟨2, ![1024, 256]⟩
abbrev S480x64 : Shape := ⟨2, ![480, 64]⟩
abbrev S8x2880 : Shape := ⟨2, ![8, 2880]⟩
abbrev S96 : Shape := ⟨1, ![96]⟩
abbrev S12x8x2880 : Shape := ⟨3, ![12, 8, 2880]⟩
abbrev S5x3072 : Shape := ⟨2, ![5, 3072]⟩

abbrev nBuf : Space → Nat
  | .hbm => 30
  | .vmem => 50
  | .smem => 0
  | _ => 0

abbrev bufTy : (tb : Table) → Fin (tcTables nBuf tb) → BufTy
  | .hbm, ⟨0, _⟩ => ⟨S5x3072x2880, .fp8e4m3⟩
  | .hbm, ⟨1, _⟩ => ⟨S5x3072x90, .f32⟩
  | .hbm, ⟨2, _⟩ => ⟨S8640x2880, .f32⟩
  | .hbm, ⟨3, _⟩ => ⟨S8640, .f32⟩
  | .hbm, ⟨4, _⟩ => ⟨S8640x2880, .f32⟩
  | .hbm, ⟨5, _⟩ => ⟨S8640, .f32⟩
  | .hbm, ⟨6, _⟩ => ⟨S2880, .f32⟩
  | .hbm, ⟨7, _⟩ => ⟨S5x3072x8640, .bf16⟩
  | .hbm, ⟨8, _⟩ => ⟨S15360x2880, .fp8e4m3⟩
  | .hbm, ⟨9, _⟩ => ⟨S15360x90, .f32⟩
  | .hbm, ⟨10, _⟩ => ⟨S15360x8640, .bf16⟩
  | .hbm, ⟨11, _⟩ => ⟨S_, .i32⟩
  | .hbm, ⟨12, _⟩ => ⟨S_, .bf16⟩
  | .hbm, ⟨13, _⟩ => ⟨S15360x8704, .bf16⟩
  | .hbm, ⟨14, _⟩ => ⟨S8640x1, .f32⟩
  | .hbm, ⟨15, _⟩ => ⟨S8640x1, .f32⟩
  | .hbm, ⟨16, _⟩ => ⟨S1x2880, .f32⟩
  | .hbm, ⟨17, _⟩ => ⟨S8640x2880, .i8⟩
  | .hbm, ⟨18, _⟩ => ⟨S8640x3072, .bf16⟩
  | .hbm, ⟨19, _⟩ => ⟨S15x1x1024, .f32⟩
  | .hbm, ⟨20, _⟩ => ⟨S8640x2880, .f32⟩
  | .hbm, ⟨21, _⟩ => ⟨S8640x2880, .f32⟩
  | .hbm, ⟨22, _⟩ => ⟨S8640x1, .f32⟩
  | .hbm, ⟨23, _⟩ => ⟨S8640x1, .f32⟩
  | .hbm, ⟨24, _⟩ => ⟨S8x2880, .f32⟩
  | .hbm, ⟨25, _⟩ => ⟨S5x3072, .f32⟩
  | .hbm, ⟨26, _⟩ => ⟨S8640, .f32⟩
  | .hbm, ⟨27, _⟩ => ⟨S1x2880, .f32⟩
  | .hbm, ⟨28, _⟩ => ⟨S2880, .f32⟩
  | .hbm, ⟨29, _⟩ => ⟨S8640, .f32⟩
  | .local _ .vmem, ⟨0, _⟩ => ⟨S96x2880, .f32⟩
  | .local _ .vmem, ⟨1, _⟩ => ⟨S96x2880, .f32⟩
  | .local _ .vmem, ⟨2, _⟩ => ⟨S96x1, .f32⟩
  | .local _ .vmem, ⟨3, _⟩ => ⟨S96x1, .f32⟩
  | .local _ .vmem, ⟨4, _⟩ => ⟨S96x2880, .f32⟩
  | .local _ .vmem, ⟨5, _⟩ => ⟨S96x2880, .f32⟩
  | .local _ .vmem, ⟨6, _⟩ => ⟨S96x1, .f32⟩
  | .local _ .vmem, ⟨7, _⟩ => ⟨S96x1, .f32⟩
  | .local _ .vmem, ⟨8, _⟩ => ⟨S1x2880, .f32⟩
  | .local _ .vmem, ⟨9, _⟩ => ⟨S96x2880, .i8⟩
  | .local _ .vmem, ⟨10, _⟩ => ⟨S96x2880, .i8⟩
  | .local _ .vmem, ⟨11, _⟩ => ⟨S96x3072, .bf16⟩
  | .local _ .vmem, ⟨12, _⟩ => ⟨S96x3072, .bf16⟩
  | .local _ .vmem, ⟨13, _⟩ => ⟨S1024x2880, .fp8e4m3⟩
  | .local _ .vmem, ⟨14, _⟩ => ⟨S1024x2880, .fp8e4m3⟩
  | .local _ .vmem, ⟨15, _⟩ => ⟨S1024x90, .f32⟩
  | .local _ .vmem, ⟨16, _⟩ => ⟨S1024x90, .f32⟩
  | .local _ .vmem, ⟨17, _⟩ => ⟨S1024x1024, .bf16⟩
  | .local _ .vmem, ⟨18, _⟩ => ⟨S1024x1024, .bf16⟩
  | .local _ .vmem, ⟨19, _⟩ => ⟨S960x3072, .bf16⟩
  | .local _ .vmem, ⟨20, _⟩ => ⟨S960x3072, .bf16⟩
  | .local _ .vmem, ⟨21, _⟩ => ⟨S960x1, .f32⟩
  | .local _ .vmem, ⟨22, _⟩ => ⟨S960x1, .f32⟩
  | .local _ .vmem, ⟨23, _⟩ => ⟨S1x1x1024, .f32⟩
  | .local _ .vmem, ⟨24, _⟩ => ⟨S1x1x1024, .f32⟩
  | .local _ .vmem, ⟨25, _⟩ => ⟨S960x2880, .f32⟩
  | .local _ .vmem, ⟨26, _⟩ => ⟨S960x2880, .f32⟩
  | .local _ .vmem, ⟨27, _⟩ => ⟨S1024x3072, .bf16⟩
  | .local _ .vmem, ⟨28, _⟩ => ⟨S1024x1024, .bf16⟩
  | .local _ .vmem, ⟨29, _⟩ => ⟨S960x1024, .bf16⟩
  | .local _ .vmem, ⟨30, _⟩ => ⟨S1024x128, .f32⟩
  | .local _ .vmem, ⟨31, _⟩ => ⟨S15x8x1024, .f32⟩
  | .local _ .vmem, ⟨32, _⟩ => ⟨S96x2880, .f32⟩
  | .local _ .vmem, ⟨33, _⟩ => ⟨S96x2880, .f32⟩
  | .local _ .vmem, ⟨34, _⟩ => ⟨S96x2880, .f32⟩
  | .local _ .vmem, ⟨35, _⟩ => ⟨S96x2880, .f32⟩
  | .local _ .vmem, ⟨36, _⟩ => ⟨S96x1, .f32⟩
  | .local _ .vmem, ⟨37, _⟩ => ⟨S96x1, .f32⟩
  | .local _ .vmem, ⟨38, _⟩ => ⟨S96x2880, .f32⟩
  | .local _ .vmem, ⟨39, _⟩ => ⟨S96x2880, .f32⟩
  | .local _ .vmem, ⟨40, _⟩ => ⟨S96x1, .f32⟩
  | .local _ .vmem, ⟨41, _⟩ => ⟨S96x1, .f32⟩
  | .local _ .vmem, ⟨42, _⟩ => ⟨S1x2880, .f32⟩
  | .local _ .vmem, ⟨43, _⟩ => ⟨S96x2880, .f32⟩
  | .local _ .vmem, ⟨44, _⟩ => ⟨S96x2880, .f32⟩
  | .local _ .vmem, ⟨45, _⟩ => ⟨S96x1, .f32⟩
  | .local _ .vmem, ⟨46, _⟩ => ⟨S96x1, .f32⟩
  | .local _ .vmem, ⟨47, _⟩ => ⟨S96x1, .f32⟩
  | .local _ .vmem, ⟨48, _⟩ => ⟨S96x1, .f32⟩
  | .local _ .vmem, ⟨49, _⟩ => ⟨S8x2880, .f32⟩
  | _, _ => ⟨S5x3072x2880, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | _, _ => false

abbrev semScoped : Fin 0 → Bool
  | ⟨_, h⟩ => absurd h (Nat.not_lt_zero _)

abbrev dmaSemScoped : Fin 45 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | _ => false

abbrev sig : RefSig :=
  ofTc nBuf bufTy 0 45 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7_0 : Ref sig .tc := ⟨.hbm, 17, rfl⟩
abbrev main_v7_1 : Ref sig .tc := ⟨.hbm, 18, rfl⟩
abbrev main_v8_0 : Ref sig .tc := ⟨.hbm, 19, rfl⟩
abbrev main_v8_1 : Ref sig .tc := ⟨.hbm, 20, rfl⟩
abbrev main_v9_0 : Ref sig .tc := ⟨.hbm, 21, rfl⟩
abbrev main_v9_1 : Ref sig .tc := ⟨.hbm, 22, rfl⟩
abbrev main_v9_2 : Ref sig .tc := ⟨.hbm, 23, rfl⟩
abbrev main_v9_3 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg2_1 : Ref sig .tc := ⟨.vmem, 18, rfl⟩
abbrev cc1_stg3_0 : Ref sig .tc := ⟨.vmem, 19, rfl⟩
abbrev cc1_stg3_1 : Ref sig .tc := ⟨.vmem, 20, rfl⟩
abbrev cc1_stg4_0 : Ref sig .tc := ⟨.vmem, 21, rfl⟩
abbrev cc1_stg4_1 : Ref sig .tc := ⟨.vmem, 22, rfl⟩
abbrev cc1_stg5_0 : Ref sig .tc := ⟨.vmem, 23, rfl⟩
abbrev cc1_stg5_1 : Ref sig .tc := ⟨.vmem, 24, rfl⟩
abbrev cc1_stg6_0 : Ref sig .tc := ⟨.vmem, 25, rfl⟩
abbrev cc1_stg6_1 : Ref sig .tc := ⟨.vmem, 26, rfl⟩
abbrev cc1_scratch0 : Ref sig .tc := ⟨.vmem, 27, rfl⟩
abbrev cc1_scratch1 : Ref sig .tc := ⟨.vmem, 28, rfl⟩
abbrev cc1_scratch2 : Ref sig .tc := ⟨.vmem, 29, rfl⟩
abbrev cc1_scratch3 : Ref sig .tc := ⟨.vmem, 30, rfl⟩
abbrev cc1_scratch4 : Ref sig .tc := ⟨.vmem, 31, rfl⟩
abbrev cc2_stg0_0 : Ref sig .tc := ⟨.vmem, 32, rfl⟩
abbrev cc2_stg0_1 : Ref sig .tc := ⟨.vmem, 33, rfl⟩
abbrev cc2_stg1_0 : Ref sig .tc := ⟨.vmem, 34, rfl⟩
abbrev cc2_stg1_1 : Ref sig .tc := ⟨.vmem, 35, rfl⟩
abbrev cc2_stg2_0 : Ref sig .tc := ⟨.vmem, 36, rfl⟩
abbrev cc2_stg2_1 : Ref sig .tc := ⟨.vmem, 37, rfl⟩
abbrev cc2_stg3_0 : Ref sig .tc := ⟨.vmem, 38, rfl⟩
abbrev cc2_stg3_1 : Ref sig .tc := ⟨.vmem, 39, rfl⟩
abbrev cc2_stg4_0 : Ref sig .tc := ⟨.vmem, 40, rfl⟩
abbrev cc2_stg4_1 : Ref sig .tc := ⟨.vmem, 41, rfl⟩
abbrev cc2_stg5_0 : Ref sig .tc := ⟨.vmem, 42, rfl⟩
abbrev cc2_stg6_0 : Ref sig .tc := ⟨.vmem, 43, rfl⟩
abbrev cc2_stg6_1 : Ref sig .tc := ⟨.vmem, 44, rfl⟩
abbrev cc2_stg7_0 : Ref sig .tc := ⟨.vmem, 45, rfl⟩
abbrev cc2_stg7_1 : Ref sig .tc := ⟨.vmem, 46, rfl⟩
abbrev cc2_stg8_0 : Ref sig .tc := ⟨.vmem, 47, rfl⟩
abbrev cc2_stg8_1 : Ref sig .tc := ⟨.vmem, 48, rfl⟩
abbrev cc2_stg9_0 : Ref sig .tc := ⟨.vmem, 49, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem5_1 : DmaSem sig := 10
abbrev cc0_sem6_0 : DmaSem sig := 11
abbrev cc0_sem6_1 : DmaSem sig := 12
abbrev cc1_sem0_0 : DmaSem sig := 13
abbrev cc1_sem0_1 : DmaSem sig := 14
abbrev cc1_sem1_0 : DmaSem sig := 15
abbrev cc1_sem1_1 : DmaSem sig := 16
abbrev cc1_sem2_0 : DmaSem sig := 17
abbrev cc1_sem2_1 : DmaSem sig := 18
abbrev cc1_sem3_0 : DmaSem sig := 19
abbrev cc1_sem3_1 : DmaSem sig := 20
abbrev cc1_sem4_0 : DmaSem sig := 21
abbrev cc1_sem4_1 : DmaSem sig := 22
abbrev cc1_sem5_0 : DmaSem sig := 23
abbrev cc1_sem5_1 : DmaSem sig := 24
abbrev cc1_sem6_0 : DmaSem sig := 25
abbrev cc1_sem6_1 : DmaSem sig := 26
abbrev cc2_sem0_0 : DmaSem sig := 27
abbrev cc2_sem0_1 : DmaSem sig := 28
abbrev cc2_sem1_0 : DmaSem sig := 29
abbrev cc2_sem1_1 : DmaSem sig := 30
abbrev cc2_sem2_0 : DmaSem sig := 31
abbrev cc2_sem2_1 : DmaSem sig := 32
abbrev cc2_sem3_0 : DmaSem sig := 33
abbrev cc2_sem3_1 : DmaSem sig := 34
abbrev cc2_sem4_0 : DmaSem sig := 35
abbrev cc2_sem4_1 : DmaSem sig := 36
abbrev cc2_sem5_0 : DmaSem sig := 37
abbrev cc2_sem6_0 : DmaSem sig := 38
abbrev cc2_sem6_1 : DmaSem sig := 39
abbrev cc2_sem7_0 : DmaSem sig := 40
abbrev cc2_sem7_1 : DmaSem sig := 41
abbrev cc2_sem8_0 : DmaSem sig := 42
abbrev cc2_sem8_1 : DmaSem sig := 43
abbrev cc2_sem9_0 : DmaSem sig := 44

abbrev nD : Nat := 1
abbrev τ : Topo := Topo.v7x

variable {F : FTy → Type} [FloatOps F]

abbrev grid0 : Pipeline.Grid := ⟨1, ![90], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S96x2880 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S96x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S96x2880 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S96x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2880 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S96x2880 .i8 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S96x3072 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨2, ![9, 15], ![false, false]⟩

def k1_mult1 (i : grid1.Coords) : BitVec 32 :=
  let c64_i32 : BitVec 32 := 64#32
  let arg0 : BitVec 32 := BitVec.ofNat 32 (i 0).val
  let c2_i32 : BitVec 32 := 2#32
  let v0 : BitVec 32 := Scalar.remsi arg0 c2_i32
  let v1 : BitVec 32 := Scalar.muli c64_i32 v0
  v1
def k1_off1 (i : grid1.Coords) (c0_i32_138 : BitVec 32) : Fin 2 → Nat :=
  let c64_i32 : BitVec 32 := 64#32
  let arg0 : BitVec 32 := BitVec.ofNat 32 (i 0).val
  let c2_i32 : BitVec 32 := 2#32
  let v0 : BitVec 32 := Scalar.remsi arg0 c2_i32
  let v1 : BitVec 32 := Scalar.muli c64_i32 v0
  let v2 : BitVec 32 := v1
  let v464 : BitVec 32 := Scalar.addi v2 c0_i32_138
  let v465 : Index := Scalar.indexCast v464
  let c0_139 : Index := 0#32
  ![v465.toNat, 0]
def k1_cond1 (i : grid1.Coords) : BitVec 1 :=
  let arg0 : BitVec 32 := BitVec.ofNat 32 (i 0).val
  let c0_i32_157 : BitVec 32 := 0#32
  let v506 : BitVec 1 := Scalar.cmpi .eq arg0 c0_i32_157
  let v507 : BitVec 32 := Scalar.extui v506
  let c0_i32_158 : BitVec 32 := 0#32
  let v508 : BitVec 1 := Scalar.cmpi .ne v507 c0_i32_158
  v508

def k1_off2 (i : grid1.Coords) : Fin 3 → Nat :=
  let arg1 : BitVec 32 := BitVec.ofNat 32 (i 1).val
  let v852 : Index := Scalar.indexCast arg1
  let c0_479 : Index := 0#32
  let c0_480 : Index := 0#32
  ![v852.toNat, 0, 0]
def k1_cond2 (i : grid1.Coords) : BitVec 1 :=
  let arg0 : BitVec 32 := BitVec.ofNat 32 (i 0).val
  let c0_i32_159 : BitVec 32 := 0#32
  let v509 : BitVec 1 := Scalar.cmpi .sgt arg0 c0_i32_159
  let v510 : BitVec 32 := Scalar.extui v509
  let c0_i32_160 : BitVec 32 := 0#32
  let v511 : BitVec 1 := Scalar.cmpi .ne v510 c0_i32_160
  v511

def k1_off3 (i : grid1.Coords) : Fin 3 → Nat :=
  let arg1 : BitVec 32 := BitVec.ofNat 32 (i 1).val
  let v852 : Index := Scalar.indexCast arg1
  let c0_479 : Index := 0#32
  let c0_480 : Index := 0#32
  ![v852.toNat, 0, 0]
def k1_off4 (i : grid1.Coords) (c0_i32_167 : BitVec 32) : Fin 2 → Nat :=
  let c64_i32 : BitVec 32 := 64#32
  let arg0 : BitVec 32 := BitVec.ofNat 32 (i 0).val
  let c2_i32 : BitVec 32 := 2#32
  let v0 : BitVec 32 := Scalar.remsi arg0 c2_i32
  let v1 : BitVec 32 := Scalar.muli c64_i32 v0
  let v2 : BitVec 32 := v1
  let v517 : BitVec 32 := Scalar.addi v2 c0_i32_167
  let v518 : Index := Scalar.indexCast v517
  let c256_168 : Index := 256#32
  ![v518.toNat, 256]
def k1_cond3 (i : grid1.Coords) : BitVec 1 :=
  let arg0 : BitVec 32 := BitVec.ofNat 32 (i 0).val
  let c0_i32_188 : BitVec 32 := 0#32
  let v559 : BitVec 1 := Scalar.cmpi .eq arg0 c0_i32_188
  let v560 : BitVec 32 := Scalar.extui v559
  let c0_i32_189 : BitVec 32 := 0#32
  let v561 : BitVec 1 := Scalar.cmpi .ne v560 c0_i32_189
  v561

def k1_off5 (i : grid1.Coords) : Fin 3 → Nat :=
  let arg1 : BitVec 32 := BitVec.ofNat 32 (i 1).val
  let v852 : Index := Scalar.indexCast arg1
  let c0_479 : Index := 0#32
  let c256_480 : Index := 256#32
  ![v852.toNat, 0, 256]
def k1_cond4 (i : grid1.Coords) : BitVec 1 :=
  let arg0 : BitVec 32 := BitVec.ofNat 32 (i 0).val
  let c0_i32_190 : BitVec 32 := 0#32
  let v562 : BitVec 1 := Scalar.cmpi .sgt arg0 c0_i32_190
  let v563 : BitVec 32 := Scalar.extui v562
  let c0_i32_191 : BitVec 32 := 0#32
  let v564 : BitVec 1 := Scalar.cmpi .ne v563 c0_i32_191
  v564

def k1_off6 (i : grid1.Coords) : Fin 3 → Nat :=
  let arg1 : BitVec 32 := BitVec.ofNat 32 (i 1).val
  let v852 : Index := Scalar.indexCast arg1
  let c0_479 : Index := 0#32
  let c256_480 : Index := 256#32
  ![v852.toNat, 0, 256]
def k1_off7 (i : grid1.Coords) (c0_i32_198 : BitVec 32) : Fin 2 → Nat :=
  let c64_i32 : BitVec 32 := 64#32
  let arg0 : BitVec 32 := BitVec.ofNat 32 (i 0).val
  let c2_i32 : BitVec 32 := 2#32
  let v0 : BitVec 32 := Scalar.remsi arg0 c2_i32
  let v1 : BitVec 32 := Scalar.muli c64_i32 v0
  let v2 : BitVec 32 := v1
  let v570 : BitVec 32 := Scalar.addi v2 c0_i32_198
  let v571 : Index := Scalar.indexCast v570
  let c512_199 : Index := 512#32
  ![v571.toNat, 512]
def k1_cond5 (i : grid1.Coords) : BitVec 1 :=
  let arg0 : BitVec 32 := BitVec.ofNat 32 (i 0).val
  let c0_i32_219 : BitVec 32 := 0#32
  let v612 : BitVec 1 := Scalar.cmpi .eq arg0 c0_i32_219
  let v613 : BitVec 32 := Scalar.extui v612
  let c0_i32_220 : BitVec 32 := 0#32
  let v614 : BitVec 1 := Scalar.cmpi .ne v613 c0_i32_220
  v614

def k1_off8 (i : grid1.Coords) : Fin 3 → Nat :=
  let arg1 : BitVec 32 := BitVec.ofNat 32 (i 1).val
  let v852 : Index := Scalar.indexCast arg1
  let c0_479 : Index := 0#32
  let c512_480 : Index := 512#32
  ![v852.toNat, 0, 512]
def k1_cond6 (i : grid1.Coords) : BitVec 1 :=
  let arg0 : BitVec 32 := BitVec.ofNat 32 (i 0).val
  let c0_i32_221 : BitVec 32 := 0#32
  let v615 : BitVec 1 := Scalar.cmpi .sgt arg0 c0_i32_221
  let v616 : BitVec 32 := Scalar.extui v615
  let c0_i32_222 : BitVec 32 := 0#32
  let v617 : BitVec 1 := Scalar.cmpi .ne v616 c0_i32_222
  v617

def k1_off9 (i : grid1.Coords) : Fin 3 → Nat :=
  let arg1 : BitVec 32 := BitVec.ofNat 32 (i 1).val
  let v852 : Index := Scalar.indexCast arg1
  let c0_479 : Index := 0#32
  let c512_480 : Index := 512#32
  ![v852.toNat, 0, 512]
def k1_off10 (i : grid1.Coords) (c0_i32_229 : BitVec 32) : Fin 2 → Nat :=
  let c64_i32 : BitVec 32 := 64#32
  let arg0 : BitVec 32 := BitVec.ofNat 32 (i 0).val
  let c2_i32 : BitVec 32 := 2#32
  let v0 : BitVec 32 := Scalar.remsi arg0 c2_i32
  let v1 : BitVec 32 := Scalar.muli c64_i32 v0
  let v2 : BitVec 32 := v1
  let v623 : BitVec 32 := Scalar.addi v2 c0_i32_229
  let v624 : Index := Scalar.indexCast v623
  let c768_230 : Index := 768#32
  ![v624.toNat, 768]
def k1_cond7 (i : grid1.Coords) : BitVec 1 :=
  let arg0 : BitVec 32 := BitVec.ofNat 32 (i 0).val
  let c0_i32_250 : BitVec 32 := 0#32
  let v665 : BitVec 1 := Scalar.cmpi .eq arg0 c0_i32_250
  let v666 : BitVec 32 := Scalar.extui v665
  let c0_i32_251 : BitVec 32 := 0#32
  let v667 : BitVec 1 := Scalar.cmpi .ne v666 c0_i32_251
  v667

def k1_off11 (i : grid1.Coords) : Fin 3 → Nat :=
  let arg1 : BitVec 32 := BitVec.ofNat 32 (i 1).val
  let v852 : Index := Scalar.indexCast arg1
  let c0_479 : Index := 0#32
  let c768_480 : Index := 768#32
  ![v852.toNat, 0, 768]
def k1_cond8 (i : grid1.Coords) : BitVec 1 :=
  let arg0 : BitVec 32 := BitVec.ofNat 32 (i 0).val
  let c0_i32_252 : BitVec 32 := 0#32
  let v668 : BitVec 1 := Scalar.cmpi .sgt arg0 c0_i32_252
  let v669 : BitVec 32 := Scalar.extui v668
  let c0_i32_253 : BitVec 32 := 0#32
  let v670 : BitVec 1 := Scalar.cmpi .ne v669 c0_i32_253
  v670

def k1_off12 (i : grid1.Coords) : Fin 3 → Nat :=
  let arg1 : BitVec 32 := BitVec.ofNat 32 (i 1).val
  let v852 : Index := Scalar.indexCast arg1
  let c0_479 : Index := 0#32
  let c768_480 : Index := 768#32
  ![v852.toNat, 0, 768]
def k1_off13 (i : grid1.Coords) : Fin 3 → Nat :=
  let arg1 : BitVec 32 := BitVec.ofNat 32 (i 1).val
  let v671 : Index := Scalar.indexCast arg1
  let c0_254 : Index := 0#32
  let c0_255 : Index := 0#32
  ![v671.toNat, 0, 0]
def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c1024_i32 : BitVec 32 := 1024#32
  let v0 : BitVec 32 := Scalar.muli arg1 c1024_i32
  let c960_i32 : BitVec 32 := 960#32
  let v1 : BitVec 32 := Scalar.muli c960_i32 arg0
  let c128_i32 : BitVec 32 := 128#32
  let v2 : BitVec 32 := Scalar.divsi v1 c128_i32
  let c0_i32 : BitVec 32 := 0#32
  let v3 : BitVec 1 := Scalar.cmpi .sgt v1 c0_i32
  let v4 : BitVec 32 := Scalar.extui v3
  let c0_i32_0 : BitVec 32 := 0#32
  let v5 : BitVec 1 := Scalar.cmpi .slt v1 c0_i32_0
  let v6 : BitVec 32 := Scalar.extui v5
  let v7 : BitVec 32 := Scalar.subi v4 v6
  let c0_i32_1 : BitVec 32 := 0#32
  let v8 : BitVec 1 := Scalar.cmpi .sgt c128_i32 c0_i32_1
  let v9 : BitVec 32 := Scalar.extui v8
  let c0_i32_2 : BitVec 32 := 0#32
  let v10 : BitVec 1 := Scalar.cmpi .slt c128_i32 c0_i32_2
  let v11 : BitVec 32 := Scalar.extui v10
  let v12 : BitVec 32 := Scalar.subi v9 v11
  let v13 : BitVec 1 := Scalar.cmpi .ne v7 v12
  let v14 : BitVec 32 := Scalar.remsi v1 c128_i32
  let c0_i32_3 : BitVec 32 := 0#32
  let v15 : BitVec 1 := Scalar.cmpi .ne v14 c0_i32_3
  let v16 : BitVec 1 := Scalar.andi v13 v15
  let c1_i32 : BitVec 32 := 1#32
  let v17 : BitVec 32 := Scalar.subi v2 c1_i32
  let v18 : BitVec 32 := Scalar.select v16 v17 v2
  let c128_i32_4 : BitVec 32 := 128#32
  let v19 : BitVec 32 := Scalar.muli v18 c128_i32_4
  let c0_i32_5 : BitVec 32 := 0#32
  ![v0.toNat, v19.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_5 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg1.toNat, c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S1024x2880 .fp8e4m3 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![false, true]

abbrev stage1_1 : Fin 2 → Memref sig .tc .vmem S1024x90 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S960x3072 .bf16 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev stage1_4 : Fin 2 → Memref sig .tc .vmem S960x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

abbrev stage1_5 : Fin 2 → Memref sig .tc .vmem S1x1x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![false, true]

abbrev stage1_6 : Fin 2 → Memref sig .tc .vmem S960x2880 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, false]

abbrev grid2 : Pipeline.Grid := ⟨1, ![90], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S96x2880 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S96x2880 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S96x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S96x2880 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S96x1 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 1 → Memref sig .tc .vmem S1x2880 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 2 → Memref sig .tc .vmem S96x2880 .f32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S96x1 .f32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

abbrev stage2_8 : Fin 2 → Memref sig .tc .vmem S96x1 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

abbrev stage2_9 : Fin 1 → Memref sig .tc .vmem S8x2880 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]
-- ==== KernelIdeal.lean ====
variable {F : FTy → Type} [FloatOps F] [Named F]
def κ : String → Option EReal := fun
  | "inv_o" => some ((1 / 8640 : ℝ) : EReal)
  | _ => none
-- ==== ReferenceIdeal.lean ====
abbrev S5x3072x2880 : Shape := ⟨3, ![5, 3072, 2880]⟩
abbrev S5x3072x90 : Shape := ⟨3, ![5, 3072, 90]⟩
abbrev S8640x2880 : Shape := ⟨2, ![8640, 2880]⟩
abbrev S8640 : Shape := ⟨1, ![8640]⟩
abbrev S2880 : Shape := ⟨1, ![2880]⟩
abbrev S5x3072x8640 : Shape := ⟨3, ![5, 3072, 8640]⟩
abbrev S8640x1 : Shape := ⟨2, ![8640, 1]⟩
abbrev S1x2880 : Shape := ⟨2, ![1, 2880]⟩
abbrev S_ : Shape := ⟨0, ![]⟩
abbrev S5x3072x90x32 : Shape := ⟨4, ![5, 3072, 90, 32]⟩
abbrev S1x1x8640 : Shape := ⟨3, ![1, 1, 8640]⟩
abbrev S5x3072 : Shape := ⟨2, ![5, 3072]⟩

abbrev nBuf : Space → Nat
  | .hbm => 71
  | .vmem => 6
  | .smem => 0
  | _ => 0

abbrev bufTy : (tb : Table) → Fin (tcTables nBuf tb) → BufTy
  | .hbm, ⟨0, _⟩ => ⟨S5x3072x2880, .fp8e4m3⟩
  | .hbm, ⟨1, _⟩ => ⟨S5x3072x90, .f32⟩
  | .hbm, ⟨2, _⟩ => ⟨S8640x2880, .f32⟩
  | .hbm, ⟨3, _⟩ => ⟨S8640, .f32⟩
  | .hbm, ⟨4, _⟩ => ⟨S8640x2880, .f32⟩
  | .hbm, ⟨5, _⟩ => ⟨S8640, .f32⟩
  | .hbm, ⟨6, _⟩ => ⟨S2880, .f32⟩
  | .hbm, ⟨7, _⟩ => ⟨S5x3072x8640, .bf16⟩
  | .hbm, ⟨8, _⟩ => ⟨S8640x1, .f32⟩
  | .hbm, ⟨9, _⟩ => ⟨S8640x2880, .f32⟩
  | .hbm, ⟨10, _⟩ => ⟨S8640x2880, .f32⟩
  | .hbm, ⟨11, _⟩ => ⟨S1x2880, .f32⟩
  | .hbm, ⟨12, _⟩ => ⟨S8640x2880, .f32⟩
  | .hbm, ⟨13, _⟩ => ⟨S8640x2880, .f32⟩
  | .hbm, ⟨14, _⟩ => ⟨S8640x1, .f32⟩
  | .hbm, ⟨15, _⟩ => ⟨S8640x2880, .f32⟩
  | .hbm, ⟨16, _⟩ => ⟨S8640x2880, .f32⟩
  | .hbm, ⟨17, _⟩ => ⟨S8640x2880, .f32⟩
  | .hbm, ⟨18, _⟩ => ⟨S8640x2880, .f32⟩
  | .hbm, ⟨19, _⟩ => ⟨S8640x2880, .i8⟩
  | .hbm, ⟨20, _⟩ => ⟨S8640x2880, .bf16⟩
  | .hbm, ⟨21, _⟩ => ⟨S8640x2880, .f32⟩
  | .hbm, ⟨22, _⟩ => ⟨S5x3072x2880, .bf16⟩
  | .hbm, ⟨23, _⟩ => ⟨S_, .f32⟩
  | .hbm, ⟨24, _⟩ => ⟨S8640x2880, .f32⟩
  | .hbm, ⟨25, _⟩ => ⟨S8640x2880, .i1⟩
  | .hbm, ⟨26, _⟩ => ⟨S_, .f32⟩
  | .hbm, ⟨27, _⟩ => ⟨S8640x2880, .f32⟩
  | .hbm, ⟨28, _⟩ => ⟨S8640x2880, .i1⟩
  | .hbm, ⟨29, _⟩ => ⟨S8640x2880, .i1⟩
  | .hbm, ⟨30, _⟩ => ⟨S_, .f32⟩
  | .hbm, ⟨31, _⟩ => ⟨S_, .f32⟩
  | .hbm, ⟨32, _⟩ => ⟨S8640x2880, .f32⟩
  | .hbm, ⟨33, _⟩ => ⟨S8640x2880, .f32⟩
  | .hbm, ⟨34, _⟩ => ⟨S8640x2880, .f32⟩
  | .hbm, ⟨35, _⟩ => ⟨S5x3072x90x32, .f32⟩
  | .hbm, ⟨36, _⟩ => ⟨S5x3072x2880, .f32⟩
  | .hbm, ⟨37, _⟩ => ⟨S5x3072x2880, .bf16⟩
  | .hbm, ⟨38, _⟩ => ⟨S5x3072x2880, .bf16⟩
  | .hbm, ⟨39, _⟩ => ⟨S5x3072x8640, .f32⟩
  | .hbm, ⟨40, _⟩ => ⟨S1x1x8640, .f32⟩
  | .hbm, ⟨41, _⟩ => ⟨S5x3072x8640, .f32⟩
  | .hbm, ⟨42, _⟩ => ⟨S5x3072x8640, .f32⟩
  | .hbm, ⟨43, _⟩ => ⟨S5x3072x8640, .f32⟩
  | .hbm, ⟨44, _⟩ => ⟨S5x3072x8640, .f32⟩
  | .hbm, ⟨45, _⟩ => ⟨S5x3072x8640, .f32⟩
  | .hbm, ⟨46, _⟩ => ⟨S_, .f32⟩
  | .hbm, ⟨47, _⟩ => ⟨S5x3072, .f32⟩
  | .hbm, ⟨48, _⟩ => ⟨S_, .f32⟩
  | .hbm, ⟨49, _⟩ => ⟨S5x3072, .f32⟩
  | .hbm, ⟨50, _⟩ => ⟨S5x3072, .f32⟩
  | .hbm, ⟨51, _⟩ => ⟨S_, .f32⟩
  | .hbm, ⟨52, _⟩ => ⟨S5x3072x8640, .f32⟩
  | .hbm, ⟨53, _⟩ => ⟨S5x3072x8640, .f32⟩
  | .hbm, ⟨54, _⟩ => ⟨S5x3072x8640, .bf16⟩
  | .hbm, ⟨55, _⟩ => ⟨S8640x2880, .f32⟩
  | .hbm, ⟨56, _⟩ => ⟨S8640x1, .f32⟩
  | .hbm, ⟨57, _⟩ => ⟨S8640x1, .f32⟩
  | .hbm, ⟨58, _⟩ => ⟨S8640x2880, .f32⟩
  | .hbm, ⟨59, _⟩ => ⟨S8640x2880, .f32⟩
  | .hbm, ⟨60, _⟩ => ⟨S8640x2880, .f32⟩
  | .hbm, ⟨61, _⟩ => ⟨S8640x2880, .f32⟩
  | .hbm, ⟨62, _⟩ => ⟨S_, .f32⟩
  | .hbm, ⟨63, _⟩ => ⟨S8640, .f32⟩
  | .hbm, ⟨64, _⟩ => ⟨S_, .f32⟩
  | .hbm, ⟨65, _⟩ => ⟨S2880, .f32⟩
  | .hbm, ⟨66, _⟩ => ⟨S8640x2880, .f32⟩
  | .hbm, ⟨67, _⟩ => ⟨S8640x2880, .f32⟩
  | .hbm, ⟨68, _⟩ => ⟨S8640x2880, .f32⟩
  | .hbm, ⟨69, _⟩ => ⟨S_, .f32⟩
  | .hbm, ⟨70, _⟩ => ⟨S8640, .f32⟩
  | .local _ .vmem, ⟨0, _⟩ => ⟨S8640x2880, .f32⟩
  | .local _ .vmem, ⟨1, _⟩ => ⟨S5x3072x2880, .fp8e4m3⟩
  | .local _ .vmem, ⟨2, _⟩ => ⟨S8640x2880, .i8⟩
  | .local _ .vmem, ⟨3, _⟩ => ⟨S8640x2880, .bf16⟩
  | .local _ .vmem, ⟨4, _⟩ => ⟨S8640x2880, .f32⟩
  | .local _ .vmem, ⟨5, _⟩ => ⟨S5x3072x2880, .bf16⟩
  | _, _ => ⟨S5x3072x2880, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_cst_0 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_cst_1 : Ref sig .tc := ⟨.hbm, 30, rfl⟩
abbrev main_cst_2 : Ref sig .tc := ⟨.hbm, 31, rfl⟩
abbrev main_call0_v0 : Ref sig .tc := ⟨.hbm, 32, rfl⟩
abbrev main_call0_v1 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_cst_4 : Ref sig .tc := ⟨.hbm, 48, rfl⟩
abbrev main_v30 : Ref sig .tc := ⟨.hbm, 49, rfl⟩
abbrev main_v31 : Ref sig .tc := ⟨.hbm, 50, rfl⟩
abbrev main_cst_5 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_cst_6 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_8 : Ref sig .tc := ⟨.hbm, 69, rfl⟩
abbrev main_v47 : Ref sig .tc := ⟨.hbm, 70, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

abbrev stage0_0 : Fin 1 → Memref sig .tc .vmem S8640x2880 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S5x3072x2880 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S8640x2880 .i8 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S8640x2880 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S8640x2880 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S5x3072x2880 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== Proof.Same.lean ====
module

public import proofs.«01_k».proof.Defs
public import proofs.«01_k».proof.Proof.Gen.Kernel
public import proofs.«01_k».proof.Proof.Gen.KernelIdeal
public import Idealize.ShloMosaic.Lib.Tactic

@[expose] public section

set_option maxRecDepth 65536

noncomputable section
namespace Cert
open Idealize.ShloMosaic Idealize.SL.Sem

/-- At bit patterns a named constant is its bits. -/
@[reducible] def namedBits : Named Bits := ⟨fun _ _ _ b => Scalar.ofBits _ b⟩

attribute [local instance] namedBits

/-- The frame statement of the idealized program, at bit patterns. -/
def FrameAtBits : Prop :=
  ∀ (m : (ℓ : Loc Cert.KernelIdeal.nD Cert.KernelIdeal.τ Cert.KernelIdeal.sig) → Buf (Elt Bits) ℓ) (g : Dev Cert.KernelIdeal.nD → PrngReg),
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

set_option maxHeartbeats 4000000 in
/-- The two programs print alike but for the named constant: at bit patterns they are one program. -/
theorem frame_same : (∀ (m : (ℓ : Loc Cert.Kernel.nD Cert.Kernel.τ Cert.Kernel.sig) → Buf (Elt Bits) ℓ) (g : Dev Cert.Kernel.nD → PrngReg),
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)) = FrameAtBits := by
  sl_kernel_rfl
end Cert
end
-- ==== Proof.K.MainX.lean ====
module

public import proofs.«01_k».proof.Proof.Gen.KernelIdeal.Skeleton
public import Idealize.ShloMosaic.Lib.Pipeline.FrameBody
public import Idealize.ShloMosaic.Lib.Pipeline.Value
public import Idealize.ShloMosaic.Lib.Pipeline.ReadBack
public import Idealize.ShloMosaic.Lib.PointwiseCore
public import Idealize.ShloMosaic.Lib.Ring
public import Idealize.ShloMosaic.Lib.Tactic

@[expose] public section

set_option maxRecDepth 16384

noncomputable section

namespace Cert.KernelIdeal.Gen

open Idealize.ShloMosaic Idealize.ShloMosaic.TcCoe
open View (canon Piece PiecesOf)

variable {F : FTy → Type} [FloatOps F] [Named F]

/-- The group number each lane reads, for the 128 columns whose first group is `n`: `n + lane / 32`, as the kernel computes it. -/
def groupOf (n : BitVec 32) : IVec S1024x128 32 :=
  shapeCast S1024x128 (shapeCast S1024x128x1
    (select (cmpi .slt (addi k1_pay3 (broadcast S1024x128 n)) (broadcast S1024x128 0#32))
      (addi (addi k1_pay3 (broadcast S1024x128 n)) (broadcast S1024x128 128#32)) (addi k1_pay3 (broadcast S1024x128 n)))
    shapeCasts_S1024x128_S1024x128x1) shapeCasts_S1024x128x1_S1024x128

/-- The group number of lane `l` on words: the floor quotient of the lane by 32, written as the kernel writes it. -/
def laneWord (x : BitVec 32) : BitVec 32 :=
  Scalar.select (IntOp.andi
      (IntOp.cmpi .ne (IntOp.subi ((IntOp.cmpi .sgt x 0#32).setWidth 32) ((IntOp.cmpi .slt x 0#32).setWidth 32)) 1#32)
      (IntOp.cmpi .ne (IntOp.remsi .vector x 32#32) 0#32))
    (IntOp.subi (IntOp.divsi .vector x 32#32) 1#32) (IntOp.divsi .vector x 32#32)

/-- Decided over the 128 lanes and the 23 column blocks. -/
theorem laneWord_val : ∀ (l : Fin 128) (j : Fin 23),
    (Scalar.select (IntOp.cmpi .slt (IntOp.addi (laneWord (BitVec.ofNat 32 l.val)) (BitVec.ofNat 32 (4 * j.val))) 0#32)
      (IntOp.addi (IntOp.addi (laneWord (BitVec.ofNat 32 l.val)) (BitVec.ofNat 32 (4 * j.val))) 128#32)
      (IntOp.addi (laneWord (BitVec.ofNat 32 l.val)) (BitVec.ofNat 32 (4 * j.val)))).toNat = 4 * j.val + l.val / 32 := by
  decide +kernel

theorem pay3_apply (r : Fin 1024) (l : Fin 128) : k1_pay3 (ix2 r l) = laneWord (BitVec.ofNat 32 l.val) := by
  have h : (iota .tc S1024x128 32 [1] iota_S1024x128_d1_w32 : IVec S1024x128 32) (ix2 r l) = BitVec.ofNat 32 l.val := by
    unfold iota
    simp only [List.foldl_cons, List.foldl_nil, Nat.zero_mul, Nat.zero_add, ix2_1]
  unfold k1_pay3
  show Scalar.select (IntOp.andi _ _) _ _ = _
  simp only [pointwise, h]
  rfl

/-- The group number lane `l` reads in column block `j` is `4 j + l / 32`. -/
theorem groupOf_val (r : Fin 1024) (l : Fin 128) (j : Fin 23) :
    (groupOf (BitVec.ofNat 32 (4 * j.val)) (ix2 r l)).toNat = 4 * j.val + l.val / 32 := by
  unfold groupOf
  rw [shapeCast_shapeCast]
  simp only [pointwise]
  rw [pay3_apply]
  exact laneWord_val l j

/-- 128 dequantised columns of the activation block: the fp8 values times their group's scale. -/
def deq (n : BitVec 32) (v8 : Vec F S1024x128 .f32) (x : Vec F S1024x128 .fp8e4m3) : FVec F S1024x128 .bf16 :=
  mulf (extf .bf16 x bitsLt_fp8e4m3_bf16) (truncf .bf16 (dynamicGather 1 v8 (groupOf n)) bitsLt_bf16_f32)

/-- The dequantised activation block: column `k < 2880` of row `r` is the fp8 value times the scale of group `k / 32`; the padding columns are zero. -/
def XB (x0 : Vec F S1024x2880 .fp8e4m3) (x1 : Vec F S1024x90 .f32) : Vec F S1024x3072 .bf16 := fun i =>
  if h : (i 1).val < 2880 then
    FloatOps.mulf (FloatOps.extf .bf16 bitsLt_fp8e4m3_bf16 (x0 (ix2 (n0 := 1024) (n1 := 2880) (i 0) ⟨(i 1).val, h⟩)))
      (FloatOps.truncf .bf16 bitsLt_bf16_f32 (x1 (ix2 (n0 := 1024) (n1 := 90) (i 0) ⟨(i 1).val / 32, by omega⟩)))
  else Scalar.ofBits .bf16 0x0000#16

/-- `XB` at a column before the padding. -/
theorem XB_lt (x0 : Vec F S1024x2880 .fp8e4m3) (x1 : Vec F S1024x90 .f32) (i : S1024x3072.Idx) (r : Fin 1024) (k : ℕ) (hk : k < 2880)
    (h0 : (i 0).val = r.val) (h1 : (i 1).val = k) :
    XB x0 x1 i = FloatOps.mulf (FloatOps.extf .bf16 bitsLt_fp8e4m3_bf16 (x0 (ix2 r ⟨k, hk⟩)))
      (FloatOps.truncf .bf16 bitsLt_bf16_f32 (x1 (ix2 r ⟨k / 32, by omega⟩))) := by
  subst h1
  obtain rfl : i 0 = r := Fin.ext h0
  unfold XB
  rw [dif_pos hk]

/-- `XB` at a padding column. -/
theorem XB_ge (x0 : Vec F S1024x2880 .fp8e4m3) (x1 : Vec F S1024x90 .f32) (i : S1024x3072.Idx) (h : ¬ (i 1).val < 2880) :
    XB x0 x1 i = Scalar.ofBits .bf16 0x0000#16 := by
  unfold XB
  rw [dif_neg h]

/-! Each stored block of 128 columns is `deq` of the raw block. -/

theorem deq_0 (v8 : Vec F S1024x128 .f32) (x : Vec F S1024x128 .fp8e4m3) : k1_pay7 v8 k1_pay4 k1_pay5 k1_pay6 x = deq (BitVec.ofNat 32 (4 * 0)) v8 x := by
  unfold deq; simp only [k1_pay4, k1_pay5, k1_pay6, k1_pay7, shapeCast_self]; rfl
theorem deq_128 (v8 : Vec F S1024x128 .f32) (x : Vec F S1024x128 .fp8e4m3) : k1_pay8 v8 k1_pay3 x = deq (BitVec.ofNat 32 (4 * 1)) v8 x := by
  unfold deq; simp only [k1_pay8, shapeCast_self]; rfl
theorem deq_256 (v8 : Vec F S1024x128 .f32) (x : Vec F S1024x128 .fp8e4m3) : k1_pay10 (k1_pay9 v8 k1_pay3) x = deq (BitVec.ofNat 32 (4 * 2)) v8 x := by
  unfold deq; simp only [k1_pay10, k1_pay9, shapeCast_self]; rfl
theorem deq_384 (v8 : Vec F S1024x128 .f32) (x : Vec F S1024x128 .fp8e4m3) : k1_pay11 v8 k1_pay3 x = deq (BitVec.ofNat 32 (4 * 3)) v8 x := by
  unfold deq; simp only [k1_pay11, shapeCast_self]; rfl
theorem deq_512 (v8 : Vec F S1024x128 .f32) (x : Vec F S1024x128 .fp8e4m3) : k1_pay13 (k1_pay12 v8 k1_pay3 x) = deq (BitVec.ofNat 32 (4 * 4)) v8 x := by
  unfold deq; simp only [k1_pay12, k1_pay13, shapeCast_self]; rfl
theorem deq_640 (v8 : Vec F S1024x128 .f32) (x : Vec F S1024x128 .fp8e4m3) : k1_pay14 v8 k1_pay3 x = deq (BitVec.ofNat 32 (4 * 5)) v8 x := by
  unfold deq; simp only [k1_pay14, shapeCast_self]; rfl
theorem deq_768 (v8 : Vec F S1024x128 .f32) (x : Vec F S1024x128 .fp8e4m3) : k1_pay15 v8 k1_pay3 x = deq (BitVec.ofNat 32 (4 * 6)) v8 x := by
  unfold deq; simp only [k1_pay15, shapeCast_self]; rfl
theorem deq_896 (v8 : Vec F S1024x128 .f32) (x : Vec F S1024x128 .fp8e4m3) : k1_pay18 v8 (k1_pay16 k1_pay3) (k1_pay17 k1_pay3) x = deq (BitVec.ofNat 32 (4 * 7)) v8 x := by
  unfold deq; simp only [k1_pay16, k1_pay17, k1_pay18, shapeCast_self]; rfl
theorem deq_1024 (v8 : Vec F S1024x128 .f32) (x : Vec F S1024x128 .fp8e4m3) : k1_pay19 v8 k1_pay3 x = deq (BitVec.ofNat 32 (4 * 8)) v8 x := by
  unfold deq; simp only [k1_pay19, shapeCast_self]; rfl
theorem deq_1152 (v8 : Vec F S1024x128 .f32) (x : Vec F S1024x128 .fp8e4m3) : k1_pay21 (k1_pay20 v8 k1_pay3) x = deq (BitVec.ofNat 32 (4 * 9)) v8 x := by
  unfold deq; simp only [k1_pay20, k1_pay21, shapeCast_self]; rfl
theorem deq_1280 (v8 : Vec F S1024x128 .f32) (x : Vec F S1024x128 .fp8e4m3) : k1_pay22 v8 k1_pay3 x = deq (BitVec.ofNat 32 (4 * 10)) v8 x := by
  unfold deq; simp only [k1_pay22, shapeCast_self]; rfl
theorem deq_1408 (v8 : Vec F S1024x128 .f32) (x : Vec F S1024x128 .fp8e4m3) : k1_pay24 (k1_pay23 v8 k1_pay3 x) = deq (BitVec.ofNat 32 (4 * 11)) v8 x := by
  unfold deq; simp only [k1_pay23, k1_pay24, shapeCast_self]; rfl
theorem deq_1536 (v8 : Vec F S1024x128 .f32) (x : Vec F S1024x128 .fp8e4m3) : k1_pay25 v8 k1_pay3 x = deq (BitVec.ofNat 32 (4 * 12)) v8 x := by
  unfold deq; simp only [k1_pay25, shapeCast_self]; rfl
theorem deq_1664 (v8 : Vec F S1024x128 .f32) (x : Vec F S1024x128 .fp8e4m3) : k1_pay26 v8 k1_pay3 x = deq (BitVec.ofNat 32 (4 * 13)) v8 x := by
  unfold deq; simp only [k1_pay26, shapeCast_self]; rfl
theorem deq_1792 (v8 : Vec F S1024x128 .f32) (x : Vec F S1024x128 .fp8e4m3) : k1_pay28 v8 (k1_pay27 k1_pay3) (0#32) x = deq (BitVec.ofNat 32 (4 * 14)) v8 x := by
  unfold deq; simp only [k1_pay27, k1_pay28, shapeCast_self]; rfl
theorem deq_1920 (v8 : Vec F S1024x128 .f32) (x : Vec F S1024x128 .fp8e4m3) : k1_pay29 v8 k1_pay3 x = deq (BitVec.ofNat 32 (4 * 15)) v8 x := by
  unfold deq; simp only [k1_pay29, shapeCast_self]; rfl
theorem deq_2048 (v8 : Vec F S1024x128 .f32) (x : Vec F S1024x128 .fp8e4m3) : k1_pay31 v8 (k1_pay30 k1_pay3) x = deq (BitVec.ofNat 32 (4 * 16)) v8 x := by
  unfold deq; simp only [k1_pay30, k1_pay31, shapeCast_self]; rfl
theorem deq_2176 (v8 : Vec F S1024x128 .f32) (x : Vec F S1024x128 .fp8e4m3) : k1_pay32 v8 k1_pay3 x = deq (BitVec.ofNat 32 (4 * 17)) v8 x := by
  unfold deq; simp only [k1_pay32, shapeCast_self]; rfl
theorem deq_2304 (v8 : Vec F S1024x128 .f32) (x : Vec F S1024x128 .fp8e4m3) : k1_pay34 (k1_pay33 v8 k1_pay3 x) = deq (BitVec.ofNat 32 (4 * 18)) v8 x := by
  unfold deq; simp only [k1_pay33, k1_pay34, shapeCast_self]; rfl
theorem deq_2432 (v8 : Vec F S1024x128 .f32) (x : Vec F S1024x128 .fp8e4m3) : k1_pay35 v8 k1_pay3 x = deq (BitVec.ofNat 32 (4 * 19)) v8 x := by
  unfold deq; simp only [k1_pay35, shapeCast_self]; rfl
theorem deq_2560 (v8 : Vec F S1024x128 .f32) (x : Vec F S1024x128 .fp8e4m3) : k1_pay36 v8 k1_pay3 x = deq (BitVec.ofNat 32 (4 * 20)) v8 x := by
  unfold deq; simp only [k1_pay36, shapeCast_self]; rfl
theorem deq_2688 (v8 : Vec F S1024x128 .f32) (x : Vec F S1024x128 .fp8e4m3) : k1_pay38 v8 k1_pay3 k1_pay37 x = deq (BitVec.ofNat 32 (4 * 21)) v8 x := by
  unfold deq; simp only [k1_pay37, k1_pay38, shapeCast_self]; rfl

/-- The stores into the activation scratch: the 23 dequantised column blocks and the zero padding, last first. -/
def xbPieces (v8 : Vec F S1024x128 .f32) (x0 : Vec F S1024x2880 .fp8e4m3) : List (Piece (Elt F) S1024x3072 .bf16) :=
  [⟨Rect.unit ![0, 2880] S1024x192.size inb_S1024x3072_S1024x192_0_2880, k1_pay40⟩,
   ⟨Rect.unit ![0, 2816] S1024x64.size inb_S1024x3072_S1024x64_0_2816, k1_pay39 v8 k1_pay3 (View.ld (Val := Elt F) x0 (Rect.unit (s := S1024x2880) ![0, 2816] S1024x64.size inb_S1024x2880_S1024x64_0_2816))⟩,
   ⟨Rect.unit ![0, 2688] S1024x128.size inb_S1024x3072_S1024x128_0_2688, k1_pay38 v8 k1_pay3 k1_pay37 (View.ld (Val := Elt F) x0 (Rect.unit (s := S1024x2880) ![0, 2688] S1024x128.size inb_S1024x2880_S1024x128_0_2688))⟩,
   ⟨Rect.unit ![0, 2560] S1024x128.size inb_S1024x3072_S1024x128_0_2560, k1_pay36 v8 k1_pay3 (View.ld (Val := Elt F) x0 (Rect.unit (s := S1024x2880) ![0, 2560] S1024x128.size inb_S1024x2880_S1024x128_0_2560))⟩,
   ⟨Rect.unit ![0, 2432] S1024x128.size inb_S1024x3072_S1024x128_0_2432, k1_pay35 v8 k1_pay3 (View.ld (Val := Elt F) x0 (Rect.unit (s := S1024x2880) ![0, 2432] S1024x128.size inb_S1024x2880_S1024x128_0_2432))⟩,
   ⟨Rect.unit ![0, 2304] S1024x128.size inb_S1024x3072_S1024x128_0_2304, k1_pay34 (k1_pay33 v8 k1_pay3 (View.ld (Val := Elt F) x0 (Rect.unit (s := S1024x2880) ![0, 2304] S1024x128.size inb_S1024x2880_S1024x128_0_2304)))⟩,
   ⟨Rect.unit ![0, 2176] S1024x128.size inb_S1024x3072_S1024x128_0_2176, k1_pay32 v8 k1_pay3 (View.ld (Val := Elt F) x0 (Rect.unit (s := S1024x2880) ![0, 2176] S1024x128.size inb_S1024x2880_S1024x128_0_2176))⟩,
   ⟨Rect.unit ![0, 2048] S1024x128.size inb_S1024x3072_S1024x128_0_2048, k1_pay31 v8 (k1_pay30 k1_pay3) (View.ld (Val := Elt F) x0 (Rect.unit (s := S1024x2880) ![0, 2048] S1024x128.size inb_S1024x2880_S1024x128_0_2048))⟩,
   ⟨Rect.unit ![0, 1920] S1024x128.size inb_S1024x3072_S1024x128_0_1920, k1_pay29 v8 k1_pay3 (View.ld (Val := Elt F) x0 (Rect.unit (s := S1024x2880) ![0, 1920] S1024x128.size inb_S1024x2880_S1024x128_0_1920))⟩,
   ⟨Rect.unit ![0, 1792] S1024x128.size inb_S1024x3072_S1024x128_0_1792, k1_pay28 v8 (k1_pay27 k1_pay3) (0#32) (View.ld (Val := Elt F) x0 (Rect.unit (s := S1024x2880) ![0, 1792] S1024x128.size inb_S1024x2880_S1024x128_0_1792))⟩,
   ⟨Rect.unit ![0, 1664] S1024x128.size inb_S1024x3072_S1024x128_0_1664, k1_pay26 v8 k1_pay3 (View.ld (Val := Elt F) x0 (Rect.unit (s := S1024x2880) ![0, 1664] S1024x128.size inb_S1024x2880_S1024x128_0_1664))⟩,
   ⟨Rect.unit ![0, 1536] S1024x128.size inb_S1024x3072_S1024x128_0_1536, k1_pay25 v8 k1_pay3 (View.ld (Val := Elt F) x0 (Rect.unit (s := S1024x2880) ![0, 1536] S1024x128.size inb_S1024x2880_S1024x128_0_1536))⟩,
   ⟨Rect.unit ![0, 1408] S1024x128.size inb_S1024x3072_S1024x128_0_1408, k1_pay24 (k1_pay23 v8 k1_pay3 (View.ld (Val := Elt F) x0 (Rect.unit (s := S1024x2880) ![0, 1408] S1024x128.size inb_S1024x2880_S1024x128_0_1408)))⟩,
   ⟨Rect.unit ![0, 1280] S1024x128.size inb_S1024x3072_S1024x128_0_1280, k1_pay22 v8 k1_pay3 (View.ld (Val := Elt F) x0 (Rect.unit (s := S1024x2880) ![0, 1280] S1024x128.size inb_S1024x2880_S1024x128_0_1280))⟩,
   ⟨Rect.unit ![0, 1152] S1024x128.size inb_S1024x3072_S1024x128_0_1152, k1_pay21 (k1_pay20 v8 k1_pay3) (View.ld (Val := Elt F) x0 (Rect.unit (s := S1024x2880) ![0, 1152] S1024x128.size inb_S1024x2880_S1024x128_0_1152))⟩,
   ⟨Rect.unit ![0, 1024] S1024x128.size inb_S1024x3072_S1024x128_0_1024, k1_pay19 v8 k1_pay3 (View.ld (Val := Elt F) x0 (Rect.unit (s := S1024x2880) ![0, 1024] S1024x128.size inb_S1024x2880_S1024x128_0_1024))⟩,
   ⟨Rect.unit ![0, 896] S1024x128.size inb_S1024x3072_S1024x128_0_896, k1_pay18 v8 (k1_pay16 k1_pay3) (k1_pay17 k1_pay3) (View.ld (Val := Elt F) x0 (Rect.unit (s := S1024x2880) ![0, 896] S1024x128.size inb_S1024x2880_S1024x128_0_896))⟩,
   ⟨Rect.unit ![0, 768] S1024x128.size inb_S1024x3072_S1024x128_0_768, k1_pay15 v8 k1_pay3 (View.ld (Val := Elt F) x0 (Rect.unit (s := S1024x2880) ![0, 768] S1024x128.size inb_S1024x2880_S1024x128_0_768))⟩,
   ⟨Rect.unit ![0, 640] S1024x128.size inb_S1024x3072_S1024x128_0_640, k1_pay14 v8 k1_pay3 (View.ld (Val := Elt F) x0 (Rect.unit (s := S1024x2880) ![0, 640] S1024x128.size inb_S1024x2880_S1024x128_0_640))⟩,
   ⟨Rect.unit ![0, 512] S1024x128.size inb_S1024x3072_S1024x128_0_512, k1_pay13 (k1_pay12 v8 k1_pay3 (View.ld (Val := Elt F) x0 (Rect.unit (s := S1024x2880) ![0, 512] S1024x128.size inb_S1024x2880_S1024x128_0_512)))⟩,
   ⟨Rect.unit ![0, 384] S1024x128.size inb_S1024x3072_S1024x128_0_384, k1_pay11 v8 k1_pay3 (View.ld (Val := Elt F) x0 (Rect.unit (s := S1024x2880) ![0, 384] S1024x128.size inb_S1024x2880_S1024x128_0_384))⟩,
   ⟨Rect.unit ![0, 256] S1024x128.size inb_S1024x3072_S1024x128_0_256, k1_pay10 (k1_pay9 v8 k1_pay3) (View.ld (Val := Elt F) x0 (Rect.unit (s := S1024x2880) ![0, 256] S1024x128.size inb_S1024x2880_S1024x128_0_256))⟩,
   ⟨Rect.unit ![0, 128] S1024x128.size inb_S1024x3072_S1024x128_0_128, k1_pay8 v8 k1_pay3 (View.ld (Val := Elt F) x0 (Rect.unit (s := S1024x2880) ![0, 128] S1024x128.size inb_S1024x2880_S1024x128_0_128))⟩,
   ⟨Rect.unit ![0, 0] S1024x128.size inb_S1024x3072_S1024x128_0_0, k1_pay7 v8 k1_pay4 k1_pay5 k1_pay6 (View.ld (Val := Elt F) x0 (Rect.unit (s := S1024x2880) ![0, 0] S1024x128.size inb_S1024x2880_S1024x128_0_0))⟩]

/-- A block of 128 stored columns is the block of the dequantised activations its place names. -/
theorem deq_eq_XB (v8 : Vec F S1024x128 .f32) (x0 : Vec F S1024x2880 .fp8e4m3) (x1 : Vec F S1024x90 .f32)
    (hv : ∀ (r : Fin 1024) (l : Fin 90), v8 (ix2 r ⟨l.val, by omega⟩) = x1 (ix2 r l)) (j : Fin 22) (o : ℕ) (ho : o = 128 * j.val)
    (h1 : ∀ a, (![0, o] : Fin 2 → ℕ) a + S1024x128.size a ≤ S1024x3072.size a) (h2 : ∀ a, (![0, o] : Fin 2 → ℕ) a + S1024x128.size a ≤ S1024x2880.size a)
    (x : S1024x128.Idx) :
    deq (BitVec.ofNat 32 (4 * j.val)) v8 (View.ld (Val := Elt F) x0 (Rect.unit (s := S1024x2880) ![0, o] S1024x128.size h2)) x = XB x0 x1 ((Rect.unit (s := S1024x3072) ![0, o] S1024x128.size h1).emb x) := by
  subst ho
  obtain ⟨r, l, rfl⟩ : ∃ (r : Fin 1024) (l : Fin 128), x = ix2 r l := ⟨x 0, x 1, eq_ix2 x⟩
  rw [XB_lt x0 x1 _ r (128 * j.val + l.val) (by omega) (by show 0 + 1 * r.val = r.val; omega) (by show 128 * j.val + 1 * l.val = _; omega)]
  unfold deq
  refine congrArg₂ FloatOps.mulf (congrArg _ (congrArg x0 (funext fun a => ?_))) (congrArg (FloatOps.truncf .bf16 bitsLt_bf16_f32) ?_)
  · match a with
    | ⟨0, _⟩ => exact Fin.ext (by show 0 + 1 * r.val = r.val; omega)
    | ⟨1, _⟩ => exact Fin.ext (by show 128 * j.val + 1 * l.val = 128 * j.val + l.val; omega)
  · rw [← hv]
    refine congrArg v8 (funext fun a => ?_)
    have hg := groupOf_val r l ⟨j.val, by omega⟩
    match a with
    | ⟨0, _⟩ => rfl
    | ⟨1, _⟩ => exact Fin.ext (by
        show (groupOf (BitVec.ofNat 32 (4 * j.val)) (ix2 r l)).toNat % 128 = (128 * j.val + l.val) / 32
        rw [hg]; simp only []; omega)

/-- The last 64 activation columns likewise. -/
theorem last_eq_XB (v8 : Vec F S1024x128 .f32) (x0 : Vec F S1024x2880 .fp8e4m3) (x1 : Vec F S1024x90 .f32)
    (hv : ∀ (r : Fin 1024) (l : Fin 90), v8 (ix2 r ⟨l.val, by omega⟩) = x1 (ix2 r l)) (x : S1024x64.Idx) :
    k1_pay39 v8 k1_pay3 (View.ld (Val := Elt F) x0 (Rect.unit (s := S1024x2880) ![0, 2816] S1024x64.size inb_S1024x2880_S1024x64_0_2816)) x
      = XB x0 x1 ((Rect.unit (s := S1024x3072) ![0, 2816] S1024x64.size inb_S1024x3072_S1024x64_0_2816).emb x) := by
  obtain ⟨r, l, rfl⟩ : ∃ (r : Fin 1024) (l : Fin 64), x = ix2 r l := ⟨x 0, x 1, eq_ix2 x⟩
  rw [XB_lt x0 x1 _ r (2816 + l.val) (by omega) (by show 0 + 1 * r.val = r.val; omega) (by show 2816 + 1 * l.val = _; omega)]
  have h39 : k1_pay39 v8 k1_pay3 (View.ld (Val := Elt F) x0 (Rect.unit (s := S1024x2880) ![0, 2816] S1024x64.size inb_S1024x2880_S1024x64_0_2816))
      = mulf (extf .bf16 (View.ld (Val := Elt F) x0 (Rect.unit (s := S1024x2880) ![0, 2816] S1024x64.size inb_S1024x2880_S1024x64_0_2816)) bitsLt_fp8e4m3_bf16)
        (extractStridedSlice S1024x64 ![0, 0] (truncf .bf16 (dynamicGather 1 v8 (groupOf 88#32)) bitsLt_bf16_f32) slices_S1024x128_o0_0_S1024x64) := by
    simp only [k1_pay39, shapeCast_self]; rfl
  rw [h39]
  refine congrArg₂ FloatOps.mulf (congrArg _ (congrArg x0 (funext fun a => ?_))) (congrArg (FloatOps.truncf .bf16 bitsLt_bf16_f32) ?_)
  · match a with
    | ⟨0, _⟩ => exact Fin.ext (by show 0 + 1 * r.val = r.val; omega)
    | ⟨1, _⟩ => exact Fin.ext (by show 2816 + 1 * l.val = 2816 + l.val; omega)
  · rw [← hv]
    refine congrArg v8 (funext fun a => ?_)
    have hg := groupOf_val r ⟨l.val, by omega⟩ ⟨22, by omega⟩
    have hi : (fun a => ⟨(![0, 0] : Fin 2 → ℕ) a + (ix2 r l a).val, by
        match a with
        | ⟨0, _⟩ => show 0 + r.val < 1024; omega
        | ⟨1, _⟩ => show 0 + l.val < 128; omega⟩ : S1024x128.Idx) = ix2 r ⟨l.val, by omega⟩ := by
      funext a
      match a with
      | ⟨0, _⟩ => exact Fin.ext (by show 0 + r.val = r.val; omega)
      | ⟨1, _⟩ => exact Fin.ext (by show 0 + l.val = l.val; omega)
    match a with
    | ⟨0, _⟩ => exact Fin.ext (by show 0 + r.val = r.val; omega)
    | ⟨1, _⟩ => exact Fin.ext (by
        show (groupOf 88#32 (fun a => ⟨(![0, 0] : Fin 2 → ℕ) a + (ix2 r l a).val, _⟩)).toNat % 128 = (2816 + l.val) / 32
        rw [hi]
        show (groupOf (BitVec.ofNat 32 (4 * 22)) _).toNat % 128 = _
        rw [hg]; simp only []; omega)

/-- The padding columns are zero. -/
theorem pad_eq_XB (x0 : Vec F S1024x2880 .fp8e4m3) (x1 : Vec F S1024x90 .f32) (x : S1024x192.Idx) :
    (k1_pay40 : FVec F S1024x192 .bf16) x = XB x0 x1 ((Rect.unit (s := S1024x3072) ![0, 2880] S1024x192.size inb_S1024x3072_S1024x192_0_2880).emb x) := by
  obtain ⟨r, l, rfl⟩ : ∃ (r : Fin 1024) (l : Fin 192), x = ix2 r l := ⟨x 0, x 1, eq_ix2 x⟩
  rw [XB_ge x0 x1 _ (by show ¬ 2880 + 1 * l.val < 2880; omega)]
  rfl

/-- Every store into the activation scratch is a block of the dequantised activations. -/
theorem xbPieces_of (v8 : Vec F S1024x128 .f32) (x0 : Vec F S1024x2880 .fp8e4m3) (x1 : Vec F S1024x90 .f32)
    (hv : ∀ (r : Fin 1024) (l : Fin 90), v8 (ix2 r ⟨l.val, by omega⟩) = x1 (ix2 r l)) :
    PiecesOf (XB x0 x1) (xbPieces v8 x0) := by
  refine ⟨pad_eq_XB x0 x1, last_eq_XB v8 x0 x1 hv, fun x => (congrFun (deq_2688 v8 _) x).trans (deq_eq_XB v8 x0 x1 hv ⟨21, by decide⟩ 2688 rfl inb_S1024x3072_S1024x128_0_2688 inb_S1024x2880_S1024x128_0_2688 x), fun x => (congrFun (deq_2560 v8 _) x).trans (deq_eq_XB v8 x0 x1 hv ⟨20, by decide⟩ 2560 rfl inb_S1024x3072_S1024x128_0_2560 inb_S1024x2880_S1024x128_0_2560 x), fun x => (congrFun (deq_2432 v8 _) x).trans (deq_eq_XB v8 x0 x1 hv ⟨19, by decide⟩ 2432 rfl inb_S1024x3072_S1024x128_0_2432 inb_S1024x2880_S1024x128_0_2432 x), fun x => (congrFun (deq_2304 v8 _) x).trans (deq_eq_XB v8 x0 x1 hv ⟨18, by decide⟩ 2304 rfl inb_S1024x3072_S1024x128_0_2304 inb_S1024x2880_S1024x128_0_2304 x), fun x => (congrFun (deq_2176 v8 _) x).trans (deq_eq_XB v8 x0 x1 hv ⟨17, by decide⟩ 2176 rfl inb_S1024x3072_S1024x128_0_2176 inb_S1024x2880_S1024x128_0_2176 x), fun x => (congrFun (deq_2048 v8 _) x).trans (deq_eq_XB v8 x0 x1 hv ⟨16, by decide⟩ 2048 rfl inb_S1024x3072_S1024x128_0_2048 inb_S1024x2880_S1024x128_0_2048 x), fun x => (congrFun (deq_1920 v8 _) x).trans (deq_eq_XB v8 x0 x1 hv ⟨15, by decide⟩ 1920 rfl inb_S1024x3072_S1024x128_0_1920 inb_S1024x2880_S1024x128_0_1920 x), fun x => (congrFun (deq_1792 v8 _) x).trans (deq_eq_XB v8 x0 x1 hv ⟨14, by decide⟩ 1792 rfl inb_S1024x3072_S1024x128_0_1792 inb_S1024x2880_S1024x128_0_1792 x), fun x => (congrFun (deq_1664 v8 _) x).trans (deq_eq_XB v8 x0 x1 hv ⟨13, by decide⟩ 1664 rfl inb_S1024x3072_S1024x128_0_1664 inb_S1024x2880_S1024x128_0_1664 x), fun x => (congrFun (deq_1536 v8 _) x).trans (deq_eq_XB v8 x0 x1 hv ⟨12, by decide⟩ 1536 rfl inb_S1024x3072_S1024x128_0_1536 inb_S1024x2880_S1024x128_0_1536 x), fun x => (congrFun (deq_1408 v8 _) x).trans (deq_eq_XB v8 x0 x1 hv ⟨11, by decide⟩ 1408 rfl inb_S1024x3072_S1024x128_0_1408 inb_S1024x2880_S1024x128_0_1408 x), fun x => (congrFun (deq_1280 v8 _) x).trans (deq_eq_XB v8 x0 x1 hv ⟨10, by decide⟩ 1280 rfl inb_S1024x3072_S1024x128_0_1280 inb_S1024x2880_S1024x128_0_1280 x), fun x => (congrFun (deq_1152 v8 _) x).trans (deq_eq_XB v8 x0 x1 hv ⟨9, by decide⟩ 1152 rfl inb_S1024x3072_S1024x128_0_1152 inb_S1024x2880_S1024x128_0_1152 x), fun x => (congrFun (deq_1024 v8 _) x).trans (deq_eq_XB v8 x0 x1 hv ⟨8, by decide⟩ 1024 rfl inb_S1024x3072_S1024x128_0_1024 inb_S1024x2880_S1024x128_0_1024 x), fun x => (congrFun (deq_896 v8 _) x).trans (deq_eq_XB v8 x0 x1 hv ⟨7, by decide⟩ 896 rfl inb_S1024x3072_S1024x128_0_896 inb_S1024x2880_S1024x128_0_896 x), fun x => (congrFun (deq_768 v8 _) x).trans (deq_eq_XB v8 x0 x1 hv ⟨6, by decide⟩ 768 rfl inb_S1024x3072_S1024x128_0_768 inb_S1024x2880_S1024x128_0_768 x), fun x => (congrFun (deq_640 v8 _) x).trans (deq_eq_XB v8 x0 x1 hv ⟨5, by decide⟩ 640 rfl inb_S1024x3072_S1024x128_0_640 inb_S1024x2880_S1024x128_0_640 x), fun x => (congrFun (deq_512 v8 _) x).trans (deq_eq_XB v8 x0 x1 hv ⟨4, by decide⟩ 512 rfl inb_S1024x3072_S1024x128_0_512 inb_S1024x2880_S1024x128_0_512 x), fun x => (congrFun (deq_384 v8 _) x).trans (deq_eq_XB v8 x0 x1 hv ⟨3, by decide⟩ 384 rfl inb_S1024x3072_S1024x128_0_384 inb_S1024x2880_S1024x128_0_384 x), fun x => (congrFun (deq_256 v8 _) x).trans (deq_eq_XB v8 x0 x1 hv ⟨2, by decide⟩ 256 rfl inb_S1024x3072_S1024x128_0_256 inb_S1024x2880_S1024x128_0_256 x), fun x => (congrFun (deq_128 v8 _) x).trans (deq_eq_XB v8 x0 x1 hv ⟨1, by decide⟩ 128 rfl inb_S1024x3072_S1024x128_0_128 inb_S1024x2880_S1024x128_0_128 x), fun x => (congrFun (deq_0 v8 _) x).trans (deq_eq_XB v8 x0 x1 hv ⟨0, by decide⟩ 0 rfl inb_S1024x3072_S1024x128_0_0 inb_S1024x2880_S1024x128_0_0 x), trivial⟩

/-- The stores cover the whole scratch, so that it holds the dequantised activations, whatever it held before. -/
theorem canon_xbPieces (v8 : Vec F S1024x128 .f32) (x0 : Vec F S1024x2880 .fp8e4m3) (x1 : Vec F S1024x90 .f32)
    (hv : ∀ (r : Fin 1024) (l : Fin 90), v8 (ix2 r ⟨l.val, by omega⟩) = x1 (ix2 r l)) :
    canon (xbPieces v8 x0) = XB x0 x1 := by
  funext y
  refine View.canon_apply_of_pieces (XB x0 x1) (xbPieces v8 x0) (xbPieces_of v8 x0 x1 hv).mem y ?_
  exact View.cover_of_tiledBy _ ![1024, 64] (by sl_kernel_rfl) y

end Cert.KernelIdeal.Gen
-- ==== Proof.K.MainE.lean ====
module

public import proofs.«01_k».proof.Proof.K.MainX
public import Idealize.ShloMosaic.Lib.WritesUnit
public import Idealize.ShloMosaic.Lib.Pipeline.FrameBody
public import Idealize.ShloMosaic.Lib.Pipeline.Value
public import Idealize.ShloMosaic.Lib.Pipeline.ReadBack
public import Idealize.ShloMosaic.Lib.PointwiseCore
public import Idealize.ShloMosaic.Lib.Ring
public import Idealize.ShloMosaic.Lib.Tactic

@[expose] public section

set_option maxRecDepth 16384

noncomputable section

namespace Cert.KernelIdeal.Gen

open Idealize.ShloMosaic Idealize.ShloMosaic.TcCoe
open View (canon Piece PiecesOf)

variable {F : FTy → Type} [FloatOps F] [Named F]

/-! ## The blocks one grid point works on -/

/-- Rows `480 h … 480 h + 479` of a block of weight codes. -/
def qH (x3 : Vec F S960x3072 .bf16) (h : Fin 2) : Vec F S480x3072 .bf16 :=
  View.ld (Val := Elt F) x3 (Rect.unit (s := S960x3072) ![480 * h.val, 0] S480x3072.size
    (fun a => match a with | ⟨0, _⟩ => (by show 480 * h.val + 480 ≤ 960; omega) | ⟨1, _⟩ => (by show 0 + 3072 ≤ 3072; omega)))

/-- Tokens `256 n … 256 n + 255` of the dequantised activations. -/
def xR (X : Vec F S1024x3072 .bf16) (n : Fin 4) : Vec F S256x3072 .bf16 :=
  View.ld (Val := Elt F) X (Rect.unit (s := S1024x3072) ![256 * n.val, 0] S256x3072.size
    (fun a => match a with | ⟨0, _⟩ => (by show 256 * n.val + 256 ≤ 1024; omega) | ⟨1, _⟩ => (by show 0 + 3072 ≤ 3072; omega)))

/-- The targets of rows `480 h …` and tokens `256 n …`, read from the transposed target block, whose rows start at `64 b`. -/
def yH (x2 : Vec F S1024x1024 .bf16) (b h : Fin 2) (n : Fin 4) : Vec F S480x256 .bf16 :=
  View.ld (Val := Elt F) (k1_pay41 x2) (Rect.unit (s := S1024x1024) ![64 * b.val + 480 * h.val, 256 * n.val] S480x256.size
    (fun a => match a with | ⟨0, _⟩ => (by show 64 * b.val + 480 * h.val + 480 ≤ 1024; omega) | ⟨1, _⟩ => (by show 256 * n.val + 256 ≤ 1024; omega)))

/-- The scales of rows `480 h …`. -/
def sH (x4 : Vec F S960x1 .f32) (h : Fin 2) : Vec F S480x1 .f32 :=
  View.ld (Val := Elt F) x4 (Rect.unit (s := S960x1) ![480 * h.val, 0] S480x1.size
    (fun a => match a with | ⟨0, _⟩ => (by show 480 * h.val + 480 ≤ 960; omega) | ⟨1, _⟩ => (by show 0 + 1 ≤ 1; omega)))

/-- Loads at equal offsets are equal. -/
theorem ld_unit_congr {s : Shape} {e : EltTy} (X : s.Idx → Elt F e) {o o' size : Fin s.rank → ℕ} (ho : o = o')
    (h : ∀ a, o a + size a ≤ s.size a) (h' : ∀ a, o' a + size a ≤ s.size a) :
    View.ld (Val := Elt F) X (Rect.unit o size h) = View.ld (Val := Elt F) X (Rect.unit o' size h') := by
  subst ho; rfl

/-- One chunk of the scaled, rounded residual: rows `480 h …`, tokens `256 n …`. -/
def et1 (X : Vec F S1024x3072 .bf16) (x2 : Vec F S1024x1024 .bf16) (x3 : Vec F S960x3072 .bf16) (x4 : Vec F S960x1 .f32) (b : Fin 2)
    (h : Fin 2) (n : Fin 4) : Vec F S480x256 .bf16 :=
  k1_pay43 (qH x3 h) (xR X n) (yH x2 b h n) (sH x4 h)

/-- The scaled, rounded residual of a whole block: output channels down, tokens across. -/
def ET (X : Vec F S1024x3072 .bf16) (x2 : Vec F S1024x1024 .bf16) (x3 : Vec F S960x3072 .bf16) (x4 : Vec F S960x1 .f32) (b : Fin 2) :
    Vec F S960x1024 .bf16 :=
  fun i => et1 X x2 x3 x4 b ⟨(i 0).val / 480, by have h : (i 0).val < 960 := (i 0).isLt; omega⟩ ⟨(i 1).val / 256, by have h : (i 1).val < 1024 := (i 1).isLt; omega⟩
    (ix2 ⟨(i 0).val % 480, by omega⟩ ⟨(i 1).val % 256, by omega⟩)

/-- A chunk is the block of the residual its place names. -/
theorem et1_eq_ET (X : Vec F S1024x3072 .bf16) (x2 : Vec F S1024x1024 .bf16) (x3 : Vec F S960x3072 .bf16) (x4 : Vec F S960x1 .f32) (b : Fin 2)
    (h : Fin 2) (n : Fin 4) (o p : ℕ) (ho : o = 480 * h.val) (hp : p = 256 * n.val)
    (inb : ∀ a, (![o, p] : Fin 2 → ℕ) a + S480x256.size a ≤ S960x1024.size a) (x : S480x256.Idx) :
    et1 X x2 x3 x4 b h n x = ET X x2 x3 x4 b ((Rect.unit (s := S960x1024) ![o, p] S480x256.size inb).emb x) := by
  obtain ⟨r, l, rfl⟩ : ∃ (r : Fin 480) (l : Fin 256), x = ix2 r l := ⟨x 0, x 1, eq_ix2 x⟩
  subst ho hp
  unfold ET
  have e0 : ((Rect.unit (s := S960x1024) ![480 * h.val, 256 * n.val] S480x256.size inb).emb (ix2 r l) 0).val = 480 * h.val + r.val := by
    show 480 * h.val + 1 * r.val = _; omega
  have e1 : ((Rect.unit (s := S960x1024) ![480 * h.val, 256 * n.val] S480x256.size inb).emb (ix2 r l) 1).val = 256 * n.val + l.val := by
    show 256 * n.val + 1 * l.val = _; omega
  have a0 : (480 * h.val + r.val) / 480 = h.val := by omega
  have a1 : (256 * n.val + l.val) / 256 = n.val := by omega
  have a2 : (480 * h.val + r.val) % 480 = r.val := by omega
  have a3 : (256 * n.val + l.val) % 256 = l.val := by omega
  have key : ∀ (h' : Fin 2) (n' : Fin 4) (r' : Fin 480) (l' : Fin 256), h' = h → n' = n → r' = r → l' = l →
      et1 X x2 x3 x4 b h' n' (ix2 r' l') = et1 X x2 x3 x4 b h n (ix2 r l) := by rintro _ _ _ _ rfl rfl rfl rfl; rfl
  exact (key _ _ _ _ (Fin.ext (by show _ / 480 = h.val; rw [e0, a0])) (Fin.ext (by show _ / 256 = n.val; rw [e1, a1]))
    (Fin.ext (by show _ % 480 = r.val; rw [e0, a2])) (Fin.ext (by show _ % 256 = l.val; rw [e1, a3]))).symm

/-- The stores of the residual chunks, last first. -/
def etPieces (X : Vec F S1024x3072 .bf16) (x2 : Vec F S1024x1024 .bf16) (x3 : Vec F S960x3072 .bf16) (x4 : Vec F S960x1 .f32) (b : Fin 2) : List (Piece (Elt F) S960x1024 .bf16) :=
  [⟨Rect.unit ![480, 768] S480x256.size inb_S960x1024_S480x256_480_768, et1 X x2 x3 x4 b 1 3⟩,
   ⟨Rect.unit ![0, 768] S480x256.size inb_S960x1024_S480x256_0_768, et1 X x2 x3 x4 b 0 3⟩,
   ⟨Rect.unit ![480, 512] S480x256.size inb_S960x1024_S480x256_480_512, et1 X x2 x3 x4 b 1 2⟩,
   ⟨Rect.unit ![0, 512] S480x256.size inb_S960x1024_S480x256_0_512, et1 X x2 x3 x4 b 0 2⟩,
   ⟨Rect.unit ![480, 256] S480x256.size inb_S960x1024_S480x256_480_256, et1 X x2 x3 x4 b 1 1⟩,
   ⟨Rect.unit ![0, 256] S480x256.size inb_S960x1024_S480x256_0_256, et1 X x2 x3 x4 b 0 1⟩,
   ⟨Rect.unit ![480, 0] S480x256.size inb_S960x1024_S480x256_480_0, et1 X x2 x3 x4 b 1 0⟩,
   ⟨Rect.unit ![0, 0] S480x256.size inb_S960x1024_S480x256_0_0, et1 X x2 x3 x4 b 0 0⟩]

/-- Those stores cover the residual scratch and leave the residual there. -/
theorem canon_etPieces (X : Vec F S1024x3072 .bf16) (x2 : Vec F S1024x1024 .bf16) (x3 : Vec F S960x3072 .bf16) (x4 : Vec F S960x1 .f32) (b : Fin 2) :
    canon (etPieces X x2 x3 x4 b) = ET X x2 x3 x4 b := by
  have hp : PiecesOf (ET X x2 x3 x4 b) (etPieces X x2 x3 x4 b) :=
    ⟨et1_eq_ET X x2 x3 x4 b 1 3 480 768 rfl rfl inb_S960x1024_S480x256_480_768,
     et1_eq_ET X x2 x3 x4 b 0 3 0 768 rfl rfl inb_S960x1024_S480x256_0_768,
     et1_eq_ET X x2 x3 x4 b 1 2 480 512 rfl rfl inb_S960x1024_S480x256_480_512,
     et1_eq_ET X x2 x3 x4 b 0 2 0 512 rfl rfl inb_S960x1024_S480x256_0_512,
     et1_eq_ET X x2 x3 x4 b 1 1 480 256 rfl rfl inb_S960x1024_S480x256_480_256,
     et1_eq_ET X x2 x3 x4 b 0 1 0 256 rfl rfl inb_S960x1024_S480x256_0_256,
     et1_eq_ET X x2 x3 x4 b 1 0 480 0 rfl rfl inb_S960x1024_S480x256_480_0,
     et1_eq_ET X x2 x3 x4 b 0 0 0 0 rfl rfl inb_S960x1024_S480x256_0_0, trivial⟩
  funext y
  refine View.canon_apply_of_pieces (ET X x2 x3 x4 b) _ hp.mem y ?_
  exact View.cover_of_tiledBy _ ![480, 256] (by sl_kernel_rfl) y

/-! The same chunk value under the names of the separate stores. -/

theorem pay47_eq (q : Vec F S480x3072 .bf16) (x : Vec F S256x3072 .bf16) (y : Vec F S480x256 .bf16) (s : Vec F S480x1 .f32) :
    k1_pay47 (k1_pay45 q x) y s = k1_pay43 q x y s := rfl
theorem pay56_eq (q : Vec F S480x3072 .bf16) (x : Vec F S256x3072 .bf16) (y : Vec F S480x256 .bf16) (s : Vec F S480x1 .f32) :
    k1_pay56 (k1_pay52 q x) (k1_pay53 y) (k1_pay54 s) = k1_pay43 q x y s := rfl
theorem pay58_eq (q : Vec F S480x3072 .bf16) (x : Vec F S256x3072 .bf16) (y : Vec F S480x256 .bf16) (s : Vec F S480x1 .f32) :
    k1_pay58 q x y s = k1_pay43 q x y s := rfl
theorem pay63_eq (q : Vec F S480x3072 .bf16) (x : Vec F S256x3072 .bf16) (y : Vec F S480x256 .bf16) (s : Vec F S480x1 .f32) :
    k1_pay63 q x y s = k1_pay43 q x y s := rfl
theorem pay68_eq (q : Vec F S480x3072 .bf16) (x : Vec F S256x3072 .bf16) (y : Vec F S480x256 .bf16) (s : Vec F S480x1 .f32) :
    k1_pay68 (k1_pay65 q x) (k1_pay66 y) s = k1_pay43 q x y s := rfl
theorem pay75_eq (q : Vec F S480x3072 .bf16) (x : Vec F S256x3072 .bf16) (y : Vec F S480x256 .bf16) (s : Vec F S480x1 .f32) :
    k1_pay75 (k1_pay73 q x y s) k1_pay74 = k1_pay43 q x y s := rfl
theorem pay77_eq (q : Vec F S480x3072 .bf16) (x : Vec F S256x3072 .bf16) (y : Vec F S480x256 .bf16) (s : Vec F S480x1 .f32) :
    k1_pay77 q x y s = k1_pay43 q x y s := rfl

/-! ## The row losses -/

/-- The squared residuals of tokens `256 n …`, summed over this block's output channels eight rows apart. -/
def rowP (q0 q1 : Vec F S480x3072 .bf16) (x : Vec F S256x3072 .bf16) (y0 y1 : Vec F S480x256 .bf16) (s0 s1 : Vec F S480x1 .f32) : FVec F S8x256 .f32 :=
  k1_pay48 (k1_pay44 q0 x y0 s0) (k1_pay45 q1 x) y1 s1

/-- The partial sums as the first block of output channels stores them. -/
def newF (R : FVec F S8x256 .f32) : FVec F S1x8x256 .f32 := shapeCast S1x8x256 R shapeCasts_S8x256_S1x8x256
/-- The partial sums as a later block stores them: added to what is there. -/
def newN (R : FVec F S8x256 .f32) (old : Vec F S1x8x256 .f32) : FVec F S1x8x256 .f32 :=
  shapeCast S1x8x256 (addf (shapeCast S8x256 old shapeCasts_S1x8x256_S8x256) R) shapeCasts_S8x256_S1x8x256

section
variable (q0 q1 : Vec F S480x3072 .bf16) (x : Vec F S256x3072 .bf16) (y0 y1 : Vec F S480x256 .bf16) (s0 s1 : Vec F S480x1 .f32) (old : Vec F S1x8x256 .f32)
theorem pay49_eq : k1_pay49 (k1_pay44 q0 x y0 s0) (k1_pay45 q1 x) y1 s1 = newF (rowP q0 q1 x y0 y1 s0 s1) := rfl
theorem pay60_eq : k1_pay60 k1_pay51 (k1_pay52 q0 x) (k1_pay53 y0) (k1_pay54 s0) q1 x y1 s1 = newF (rowP q0 q1 x y0 y1 s0 s1) := rfl
theorem pay70_eq : k1_pay70 (k1_pay64 q0 x y0 s0) (k1_pay65 q1 x) (k1_pay66 y1) s1 = newF (rowP q0 q1 x y0 y1 s0 s1) := rfl
theorem pay79_eq : k1_pay79 k1_pay72 (k1_pay73 q0 x y0 s0) q1 x y1 s1 = newF (rowP q0 q1 x y0 y1 s0 s1) := rfl
theorem pay50_eq : k1_pay50 (k1_pay44 q0 x y0 s0) (k1_pay45 q1 x) y1 s1 old = newN (rowP q0 q1 x y0 y1 s0 s1) old := rfl
theorem pay61_eq : k1_pay61 (k1_pay59 k1_pay51 (k1_pay52 q0 x) (k1_pay53 y0) (k1_pay54 s0) q1 x y1 s1) old = newN (rowP q0 q1 x y0 y1 s0 s1) old := rfl
theorem pay71_eq : k1_pay71 (k1_pay64 q0 x y0 s0) (k1_pay65 q1 x) (k1_pay66 y1) s1 old = newN (rowP q0 q1 x y0 y1 s0 s1) old := rfl
theorem pay80_eq : k1_pay80 (k1_pay78 k1_pay72 (k1_pay73 q0 x y0 s0) q1 x y1 s1) old = newN (rowP q0 q1 x y0 y1 s0 s1) old := rfl
end

/-- The partial sums of tokens `256 n …` for a block. -/
def row1 (X : Vec F S1024x3072 .bf16) (x2 : Vec F S1024x1024 .bf16) (x3 : Vec F S960x3072 .bf16) (x4 : Vec F S960x1 .f32) (b : Fin 2) (n : Fin 4) :
    FVec F S8x256 .f32 :=
  rowP (qH x3 0) (qH x3 1) (xR X n) (yH x2 b 0 n) (yH x2 b 1 n) (sH x4 0) (sH x4 1)

/-- The accumulated sums of token block `t`, tokens `256 n …`. -/
def aOld (xA : Vec F S15x8x1024 .f32) (t : Fin 15) (n : Fin 4) : Vec F S1x8x256 .f32 :=
  View.ld (Val := Elt F) xA (Rect.unit (s := S15x8x1024) ![t.val, 0, 256 * n.val] S1x8x256.size
    (fun a => match a with | ⟨0, _⟩ => (by show t.val + 1 ≤ 15; omega) | ⟨1, _⟩ => (by show 0 + 8 ≤ 8; omega) | ⟨2, _⟩ => (by show 256 * n.val + 256 ≤ 1024; omega)))

/-- The new sums of tokens `256 n …`: the block's own for the first block of output channels, added to the accumulated ones for a later. -/
def aNew1 (o0 : Bool) (X : Vec F S1024x3072 .bf16) (x2 : Vec F S1024x1024 .bf16) (x3 : Vec F S960x3072 .bf16) (x4 : Vec F S960x1 .f32) (b : Fin 2)
    (xA : Vec F S15x8x1024 .f32) (t : Fin 15) (n : Fin 4) : FVec F S1x8x256 .f32 :=
  if o0 then newF (row1 X x2 x3 x4 b n) else newN (row1 X x2 x3 x4 b n) (aOld xA t n)

/-- Four chunks of 256 tokens side by side. -/
def rowOf (w : Fin 4 → Vec F S1x8x256 .f32) : Vec F S1x8x1024 .f32 :=
  fun j => w ⟨(j 2).val / 256, by have h : (j 2).val < 1024 := (j 2).isLt; omega⟩ (ix3 0 (j 1) ⟨(j 2).val % 256, by omega⟩)

/-- An accumulator with the row of token block `t` replaced. -/
def setRow (xA : Vec F S15x8x1024 .f32) (t : Fin 15) (w : Vec F S1x8x1024 .f32) : Vec F S15x8x1024 .f32 :=
  fun i => if (i 0).val = t.val then w (ix3 0 (i 1) (i 2)) else xA i

/-- Storing four chunks into the row of token block `t` replaces that row. -/
theorem read_rows {sig : RefSig} {κ : Kind} {sp : Space} (v : View sig κ sp S15x8x1024 .f32) (f : v.ty.Contents (Elt F)) (t : Fin 15)
    {o0 o1 o2 o3 : Fin 3 → ℕ} (e0 : o0 = ![t.val, 0, 0]) (e1 : o1 = ![t.val, 0, 256]) (e2 : o2 = ![t.val, 0, 512]) (e3 : o3 = ![t.val, 0, 768])
    (i0 : ∀ a, o0 a + S1x8x256.size a ≤ S15x8x1024.size a) (i1 : ∀ a, o1 a + S1x8x256.size a ≤ S15x8x1024.size a)
    (i2 : ∀ a, o2 a + S1x8x256.size a ≤ S15x8x1024.size a) (i3 : ∀ a, o3 a + S1x8x256.size a ≤ S15x8x1024.size a)
    (w : Fin 4 → Vec F S1x8x256 .f32) :
    v.read (Elt F) (v.writes (Elt F) f [⟨Rect.unit o3 S1x8x256.size i3, w 3⟩, ⟨Rect.unit o2 S1x8x256.size i2, w 2⟩, ⟨Rect.unit o1 S1x8x256.size i1, w 1⟩, ⟨Rect.unit o0 S1x8x256.size i0, w 0⟩])
      = setRow (v.read (Elt F) f) t (rowOf w) := by
  funext y
  obtain ⟨a, s, l, rfl⟩ : ∃ (a : Fin 15) (s : Fin 8) (l : Fin 1024), y = ix3 a s l := ⟨y 0, y 1, y 2, eq_ix3 y⟩
  unfold setRow
  by_cases ha : a.val = t.val
  · rw [if_pos (show ((ix3 a s l : S15x8x1024.Idx) 0).val = t.val from ha)]
    have key : ∀ (n : Fin 4) (hn : l.val / 256 = n.val), rowOf w (ix3 0 s l) = w n (ix3 0 s ⟨l.val - 256 * n.val, by omega⟩) := by
      intro n hn
      unfold rowOf
      have h1 : (⟨l.val / 256, by omega⟩ : Fin 4) = n := Fin.ext hn
      have h2 : (⟨l.val % 256, by omega⟩ : Fin 256) = ⟨l.val - 256 * n.val, by omega⟩ := Fin.ext (by show l.val % 256 = l.val - 256 * n.val; omega)
      show w ⟨l.val / 256, _⟩ (ix3 0 s ⟨l.val % 256, _⟩) = _
      rw [h2]; exact congrArg (fun m => w m _) h1
    show _ = rowOf w (ix3 0 s l)
    by_cases h3 : 768 ≤ l.val
    · rw [key 3 (by show l.val / 256 = 3; omega)]
      exact View.read_writes_cons_unit_of_mem v f i3 (w 3) _ _ (ix3 0 s ⟨l.val - 256 * (3 : Fin 4).val, by show l.val - 256 * 3 < 256; omega⟩) e3 (fun ax => match ax with
        | ⟨0, _⟩ => (by show a.val = t.val + 0; omega) | ⟨1, _⟩ => (by show s.val = 0 + s.val; omega) | ⟨2, _⟩ => (by show l.val = 768 + (l.val - 256 * 3); omega))
    rw [View.read_writes_cons_unit_of_not_mem v f i3 (w 3) _ _ e3 2 (.inl (by show l.val < 768; omega))]
    by_cases h2 : 512 ≤ l.val
    · rw [key 2 (by show l.val / 256 = 2; omega)]
      exact View.read_writes_cons_unit_of_mem v f i2 (w 2) _ _ (ix3 0 s ⟨l.val - 256 * (2 : Fin 4).val, by show l.val - 256 * 2 < 256; omega⟩) e2 (fun ax => match ax with
        | ⟨0, _⟩ => (by show a.val = t.val + 0; omega) | ⟨1, _⟩ => (by show s.val = 0 + s.val; omega) | ⟨2, _⟩ => (by show l.val = 512 + (l.val - 256 * 2); omega))
    rw [View.read_writes_cons_unit_of_not_mem v f i2 (w 2) _ _ e2 2 (.inl (by show l.val < 512; omega))]
    by_cases h1 : 256 ≤ l.val
    · rw [key 1 (by show l.val / 256 = 1; omega)]
      exact View.read_writes_cons_unit_of_mem v f i1 (w 1) _ _ (ix3 0 s ⟨l.val - 256 * (1 : Fin 4).val, by show l.val - 256 * 1 < 256; omega⟩) e1 (fun ax => match ax with
        | ⟨0, _⟩ => (by show a.val = t.val + 0; omega) | ⟨1, _⟩ => (by show s.val = 0 + s.val; omega) | ⟨2, _⟩ => (by show l.val = 256 + (l.val - 256 * 1); omega))
    rw [View.read_writes_cons_unit_of_not_mem v f i1 (w 1) _ _ e1 2 (.inl (by show l.val < 256; omega))]
    by_cases h0 : 0 ≤ l.val
    · rw [key 0 (by show l.val / 256 = 0; omega)]
      exact View.read_writes_cons_unit_of_mem v f i0 (w 0) _ _ (ix3 0 s ⟨l.val - 256 * (0 : Fin 4).val, by show l.val - 256 * 0 < 256; omega⟩) e0 (fun ax => match ax with
        | ⟨0, _⟩ => (by show a.val = t.val + 0; omega) | ⟨1, _⟩ => (by show s.val = 0 + s.val; omega) | ⟨2, _⟩ => (by show l.val = 0 + (l.val - 256 * 0); omega))
    omega
  · rw [if_neg (show ¬ ((ix3 a s l : S15x8x1024.Idx) 0).val = t.val from ha)]
    rw [View.read_writes_cons_unit_of_not_mem v f i3 (w 3) _ _ e3 0 (by show a.val < t.val ∨ t.val + 1 ≤ a.val; omega)]
    rw [View.read_writes_cons_unit_of_not_mem v f i2 (w 2) _ _ e2 0 (by show a.val < t.val ∨ t.val + 1 ≤ a.val; omega)]
    rw [View.read_writes_cons_unit_of_not_mem v f i1 (w 1) _ _ e1 0 (by show a.val < t.val ∨ t.val + 1 ≤ a.val; omega)]
    rw [View.read_writes_cons_unit_of_not_mem v f i0 (w 0) _ _ e0 0 (by show a.val < t.val ∨ t.val + 1 ≤ a.val; omega)]
    rfl

/-! ## The weight gradient -/

/-- Rows `480 h …` of the residual. -/
def eH (E : Vec F S960x1024 .bf16) (h : Fin 2) : Vec F S480x1024 .bf16 :=
  View.ld (Val := Elt F) E (Rect.unit (s := S960x1024) ![480 * h.val, 0] S480x1024.size
    (fun a => match a with | ⟨0, _⟩ => (by show 480 * h.val + 480 ≤ 960; omega) | ⟨1, _⟩ => (by show 0 + 1024 ≤ 1024; omega)))
/-- Columns `256 k …` of the activations. -/
def xC (X : Vec F S1024x3072 .bf16) (k : Fin 11) : Vec F S1024x256 .bf16 :=
  View.ld (Val := Elt F) X (Rect.unit (s := S1024x3072) ![0, 256 * k.val] S1024x256.size
    (fun a => match a with | ⟨0, _⟩ => (by show 0 + 1024 ≤ 1024; omega) | ⟨1, _⟩ => (by show 256 * k.val + 256 ≤ 3072; omega)))
/-- The last 64 columns of the activations. -/
def xL (X : Vec F S1024x3072 .bf16) : Vec F S1024x64 .bf16 :=
  View.ld (Val := Elt F) X (Rect.unit (s := S1024x3072) ![0, 2816] S1024x64.size inb_S1024x3072_S1024x64_0_2816)
/-- A chunk of the gradient accumulated so far. -/
def gC (G : Vec F S960x2880 .f32) (h : Fin 2) (k : Fin 11) : Vec F S480x256 .f32 :=
  View.ld (Val := Elt F) G (Rect.unit (s := S960x2880) ![480 * h.val, 256 * k.val] S480x256.size
    (fun a => match a with | ⟨0, _⟩ => (by show 480 * h.val + 480 ≤ 960; omega) | ⟨1, _⟩ => (by show 256 * k.val + 256 ≤ 2880; omega)))
/-- Its last 64 columns. -/
def gL (G : Vec F S960x2880 .f32) (h : Fin 2) : Vec F S480x64 .f32 :=
  View.ld (Val := Elt F) G (Rect.unit (s := S960x2880) ![480 * h.val, 2816] S480x64.size
    (fun a => match a with | ⟨0, _⟩ => (by show 480 * h.val + 480 ≤ 960; omega) | ⟨1, _⟩ => (by show 2816 + 64 ≤ 2880; omega)))

/-- The new gradient of one chunk: the old plus residual rows times activation columns. -/
def gn1 (G : Vec F S960x2880 .f32) (E : Vec F S960x1024 .bf16) (X : Vec F S1024x3072 .bf16) (h : Fin 2) (k : Fin 11) : Vec F S480x256 .f32 :=
  k1_pay83 (gC G h k) (eH E h) (xC X k)
/-- The same for the last 64 columns. -/
def gnL (G : Vec F S960x2880 .f32) (E : Vec F S960x1024 .bf16) (X : Vec F S1024x3072 .bf16) (h : Fin 2) : Vec F S480x64 .f32 :=
  k1_pay95 (gL G h) (eH E h) (xL X)

/-- The new gradient block. -/
def GN (G : Vec F S960x2880 .f32) (E : Vec F S960x1024 .bf16) (X : Vec F S1024x3072 .bf16) : Vec F S960x2880 .f32 :=
  fun i => if hk : (i 1).val < 2816
    then gn1 G E X ⟨(i 0).val / 480, by have h : (i 0).val < 960 := (i 0).isLt; omega⟩ ⟨(i 1).val / 256, by omega⟩ (ix2 ⟨(i 0).val % 480, by omega⟩ ⟨(i 1).val % 256, by omega⟩)
    else gnL G E X ⟨(i 0).val / 480, by have h : (i 0).val < 960 := (i 0).isLt; omega⟩ (ix2 ⟨(i 0).val % 480, by omega⟩ ⟨(i 1).val - 2816, by have h : (i 1).val < 2880 := (i 1).isLt; omega⟩)

theorem gn1_eq_GN (G : Vec F S960x2880 .f32) (E : Vec F S960x1024 .bf16) (X : Vec F S1024x3072 .bf16)
    (h : Fin 2) (k : Fin 11) (o p : ℕ) (ho : o = 480 * h.val) (hp : p = 256 * k.val)
    (inb : ∀ a, (![o, p] : Fin 2 → ℕ) a + S480x256.size a ≤ S960x2880.size a) (x : S480x256.Idx) :
    gn1 G E X h k x = GN G E X ((Rect.unit (s := S960x2880) ![o, p] S480x256.size inb).emb x) := by
  obtain ⟨r, l, rfl⟩ : ∃ (r : Fin 480) (l : Fin 256), x = ix2 r l := ⟨x 0, x 1, eq_ix2 x⟩
  subst ho hp
  have e0 : ((Rect.unit (s := S960x2880) ![480 * h.val, 256 * k.val] S480x256.size inb).emb (ix2 r l) 0).val = 480 * h.val + r.val := by
    show 480 * h.val + 1 * r.val = _; omega
  have e1 : ((Rect.unit (s := S960x2880) ![480 * h.val, 256 * k.val] S480x256.size inb).emb (ix2 r l) 1).val = 256 * k.val + l.val := by
    show 256 * k.val + 1 * l.val = _; omega
  have a0 : (480 * h.val + r.val) / 480 = h.val := by omega
  have a1 : (256 * k.val + l.val) / 256 = k.val := by omega
  have a2 : (480 * h.val + r.val) % 480 = r.val := by omega
  have a3 : (256 * k.val + l.val) % 256 = l.val := by omega
  unfold GN
  rw [dif_pos (by rw [e1]; omega)]
  have key : ∀ (h' : Fin 2) (n' : Fin 11) (r' : Fin 480) (l' : Fin 256), h' = h → n' = k → r' = r → l' = l →
      gn1 G E X h' n' (ix2 r' l') = gn1 G E X h k (ix2 r l) := by rintro _ _ _ _ rfl rfl rfl rfl; rfl
  exact (key _ _ _ _ (Fin.ext (by show _ / 480 = h.val; rw [e0, a0])) (Fin.ext (by show _ / 256 = k.val; rw [e1, a1]))
    (Fin.ext (by show _ % 480 = r.val; rw [e0, a2])) (Fin.ext (by show _ % 256 = l.val; rw [e1, a3]))).symm

theorem gnL_eq_GN (G : Vec F S960x2880 .f32) (E : Vec F S960x1024 .bf16) (X : Vec F S1024x3072 .bf16)
    (h : Fin 2) (o : ℕ) (ho : o = 480 * h.val)
    (inb : ∀ a, (![o, 2816] : Fin 2 → ℕ) a + S480x64.size a ≤ S960x2880.size a) (x : S480x64.Idx) :
    gnL G E X h x = GN G E X ((Rect.unit (s := S960x2880) ![o, 2816] S480x64.size inb).emb x) := by
  obtain ⟨r, l, rfl⟩ : ∃ (r : Fin 480) (l : Fin 64), x = ix2 r l := ⟨x 0, x 1, eq_ix2 x⟩
  subst ho
  have e0 : ((Rect.unit (s := S960x2880) ![480 * h.val, 2816] S480x64.size inb).emb (ix2 r l) 0).val = 480 * h.val + r.val := by
    show 480 * h.val + 1 * r.val = _; omega
  have e1 : ((Rect.unit (s := S960x2880) ![480 * h.val, 2816] S480x64.size inb).emb (ix2 r l) 1).val = 2816 + l.val := by
    show 2816 + 1 * l.val = _; omega
  have a0 : (480 * h.val + r.val) / 480 = h.val := by omega
  have a2 : (480 * h.val + r.val) % 480 = r.val := by omega
  have a3 : 2816 + l.val - 2816 = l.val := by omega
  unfold GN
  rw [dif_neg (by rw [e1]; omega)]
  have key : ∀ (h' : Fin 2) (r' : Fin 480) (l' : Fin 64), h' = h → r' = r → l' = l →
      gnL G E X h' (ix2 r' l') = gnL G E X h (ix2 r l) := by rintro _ _ _ rfl rfl rfl; rfl
  exact (key _ _ _ (Fin.ext (by show _ / 480 = h.val; rw [e0, a0]))
    (Fin.ext (by show _ % 480 = r.val; rw [e0, a2])) (Fin.ext (by show _ - 2816 = l.val; rw [e1, a3]))).symm

/-- The stores of the gradient chunks, last first. -/
def gPieces (G : Vec F S960x2880 .f32) (E : Vec F S960x1024 .bf16) (X : Vec F S1024x3072 .bf16) : List (Piece (Elt F) S960x2880 .f32) :=
  [⟨Rect.unit ![480, 2816] S480x64.size inb_S960x2880_S480x64_480_2816, gnL G E X 1⟩,
   ⟨Rect.unit ![480, 2560] S480x256.size inb_S960x2880_S480x256_480_2560, gn1 G E X 1 10⟩,
   ⟨Rect.unit ![480, 2304] S480x256.size inb_S960x2880_S480x256_480_2304, gn1 G E X 1 9⟩,
   ⟨Rect.unit ![480, 2048] S480x256.size inb_S960x2880_S480x256_480_2048, gn1 G E X 1 8⟩,
   ⟨Rect.unit ![480, 1792] S480x256.size inb_S960x2880_S480x256_480_1792, gn1 G E X 1 7⟩,
   ⟨Rect.unit ![480, 1536] S480x256.size inb_S960x2880_S480x256_480_1536, gn1 G E X 1 6⟩,
   ⟨Rect.unit ![480, 1280] S480x256.size inb_S960x2880_S480x256_480_1280, gn1 G E X 1 5⟩,
   ⟨Rect.unit ![480, 1024] S480x256.size inb_S960x2880_S480x256_480_1024, gn1 G E X 1 4⟩,
   ⟨Rect.unit ![480, 768] S480x256.size inb_S960x2880_S480x256_480_768, gn1 G E X 1 3⟩,
   ⟨Rect.unit ![480, 512] S480x256.size inb_S960x2880_S480x256_480_512, gn1 G E X 1 2⟩,
   ⟨Rect.unit ![480, 256] S480x256.size inb_S960x2880_S480x256_480_256, gn1 G E X 1 1⟩,
   ⟨Rect.unit ![480, 0] S480x256.size inb_S960x2880_S480x256_480_0, gn1 G E X 1 0⟩,
   ⟨Rect.unit ![0, 2816] S480x64.size inb_S960x2880_S480x64_0_2816, gnL G E X 0⟩,
   ⟨Rect.unit ![0, 2560] S480x256.size inb_S960x2880_S480x256_0_2560, gn1 G E X 0 10⟩,
   ⟨Rect.unit ![0, 2304] S480x256.size inb_S960x2880_S480x256_0_2304, gn1 G E X 0 9⟩,
   ⟨Rect.unit ![0, 2048] S480x256.size inb_S960x2880_S480x256_0_2048, gn1 G E X 0 8⟩,
   ⟨Rect.unit ![0, 1792] S480x256.size inb_S960x2880_S480x256_0_1792, gn1 G E X 0 7⟩,
   ⟨Rect.unit ![0, 1536] S480x256.size inb_S960x2880_S480x256_0_1536, gn1 G E X 0 6⟩,
   ⟨Rect.unit ![0, 1280] S480x256.size inb_S960x2880_S480x256_0_1280, gn1 G E X 0 5⟩,
   ⟨Rect.unit ![0, 1024] S480x256.size inb_S960x2880_S480x256_0_1024, gn1 G E X 0 4⟩,
   ⟨Rect.unit ![0, 768] S480x256.size inb_S960x2880_S480x256_0_768, gn1 G E X 0 3⟩,
   ⟨Rect.unit ![0, 512] S480x256.size inb_S960x2880_S480x256_0_512, gn1 G E X 0 2⟩,
   ⟨Rect.unit ![0, 256] S480x256.size inb_S960x2880_S480x256_0_256, gn1 G E X 0 1⟩,
   ⟨Rect.unit ![0, 0] S480x256.size inb_S960x2880_S480x256_0_0, gn1 G E X 0 0⟩]

/-- Those stores, whatever was stored before them, leave the new gradient block. -/
theorem canon_gPieces (G : Vec F S960x2880 .f32) (E : Vec F S960x1024 .bf16) (X : Vec F S1024x3072 .bf16) (L : List (Piece (Elt F) S960x2880 .f32)) :
    canon (gPieces G E X ++ L) = GN G E X := by
  have hp : PiecesOf (GN G E X) (gPieces G E X) :=
    ⟨gnL_eq_GN G E X 1 480 rfl inb_S960x2880_S480x64_480_2816,
     gn1_eq_GN G E X 1 10 480 2560 rfl rfl inb_S960x2880_S480x256_480_2560,
     gn1_eq_GN G E X 1 9 480 2304 rfl rfl inb_S960x2880_S480x256_480_2304,
     gn1_eq_GN G E X 1 8 480 2048 rfl rfl inb_S960x2880_S480x256_480_2048,
     gn1_eq_GN G E X 1 7 480 1792 rfl rfl inb_S960x2880_S480x256_480_1792,
     gn1_eq_GN G E X 1 6 480 1536 rfl rfl inb_S960x2880_S480x256_480_1536,
     gn1_eq_GN G E X 1 5 480 1280 rfl rfl inb_S960x2880_S480x256_480_1280,
     gn1_eq_GN G E X 1 4 480 1024 rfl rfl inb_S960x2880_S480x256_480_1024,
     gn1_eq_GN G E X 1 3 480 768 rfl rfl inb_S960x2880_S480x256_480_768,
     gn1_eq_GN G E X 1 2 480 512 rfl rfl inb_S960x2880_S480x256_480_512,
     gn1_eq_GN G E X 1 1 480 256 rfl rfl inb_S960x2880_S480x256_480_256,
     gn1_eq_GN G E X 1 0 480 0 rfl rfl inb_S960x2880_S480x256_480_0,
     gnL_eq_GN G E X 0 0 rfl inb_S960x2880_S480x64_0_2816,
     gn1_eq_GN G E X 0 10 0 2560 rfl rfl inb_S960x2880_S480x256_0_2560,
     gn1_eq_GN G E X 0 9 0 2304 rfl rfl inb_S960x2880_S480x256_0_2304,
     gn1_eq_GN G E X 0 8 0 2048 rfl rfl inb_S960x2880_S480x256_0_2048,
     gn1_eq_GN G E X 0 7 0 1792 rfl rfl inb_S960x2880_S480x256_0_1792,
     gn1_eq_GN G E X 0 6 0 1536 rfl rfl inb_S960x2880_S480x256_0_1536,
     gn1_eq_GN G E X 0 5 0 1280 rfl rfl inb_S960x2880_S480x256_0_1280,
     gn1_eq_GN G E X 0 4 0 1024 rfl rfl inb_S960x2880_S480x256_0_1024,
     gn1_eq_GN G E X 0 3 0 768 rfl rfl inb_S960x2880_S480x256_0_768,
     gn1_eq_GN G E X 0 2 0 512 rfl rfl inb_S960x2880_S480x256_0_512,
     gn1_eq_GN G E X 0 1 0 256 rfl rfl inb_S960x2880_S480x256_0_256,
     gn1_eq_GN G E X 0 0 0 0 rfl rfl inb_S960x2880_S480x256_0_0, trivial⟩
  funext y
  refine View.canon_append_of_piecesOf (GN G E X) L _ hp y ?_
  exact View.cover_of_tiledBy _ ![480, 64] (by sl_kernel_rfl) y

end Cert.KernelIdeal.Gen
-- ==== Proof.K.MainF.lean ====
module

public import proofs.«01_k».proof.Proof.K.MainE
public import Idealize.ShloMosaic.Lib.WritesUnit
public import Idealize.ShloMosaic.Lib.Pipeline.FrameBody
public import Idealize.ShloMosaic.Lib.Pipeline.Value
public import Idealize.ShloMosaic.Lib.Pipeline.ReadBack
public import Idealize.ShloMosaic.Lib.PointwiseCore
public import Idealize.ShloMosaic.Lib.Ring
public import Idealize.ShloMosaic.Lib.Tactic

@[expose] public section

set_option maxRecDepth 16384

noncomputable section

namespace Cert.KernelIdeal.Gen

open Idealize.ShloMosaic Idealize.ShloMosaic.TcCoe
open View (canon Piece PiecesOf)

variable {F : FTy → Type} [FloatOps F] [Named F]

/-- A load from a buffer whose stores leave `X` is a window of `X`. -/
theorem ldCov {sig : RefSig} {κ : Kind} {sp : Space} {s : Shape} {e : EltTy} (v : View sig κ sp s e) {L : List (Piece (Elt F) s e)} {X : s.Idx → Elt F e}
    (h : canon L = X) (r : Rect s) : v.readCov L r.toLoadRect = View.ld (Val := Elt F) X r := by
  rw [View.readCov_eq_canon', h]

/-- A load from a whole input buffer is a window of its contents. -/
theorem ldIn {sig : RefSig} {κ : Kind} {sp : Space} {s : Shape} {e : EltTy} {m : Memref sig κ sp s e} (h : m.IsWhole) (X : s.Idx → Elt F e) (r : Rect s) :
    View.readAt (Elt F) m.view r.toLoadRect (h.unread X) = View.ld (Val := Elt F) X r := by
  rw [View.readAt_eq_ld, h.read_unread]

theorem zero2 : (![0, 0] : Fin 2 → ℕ) = fun _ => 0 := by funext a; match a with | ⟨0, _⟩ => rfl | ⟨1, _⟩ => rfl
theorem zero3 : (![0, 0, 0] : Fin 3 → ℕ) = fun _ => 0 := by funext a; match a with | ⟨0, _⟩ => rfl | ⟨1, _⟩ => rfl | ⟨2, _⟩ => rfl

/-- The parity of the block of output channels: its targets start 64 lanes later when it is odd. -/
def bOf (i : grid1.Coords) : Fin 2 := ⟨(i 0).val % 2, by omega⟩
/-- The block of tokens. -/
def tOf (i : grid1.Coords) : Fin 15 := ⟨(i 1).val, (i 1).isLt⟩

theorem off1_0 : ∀ i : grid1.Coords, k1_off1 i 0#32 = ![64 * (bOf i).val + 480 * 0, 0] := by decide +kernel
theorem off1_1 : ∀ i : grid1.Coords, k1_off1 i 480#32 = ![64 * (bOf i).val + 480 * 1, 0] := by decide +kernel
theorem off4_0 : ∀ i : grid1.Coords, k1_off4 i 0#32 = ![64 * (bOf i).val + 480 * 0, 256] := by decide +kernel
theorem off4_1 : ∀ i : grid1.Coords, k1_off4 i 480#32 = ![64 * (bOf i).val + 480 * 1, 256] := by decide +kernel
theorem off7_0 : ∀ i : grid1.Coords, k1_off7 i 0#32 = ![64 * (bOf i).val + 480 * 0, 512] := by decide +kernel
theorem off7_1 : ∀ i : grid1.Coords, k1_off7 i 480#32 = ![64 * (bOf i).val + 480 * 1, 512] := by decide +kernel
theorem off10_0 : ∀ i : grid1.Coords, k1_off10 i 0#32 = ![64 * (bOf i).val + 480 * 0, 768] := by decide +kernel
theorem off10_1 : ∀ i : grid1.Coords, k1_off10 i 480#32 = ![64 * (bOf i).val + 480 * 1, 768] := by decide +kernel
theorem off2_eq : ∀ i : grid1.Coords, k1_off2 i = ![(tOf i).val, 0, 0] := by decide +kernel
theorem off3_eq : ∀ i : grid1.Coords, k1_off3 i = ![(tOf i).val, 0, 0] := by decide +kernel
theorem off5_eq : ∀ i : grid1.Coords, k1_off5 i = ![(tOf i).val, 0, 256] := by decide +kernel
theorem off6_eq : ∀ i : grid1.Coords, k1_off6 i = ![(tOf i).val, 0, 256] := by decide +kernel
theorem off8_eq : ∀ i : grid1.Coords, k1_off8 i = ![(tOf i).val, 0, 512] := by decide +kernel
theorem off9_eq : ∀ i : grid1.Coords, k1_off9 i = ![(tOf i).val, 0, 512] := by decide +kernel
theorem off11_eq : ∀ i : grid1.Coords, k1_off11 i = ![(tOf i).val, 0, 768] := by decide +kernel
theorem off12_eq : ∀ i : grid1.Coords, k1_off12 i = ![(tOf i).val, 0, 768] := by decide +kernel
theorem off13_eq : ∀ i : grid1.Coords, k1_off13 i = ![(tOf i).val, 0, 0] := by decide +kernel

/-- A load of targets from the transposed target block. -/
theorem ldY {sig : RefSig} {κ : Kind} {sp : Space} (v : View sig κ sp S1024x1024 .bf16) (x2 : Vec F S1024x1024 .bf16) {L : List (Piece (Elt F) S1024x1024 .bf16)}
    (hL : canon L = k1_pay41 x2)
    (b h : Fin 2) (n : Fin 4) (o : Fin 2 → ℕ) (ho : o = ![64 * b.val + 480 * h.val, 256 * n.val]) (inb : ∀ a, o a + S480x256.size a ≤ S1024x1024.size a) :
    View.readAt (Elt F) v (Rect.unit (s := S1024x1024) o S480x256.size inb).toLoadRect (v.writes (Elt F) v.junk L) = yH x2 b h n := by
  subst ho
  rw [View.readAt_writes_junk_eq_canon, hL]; rfl

/-- The scale scratch after its 90 columns are stored: there it reads the scales. -/
theorem sc_read {sig : RefSig} {κ : Kind} {sp : Space} (v : View sig κ sp S1024x128 .f32) (f : v.ty.Contents (Elt F)) (x1 : Vec F S1024x90 .f32)
    (inb : ∀ a, (![0, 0] : Fin 2 → ℕ) a + S1024x90.size a ≤ S1024x128.size a) (inb' : ∀ a, (![0, 0] : Fin 2 → ℕ) a + S1024x128.size a ≤ S1024x128.size a)
    (r : Fin 1024) (l : Fin 90) :
    View.readAt (Elt F) v (Rect.unit (s := S1024x128) ![0, 0] S1024x128.size inb').toLoadRect (v.writes (Elt F) f [⟨Rect.unit ![0, 0] S1024x90.size inb, x1⟩])
      (ix2 r ⟨l.val, by omega⟩) = x1 (ix2 r l) := by
  rw [View.readAt_eq_ld, View.ld_unit_zero zero2]
  exact View.read_writes_cons_unit_of_mem v f inb x1 [] _ (ix2 r l) rfl (fun ax => match ax with
    | ⟨0, _⟩ => (by show r.val = 0 + r.val; omega) | ⟨1, _⟩ => (by show l.val = 0 + l.val; omega))

/-- A load of one row of the accumulator after the row was replaced. -/
theorem ld_setRow (xA : Vec F S15x8x1024 .f32) (t : Fin 15) (w : Vec F S1x8x1024 .f32) (o : Fin 3 → ℕ) (ho : o = ![t.val, 0, 0])
    (inb : ∀ a, o a + S1x8x1024.size a ≤ S15x8x1024.size a) :
    View.ld (Val := Elt F) (setRow xA t w) (Rect.unit (s := S15x8x1024) o S1x8x1024.size inb) = w := by
  subst ho
  funext j
  obtain ⟨a, s, l, rfl⟩ : ∃ (a : Fin 1) (s : Fin 8) (l : Fin 1024), j = ix3 a s l := ⟨j 0, j 1, j 2, eq_ix3 j⟩
  obtain rfl : a = 0 := Subsingleton.elim _ _
  show setRow xA t w _ = _
  unfold setRow
  rw [if_pos (by show t.val + 1 * (0 : ℕ) = t.val; omega)]
  refine congrArg w ?_
  exact (congrArg₂ (fun p q => (ix3 (0 : Fin 1) p q : S1x8x1024.Idx)) (Fin.ext (by show 0 + 1 * s.val = s.val; omega)) (Fin.ext (by show 0 + 1 * l.val = l.val; omega)))

/-- The accumulated sums, loaded at the offsets the kernel computes. -/
theorem aOld_eq (xA : Vec F S15x8x1024 .f32) (t : Fin 15) (n : Fin 4) (o : Fin 3 → ℕ) (ho : o = ![t.val, 0, 256 * n.val])
    (inb : ∀ a, o a + S1x8x256.size a ≤ S15x8x1024.size a) :
    View.ld (Val := Elt F) xA (Rect.unit (s := S15x8x1024) o S1x8x256.size inb) = aOld xA t n := by
  subst ho; rfl

/-! The gradient chunk value under the names of the separate stores. -/
section
variable (g : Vec F S480x256 .f32) (e : Vec F S480x1024 .bf16) (x : Vec F S1024x256 .bf16) (g' : Vec F S480x64 .f32) (x' : Vec F S1024x64 .bf16)
theorem pay84_eq : k1_pay84 g e x = k1_pay83 g e x := rfl
theorem pay85_eq : k1_pay85 g e x = k1_pay83 g e x := rfl
theorem pay86_eq : k1_pay86 g e x = k1_pay83 g e x := rfl
theorem pay87_eq : k1_pay87 g e x = k1_pay83 g e x := rfl
theorem pay90_eq : k1_pay90 g e x = k1_pay83 g e x := rfl
theorem pay91_eq : k1_pay91 g e x = k1_pay83 g e x := rfl
theorem pay92_eq : k1_pay92 g e x = k1_pay83 g e x := rfl
theorem pay93_eq : k1_pay93 g e x = k1_pay83 g e x := rfl
theorem pay94_eq : k1_pay94 g e x = k1_pay83 g e x := rfl
theorem pay98_eq : k1_pay98 g e x = k1_pay83 g e x := rfl
theorem pay99_eq : k1_pay99 g e x = k1_pay83 g e x := rfl
theorem pay100_eq : k1_pay100 g e x = k1_pay83 g e x := rfl
theorem pay101_eq : k1_pay101 g e x = k1_pay83 g e x := rfl
theorem pay102_eq : k1_pay102 g e x = k1_pay83 g e x := rfl
theorem pay103_eq : k1_pay103 g e x = k1_pay83 g e x := rfl
theorem pay106_eq : k1_pay106 g e x = k1_pay83 g e x := rfl
theorem pay107_eq : k1_pay107 g e x = k1_pay83 g e x := rfl
theorem pay108_eq : k1_pay108 g e x = k1_pay83 g e x := rfl
theorem pay89_eq : k1_pay89 (k1_pay88 g) e x = k1_pay83 g e x := rfl
theorem pay97_eq : k1_pay97 (k1_pay96 g) e x = k1_pay83 g e x := rfl
theorem pay105_eq : k1_pay105 (k1_pay104 g) e x (constant S480x256 .f32 0#32) = k1_pay83 g e x := rfl
theorem pay1_eq : k1_pay1 g' e x' = k1_pay95 g' e x' := rfl
theorem pay2_eq (x1 : Vec F S1024x90 .f32) : k1_pay2 x1 = x1 := by unfold k1_pay2; simp only [shapeCast_self]
end

/-- A load of a chunk of a block just filled. -/
theorem fillC {sig : RefSig} {κ : Kind} {sp : Space} (v : View sig κ sp S960x2880 .f32) (Z : Vec F S960x2880 .f32) (h : Fin 2) (k : Fin 11) (o p : ℕ)
    (ho : o = 480 * h.val) (hp : p = 256 * k.val)
    (inb0 : ∀ a, (![0, 0] : Fin 2 → ℕ) a + S960x2880.size a ≤ S960x2880.size a) (inb : ∀ a, (![o, p] : Fin 2 → ℕ) a + S480x256.size a ≤ S960x2880.size a) :
    v.readCov [(⟨Rect.unit ![0, 0] S960x2880.size inb0, Z⟩ : Piece (Elt F) S960x2880 .f32)] (Rect.unit (s := S960x2880) ![o, p] S480x256.size inb).toLoadRect = gC Z h k := by
  subst ho hp
  exact View.readCov_fill v inb0 Z [] (Rect.unit (s := S960x2880) ![480 * h.val, 256 * k.val] S480x256.size inb) (fun a => congrFun zero2 a)

theorem fillL {sig : RefSig} {κ : Kind} {sp : Space} (v : View sig κ sp S960x2880 .f32) (Z : Vec F S960x2880 .f32) (h : Fin 2) (o : ℕ)
    (ho : o = 480 * h.val)
    (inb0 : ∀ a, (![0, 0] : Fin 2 → ℕ) a + S960x2880.size a ≤ S960x2880.size a) (inb : ∀ a, (![o, 2816] : Fin 2 → ℕ) a + S480x64.size a ≤ S960x2880.size a) :
    v.readCov [(⟨Rect.unit ![0, 0] S960x2880.size inb0, Z⟩ : Piece (Elt F) S960x2880 .f32)] (Rect.unit (s := S960x2880) ![o, 2816] S480x64.size inb).toLoadRect = gL Z h := by
  subst ho
  exact View.readCov_fill v inb0 Z [] (Rect.unit (s := S960x2880) ![480 * h.val, 2816] S480x64.size inb) (fun a => congrFun zero2 a)

/-- Stores that are the gradient chunks over earlier stores leave the new gradient block, through any view and over any contents. -/
theorem read_gPieces {sig : RefSig} {κ : Kind} {sp : Space} (v : View sig κ sp S960x2880 .f32) (f : v.ty.Contents (Elt F)) (G : Vec F S960x2880 .f32)
    (E : Vec F S960x1024 .bf16) (X : Vec F S1024x3072 .bf16) (L : List (Piece (Elt F) S960x2880 .f32)) :
    v.read (Elt F) (v.writes (Elt F) f (gPieces G E X ++ L)) = GN G E X := by
  rw [← canon_gPieces G E X L]
  refine View.read_writes_eq_canon v f _ fun y => ?_
  obtain ⟨p, hp, hy⟩ := View.cover_of_tiledBy (gPieces G E X) ![480, 64] (by sl_kernel_rfl) y
  exact ⟨p, List.mem_append_left _ hp, hy⟩

end Cert.KernelIdeal.Gen
-- ==== Proof.K.Quant.lean ====
module

public import proofs.«01_k».proof.Proof.K.MainF
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Value
public import Idealize.ShloMosaic.Lib.Pipeline.ReadBack
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open View (canon Piece PiecesOf)

variable {F : FTy → Type} [FloatOps F] [Named F]

local notation "𝕄" => MT nD τ sig Unit (Elt F) ℕ (UR sig nD τ) ℕ

/-- A load of a whole buffer reads its contents. -/
theorem ldAll {S : Shape} {e : EltTy} {sp : Space} {m : Memref sig .tc sp S e} (h : m.IsWhole) (X : S.Idx → Elt F e) (st : Fin S.rank → ℕ) (hz : st = fun _ => 0) (inb) :
    View.readAt (Elt F) m.view (Rect.unit (s := S) st S.size inb).toLoadRect (h.unread X) = X := by
  subst hz
  rw [View.readAt_eq_ld, h.read_unread, View.ld_unit_zero rfl]

/-- The quantiser's second output: the codes as floats, with 192 zero columns after them. -/
def padCodes (p : FVec F S96x2880 .bf16) : Vec F S96x3072 .bf16 :=
  canon ([⟨Rect.unit (s := S96x3072) ![0, 2880] S96x192.size inb_S96x3072_S96x192_0_2880, k0_pay4 (F := F)⟩,
    ⟨Rect.unit (s := S96x3072) ![0, 0] S96x2880.size inb_S96x3072_S96x2880_0_0, p⟩] : List (Piece (Elt F) S96x3072 .bf16))

/-- The quantiser on one block of rows: it leaves the codes and their padded float form. -/
theorem quantSpec (c : Dev nD) (i : grid0.Coords) (arg1 : Memref sig .tc .vmem S96x2880 .f32) (harg1 : arg1.IsWhole) (arg2 : Memref sig .tc .vmem S96x1 .f32) (harg2 : arg2.IsWhole) (arg3 : Memref sig .tc .vmem S96x2880 .f32) (harg3 : arg3.IsWhole) (arg4 : Memref sig .tc .vmem S96x1 .f32) (harg4 : arg4.IsWhole) (arg5 : Memref sig .tc .vmem S1x2880 .f32) (harg5 : arg5.IsWhole) (arg6 : Memref sig .tc .vmem S96x2880 .i8) (harg6 : arg6.IsWhole) (arg7 : Memref sig .tc .vmem S96x3072 .bf16) (harg7 : arg7.IsWhole)
    (x0 : Vec F S96x2880 .f32) (x1 : Vec F S96x1 .f32) (x2 : Vec F S96x2880 .f32) (x3 : Vec F S96x1 .f32) (x4 : Vec F S1x2880 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d) ∗ (∃ d, owns (c : Thread nD τ) arg7 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (k0_pay2 x0 x1 x2 x3 x4) ∗ owns (c : Thread nD τ) arg7 fullShare (padCodes (k0_pay3 x0 x1 x2 x3 x4))) -∗ K ⟨⟩))
      ⊢ wp frame (wpE (defs₀ (F := F)) Variants.none c none) E (cc0_quant i arg1 harg1 arg2 harg2 arg3 harg3 arg4 harg4 arg5 harg5 arg6 harg6 arg7 harg7) K := by
  simp only [cc0_quant_eq_skeleton]; unfold cc0_quant_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, Hk⟩
  obtain rfl := harg1.eq_unread hf0; obtain rfl := harg2.eq_unread hf1; obtain rfl := harg3.eq_unread hf2; obtain rfl := harg4.eq_unread hf3; obtain rfl := harg5.eq_unread hf4
  sl_exec
  sl_step
  iapply Hk
  have e0 := ldAll harg1 x0 ![0, 0] zero2 inb_S96x2880_S96x2880_0_0
  have e1 := ldAll harg2 x1 ![0, 0] zero2 inb_S96x1_S96x1_0_0
  have e2 := ldAll harg3 x2 ![0, 0] zero2 inb_S96x2880_S96x2880_0_0
  have e3 := ldAll harg4 x3 ![0, 0] zero2 inb_S96x1_S96x1_0_0
  have e4 := ldAll harg5 x4 ![0, 0] zero2 inb_S1x2880_S1x2880_0_0
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; swap; · iexact H5
    ipureintro
    refine (View.read_writes_eq_canon _ _ _ (View.cover_of_tiledBy _ ![96, 2880] (by sl_kernel_rfl))).trans ?_
    refine (View.canon_cons_unit_zero zero2 _ _ _).trans ?_
    rw [e0, e1, e2, e3, e4]
  · iexists _; isplitr; swap; · iexact H6
    ipureintro
    refine (View.read_writes_eq_canon _ _ _ (View.cover_of_tiledBy _ ![96, 192] (by sl_kernel_rfl))).trans ?_
    rw [e0, e1, e2, e3, e4]
    rfl

end Cert.KernelIdeal.Gen

end
-- ==== Proof.K.Reg0.lean ====
module

public import proofs.«01_k».proof.Proof.K.Quant
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Value
public import Idealize.ShloMosaic.Lib.Pipeline.ReadBack
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open View (canon Piece PiecesOf)

variable {F : FTy → Type} [FloatOps F] [Named F]

local notation "𝕄" => MT nD τ sig Unit (Elt F) ℕ (UR sig nD τ) ℕ

variable (W : Valuation τ sig (Elt F))

/-- Window `w`'s block at point `t`, read off its array as the region finds it. -/
def iblk0 (w : Fin cfg0.W) (t : Fin cfg0.N) : ((cfg0.win w).xblock (cfg0.grid.coords t)).Idx → Elt F (cfg0.win w).elt :=
  ((cfg0.win w).blk t).view.read (Elt F) (W (Proc.devRef .tc (Pipeline.arrRef spec0 w)))

/-- The proof data of this region on core `c`, entered at the contents `W`. -/
def dat0 (c : Dev nD) : Dat τ (Elt F) Unit ℕ (UR sig nD τ) ℕ cfg0 c where
  A w := W (Proc.devRef .tc (Pipeline.arrRef spec0 w))
  after w t := match w with
    | ⟨0, _⟩ => iblk0 W 0 t
    | ⟨1, _⟩ => iblk0 W 1 t
    | ⟨2, _⟩ => iblk0 W 2 t
    | ⟨3, _⟩ => iblk0 W 3 t
    | ⟨4, _⟩ => iblk0 W 4 t
    | ⟨5, _⟩ => k0_pay2 (iblk0 W 0 t) (iblk0 W 1 t) (iblk0 W 2 t) (iblk0 W 3 t) (iblk0 W 4 t)
    | ⟨6, _⟩ => padCodes (k0_pay3 (iblk0 W 0 t) (iblk0 W 1 t) (iblk0 W 2 t) (iblk0 W 3 t) (iblk0 W 4 t))
  Φ t := Pipeline.scopedRest spec0 c
  q _ := fullShare
  owed _ := 0

theorem dat0_A (c : Dev nD) (w : Fin cfg0.W) : (dat0 W c).A w = W (Proc.devRef .tc (Pipeline.arrRef spec0 w)) := by
  dsimp only [dat0]
theorem after0_0 (c : Dev nD) (t : Fin cfg0.N) : (dat0 W c).after 0 t = iblk0 W 0 t := by dsimp only [dat0]
theorem after0_1 (c : Dev nD) (t : Fin cfg0.N) : (dat0 W c).after 1 t = iblk0 W 1 t := by dsimp only [dat0]
theorem after0_2 (c : Dev nD) (t : Fin cfg0.N) : (dat0 W c).after 2 t = iblk0 W 2 t := by dsimp only [dat0]
theorem after0_3 (c : Dev nD) (t : Fin cfg0.N) : (dat0 W c).after 3 t = iblk0 W 3 t := by dsimp only [dat0]
theorem after0_4 (c : Dev nD) (t : Fin cfg0.N) : (dat0 W c).after 4 t = iblk0 W 4 t := by dsimp only [dat0]
theorem after0_5 (c : Dev nD) (t : Fin cfg0.N) : (dat0 W c).after 5 t = k0_pay2 (iblk0 W 0 t) (iblk0 W 1 t) (iblk0 W 2 t) (iblk0 W 3 t) (iblk0 W 4 t) := by dsimp only [dat0]
theorem after0_6 (c : Dev nD) (t : Fin cfg0.N) : (dat0 W c).after 6 t = padCodes (k0_pay3 (iblk0 W 0 t) (iblk0 W 1 t) (iblk0 W 2 t) (iblk0 W 3 t) (iblk0 W 4 t)) := by dsimp only [dat0]
theorem before0_0 (c : Dev nD) (t : Fin cfg0.N) (d) : (dat0 W c).before 0 t d = iblk0 W 0 t :=
  ((dat0 W c).before_in_eq_fetched 0 rfl (fun _ => rfl) (fun _ _ _ => rfl) (fun t => by rw [after0_0]; unfold Dat.blockOf iblk0; rw [dat0_A]; try rfl) t d).trans
    (by unfold Dat.fetched Dat.blockOf iblk0; rw [dat0_A]; try rfl)
theorem before0_1 (c : Dev nD) (t : Fin cfg0.N) (d) : (dat0 W c).before 1 t d = iblk0 W 1 t :=
  ((dat0 W c).before_in_eq_fetched 1 rfl (fun _ => rfl) (fun _ _ _ => rfl) (fun t => by rw [after0_1]; unfold Dat.blockOf iblk0; rw [dat0_A]; try rfl) t d).trans
    (by unfold Dat.fetched Dat.blockOf iblk0; rw [dat0_A]; try rfl)
theorem before0_2 (c : Dev nD) (t : Fin cfg0.N) (d) : (dat0 W c).before 2 t d = iblk0 W 2 t :=
  ((dat0 W c).before_in_eq_fetched 2 rfl (fun _ => rfl) (fun _ _ _ => rfl) (fun t => by rw [after0_2]; unfold Dat.blockOf iblk0; rw [dat0_A]; try rfl) t d).trans
    (by unfold Dat.fetched Dat.blockOf iblk0; rw [dat0_A]; try rfl)
theorem before0_3 (c : Dev nD) (t : Fin cfg0.N) (d) : (dat0 W c).before 3 t d = iblk0 W 3 t :=
  ((dat0 W c).before_in_eq_fetched 3 rfl (fun _ => rfl) (fun _ _ _ => rfl) (fun t => by rw [after0_3]; unfold Dat.blockOf iblk0; rw [dat0_A]; try rfl) t d).trans
    (by unfold Dat.fetched Dat.blockOf iblk0; rw [dat0_A]; try rfl)
theorem before0_4 (c : Dev nD) (t : Fin cfg0.N) (d) : (dat0 W c).before 4 t d = iblk0 W 4 t :=
  ((dat0 W c).before_in_eq_fetched 4 rfl (fun _ => rfl) (fun _ _ _ => rfl) (fun t => by rw [after0_4]; unfold Dat.blockOf iblk0; rw [dat0_A]; try rfl) t d).trans
    (by unfold Dat.fetched Dat.blockOf iblk0; rw [dat0_A]; try rfl)
abbrev ms0_0 (t : Fin cfg0.N) := win0_0.stage (cfg0.slots t 0)
abbrev ms0_1 (t : Fin cfg0.N) := win0_1.stage (cfg0.slots t 1)
abbrev ms0_2 (t : Fin cfg0.N) := win0_2.stage (cfg0.slots t 2)
abbrev ms0_3 (t : Fin cfg0.N) := win0_3.stage (cfg0.slots t 3)
abbrev ms0_4 (t : Fin cfg0.N) := win0_4.stage (cfg0.slots t 4)
abbrev ms0_5 (t : Fin cfg0.N) := win0_5.stage (cfg0.slots t 5)
abbrev ms0_6 (t : Fin cfg0.N) := win0_6.stage (cfg0.slots t 6)

/-- What the body is called with at point `t`, the windows one by one. -/
def bodyPre0 (c : Dev nD) (t : Fin cfg0.N) : sProp 𝕄 :=
  iprop((dat0 W c).Φ t.castSucc ∗ (dat0 W c).owesAt () t.castSucc ∗ (∃ d, owns (c : Thread nD τ) (ms0_0 t) fullShare ((dat0 W c).before 0 t d)) ∗ (∃ d, owns (c : Thread nD τ) (ms0_1 t) fullShare ((dat0 W c).before 1 t d)) ∗ (∃ d, owns (c : Thread nD τ) (ms0_2 t) fullShare ((dat0 W c).before 2 t d)) ∗ (∃ d, owns (c : Thread nD τ) (ms0_3 t) fullShare ((dat0 W c).before 3 t d)) ∗ (∃ d, owns (c : Thread nD τ) (ms0_4 t) fullShare ((dat0 W c).before 4 t d)) ∗ (∃ d, owns (c : Thread nD τ) (ms0_5 t) fullShare ((dat0 W c).before 5 t d)) ∗ (∃ d, owns (c : Thread nD τ) (ms0_6 t) fullShare ((dat0 W c).before 6 t d)))

/-- What it returns. -/
def bodyPost0 (c : Dev nD) (t : Fin cfg0.N) : sProp 𝕄 :=
  iprop((dat0 W c).Φ t.succ ∗ (dat0 W c).owesAt () t.succ ∗ owns (c : Thread nD τ) (ms0_0 t) fullShare ((dat0 W c).after 0 t) ∗ owns (c : Thread nD τ) (ms0_1 t) fullShare ((dat0 W c).after 1 t) ∗ owns (c : Thread nD τ) (ms0_2 t) fullShare ((dat0 W c).after 2 t) ∗ owns (c : Thread nD τ) (ms0_3 t) fullShare ((dat0 W c).after 3 t) ∗ owns (c : Thread nD τ) (ms0_4 t) fullShare ((dat0 W c).after 4 t) ∗ owns (c : Thread nD τ) (ms0_5 t) fullShare ((dat0 W c).after 5 t) ∗ owns (c : Thread nD τ) (ms0_6 t) fullShare ((dat0 W c).after 6 t))

theorem sound_body0 (c : Dev nD) (t : Fin cfg0.N) :
    bodyPre0 W c t ⊢ wp frame (wpE (defs₀ (F := F)) Variants.none c none) Set.univ (bodyAt0 t) (fun _ => bodyPost0 W c t) := by
  unfold bodyPre0 bodyPost0 bodyAt0
  simp only [before0_0, before0_1, before0_2, before0_3, before0_4]
  rw [show (dat0 W c).Φ t.succ = (dat0 W c).Φ t.castSucc from rfl,
    show (dat0 W c).owesAt () t.succ = (dat0 W c).owesAt () t.castSucc from rfl,
    after0_0, after0_1, after0_2, after0_3, after0_4, after0_5, after0_6]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (quantSpec c (grid0.coords t) _ _ _ _ _ _ _ _ _ _ _ _ _ _ (iblk0 W 0 t) (iblk0 W 1 t) (iblk0 W 2 t) (iblk0 W 3 t) (iblk0 W 4 t) Set.univ _)
  isplitl [H0]; · iexact H0
  isplitl [H1]; · iexact H1
  isplitl [H2]; · iexact H2
  isplitl [H3]; · iexact H3
  isplitl [H4]; · iexact H4
  isplitl [H5]; · iexists _; iexact H5
  isplitl [H6]; · iexists _; iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

/-- The body table's row at point `t`. -/
theorem defs0_row (t : Fin cfg0.N) :
    defs₀ (F := F) .tc cfg0.body (cfg0.bodyArgs t (cfg0.slots t)) = bodyAt0 t := by
  unfold defs₀; rw [Defs.onTc_tc]

/-- The body obligation of this region, at every point. -/
theorem body_obligation0 (c : Dev nD) : BodyObligation (dat0 W c) (defs₀ (F := F)) Variants.none () Set.univ := fun t => by
  rw [bigSep_W0, bigSep_W0, defs0_row]
  exact triple_restated (sound_body0 W c t) rfl .rfl fun _ => .rfl

end Cert.KernelIdeal.Gen
-- ==== Proof.K.MainRunA.lean ====
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
set_option sl_exec.resultNames true in
/-- What one grid point of the main kernel leaves behind (first block of output channels, first block of tokens): the pieces stored into the
    row-loss block and into the gradient block, and the whole contents of the row-loss accumulator,
    with the proof that the body runs from the five input blocks to those contents. -/
noncomputable def mainRun_A (c : Dev nD) (i : grid1.Coords) (arg2 : Memref sig .tc .vmem S1024x2880 .fp8e4m3) (harg2 : arg2.IsWhole) (arg3 : Memref sig .tc .vmem S1024x90 .f32) (harg3 : arg3.IsWhole) (arg4 : Memref sig .tc .vmem S1024x1024 .bf16) (harg4 : arg4.IsWhole) (arg5 : Memref sig .tc .vmem S960x3072 .bf16) (harg5 : arg5.IsWhole) (arg6 : Memref sig .tc .vmem S960x1 .f32) (harg6 : arg6.IsWhole) (arg7 : Memref sig .tc .vmem S1x1x1024 .f32) (harg7 : arg7.IsWhole) (arg8 : Memref sig .tc .vmem S960x2880 .f32) (harg8 : arg8.IsWhole) (arg9 : Memref sig .tc .vmem S1024x3072 .bf16) (harg9 : arg9.IsWhole) (arg10 : Memref sig .tc .vmem S1024x1024 .bf16) (harg10 : arg10.IsWhole) (arg11 : Memref sig .tc .vmem S960x1024 .bf16) (harg11 : arg11.IsWhole) (arg12 : Memref sig .tc .vmem S1024x128 .f32) (harg12 : arg12.IsWhole) (arg13 : Memref sig .tc .vmem S15x8x1024 .f32) (harg13 : arg13.IsWhole) (hc1 : k1_cond1 i = 1#1) (hc2 : ¬k1_cond2 i = 1#1) (hc3 : k1_cond3 i = 1#1) (hc4 : ¬k1_cond4 i = 1#1) (hc5 : k1_cond5 i = 1#1) (hc6 : ¬k1_cond6 i = 1#1) (hc7 : k1_cond7 i = 1#1) (hc8 : ¬k1_cond8 i = 1#1) (hz : (Scalar.cmpi .ne (Scalar.extui (Scalar.cmpi .eq (BitVec.ofNat 32 (i 1).val) 0#32)) 0#32) = 1#1)
    (x0 : Vec F S1024x2880 .fp8e4m3) (x1 : Vec F S1024x90 .f32) (x2 : Vec F S1024x1024 .bf16) (x3 : Vec F S960x3072 .bf16) (x4 : Vec F S960x1 .f32) (xsc : Vec F S1024x128 .f32) (xA : Vec F S15x8x1024 .f32) :
    Σ' (L7 : List (View.Piece (Elt F) S1x1x1024 .f32)), Σ' (L8 : List (View.Piece (Elt F) S960x2880 .f32)), { W13 : arg13.view.ty.Contents (Elt F) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xsc ∗ owns (c : Thread nD τ) arg13 fullShare xA
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (arg13.view.loc (c : Thread nD τ) ↦[arg13.view.set]{fullShare} W13)) -∗ K ⟨⟩))
          ⊢ wp frame (wpE (defs₀ (F := F)) Variants.none c none) E (cc1_main i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc1_main_eq_skeleton]; unfold cc1_main_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%d9, %f9, -, H9⟩, ⟨%d10, %f10, -, H10⟩, ⟨%d11, %f11, -, H11⟩, ⟨%f12, %hf12, H12⟩, ⟨%f13, %hf13, H13⟩, Hk⟩
    obtain rfl := harg2.eq_unread hf0; obtain rfl := harg3.eq_unread hf1; obtain rfl := harg4.eq_unread hf2; obtain rfl := harg5.eq_unread hf3; obtain rfl := harg6.eq_unread hf4; obtain rfl := harg12.eq_unread hf12; obtain rfl := harg13.eq_unread hf13
    sl_exec (disch := first | sl_exact hc1 | sl_exact hc2 | sl_exact hc3 | sl_exact hc4 | sl_exact hc5 | sl_exact hc6 | sl_exact hc7 | sl_exact hc8 | sl_exact hz)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]; · iexists _; iexact H7
    isplitl [H8]; · iexists _; iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexact H13

end Cert.KernelIdeal.Gen

end
-- ==== Proof.K.MainVA.lean ====
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Ring
public import Idealize.ShloMosaic.Lib.Tactic
public import Idealize.ShloMosaic.Lib.WordCmp
public import proofs.«01_k».proof.Proof.K.MainRunA
public import proofs.«01_k».proof.Proof.K.MainF

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open View (canon Piece PiecesOf)

variable {F : FTy → Type} [FloatOps F] [Named F]

local notation "𝕄" => MT nD τ sig Unit (Elt F) ℕ (UR sig nD τ) ℕ

namespace RunA

variable {c : Dev nD}
  {i : grid1.Coords}
  {arg2 : Memref sig .tc .vmem S1024x2880 .fp8e4m3}
  {harg2 : arg2.IsWhole}
  {arg3 : Memref sig .tc .vmem S1024x90 .f32}
  {harg3 : arg3.IsWhole}
  {arg4 : Memref sig .tc .vmem S1024x1024 .bf16}
  {harg4 : arg4.IsWhole}
  {arg5 : Memref sig .tc .vmem S960x3072 .bf16}
  {harg5 : arg5.IsWhole}
  {arg6 : Memref sig .tc .vmem S960x1 .f32}
  {harg6 : arg6.IsWhole}
  {arg7 : Memref sig .tc .vmem S1x1x1024 .f32}
  {harg7 : arg7.IsWhole}
  {arg8 : Memref sig .tc .vmem S960x2880 .f32}
  {harg8 : arg8.IsWhole}
  {arg9 : Memref sig .tc .vmem S1024x3072 .bf16}
  {harg9 : arg9.IsWhole}
  {arg10 : Memref sig .tc .vmem S1024x1024 .bf16}
  {harg10 : arg10.IsWhole}
  {arg11 : Memref sig .tc .vmem S960x1024 .bf16}
  {harg11 : arg11.IsWhole}
  {arg12 : Memref sig .tc .vmem S1024x128 .f32}
  {harg12 : arg12.IsWhole}
  {arg13 : Memref sig .tc .vmem S15x8x1024 .f32}
  {harg13 : arg13.IsWhole}
  {hc1 : k1_cond1 i = 1#1}
  {hc2 : ¬k1_cond2 i = 1#1}
  {hc3 : k1_cond3 i = 1#1}
  {hc4 : ¬k1_cond4 i = 1#1}
  {hc5 : k1_cond5 i = 1#1}
  {hc6 : ¬k1_cond6 i = 1#1}
  {hc7 : k1_cond7 i = 1#1}
  {hc8 : ¬k1_cond8 i = 1#1}
  {hz : (Scalar.cmpi .ne (Scalar.extui (Scalar.cmpi .eq (BitVec.ofNat 32 (i 1).val) 0#32)) 0#32) = 1#1}
  {x0 : Vec F S1024x2880 .fp8e4m3}
  {x1 : Vec F S1024x90 .f32}
  {x2 : Vec F S1024x1024 .bf16}
  {x3 : Vec F S960x3072 .bf16}
  {x4 : Vec F S960x1 .f32}
  {xsc : Vec F S1024x128 .f32}
  {xA : Vec F S15x8x1024 .f32}

/-! What each load of the body reads, as a function of the blocks. -/

theorem h12 : (mainRun_A.sl.H12_1 c arg3 harg3 x1) = [⟨Rect.unit ![0, 0] S1024x90.size inb_S1024x128_S1024x90_0_0, x1⟩] := by
  unfold mainRun_A.sl.H12_1
  rw [ldIn harg3, View.ld_unit_zero zero2, pay2_eq]

theorem rr (r : Fin 1024) (l : Fin 90) : (mainRun_A.sl.r c arg3 harg3 arg12 harg12 x1 xsc) (ix2 r ⟨l.val, by omega⟩) = x1 (ix2 r l) := by
  unfold mainRun_A.sl.r
  rw [h12]
  exact sc_read _ _ x1 _ _ r l

theorem h9 : (mainRun_A.sl.H9_24 c arg2 harg2 arg3 harg3 arg12 harg12 x0 x1 xsc) = xbPieces (mainRun_A.sl.r c arg3 harg3 arg12 harg12 x1 xsc) x0 := by
  unfold mainRun_A.sl.H9_24
  simp only [mainRun_A.sl.v80, mainRun_A.sl.v120, mainRun_A.sl.v206, mainRun_A.sl.v246, mainRun_A.sl.v372, mainRun_A.sl.v0, mainRun_A.sl.v1, ldIn harg2]
  rfl

theorem c9 : canon (mainRun_A.sl.H9_24 c arg2 harg2 arg3 harg3 arg12 harg12 x0 x1 xsc) = (XB x0 x1) := by
  rw [h9]; exact canon_xbPieces _ x0 x1 rr

theorem e_v462 : (mainRun_A.sl.v462 c arg2 harg2 arg3 harg3 arg9 arg12 harg12 x0 x1 xsc) = xR (XB x0 x1) 0 := ldCov arg9.view c9 _

theorem e_v515 : (mainRun_A.sl.v515 c arg2 harg2 arg3 harg3 arg9 arg12 harg12 x0 x1 xsc) = xR (XB x0 x1) 1 := ldCov arg9.view c9 _

theorem e_v568 : (mainRun_A.sl.v568 c arg2 harg2 arg3 harg3 arg9 arg12 harg12 x0 x1 xsc) = xR (XB x0 x1) 2 := ldCov arg9.view c9 _

theorem e_v621 : (mainRun_A.sl.v621 c arg2 harg2 arg3 harg3 arg9 arg12 harg12 x0 x1 xsc) = xR (XB x0 x1) 3 := ldCov arg9.view c9 _

theorem h10 : canon (mainRun_A.sl.H10_1 c arg4 harg4 x2) = k1_pay41 x2 := by
  unfold mainRun_A.sl.H10_1
  rw [ldIn harg4, View.ld_unit_zero zero2]; exact View.canon_cons_unit_zero zero2 _ _ _

theorem e_v466 : (mainRun_A.sl.v466 c i arg4 harg4 arg10 x2) = yH x2 (bOf i) 0 0 := ldY arg10.view x2 h10 _ 0 0 _ (off1_0 i) _

theorem e_v489 : (mainRun_A.sl.v489 c i arg4 harg4 arg10 x2) = yH x2 (bOf i) 1 0 := ldY arg10.view x2 h10 _ 1 0 _ (off1_1 i) _

theorem e_v519 : (mainRun_A.sl.v519 c i arg4 harg4 arg10 x2) = yH x2 (bOf i) 0 1 := ldY arg10.view x2 h10 _ 0 1 _ (off4_0 i) _

theorem e_v542 : (mainRun_A.sl.v542 c i arg4 harg4 arg10 x2) = yH x2 (bOf i) 1 1 := ldY arg10.view x2 h10 _ 1 1 _ (off4_1 i) _

theorem e_v572 : (mainRun_A.sl.v572 c i arg4 harg4 arg10 x2) = yH x2 (bOf i) 0 2 := ldY arg10.view x2 h10 _ 0 2 _ (off7_0 i) _

theorem e_v595 : (mainRun_A.sl.v595 c i arg4 harg4 arg10 x2) = yH x2 (bOf i) 1 2 := ldY arg10.view x2 h10 _ 1 2 _ (off7_1 i) _

theorem e_v625 : (mainRun_A.sl.v625 c i arg4 harg4 arg10 x2) = yH x2 (bOf i) 0 3 := ldY arg10.view x2 h10 _ 0 3 _ (off10_0 i) _

theorem e_v648 : (mainRun_A.sl.v648 c i arg4 harg4 arg10 x2) = yH x2 (bOf i) 1 3 := ldY arg10.view x2 h10 _ 1 3 _ (off10_1 i) _

theorem h11 : (mainRun_A.sl.H11_8 c i arg2 harg2 arg3 harg3 arg4 harg4 arg5 harg5 arg6 harg6 arg9 arg10 arg12 harg12 x0 x1 x2 x3 x4 xsc) = etPieces (XB x0 x1) x2 x3 x4 (bOf i) := by
  unfold mainRun_A.sl.H11_8
  simp only [mainRun_A.sl.r_1, mainRun_A.sl.r_2, mainRun_A.sl.r_3, mainRun_A.sl.r_4, mainRun_A.sl.r_5, mainRun_A.sl.r_6, mainRun_A.sl.r_7, mainRun_A.sl.r_8, mainRun_A.sl.r_9, e_v462, e_v515, e_v568, e_v621, e_v466, e_v489, e_v519, e_v542, e_v572, e_v595, e_v625, e_v648, ldIn harg5, ldIn harg6, pay47_eq, pay56_eq, pay58_eq, pay63_eq, pay68_eq, pay75_eq, pay77_eq]
  rfl

theorem c11 : canon (mainRun_A.sl.H11_8 c i arg2 harg2 arg3 harg3 arg4 harg4 arg5 harg5 arg6 harg6 arg9 arg10 arg12 harg12 x0 x1 x2 x3 x4 xsc) = (ET (XB x0 x1) x2 x3 x4 (bOf i)) := by
  rw [h11]; exact canon_etPieces _ _ _ _ _

theorem e_v686 : (mainRun_A.sl.v686 c i arg2 harg2 arg3 harg3 arg4 harg4 arg5 harg5 arg6 harg6 arg9 arg10 arg11 arg12 harg12 x0 x1 x2 x3 x4 xsc) = eH (ET (XB x0 x1) x2 x3 x4 (bOf i)) 0 := ldCov arg11.view c11 _

theorem e_v770 : (mainRun_A.sl.v770 c i arg2 harg2 arg3 harg3 arg4 harg4 arg5 harg5 arg6 harg6 arg9 arg10 arg11 arg12 harg12 x0 x1 x2 x3 x4 xsc) = eH (ET (XB x0 x1) x2 x3 x4 (bOf i)) 1 := ldCov arg11.view c11 _

theorem e_v847 : (mainRun_A.sl.v847 c i arg2 harg2 arg3 harg3 arg4 harg4 arg5 harg5 arg6 harg6 arg9 arg10 arg11 arg12 harg12 x0 x1 x2 x3 x4 xsc) = eH (ET (XB x0 x1) x2 x3 x4 (bOf i)) 1 := ldCov arg11.view c11 _

theorem e_v687 : (mainRun_A.sl.v687 c arg2 harg2 arg3 harg3 arg9 arg12 harg12 x0 x1 xsc) = xC (XB x0 x1) 0 := ldCov arg9.view c9 _

theorem e_v694 : (mainRun_A.sl.v694 c arg2 harg2 arg3 harg3 arg9 arg12 harg12 x0 x1 xsc) = xC (XB x0 x1) 1 := ldCov arg9.view c9 _

theorem e_v701 : (mainRun_A.sl.v701 c arg2 harg2 arg3 harg3 arg9 arg12 harg12 x0 x1 xsc) = xC (XB x0 x1) 2 := ldCov arg9.view c9 _

theorem e_v708 : (mainRun_A.sl.v708 c arg2 harg2 arg3 harg3 arg9 arg12 harg12 x0 x1 xsc) = xC (XB x0 x1) 3 := ldCov arg9.view c9 _

theorem e_v715 : (mainRun_A.sl.v715 c arg2 harg2 arg3 harg3 arg9 arg12 harg12 x0 x1 xsc) = xC (XB x0 x1) 4 := ldCov arg9.view c9 _

theorem e_v722 : (mainRun_A.sl.v722 c arg2 harg2 arg3 harg3 arg9 arg12 harg12 x0 x1 xsc) = xC (XB x0 x1) 5 := ldCov arg9.view c9 _

theorem e_v729 : (mainRun_A.sl.v729 c arg2 harg2 arg3 harg3 arg9 arg12 harg12 x0 x1 xsc) = xC (XB x0 x1) 6 := ldCov arg9.view c9 _

theorem e_v736 : (mainRun_A.sl.v736 c arg2 harg2 arg3 harg3 arg9 arg12 harg12 x0 x1 xsc) = xC (XB x0 x1) 7 := ldCov arg9.view c9 _

theorem e_v743 : (mainRun_A.sl.v743 c arg2 harg2 arg3 harg3 arg9 arg12 harg12 x0 x1 xsc) = xC (XB x0 x1) 8 := ldCov arg9.view c9 _

theorem e_v750 : (mainRun_A.sl.v750 c arg2 harg2 arg3 harg3 arg9 arg12 harg12 x0 x1 xsc) = xC (XB x0 x1) 9 := ldCov arg9.view c9 _

theorem e_v757 : (mainRun_A.sl.v757 c arg2 harg2 arg3 harg3 arg9 arg12 harg12 x0 x1 xsc) = xC (XB x0 x1) 10 := ldCov arg9.view c9 _

theorem e_v764 : (mainRun_A.sl.v764 c arg2 harg2 arg3 harg3 arg9 arg12 harg12 x0 x1 xsc) = xL (XB x0 x1) := ldCov arg9.view c9 _

theorem e_v848 : (mainRun_A.sl.v848 c arg2 harg2 arg3 harg3 arg9 arg12 harg12 x0 x1 xsc) = xL (XB x0 x1) := ldCov arg9.view c9 _

theorem h13 : (mainRun_A.sl.H13_4 c i arg2 harg2 arg3 harg3 arg4 harg4 arg5 harg5 arg6 harg6 arg9 arg10 arg12 harg12 hc1 hc3 hc5 hc7 x0 x1 x2 x3 x4 xsc) = [⟨Rect.unit (k1_off11 i) S1x8x256.size (k1_off11_inb i hc7), (aNew1 true (XB x0 x1) x2 x3 x4 (bOf i) xA (tOf i)) 3⟩, ⟨Rect.unit (k1_off8 i) S1x8x256.size (k1_off8_inb i hc5), (aNew1 true (XB x0 x1) x2 x3 x4 (bOf i) xA (tOf i)) 2⟩, ⟨Rect.unit (k1_off5 i) S1x8x256.size (k1_off5_inb i hc3), (aNew1 true (XB x0 x1) x2 x3 x4 (bOf i) xA (tOf i)) 1⟩, ⟨Rect.unit (k1_off2 i) S1x8x256.size (k1_off2_inb i hc1), (aNew1 true (XB x0 x1) x2 x3 x4 (bOf i) xA (tOf i)) 0⟩] := by
  unfold mainRun_A.sl.H13_4
  simp only [mainRun_A.sl.r_1, mainRun_A.sl.r_2, mainRun_A.sl.r_3, mainRun_A.sl.r_4, mainRun_A.sl.r_5, mainRun_A.sl.r_6, mainRun_A.sl.r_7, mainRun_A.sl.r_8, mainRun_A.sl.r_9, mainRun_A.sl.r_10, mainRun_A.sl.v558, e_v462, e_v515, e_v568, e_v621, e_v466, e_v489, e_v519, e_v542, e_v572, e_v595, e_v625, e_v648, ldIn harg5, ldIn harg6, pay49_eq, pay60_eq, pay70_eq, pay79_eq]
  rfl

theorem w13 : arg13.view.read (Elt F) (arg13.view.writes (Elt F) (harg13.unread xA) (mainRun_A.sl.H13_4 c i arg2 harg2 arg3 harg3 arg4 harg4 arg5 harg5 arg6 harg6 arg9 arg10 arg12 harg12 hc1 hc3 hc5 hc7 x0 x1 x2 x3 x4 xsc)) = setRow xA (tOf i) (rowOf (aNew1 true (XB x0 x1) x2 x3 x4 (bOf i) xA (tOf i))) := by
  rw [h13 (hc1 := hc1) (hc3 := hc3) (hc5 := hc5) (hc7 := hc7)]
  refine (read_rows arg13.view _ (tOf i) (off2_eq i) (off5_eq i) (off8_eq i) (off11_eq i) _ _ _ _ (aNew1 true (XB x0 x1) x2 x3 x4 (bOf i) xA (tOf i))).trans ?_
  rw [harg13.read_unread]

theorem e_v672 : (mainRun_A.sl.v672 c i arg2 harg2 arg3 harg3 arg4 harg4 arg5 harg5 arg6 harg6 arg9 arg10 arg12 harg12 arg13 hc1 hc3 hc5 hc7 x0 x1 x2 x3 x4 xsc) = rowOf (aNew1 true (XB x0 x1) x2 x3 x4 (bOf i) xA (tOf i)) := by
  unfold mainRun_A.sl.v672
  rw [h13 (hc1 := hc1) (hc3 := hc3) (hc5 := hc5) (hc7 := hc7)]
  refine (View.readAt_eq_ld arg13.view _ _).trans ?_
  rw [read_rows arg13.view _ (tOf i) (off2_eq i) (off5_eq i) (off8_eq i) (off11_eq i) _ _ _ _ (aNew1 true (XB x0 x1) x2 x3 x4 (bOf i) xA (tOf i))]
  exact ld_setRow _ (tOf i) _ _ (off13_eq i) _

theorem g_v684 : (mainRun_A.sl.v684 c arg8) = gC (k1_pay82 (F := F)) 0 0 := by
  unfold mainRun_A.sl.v684
  unfold mainRun_A.sl.H8_1
  exact fillC arg8.view k1_pay82 0 0 0 0 rfl rfl _ _

theorem g_v691 : (mainRun_A.sl.v691 c i arg2 harg2 arg3 harg3 arg4 harg4 arg5 harg5 arg6 harg6 arg8 arg9 arg10 arg11 arg12 harg12 x0 x1 x2 x3 x4 xsc) = gC (k1_pay82 (F := F)) 0 1 := by
  unfold mainRun_A.sl.v691
  unfold mainRun_A.sl.H8_2
  rw [View.readCov_skip _ _ _ _ _ (by decide)]
  unfold mainRun_A.sl.H8_1
  exact fillC arg8.view k1_pay82 0 1 0 256 rfl rfl _ _

theorem g_v698 : (mainRun_A.sl.v698 c i arg2 harg2 arg3 harg3 arg4 harg4 arg5 harg5 arg6 harg6 arg8 arg9 arg10 arg11 arg12 harg12 x0 x1 x2 x3 x4 xsc) = gC (k1_pay82 (F := F)) 0 2 := by
  unfold mainRun_A.sl.v698
  unfold mainRun_A.sl.H8_3
  rw [View.readCov_skip _ _ _ _ _ (by decide)]
  unfold mainRun_A.sl.H8_2
  rw [View.readCov_skip _ _ _ _ _ (by decide)]
  unfold mainRun_A.sl.H8_1
  exact fillC arg8.view k1_pay82 0 2 0 512 rfl rfl _ _

theorem g_v705 : (mainRun_A.sl.v705 c i arg2 harg2 arg3 harg3 arg4 harg4 arg5 harg5 arg6 harg6 arg8 arg9 arg10 arg11 arg12 harg12 x0 x1 x2 x3 x4 xsc) = gC (k1_pay82 (F := F)) 0 3 := by
  unfold mainRun_A.sl.v705
  unfold mainRun_A.sl.H8_4
  rw [View.readCov_skip _ _ _ _ _ (by decide)]
  unfold mainRun_A.sl.H8_3
  rw [View.readCov_skip _ _ _ _ _ (by decide)]
  unfold mainRun_A.sl.H8_2
  rw [View.readCov_skip _ _ _ _ _ (by decide)]
  unfold mainRun_A.sl.H8_1
  exact fillC arg8.view k1_pay82 0 3 0 768 rfl rfl _ _

theorem g_v712 : (mainRun_A.sl.v712 c i arg2 harg2 arg3 harg3 arg4 harg4 arg5 harg5 arg6 harg6 arg8 arg9 arg10 arg11 arg12 harg12 x0 x1 x2 x3 x4 xsc) = gC (k1_pay82 (F := F)) 0 4 := by
  unfold mainRun_A.sl.v712
  unfold mainRun_A.sl.H8_5
  rw [View.readCov_skip _ _ _ _ _ (by decide)]
  unfold mainRun_A.sl.H8_4
  rw [View.readCov_skip _ _ _ _ _ (by decide)]
  unfold mainRun_A.sl.H8_3
  rw [View.readCov_skip _ _ _ _ _ (by decide)]
  unfold mainRun_A.sl.H8_2
  rw [View.readCov_skip _ _ _ _ _ (by decide)]
  unfold mainRun_A.sl.H8_1
  exact fillC arg8.view k1_pay82 0 4 0 1024 rfl rfl _ _

theorem g_v719 : (mainRun_A.sl.v719 c i arg2 harg2 arg3 harg3 arg4 harg4 arg5 harg5 arg6 harg6 arg8 arg9 arg10 arg11 arg12 harg12 x0 x1 x2 x3 x4 xsc) = gC (k1_pay82 (F := F)) 0 5 := by
  unfold mainRun_A.sl.v719
  unfold mainRun_A.sl.H8_6
  rw [View.readCov_skip _ _ _ _ _ (by decide)]
  unfold mainRun_A.sl.H8_5
  rw [View.readCov_skip _ _ _ _ _ (by decide)]
  unfold mainRun_A.sl.H8_4
  rw [View.readCov_skip _ _ _ _ _ (by decide)]
  unfold mainRun_A.sl.H8_3
  rw [View.readCov_skip _ _ _ _ _ (by decide)]
  unfold mainRun_A.sl.H8_2
  rw [View.readCov_skip _ _ _ _ _ (by decide)]
  unfold mainRun_A.sl.H8_1
  exact fillC arg8.view k1_pay82 0 5 0 1280 rfl rfl _ _

theorem g_v726 : (mainRun_A.sl.v726 c i arg2 harg2 arg3 harg3 arg4 harg4 arg5 harg5 arg6 harg6 arg8 arg9 arg10 arg11 arg12 harg12 x0 x1 x2 x3 x4 xsc) = gC (k1_pay82 (F := F)) 0 6 := by
  unfold mainRun_A.sl.v726
  unfold mainRun_A.sl.H8_7
  rw [View.readCov_skip _ _ _ _ _ (by decide)]
  unfold mainRun_A.sl.H8_6
  rw [View.readCov_skip _ _ _ _ _ (by decide)]
  unfold mainRun_A.sl.H8_5
  rw [View.readCov_skip _ _ _ _ _ (by decide)]
  unfold mainRun_A.sl.H8_4
  rw [View.readCov_skip _ _ _ _ _ (by decide)]
  unfold mainRun_A.sl.H8_3
  rw [View.readCov_skip _ _ _ _ _ (by decide)]
  unfold mainRun_A.sl.H8_2
  rw [View.readCov_skip _ _ _ _ _ (by decide)]
  unfold mainRun_A.sl.H8_1
  exact fillC arg8.view k1_pay82 0 6 0 1536 rfl rfl _ _

theorem g_v733 : (mainRun_A.sl.v733 c i arg2 harg2 arg3 harg3 arg4 harg4 arg5 harg5 arg6 harg6 arg8 arg9 arg10 arg11 arg12 harg12 x0 x1 x2 x3 x4 xsc) = gC (k1_pay82 (F := F)) 0 7 := by
  unfold mainRun_A.sl.v733
  unfold mainRun_A.sl.H8_8
  rw [View.readCov_skip _ _ _ _ _ (by decide)]
  unfold mainRun_A.sl.H8_7
  rw [View.readCov_skip _ _ _ _ _ (by decide)]
  unfold mainRun_A.sl.H8_6
  rw [View.readCov_skip _ _ _ _ _ (by decide)]
  unfold mainRun_A.sl.H8_5
  rw [View.readCov_skip _ _ _ _ _ (by decide)]
  unfold mainRun_A.sl.H8_4
  rw [View.readCov_skip _ _ _ _ _ (by decide)]
  unfold mainRun_A.sl.H8_3
  rw [View.readCov_skip _ _ _ _ _ (by decide)]
  unfold mainRun_A.sl.H8_2
  rw [View.readCov_skip _ _ _ _ _ (by decide)]
  unfold mainRun_A.sl.H8_1
  exact fillC arg8.view k1_pay82 0 7 0 1792 rfl rfl _ _

theorem g_v740 : (mainRun_A.sl.v740 c i arg2 harg2 arg3 harg3 arg4 harg4 arg5 harg5 arg6 harg6 arg8 arg9 arg10 arg11 arg12 harg12 x0 x1 x2 x3 x4 xsc) = gC (k1_pay82 (F := F)) 0 8 := by
  unfold mainRun_A.sl.v740
  unfold mainRun_A.sl.H8_9
  rw [View.readCov_skip _ _ _ _ _ (by decide)]
  unfold mainRun_A.sl.H8_8
  rw [View.readCov_skip _ _ _ _ _ (by decide)]
  unfold mainRun_A.sl.H8_7
  rw [View.readCov_skip _ _ _ _ _ (by decide)]
  unfold mainRun_A.sl.H8_6
  rw [View.readCov_skip _ _ _ _ _ (by decide)]
  unfold mainRun_A.sl.H8_5
  rw [View.readCov_skip _ _ _ _ _ (by decide)]
  unfold mainRun_A.sl.H8_4
  rw [View.readCov_skip _ _ _ _ _ (by decide)]
  unfold mainRun_A.sl.H8_3
  rw [View.readCov_skip _ _ _ _ _ (by decide)]
  unfold mainRun_A.sl.H8_2
  rw [View.readCov_skip _ _ _ _ _ (by decide)]
  unfold mainRun_A.sl.H8_1
  exact fillC arg8.view k1_pay82 0 8 0 2048 rfl rfl _ _

theorem g_v747 : (mainRun_A.sl.v747 c i arg2 harg2 arg3 harg3 arg4 harg4 arg5 harg5 arg6 harg6 arg8 arg9 arg10 arg11 arg12 harg12 x0 x1 x2 x3 x4 xsc) = gC (k1_pay82 (F := F)) 0 9 := by
  unfold mainRun_A.sl.v747
  unfold mainRun_A.sl.H8_10
  rw [View.readCov_skip _ _ _ _ _ (by decide)]
  unfold mainRun_A.sl.H8_9
  rw [View.readCov_skip _ _ _ _ _ (by decide)]
  unfold mainRun_A.sl.H8_8
  rw [View.readCov_skip _ _ _ _ _ (by decide)]
  unfold mainRun_A.sl.H8_7
  rw [View.readCov_skip _ _ _ _ _ (by decide)]
  unfold mainRun_A.sl.H8_6
  rw [View.readCov_skip _ _ _ _ _ (by decide)]
  unfold mainRun_A.sl.H8_5
  rw [View.readCov_skip _ _ _ _ _ (by decide)]
  unfold mainRun_A.sl.H8_4
  rw [View.readCov_skip _ _ _ _ _ (by decide)]
  unfold mainRun_A.sl.H8_3
  rw [View.readCov_skip _ _ _ _ _ (by decide)]
  unfold mainRun_A.sl.H8_2
  rw [View.readCov_skip _ _ _ _ _ (by decide)]
  unfold mainRun_A.sl.H8_1
  exact fillC arg8.view k1_pay82 0 9 0 2304 rfl rfl _ _

theorem g_v754 : (mainRun_A.sl.v754 c i arg2 harg2 arg3 harg3 arg4 harg4 arg5 harg5 arg6 harg6 arg8 arg9 arg10 arg11 arg12 harg12 x0 x1 x2 x3 x4 xsc) = gC (k1_pay82 (F := F)) 0 10 := by
  unfold mainRun_A.sl.v754
  unfold mainRun_A.sl.H8_11
  rw [View.readCov_skip _ _ _ _ _ (by decide)]
  unfold mainRun_A.sl.H8_10
  rw [View.readCov_skip _ _ _ _ _ (by decide)]
  unfold mainRun_A.sl.H8_9
  rw [View.readCov_skip _ _ _ _ _ (by decide)]
  unfold mainRun_A.sl.H8_8
  rw [View.readCov_skip _ _ _ _ _ (by decide)]
  unfold mainRun_A.sl.H8_7
  rw [View.readCov_skip _ _ _ _ _ (by decide)]
  unfold mainRun_A.sl.H8_6
  rw [View.readCov_skip _ _ _ _ _ (by decide)]
  unfold mainRun_A.sl.H8_5
  rw [View.readCov_skip _ _ _ _ _ (by decide)]
  unfold mainRun_A.sl.H8_4
  rw [View.readCov_skip _ _ _ _ _ (by decide)]
  unfold mainRun_A.sl.H8_3
  rw [View.readCov_skip _ _ _ _ _ (by decide)]
  unfold mainRun_A.sl.H8_2
  rw [View.readCov_skip _ _ _ _ _ (by decide)]
  unfold mainRun_A.sl.H8_1
  exact fillC arg8.view k1_pay82 0 10 0 2560 rfl rfl _ _

theorem g_v761 : (mainRun_A.sl.v761 c i arg2 harg2 arg3 harg3 arg4 harg4 arg5 harg5 arg6 harg6 arg8 arg9 arg10 arg11 arg12 harg12 x0 x1 x2 x3 x4 xsc) = gL (k1_pay82 (F := F)) 0 := by
  unfold mainRun_A.sl.v761
  unfold mainRun_A.sl.H8_12
  rw [View.readCov_skip _ _ _ _ _ (by decide)]
  unfold mainRun_A.sl.H8_11
  rw [View.readCov_skip _ _ _ _ _ (by decide)]
  unfold mainRun_A.sl.H8_10
  rw [View.readCov_skip _ _ _ _ _ (by decide)]
  unfold mainRun_A.sl.H8_9
  rw [View.readCov_skip _ _ _ _ _ (by decide)]
  unfold mainRun_A.sl.H8_8
  rw [View.readCov_skip _ _ _ _ _ (by decide)]
  unfold mainRun_A.sl.H8_7
  rw [View.readCov_skip _ _ _ _ _ (by decide)]
  unfold mainRun_A.sl.H8_6
  rw [View.readCov_skip _ _ _ _ _ (by decide)]
  unfold mainRun_A.sl.H8_5
  rw [View.readCov_skip _ _ _ _ _ (by decide)]
  unfold mainRun_A.sl.H8_4
  rw [View.readCov_skip _ _ _ _ _ (by decide)]
  unfold mainRun_A.sl.H8_3
  rw [View.readCov_skip _ _ _ _ _ (by decide)]
  unfold mainRun_A.sl.H8_2
  rw [View.readCov_skip _ _ _ _ _ (by decide)]
  unfold mainRun_A.sl.H8_1
  exact fillL arg8.view k1_pay82 0 0 rfl _ _

theorem g_v768 : (mainRun_A.sl.v768 c i arg2 harg2 arg3 harg3 arg4 harg4 arg5 harg5 arg6 harg6 arg8 arg9 arg10 arg11 arg12 harg12 x0 x1 x2 x3 x4 xsc) = gC (k1_pay82 (F := F)) 1 0 := by
  unfold mainRun_A.sl.v768
  unfold mainRun_A.sl.H8_13
  rw [View.readCov_skip _ _ _ _ _ (by decide)]
  unfold mainRun_A.sl.H8_12
  rw [View.readCov_skip _ _ _ _ _ (by decide)]
  unfold mainRun_A.sl.H8_11
  rw [View.readCov_skip _ _ _ _ _ (by decide)]
  unfold mainRun_A.sl.H8_10
  rw [View.readCov_skip _ _ _ _ _ (by decide)]
  unfold mainRun_A.sl.H8_9
  rw [View.readCov_skip _ _ _ _ _ (by decide)]
  unfold mainRun_A.sl.H8_8
  rw [View.readCov_skip _ _ _ _ _ (by decide)]
  unfold mainRun_A.sl.H8_7
  rw [View.readCov_skip _ _ _ _ _ (by decide)]
  unfold mainRun_A.sl.H8_6
  rw [View.readCov_skip _ _ _ _ _ (by decide)]
  unfold mainRun_A.sl.H8_5
  rw [View.readCov_skip _ _ _ _ _ (by decide)]
  unfold mainRun_A.sl.H8_4
  rw [View.readCov_skip _ _ _ _ _ (by decide)]
  unfold mainRun_A.sl.H8_3
  rw [View.readCov_skip _ _ _ _ _ (by decide)]
  unfold mainRun_A.sl.H8_2
  rw [View.readCov_skip _ _ _ _ _ (by decide)]
  unfold mainRun_A.sl.H8_1
  exact fillC arg8.view k1_pay82 1 0 480 0 rfl rfl _ _

theorem g_v775 : (mainRun_A.sl.v775 c i arg2 harg2 arg3 harg3 arg4 harg4 arg5 harg5 arg6 harg6 arg8 arg9 arg10 arg11 arg12 harg12 x0 x1 x2 x3 x4 xsc) = gC (k1_pay82 (F := F)) 1 1 := by
  unfold mainRun_A.sl.v775
  unfold mainRun_A.sl.H8_14
  rw [View.readCov_skip _ _ _ _ _ (by decide)]
  unfold mainRun_A.sl.H8_13
  rw [View.readCov_skip _ _ _ _ _ (by decide)]
  unfold mainRun_A.sl.H8_12
  rw [View.readCov_skip _ _ _ _ _ (by decide)]
  unfold mainRun_A.sl.H8_11
  rw [View.readCov_skip _ _ _ _ _ (by decide)]
  unfold mainRun_A.sl.H8_10
  rw [View.readCov_skip _ _ _ _ _ (by decide)]
  unfold mainRun_A.sl.H8_9
  rw [View.readCov_skip _ _ _ _ _ (by decide)]
  unfold mainRun_A.sl.H8_8
  rw [View.readCov_skip _ _ _ _ _ (by decide)]
  unfold mainRun_A.sl.H8_7
  rw [View.readCov_skip _ _ _ _ _ (by decide)]
  unfold mainRun_A.sl.H8_6
  rw [View.readCov_skip _ _ _ _ _ (by decide)]
  unfold mainRun_A.sl.H8_5
  rw [View.readCov_skip _ _ _ _ _ (by decide)]
  unfold mainRun_A.sl.H8_4
  rw [View.readCov_skip _ _ _ _ _ (by decide)]
  unfold mainRun_A.sl.H8_3
  rw [View.readCov_skip _ _ _ _ _ (by decide)]
  unfold mainRun_A.sl.H8_2
  rw [View.readCov_skip _ _ _ _ _ (by decide)]
  unfold mainRun_A.sl.H8_1
  exact fillC arg8.view k1_pay82 1 1 480 256 rfl rfl _ _

theorem g_v782 : (mainRun_A.sl.v782 c i arg2 harg2 arg3 harg3 arg4 harg4 arg5 harg5 arg6 harg6 arg8 arg9 arg10 arg11 arg12 harg12 x0 x1 x2 x3 x4 xsc) = gC (k1_pay82 (F := F)) 1 2 := by
  unfold mainRun_A.sl.v782
  unfold mainRun_A.sl.H8_15
  rw [View.readCov_skip _ _ _ _ _ (by decide)]
  unfold mainRun_A.sl.H8_14
  rw [View.readCov_skip _ _ _ _ _ (by decide)]
  unfold mainRun_A.sl.H8_13
  rw [View.readCov_skip _ _ _ _ _ (by decide)]
  unfold mainRun_A.sl.H8_12
  rw [View.readCov_skip _ _ _ _ _ (by decide)]
  unfold mainRun_A.sl.H8_11
  rw [View.readCov_skip _ _ _ _ _ (by decide)]
  unfold mainRun_A.sl.H8_10
  rw [View.readCov_skip _ _ _ _ _ (by decide)]
  unfold mainRun_A.sl.H8_9
  rw [View.readCov_skip _ _ _ _ _ (by decide)]
  unfold mainRun_A.sl.H8_8
  rw [View.readCov_skip _ _ _ _ _ (by decide)]
  unfold mainRun_A.sl.H8_7
  rw [View.readCov_skip _ _ _ _ _ (by decide)]
  unfold mainRun_A.sl.H8_6
  rw [View.readCov_skip _ _ _ _ _ (by decide)]
  unfold mainRun_A.sl.H8_5
  rw [View.readCov_skip _ _ _ _ _ (by decide)]
  unfold mainRun_A.sl.H8_4
  rw [View.readCov_skip _ _ _ _ _ (by decide)]
  unfold mainRun_A.sl.H8_3
  rw [View.readCov_skip _ _ _ _ _ (by decide)]
  unfold mainRun_A.sl.H8_2
  rw [View.readCov_skip _ _ _ _ _ (by decide)]
  unfold mainRun_A.sl.H8_1
  exact fillC arg8.view k1_pay82 1 2 480 512 rfl rfl _ _

theorem g_v789 : (mainRun_A.sl.v789 c i arg2 harg2 arg3 harg3 arg4 harg4 arg5 harg5 arg6 harg6 arg8 arg9 arg10 arg11 arg12 harg12 x0 x1 x2 x3 x4 xsc) = gC (k1_pay82 (F := F)) 1 3 := by
  unfold mainRun_A.sl.v789
  unfold mainRun_A.sl.H8_16
  rw [View.readCov_skip _ _ _ _ _ (by decide)]
  unfold mainRun_A.sl.H8_15
  rw [View.readCov_skip _ _ _ _ _ (by decide)]
  unfold mainRun_A.sl.H8_14
  rw [View.readCov_skip _ _ _ _ _ (by decide)]
  unfold mainRun_A.sl.H8_13
  rw [View.readCov_skip _ _ _ _ _ (by decide)]
  unfold mainRun_A.sl.H8_12
  rw [View.readCov_skip _ _ _ _ _ (by decide)]
  unfold mainRun_A.sl.H8_11
  rw [View.readCov_skip _ _ _ _ _ (by decide)]
  unfold mainRun_A.sl.H8_10
  rw [View.readCov_skip _ _ _ _ _ (by decide)]
  unfold mainRun_A.sl.H8_9
  rw [View.readCov_skip _ _ _ _ _ (by decide)]
  unfold mainRun_A.sl.H8_8
  rw [View.readCov_skip _ _ _ _ _ (by decide)]
  unfold mainRun_A.sl.H8_7
  rw [View.readCov_skip _ _ _ _ _ (by decide)]
  unfold mainRun_A.sl.H8_6
  rw [View.readCov_skip _ _ _ _ _ (by decide)]
  unfold mainRun_A.sl.H8_5
  rw [View.readCov_skip _ _ _ _ _ (by decide)]
  unfold mainRun_A.sl.H8_4
  rw [View.readCov_skip _ _ _ _ _ (by decide)]
  unfold mainRun_A.sl.H8_3
  rw [View.readCov_skip _ _ _ _ _ (by decide)]
  unfold mainRun_A.sl.H8_2
  rw [View.readCov_skip _ _ _ _ _ (by decide)]
  unfold mainRun_A.sl.H8_1
  exact fillC arg8.view k1_pay82 1 3 480 768 rfl rfl _ _

theorem g_v796 : (mainRun_A.sl.v796 c i arg2 harg2 arg3 harg3 arg4 harg4 arg5 harg5 arg6 harg6 arg8 arg9 arg10 arg11 arg12 harg12 x0 x1 x2 x3 x4 xsc) = gC (k1_pay82 (F := F)) 1 4 := by
  unfold mainRun_A.sl.v796
  unfold mainRun_A.sl.H8_17
  rw [View.readCov_skip _ _ _ _ _ (by decide)]
  unfold mainRun_A.sl.H8_16
  rw [View.readCov_skip _ _ _ _ _ (by decide)]
  unfold mainRun_A.sl.H8_15
  rw [View.readCov_skip _ _ _ _ _ (by decide)]
  unfold mainRun_A.sl.H8_14
  rw [View.readCov_skip _ _ _ _ _ (by decide)]
  unfold mainRun_A.sl.H8_13
  rw [View.readCov_skip _ _ _ _ _ (by decide)]
  unfold mainRun_A.sl.H8_12
  rw [View.readCov_skip _ _ _ _ _ (by decide)]
  unfold mainRun_A.sl.H8_11
  rw [View.readCov_skip _ _ _ _ _ (by decide)]
  unfold mainRun_A.sl.H8_10
  rw [View.readCov_skip _ _ _ _ _ (by decide)]
  unfold mainRun_A.sl.H8_9
  rw [View.readCov_skip _ _ _ _ _ (by decide)]
  unfold mainRun_A.sl.H8_8
  rw [View.readCov_skip _ _ _ _ _ (by decide)]
  unfold mainRun_A.sl.H8_7
  rw [View.readCov_skip _ _ _ _ _ (by decide)]
  unfold mainRun_A.sl.H8_6
  rw [View.readCov_skip _ _ _ _ _ (by decide)]
  unfold mainRun_A.sl.H8_5
  rw [View.readCov_skip _ _ _ _ _ (by decide)]
  unfold mainRun_A.sl.H8_4
  rw [View.readCov_skip _ _ _ _ _ (by decide)]
  unfold mainRun_A.sl.H8_3
  rw [View.readCov_skip _ _ _ _ _ (by decide)]
  unfold mainRun_A.sl.H8_2
  rw [View.readCov_skip _ _ _ _ _ (by decide)]
  unfold mainRun_A.sl.H8_1
  exact fillC arg8.view k1_pay82 1 4 480 1024 rfl rfl _ _

theorem g_v803 : (mainRun_A.sl.v803 c i arg2 harg2 arg3 harg3 arg4 harg4 arg5 harg5 arg6 harg6 arg8 arg9 arg10 arg11 arg12 harg12 x0 x1 x2 x3 x4 xsc) = gC (k1_pay82 (F := F)) 1 5 := by
  unfold mainRun_A.sl.v803
  unfold mainRun_A.sl.H8_18
  rw [View.readCov_skip _ _ _ _ _ (by decide)]
  unfold mainRun_A.sl.H8_17
  rw [View.readCov_skip _ _ _ _ _ (by decide)]
  unfold mainRun_A.sl.H8_16
  rw [View.readCov_skip _ _ _ _ _ (by decide)]
  unfold mainRun_A.sl.H8_15
  rw [View.readCov_skip _ _ _ _ _ (by decide)]
  unfold mainRun_A.sl.H8_14
  rw [View.readCov_skip _ _ _ _ _ (by decide)]
  unfold mainRun_A.sl.H8_13
  rw [View.readCov_skip _ _ _ _ _ (by decide)]
  unfold mainRun_A.sl.H8_12
  rw [View.readCov_skip _ _ _ _ _ (by decide)]
  unfold mainRun_A.sl.H8_11
  rw [View.readCov_skip _ _ _ _ _ (by decide)]
  unfold mainRun_A.sl.H8_10
  rw [View.readCov_skip _ _ _ _ _ (by decide)]
  unfold mainRun_A.sl.H8_9
  rw [View.readCov_skip _ _ _ _ _ (by decide)]
  unfold mainRun_A.sl.H8_8
  rw [View.readCov_skip _ _ _ _ _ (by decide)]
  unfold mainRun_A.sl.H8_7
  rw [View.readCov_skip _ _ _ _ _ (by decide)]
  unfold mainRun_A.sl.H8_6
  rw [View.readCov_skip _ _ _ _ _ (by decide)]
  unfold mainRun_A.sl.H8_5
  rw [View.readCov_skip _ _ _ _ _ (by decide)]
  unfold mainRun_A.sl.H8_4
  rw [View.readCov_skip _ _ _ _ _ (by decide)]
  unfold mainRun_A.sl.H8_3
  rw [View.readCov_skip _ _ _ _ _ (by decide)]
  unfold mainRun_A.sl.H8_2
  rw [View.readCov_skip _ _ _ _ _ (by decide)]
  unfold mainRun_A.sl.H8_1
  exact fillC arg8.view k1_pay82 1 5 480 1280 rfl rfl _ _

theorem g_v810 : (mainRun_A.sl.v810 c i arg2 harg2 arg3 harg3 arg4 harg4 arg5 harg5 arg6 harg6 arg8 arg9 arg10 arg11 arg12 harg12 x0 x1 x2 x3 x4 xsc) = gC (k1_pay82 (F := F)) 1 6 := by
  unfold mainRun_A.sl.v810
  unfold mainRun_A.sl.H8_19
  rw [View.readCov_skip _ _ _ _ _ (by decide)]
  unfold mainRun_A.sl.H8_18
  rw [View.readCov_skip _ _ _ _ _ (by decide)]
  unfold mainRun_A.sl.H8_17
  rw [View.readCov_skip _ _ _ _ _ (by decide)]
  unfold mainRun_A.sl.H8_16
  rw [View.readCov_skip _ _ _ _ _ (by decide)]
  unfold mainRun_A.sl.H8_15
  rw [View.readCov_skip _ _ _ _ _ (by decide)]
  unfold mainRun_A.sl.H8_14
  rw [View.readCov_skip _ _ _ _ _ (by decide)]
  unfold mainRun_A.sl.H8_13
  rw [View.readCov_skip _ _ _ _ _ (by decide)]
  unfold mainRun_A.sl.H8_12
  rw [View.readCov_skip _ _ _ _ _ (by decide)]
  unfold mainRun_A.sl.H8_11
  rw [View.readCov_skip _ _ _ _ _ (by decide)]
  unfold mainRun_A.sl.H8_10
  rw [View.readCov_skip _ _ _ _ _ (by decide)]
  unfold mainRun_A.sl.H8_9
  rw [View.readCov_skip _ _ _ _ _ (by decide)]
  unfold mainRun_A.sl.H8_8
  rw [View.readCov_skip _ _ _ _ _ (by decide)]
  unfold mainRun_A.sl.H8_7
  rw [View.readCov_skip _ _ _ _ _ (by decide)]
  unfold mainRun_A.sl.H8_6
  rw [View.readCov_skip _ _ _ _ _ (by decide)]
  unfold mainRun_A.sl.H8_5
  rw [View.readCov_skip _ _ _ _ _ (by decide)]
  unfold mainRun_A.sl.H8_4
  rw [View.readCov_skip _ _ _ _ _ (by decide)]
  unfold mainRun_A.sl.H8_3
  rw [View.readCov_skip _ _ _ _ _ (by decide)]
  unfold mainRun_A.sl.H8_2
  rw [View.readCov_skip _ _ _ _ _ (by decide)]
  unfold mainRun_A.sl.H8_1
  exact fillC arg8.view k1_pay82 1 6 480 1536 rfl rfl _ _

theorem g_v817 : (mainRun_A.sl.v817 c i arg2 harg2 arg3 harg3 arg4 harg4 arg5 harg5 arg6 harg6 arg8 arg9 arg10 arg11 arg12 harg12 x0 x1 x2 x3 x4 xsc) = gC (k1_pay82 (F := F)) 1 7 := by
  unfold mainRun_A.sl.v817
  unfold mainRun_A.sl.H8_20
  rw [View.readCov_skip _ _ _ _ _ (by decide)]
  unfold mainRun_A.sl.H8_19
  rw [View.readCov_skip _ _ _ _ _ (by decide)]
  unfold mainRun_A.sl.H8_18
  rw [View.readCov_skip _ _ _ _ _ (by decide)]
  unfold mainRun_A.sl.H8_17
  rw [View.readCov_skip _ _ _ _ _ (by decide)]
  unfold mainRun_A.sl.H8_16
  rw [View.readCov_skip _ _ _ _ _ (by decide)]
  unfold mainRun_A.sl.H8_15
  rw [View.readCov_skip _ _ _ _ _ (by decide)]
  unfold mainRun_A.sl.H8_14
  rw [View.readCov_skip _ _ _ _ _ (by decide)]
  unfold mainRun_A.sl.H8_13
  rw [View.readCov_skip _ _ _ _ _ (by decide)]
  unfold mainRun_A.sl.H8_12
  rw [View.readCov_skip _ _ _ _ _ (by decide)]
  unfold mainRun_A.sl.H8_11
  rw [View.readCov_skip _ _ _ _ _ (by decide)]
  unfold mainRun_A.sl.H8_10
  rw [View.readCov_skip _ _ _ _ _ (by decide)]
  unfold mainRun_A.sl.H8_9
  rw [View.readCov_skip _ _ _ _ _ (by decide)]
  unfold mainRun_A.sl.H8_8
  rw [View.readCov_skip _ _ _ _ _ (by decide)]
  unfold mainRun_A.sl.H8_7
  rw [View.readCov_skip _ _ _ _ _ (by decide)]
  unfold mainRun_A.sl.H8_6
  rw [View.readCov_skip _ _ _ _ _ (by decide)]
  unfold mainRun_A.sl.H8_5
  rw [View.readCov_skip _ _ _ _ _ (by decide)]
  unfold mainRun_A.sl.H8_4
  rw [View.readCov_skip _ _ _ _ _ (by decide)]
  unfold mainRun_A.sl.H8_3
  rw [View.readCov_skip _ _ _ _ _ (by decide)]
  unfold mainRun_A.sl.H8_2
  rw [View.readCov_skip _ _ _ _ _ (by decide)]
  unfold mainRun_A.sl.H8_1
  exact fillC arg8.view k1_pay82 1 7 480 1792 rfl rfl _ _

theorem g_v824 : (mainRun_A.sl.v824 c i arg2 harg2 arg3 harg3 arg4 harg4 arg5 harg5 arg6 harg6 arg8 arg9 arg10 arg11 arg12 harg12 x0 x1 x2 x3 x4 xsc) = gC (k1_pay82 (F := F)) 1 8 := by
  unfold mainRun_A.sl.v824
  unfold mainRun_A.sl.H8_21
  rw [View.readCov_skip _ _ _ _ _ (by decide)]
  unfold mainRun_A.sl.H8_20
  rw [View.readCov_skip _ _ _ _ _ (by decide)]
  unfold mainRun_A.sl.H8_19
  rw [View.readCov_skip _ _ _ _ _ (by decide)]
  unfold mainRun_A.sl.H8_18
  rw [View.readCov_skip _ _ _ _ _ (by decide)]
  unfold mainRun_A.sl.H8_17
  rw [View.readCov_skip _ _ _ _ _ (by decide)]
  unfold mainRun_A.sl.H8_16
  rw [View.readCov_skip _ _ _ _ _ (by decide)]
  unfold mainRun_A.sl.H8_15
  rw [View.readCov_skip _ _ _ _ _ (by decide)]
  unfold mainRun_A.sl.H8_14
  rw [View.readCov_skip _ _ _ _ _ (by decide)]
  unfold mainRun_A.sl.H8_13
  rw [View.readCov_skip _ _ _ _ _ (by decide)]
  unfold mainRun_A.sl.H8_12
  rw [View.readCov_skip _ _ _ _ _ (by decide)]
  unfold mainRun_A.sl.H8_11
  rw [View.readCov_skip _ _ _ _ _ (by decide)]
  unfold mainRun_A.sl.H8_10
  rw [View.readCov_skip _ _ _ _ _ (by decide)]
  unfold mainRun_A.sl.H8_9
  rw [View.readCov_skip _ _ _ _ _ (by decide)]
  unfold mainRun_A.sl.H8_8
  rw [View.readCov_skip _ _ _ _ _ (by decide)]
  unfold mainRun_A.sl.H8_7
  rw [View.readCov_skip _ _ _ _ _ (by decide)]
  unfold mainRun_A.sl.H8_6
  rw [View.readCov_skip _ _ _ _ _ (by decide)]
  unfold mainRun_A.sl.H8_5
  rw [View.readCov_skip _ _ _ _ _ (by decide)]
  unfold mainRun_A.sl.H8_4
  rw [View.readCov_skip _ _ _ _ _ (by decide)]
  unfold mainRun_A.sl.H8_3
  rw [View.readCov_skip _ _ _ _ _ (by decide)]
  unfold mainRun_A.sl.H8_2
  rw [View.readCov_skip _ _ _ _ _ (by decide)]
  unfold mainRun_A.sl.H8_1
  exact fillC arg8.view k1_pay82 1 8 480 2048 rfl rfl _ _

theorem g_v831 : (mainRun_A.sl.v831 c i arg2 harg2 arg3 harg3 arg4 harg4 arg5 harg5 arg6 harg6 arg8 arg9 arg10 arg11 arg12 harg12 x0 x1 x2 x3 x4 xsc) = gC (k1_pay82 (F := F)) 1 9 := by
  unfold mainRun_A.sl.v831
  unfold mainRun_A.sl.H8_22
  rw [View.readCov_skip _ _ _ _ _ (by decide)]
  unfold mainRun_A.sl.H8_21
  rw [View.readCov_skip _ _ _ _ _ (by decide)]
  unfold mainRun_A.sl.H8_20
  rw [View.readCov_skip _ _ _ _ _ (by decide)]
  unfold mainRun_A.sl.H8_19
  rw [View.readCov_skip _ _ _ _ _ (by decide)]
  unfold mainRun_A.sl.H8_18
  rw [View.readCov_skip _ _ _ _ _ (by decide)]
  unfold mainRun_A.sl.H8_17
  rw [View.readCov_skip _ _ _ _ _ (by decide)]
  unfold mainRun_A.sl.H8_16
  rw [View.readCov_skip _ _ _ _ _ (by decide)]
  unfold mainRun_A.sl.H8_15
  rw [View.readCov_skip _ _ _ _ _ (by decide)]
  unfold mainRun_A.sl.H8_14
  rw [View.readCov_skip _ _ _ _ _ (by decide)]
  unfold mainRun_A.sl.H8_13
  rw [View.readCov_skip _ _ _ _ _ (by decide)]
  unfold mainRun_A.sl.H8_12
  rw [View.readCov_skip _ _ _ _ _ (by decide)]
  unfold mainRun_A.sl.H8_11
  rw [View.readCov_skip _ _ _ _ _ (by decide)]
  unfold mainRun_A.sl.H8_10
  rw [View.readCov_skip _ _ _ _ _ (by decide)]
  unfold mainRun_A.sl.H8_9
  rw [View.readCov_skip _ _ _ _ _ (by decide)]
  unfold mainRun_A.sl.H8_8
  rw [View.readCov_skip _ _ _ _ _ (by decide)]
  unfold mainRun_A.sl.H8_7
  rw [View.readCov_skip _ _ _ _ _ (by decide)]
  unfold mainRun_A.sl.H8_6
  rw [View.readCov_skip _ _ _ _ _ (by decide)]
  unfold mainRun_A.sl.H8_5
  rw [View.readCov_skip _ _ _ _ _ (by decide)]
  unfold mainRun_A.sl.H8_4
  rw [View.readCov_skip _ _ _ _ _ (by decide)]
  unfold mainRun_A.sl.H8_3
  rw [View.readCov_skip _ _ _ _ _ (by decide)]
  unfold mainRun_A.sl.H8_2
  rw [View.readCov_skip _ _ _ _ _ (by decide)]
  unfold mainRun_A.sl.H8_1
  exact fillC arg8.view k1_pay82 1 9 480 2304 rfl rfl _ _

theorem g_v838 : (mainRun_A.sl.v838 c i arg2 harg2 arg3 harg3 arg4 harg4 arg5 harg5 arg6 harg6 arg8 arg9 arg10 arg11 arg12 harg12 x0 x1 x2 x3 x4 xsc) = gC (k1_pay82 (F := F)) 1 10 := by
  unfold mainRun_A.sl.v838
  unfold mainRun_A.sl.H8_23
  rw [View.readCov_skip _ _ _ _ _ (by decide)]
  unfold mainRun_A.sl.H8_22
  rw [View.readCov_skip _ _ _ _ _ (by decide)]
  unfold mainRun_A.sl.H8_21
  rw [View.readCov_skip _ _ _ _ _ (by decide)]
  unfold mainRun_A.sl.H8_20
  rw [View.readCov_skip _ _ _ _ _ (by decide)]
  unfold mainRun_A.sl.H8_19
  rw [View.readCov_skip _ _ _ _ _ (by decide)]
  unfold mainRun_A.sl.H8_18
  rw [View.readCov_skip _ _ _ _ _ (by decide)]
  unfold mainRun_A.sl.H8_17
  rw [View.readCov_skip _ _ _ _ _ (by decide)]
  unfold mainRun_A.sl.H8_16
  rw [View.readCov_skip _ _ _ _ _ (by decide)]
  unfold mainRun_A.sl.H8_15
  rw [View.readCov_skip _ _ _ _ _ (by decide)]
  unfold mainRun_A.sl.H8_14
  rw [View.readCov_skip _ _ _ _ _ (by decide)]
  unfold mainRun_A.sl.H8_13
  rw [View.readCov_skip _ _ _ _ _ (by decide)]
  unfold mainRun_A.sl.H8_12
  rw [View.readCov_skip _ _ _ _ _ (by decide)]
  unfold mainRun_A.sl.H8_11
  rw [View.readCov_skip _ _ _ _ _ (by decide)]
  unfold mainRun_A.sl.H8_10
  rw [View.readCov_skip _ _ _ _ _ (by decide)]
  unfold mainRun_A.sl.H8_9
  rw [View.readCov_skip _ _ _ _ _ (by decide)]
  unfold mainRun_A.sl.H8_8
  rw [View.readCov_skip _ _ _ _ _ (by decide)]
  unfold mainRun_A.sl.H8_7
  rw [View.readCov_skip _ _ _ _ _ (by decide)]
  unfold mainRun_A.sl.H8_6
  rw [View.readCov_skip _ _ _ _ _ (by decide)]
  unfold mainRun_A.sl.H8_5
  rw [View.readCov_skip _ _ _ _ _ (by decide)]
  unfold mainRun_A.sl.H8_4
  rw [View.readCov_skip _ _ _ _ _ (by decide)]
  unfold mainRun_A.sl.H8_3
  rw [View.readCov_skip _ _ _ _ _ (by decide)]
  unfold mainRun_A.sl.H8_2
  rw [View.readCov_skip _ _ _ _ _ (by decide)]
  unfold mainRun_A.sl.H8_1
  exact fillC arg8.view k1_pay82 1 10 480 2560 rfl rfl _ _

theorem g_v : (mainRun_A.sl.v c i arg2 harg2 arg3 harg3 arg4 harg4 arg5 harg5 arg6 harg6 arg8 arg9 arg10 arg11 arg12 harg12 x0 x1 x2 x3 x4 xsc) = gL (k1_pay82 (F := F)) 1 := by
  unfold mainRun_A.sl.v
  unfold mainRun_A.sl.H8_24
  rw [View.readCov_skip _ _ _ _ _ (by decide)]
  unfold mainRun_A.sl.H8_23
  rw [View.readCov_skip _ _ _ _ _ (by decide)]
  unfold mainRun_A.sl.H8_22
  rw [View.readCov_skip _ _ _ _ _ (by decide)]
  unfold mainRun_A.sl.H8_21
  rw [View.readCov_skip _ _ _ _ _ (by decide)]
  unfold mainRun_A.sl.H8_20
  rw [View.readCov_skip _ _ _ _ _ (by decide)]
  unfold mainRun_A.sl.H8_19
  rw [View.readCov_skip _ _ _ _ _ (by decide)]
  unfold mainRun_A.sl.H8_18
  rw [View.readCov_skip _ _ _ _ _ (by decide)]
  unfold mainRun_A.sl.H8_17
  rw [View.readCov_skip _ _ _ _ _ (by decide)]
  unfold mainRun_A.sl.H8_16
  rw [View.readCov_skip _ _ _ _ _ (by decide)]
  unfold mainRun_A.sl.H8_15
  rw [View.readCov_skip _ _ _ _ _ (by decide)]
  unfold mainRun_A.sl.H8_14
  rw [View.readCov_skip _ _ _ _ _ (by decide)]
  unfold mainRun_A.sl.H8_13
  rw [View.readCov_skip _ _ _ _ _ (by decide)]
  unfold mainRun_A.sl.H8_12
  rw [View.readCov_skip _ _ _ _ _ (by decide)]
  unfold mainRun_A.sl.H8_11
  rw [View.readCov_skip _ _ _ _ _ (by decide)]
  unfold mainRun_A.sl.H8_10
  rw [View.readCov_skip _ _ _ _ _ (by decide)]
  unfold mainRun_A.sl.H8_9
  rw [View.readCov_skip _ _ _ _ _ (by decide)]
  unfold mainRun_A.sl.H8_8
  rw [View.readCov_skip _ _ _ _ _ (by decide)]
  unfold mainRun_A.sl.H8_7
  rw [View.readCov_skip _ _ _ _ _ (by decide)]
  unfold mainRun_A.sl.H8_6
  rw [View.readCov_skip _ _ _ _ _ (by decide)]
  unfold mainRun_A.sl.H8_5
  rw [View.readCov_skip _ _ _ _ _ (by decide)]
  unfold mainRun_A.sl.H8_4
  rw [View.readCov_skip _ _ _ _ _ (by decide)]
  unfold mainRun_A.sl.H8_3
  rw [View.readCov_skip _ _ _ _ _ (by decide)]
  unfold mainRun_A.sl.H8_2
  rw [View.readCov_skip _ _ _ _ _ (by decide)]
  unfold mainRun_A.sl.H8_1
  exact fillL arg8.view k1_pay82 1 480 rfl _ _

theorem l8 : (mainRun_A c i arg2 harg2 arg3 harg3 arg4 harg4 arg5 harg5 arg6 harg6 arg7 harg7 arg8 harg8 arg9 harg9 arg10 harg10 arg11 harg11 arg12 harg12 arg13 harg13 hc1 hc2 hc3 hc4 hc5 hc6 hc7 hc8 hz x0 x1 x2 x3 x4 xsc xA).2.1 = gPieces (k1_pay82 (F := F)) (ET (XB x0 x1) x2 x3 x4 (bOf i)) (XB x0 x1) ++ (mainRun_A.sl.H8_1 (F := F)) := by
  show (⟨Rect.unit ![480, 2816] ![480, 64] inb_S960x2880_S480x64_480_2816, k1_pay1 (mainRun_A.sl.v c i arg2 harg2 arg3 harg3 arg4 harg4 arg5 harg5 arg6 harg6 arg8 arg9 arg10 arg11 arg12 harg12 x0 x1 x2 x3 x4 xsc) (mainRun_A.sl.v847 c i arg2 harg2 arg3 harg3 arg4 harg4 arg5 harg5 arg6 harg6 arg9 arg10 arg11 arg12 harg12 x0 x1 x2 x3 x4 xsc) (mainRun_A.sl.v848 c arg2 harg2 arg3 harg3 arg9 arg12 harg12 x0 x1 xsc)⟩ :: mainRun_A.sl.H8_24 c i arg2 harg2 arg3 harg3 arg4 harg4 arg5 harg5 arg6 harg6 arg8 arg9 arg10 arg11 arg12 harg12 x0 x1 x2 x3 x4 xsc : List (Piece (Elt F) S960x2880 .f32)) = _
  simp only [mainRun_A.sl.H8_24, mainRun_A.sl.H8_23, mainRun_A.sl.H8_22, mainRun_A.sl.H8_21, mainRun_A.sl.H8_20, mainRun_A.sl.H8_19, mainRun_A.sl.H8_18, mainRun_A.sl.H8_17, mainRun_A.sl.H8_16, mainRun_A.sl.H8_15, mainRun_A.sl.H8_14, mainRun_A.sl.H8_13, mainRun_A.sl.H8_12, mainRun_A.sl.H8_11, mainRun_A.sl.H8_10, mainRun_A.sl.H8_9, mainRun_A.sl.H8_8, mainRun_A.sl.H8_7, mainRun_A.sl.H8_6, mainRun_A.sl.H8_5, mainRun_A.sl.H8_4, mainRun_A.sl.H8_3, mainRun_A.sl.H8_2, mainRun_A.sl.r_11, mainRun_A.sl.r_12, mainRun_A.sl.r_13, mainRun_A.sl.cst_440, g_v684, g_v691, g_v698, g_v705, g_v712, g_v719, g_v726, g_v733, g_v740, g_v747, g_v754, g_v761, g_v768, g_v775, g_v782, g_v789, g_v796, g_v803, g_v810, g_v817, g_v824, g_v831, g_v838, g_v, e_v686, e_v770, e_v847, e_v687, e_v694, e_v701, e_v708, e_v715, e_v722, e_v729, e_v736, e_v743, e_v750, e_v757, e_v764, e_v848, pay84_eq, pay85_eq, pay86_eq, pay87_eq, pay89_eq, pay90_eq, pay91_eq, pay92_eq, pay93_eq, pay94_eq, pay97_eq, pay98_eq, pay99_eq, pay100_eq, pay101_eq, pay102_eq, pay103_eq, pay105_eq, pay106_eq, pay107_eq, pay108_eq, pay1_eq]
  rfl

theorem l7 (f : arg7.view.ty.Contents (Elt F)) : arg7.view.read (Elt F) (arg7.view.writes (Elt F) f (mainRun_A c i arg2 harg2 arg3 harg3 arg4 harg4 arg5 harg5 arg6 harg6 arg7 harg7 arg8 harg8 arg9 harg9 arg10 harg10 arg11 harg11 arg12 harg12 arg13 harg13 hc1 hc2 hc3 hc4 hc5 hc6 hc7 hc8 hz x0 x1 x2 x3 x4 xsc xA).1) = k1_pay81 (rowOf (aNew1 true (XB x0 x1) x2 x3 x4 (bOf i) xA (tOf i))) := by
  show arg7.view.read (Elt F) (arg7.view.writes (Elt F) f [⟨Rect.unit ![0, 0, 0] S1x1x1024.size inb_S1x1x1024_S1x1x1024_0_0_0, k1_pay81 (mainRun_A.sl.v672 c i arg2 harg2 arg3 harg3 arg4 harg4 arg5 harg5 arg6 harg6 arg9 arg10 arg12 harg12 arg13 hc1 hc3 hc5 hc7 x0 x1 x2 x3 x4 xsc)⟩]) = _
  rw [e_v672 (hc1 := hc1) (hc3 := hc3) (hc5 := hc5) (hc7 := hc7), View.read_writes_eq_canon _ _ _ (View.cover_of_tiledBy _ ![1, 1, 1024] (by sl_kernel_rfl))]
  exact View.canon_cons_unit_zero zero3 _ _ _

theorem w13' : arg13.view.read (Elt F) (mainRun_A c i arg2 harg2 arg3 harg3 arg4 harg4 arg5 harg5 arg6 harg6 arg7 harg7 arg8 harg8 arg9 harg9 arg10 harg10 arg11 harg11 arg12 harg12 arg13 harg13 hc1 hc2 hc3 hc4 hc5 hc6 hc7 hc8 hz x0 x1 x2 x3 x4 xsc xA).2.2.1 = setRow xA (tOf i) (rowOf (aNew1 true (XB x0 x1) x2 x3 x4 (bOf i) xA (tOf i))) := by
  have e : (mainRun_A c i arg2 harg2 arg3 harg3 arg4 harg4 arg5 harg5 arg6 harg6 arg7 harg7 arg8 harg8 arg9 harg9 arg10 harg10 arg11 harg11 arg12 harg12 arg13 harg13 hc1 hc2 hc3 hc4 hc5 hc6 hc7 hc8 hz x0 x1 x2 x3 x4 xsc xA).2.2.1 = arg13.view.writes (Elt F) (harg13.unread xA) (mainRun_A.sl.H13_4 c i arg2 harg2 arg3 harg3 arg4 harg4 arg5 harg5 arg6 harg6 arg9 arg10 arg12 harg12 hc1 hc3 hc5 hc7 x0 x1 x2 x3 x4 xsc) := by sl_kernel_rfl
  rw [e]
  exact w13 (c := c) (i := i) (arg2 := arg2) (harg2 := harg2) (arg3 := arg3) (harg3 := harg3) (arg4 := arg4) (harg4 := harg4) (arg5 := arg5) (harg5 := harg5) (arg6 := arg6) (harg6 := harg6) (arg9 := arg9) (arg10 := arg10) (arg12 := arg12) (harg12 := harg12) (hc1 := hc1) (hc3 := hc3) (hc5 := hc5) (hc7 := hc7) (x0 := x0) (x1 := x1) (x2 := x2) (x3 := x3) (x4 := x4) (xsc := xsc) (xA := xA) (harg13 := harg13) (arg13 := arg13)

theorem l8' (f : arg8.view.ty.Contents (Elt F)) : arg8.view.read (Elt F) (arg8.view.writes (Elt F) f (mainRun_A c i arg2 harg2 arg3 harg3 arg4 harg4 arg5 harg5 arg6 harg6 arg7 harg7 arg8 harg8 arg9 harg9 arg10 harg10 arg11 harg11 arg12 harg12 arg13 harg13 hc1 hc2 hc3 hc4 hc5 hc6 hc7 hc8 hz x0 x1 x2 x3 x4 xsc xA).2.1) = GN (k1_pay82 (F := F)) (ET (XB x0 x1) x2 x3 x4 (bOf i)) (XB x0 x1) := by
  rw [l8]; exact read_gPieces _ _ _ _ _ _

end RunA

set_option maxHeartbeats 2000000 in
/-- One grid point of the main kernel (first block of output channels, first block of tokens): from the five input blocks to the row losses, the new gradient block and
    the accumulator with this token block's row replaced. -/
theorem mainSpec_A (c : Dev nD) (i : grid1.Coords) (arg2 : Memref sig .tc .vmem S1024x2880 .fp8e4m3) (harg2 : arg2.IsWhole) (arg3 : Memref sig .tc .vmem S1024x90 .f32) (harg3 : arg3.IsWhole) (arg4 : Memref sig .tc .vmem S1024x1024 .bf16) (harg4 : arg4.IsWhole) (arg5 : Memref sig .tc .vmem S960x3072 .bf16) (harg5 : arg5.IsWhole) (arg6 : Memref sig .tc .vmem S960x1 .f32) (harg6 : arg6.IsWhole) (arg7 : Memref sig .tc .vmem S1x1x1024 .f32) (harg7 : arg7.IsWhole) (arg8 : Memref sig .tc .vmem S960x2880 .f32) (harg8 : arg8.IsWhole) (arg9 : Memref sig .tc .vmem S1024x3072 .bf16) (harg9 : arg9.IsWhole) (arg10 : Memref sig .tc .vmem S1024x1024 .bf16) (harg10 : arg10.IsWhole) (arg11 : Memref sig .tc .vmem S960x1024 .bf16) (harg11 : arg11.IsWhole) (arg12 : Memref sig .tc .vmem S1024x128 .f32) (harg12 : arg12.IsWhole) (arg13 : Memref sig .tc .vmem S15x8x1024 .f32) (harg13 : arg13.IsWhole) (hc1 : k1_cond1 i = 1#1) (hc2 : ¬k1_cond2 i = 1#1) (hc3 : k1_cond3 i = 1#1) (hc4 : ¬k1_cond4 i = 1#1) (hc5 : k1_cond5 i = 1#1) (hc6 : ¬k1_cond6 i = 1#1) (hc7 : k1_cond7 i = 1#1) (hc8 : ¬k1_cond8 i = 1#1) (hz : (Scalar.cmpi .ne (Scalar.extui (Scalar.cmpi .eq (BitVec.ofNat 32 (i 1).val) 0#32)) 0#32) = 1#1) (x0 : Vec F S1024x2880 .fp8e4m3) (x1 : Vec F S1024x90 .f32) (x2 : Vec F S1024x1024 .bf16) (x3 : Vec F S960x3072 .bf16) (x4 : Vec F S960x1 .f32) (xA : Vec F S15x8x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xA
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k1_pay81 (rowOf (aNew1 true (XB x0 x1) x2 x3 x4 (bOf i) xA (tOf i)))) ∗ owns (c : Thread nD τ) arg8 fullShare (GN (k1_pay82 (F := F)) (ET (XB x0 x1) x2 x3 x4 (bOf i)) (XB x0 x1)) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare (setRow xA (tOf i) (rowOf (aNew1 true (XB x0 x1) x2 x3 x4 (bOf i) xA (tOf i))))) -∗ K ⟨⟩))
      ⊢ wp frame (wpE (defs₀ (F := F)) Variants.none c none) E (cc1_main i arg2 harg2 arg3 harg3 arg4 harg4 arg5 harg5 arg6 harg6 arg7 harg7 arg8 harg8 arg9 harg9 arg10 harg10 arg11 harg11 arg12 harg12 arg13 harg13) K := by
  iintro ⟨H2, H3, H4, H5, H6, H7, H8, H9, H10, H11, ⟨%xsc, H12⟩, H13, HK⟩
  iapply (mainRun_A c i arg2 harg2 arg3 harg3 arg4 harg4 arg5 harg5 arg6 harg6 arg7 harg7 arg8 harg8 arg9 harg9 arg10 harg10 arg11 harg11 arg12 harg12 arg13 harg13 hc1 hc2 hc3 hc4 hc5 hc6 hc7 hc8 hz x0 x1 x2 x3 x4 xsc xA).2.2.2 E K
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H2, H3, H4, H5, H6, ⟨%f7, H7⟩, ⟨%f8, H8⟩, H9, H10, H11, H12, H13⟩
  iapply HK
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact RunA.l7 f7
  isplitl [H8]
  · unfold owns; iexists _; isplitr
    swap; · iexact H8
    ipureintro; exact RunA.l8' f8
  isplitl [H9]; · iexact H9
  isplitl [H10]; · iexact H10
  isplitl [H11]; · iexact H11
  isplitl [H12]; · iexact H12
  unfold owns; iexists _; isplitr
  swap; · iexact H13
  ipureintro; exact RunA.w13'

end Cert.KernelIdeal.Gen
-- ==== Proof.K.MainRunB.lean ====
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Ring
public import Idealize.ShloMosaic.Lib.Tactic
public import Idealize.ShloMosaic.Lib.WordCmp
public import proofs.«01_k».proof.Proof.K.MainRunA

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
set_option sl_exec.resultNames true in
/-- What one grid point of the main kernel leaves behind (first block of output channels, later block of tokens): the pieces stored into the
    row-loss block and into the gradient block, and the whole contents of the row-loss accumulator,
    with the proof that the body runs from the five input blocks to those contents. -/
noncomputable def mainRun_B (c : Dev nD) (i : grid1.Coords) (arg2 : Memref sig .tc .vmem S1024x2880 .fp8e4m3) (harg2 : arg2.IsWhole) (arg3 : Memref sig .tc .vmem S1024x90 .f32) (harg3 : arg3.IsWhole) (arg4 : Memref sig .tc .vmem S1024x1024 .bf16) (harg4 : arg4.IsWhole) (arg5 : Memref sig .tc .vmem S960x3072 .bf16) (harg5 : arg5.IsWhole) (arg6 : Memref sig .tc .vmem S960x1 .f32) (harg6 : arg6.IsWhole) (arg7 : Memref sig .tc .vmem S1x1x1024 .f32) (harg7 : arg7.IsWhole) (arg8 : Memref sig .tc .vmem S960x2880 .f32) (harg8 : arg8.IsWhole) (arg9 : Memref sig .tc .vmem S1024x3072 .bf16) (harg9 : arg9.IsWhole) (arg10 : Memref sig .tc .vmem S1024x1024 .bf16) (harg10 : arg10.IsWhole) (arg11 : Memref sig .tc .vmem S960x1024 .bf16) (harg11 : arg11.IsWhole) (arg12 : Memref sig .tc .vmem S1024x128 .f32) (harg12 : arg12.IsWhole) (arg13 : Memref sig .tc .vmem S15x8x1024 .f32) (harg13 : arg13.IsWhole) (hc1 : k1_cond1 i = 1#1) (hc2 : ¬k1_cond2 i = 1#1) (hc3 : k1_cond3 i = 1#1) (hc4 : ¬k1_cond4 i = 1#1) (hc5 : k1_cond5 i = 1#1) (hc6 : ¬k1_cond6 i = 1#1) (hc7 : k1_cond7 i = 1#1) (hc8 : ¬k1_cond8 i = 1#1) (hz : ¬(Scalar.cmpi .ne (Scalar.extui (Scalar.cmpi .eq (BitVec.ofNat 32 (i 1).val) 0#32)) 0#32) = 1#1)
    (x0 : Vec F S1024x2880 .fp8e4m3) (x1 : Vec F S1024x90 .f32) (x2 : Vec F S1024x1024 .bf16) (x3 : Vec F S960x3072 .bf16) (x4 : Vec F S960x1 .f32) (xg : Vec F S960x2880 .f32) (xsc : Vec F S1024x128 .f32) (xA : Vec F S15x8x1024 .f32) :
    Σ' (L7 : List (View.Piece (Elt F) S1x1x1024 .f32)), Σ' (L8 : List (View.Piece (Elt F) S960x2880 .f32)), { W13 : arg13.view.ty.Contents (Elt F) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xg ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xsc ∗ owns (c : Thread nD τ) arg13 fullShare xA
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (arg13.view.loc (c : Thread nD τ) ↦[arg13.view.set]{fullShare} W13)) -∗ K ⟨⟩))
          ⊢ wp frame (wpE (defs₀ (F := F)) Variants.none c none) E (cc1_main i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc1_main_eq_skeleton]; unfold cc1_main_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%f8, %hf8, H8⟩, ⟨%d9, %f9, -, H9⟩, ⟨%d10, %f10, -, H10⟩, ⟨%d11, %f11, -, H11⟩, ⟨%f12, %hf12, H12⟩, ⟨%f13, %hf13, H13⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf8; obtain rfl := harg12.eq_unread hf12; obtain rfl := harg13.eq_unread hf13
    sl_exec (disch := first | sl_exact hc1 | sl_exact hc2 | sl_exact hc3 | sl_exact hc4 | sl_exact hc5 | sl_exact hc6 | sl_exact hc7 | sl_exact hc8 | sl_exact hz)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]; · iexists _; iexact H7
    isplitl [H8]; · iexists _; iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexact H13

end Cert.KernelIdeal.Gen

end
-- ==== Proof.K.MainVB.lean ====
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Ring
public import Idealize.ShloMosaic.Lib.Tactic
public import Idealize.ShloMosaic.Lib.WordCmp
public import proofs.«01_k».proof.Proof.K.MainRunB
public import proofs.«01_k».proof.Proof.K.MainF

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open View (canon Piece PiecesOf)

variable {F : FTy → Type} [FloatOps F] [Named F]

local notation "𝕄" => MT nD τ sig Unit (Elt F) ℕ (UR sig nD τ) ℕ

namespace RunB

variable {c : Dev nD}
  {i : grid1.Coords}
  {arg2 : Memref sig .tc .vmem S1024x2880 .fp8e4m3}
  {harg2 : arg2.IsWhole}
  {arg3 : Memref sig .tc .vmem S1024x90 .f32}
  {harg3 : arg3.IsWhole}
  {arg4 : Memref sig .tc .vmem S1024x1024 .bf16}
  {harg4 : arg4.IsWhole}
  {arg5 : Memref sig .tc .vmem S960x3072 .bf16}
  {harg5 : arg5.IsWhole}
  {arg6 : Memref sig .tc .vmem S960x1 .f32}
  {harg6 : arg6.IsWhole}
  {arg7 : Memref sig .tc .vmem S1x1x1024 .f32}
  {harg7 : arg7.IsWhole}
  {arg8 : Memref sig .tc .vmem S960x2880 .f32}
  {harg8 : arg8.IsWhole}
  {arg9 : Memref sig .tc .vmem S1024x3072 .bf16}
  {harg9 : arg9.IsWhole}
  {arg10 : Memref sig .tc .vmem S1024x1024 .bf16}
  {harg10 : arg10.IsWhole}
  {arg11 : Memref sig .tc .vmem S960x1024 .bf16}
  {harg11 : arg11.IsWhole}
  {arg12 : Memref sig .tc .vmem S1024x128 .f32}
  {harg12 : arg12.IsWhole}
  {arg13 : Memref sig .tc .vmem S15x8x1024 .f32}
  {harg13 : arg13.IsWhole}
  {hc1 : k1_cond1 i = 1#1}
  {hc2 : ¬k1_cond2 i = 1#1}
  {hc3 : k1_cond3 i = 1#1}
  {hc4 : ¬k1_cond4 i = 1#1}
  {hc5 : k1_cond5 i = 1#1}
  {hc6 : ¬k1_cond6 i = 1#1}
  {hc7 : k1_cond7 i = 1#1}
  {hc8 : ¬k1_cond8 i = 1#1}
  {hz : ¬(Scalar.cmpi .ne (Scalar.extui (Scalar.cmpi .eq (BitVec.ofNat 32 (i 1).val) 0#32)) 0#32) = 1#1}
  {x0 : Vec F S1024x2880 .fp8e4m3}
  {x1 : Vec F S1024x90 .f32}
  {x2 : Vec F S1024x1024 .bf16}
  {x3 : Vec F S960x3072 .bf16}
  {x4 : Vec F S960x1 .f32}
  {xg : Vec F S960x2880 .f32}
  {xsc : Vec F S1024x128 .f32}
  {xA : Vec F S15x8x1024 .f32}

/-! What each load of the body reads, as a function of the blocks. -/

theorem h12 : (mainRun_B.sl.H12_1 c arg3 harg3 x1) = [⟨Rect.unit ![0, 0] S1024x90.size inb_S1024x128_S1024x90_0_0, x1⟩] := by
  unfold mainRun_B.sl.H12_1
  rw [ldIn harg3, View.ld_unit_zero zero2, pay2_eq]

theorem rr (r : Fin 1024) (l : Fin 90) : (mainRun_B.sl.r c arg3 harg3 arg12 harg12 x1 xsc) (ix2 r ⟨l.val, by omega⟩) = x1 (ix2 r l) := by
  unfold mainRun_B.sl.r
  rw [h12]
  exact sc_read _ _ x1 _ _ r l

theorem h9 : (mainRun_B.sl.H9_24 c arg2 harg2 arg3 harg3 arg12 harg12 x0 x1 xsc) = xbPieces (mainRun_B.sl.r c arg3 harg3 arg12 harg12 x1 xsc) x0 := by
  unfold mainRun_B.sl.H9_24
  simp only [mainRun_B.sl.v80, mainRun_B.sl.v120, mainRun_B.sl.v206, mainRun_B.sl.v246, mainRun_B.sl.v372, mainRun_B.sl.v0, mainRun_B.sl.v1, ldIn harg2]
  rfl

theorem c9 : canon (mainRun_B.sl.H9_24 c arg2 harg2 arg3 harg3 arg12 harg12 x0 x1 xsc) = (XB x0 x1) := by
  rw [h9]; exact canon_xbPieces _ x0 x1 rr

theorem e_v462 : (mainRun_B.sl.v462 c arg2 harg2 arg3 harg3 arg9 arg12 harg12 x0 x1 xsc) = xR (XB x0 x1) 0 := ldCov arg9.view c9 _

theorem e_v515 : (mainRun_B.sl.v515 c arg2 harg2 arg3 harg3 arg9 arg12 harg12 x0 x1 xsc) = xR (XB x0 x1) 1 := ldCov arg9.view c9 _

theorem e_v568 : (mainRun_B.sl.v568 c arg2 harg2 arg3 harg3 arg9 arg12 harg12 x0 x1 xsc) = xR (XB x0 x1) 2 := ldCov arg9.view c9 _

theorem e_v621 : (mainRun_B.sl.v621 c arg2 harg2 arg3 harg3 arg9 arg12 harg12 x0 x1 xsc) = xR (XB x0 x1) 3 := ldCov arg9.view c9 _

theorem h10 : canon (mainRun_B.sl.H10_1 c arg4 harg4 x2) = k1_pay41 x2 := by
  unfold mainRun_B.sl.H10_1
  rw [ldIn harg4, View.ld_unit_zero zero2]; exact View.canon_cons_unit_zero zero2 _ _ _

theorem e_v466 : (mainRun_B.sl.v466 c i arg4 harg4 arg10 x2) = yH x2 (bOf i) 0 0 := ldY arg10.view x2 h10 _ 0 0 _ (off1_0 i) _

theorem e_v489 : (mainRun_B.sl.v489 c i arg4 harg4 arg10 x2) = yH x2 (bOf i) 1 0 := ldY arg10.view x2 h10 _ 1 0 _ (off1_1 i) _

theorem e_v519 : (mainRun_B.sl.v519 c i arg4 harg4 arg10 x2) = yH x2 (bOf i) 0 1 := ldY arg10.view x2 h10 _ 0 1 _ (off4_0 i) _

theorem e_v542 : (mainRun_B.sl.v542 c i arg4 harg4 arg10 x2) = yH x2 (bOf i) 1 1 := ldY arg10.view x2 h10 _ 1 1 _ (off4_1 i) _

theorem e_v572 : (mainRun_B.sl.v572 c i arg4 harg4 arg10 x2) = yH x2 (bOf i) 0 2 := ldY arg10.view x2 h10 _ 0 2 _ (off7_0 i) _

theorem e_v595 : (mainRun_B.sl.v595 c i arg4 harg4 arg10 x2) = yH x2 (bOf i) 1 2 := ldY arg10.view x2 h10 _ 1 2 _ (off7_1 i) _

theorem e_v625 : (mainRun_B.sl.v625 c i arg4 harg4 arg10 x2) = yH x2 (bOf i) 0 3 := ldY arg10.view x2 h10 _ 0 3 _ (off10_0 i) _

theorem e_v648 : (mainRun_B.sl.v648 c i arg4 harg4 arg10 x2) = yH x2 (bOf i) 1 3 := ldY arg10.view x2 h10 _ 1 3 _ (off10_1 i) _

theorem h11 : (mainRun_B.sl.H11_8 c i arg2 harg2 arg3 harg3 arg4 harg4 arg5 harg5 arg6 harg6 arg9 arg10 arg12 harg12 x0 x1 x2 x3 x4 xsc) = etPieces (XB x0 x1) x2 x3 x4 (bOf i) := by
  unfold mainRun_B.sl.H11_8
  simp only [mainRun_B.sl.r_1, mainRun_B.sl.r_2, mainRun_B.sl.r_3, mainRun_B.sl.r_4, mainRun_B.sl.r_5, mainRun_B.sl.r_6, mainRun_B.sl.r_7, mainRun_B.sl.r_8, mainRun_B.sl.r_9, e_v462, e_v515, e_v568, e_v621, e_v466, e_v489, e_v519, e_v542, e_v572, e_v595, e_v625, e_v648, ldIn harg5, ldIn harg6, pay47_eq, pay56_eq, pay58_eq, pay63_eq, pay68_eq, pay75_eq, pay77_eq]
  rfl

theorem c11 : canon (mainRun_B.sl.H11_8 c i arg2 harg2 arg3 harg3 arg4 harg4 arg5 harg5 arg6 harg6 arg9 arg10 arg12 harg12 x0 x1 x2 x3 x4 xsc) = (ET (XB x0 x1) x2 x3 x4 (bOf i)) := by
  rw [h11]; exact canon_etPieces _ _ _ _ _

theorem e_v686 : (mainRun_B.sl.v686 c i arg2 harg2 arg3 harg3 arg4 harg4 arg5 harg5 arg6 harg6 arg9 arg10 arg11 arg12 harg12 x0 x1 x2 x3 x4 xsc) = eH (ET (XB x0 x1) x2 x3 x4 (bOf i)) 0 := ldCov arg11.view c11 _

theorem e_v770 : (mainRun_B.sl.v770 c i arg2 harg2 arg3 harg3 arg4 harg4 arg5 harg5 arg6 harg6 arg9 arg10 arg11 arg12 harg12 x0 x1 x2 x3 x4 xsc) = eH (ET (XB x0 x1) x2 x3 x4 (bOf i)) 1 := ldCov arg11.view c11 _

theorem e_v847 : (mainRun_B.sl.v847 c i arg2 harg2 arg3 harg3 arg4 harg4 arg5 harg5 arg6 harg6 arg9 arg10 arg11 arg12 harg12 x0 x1 x2 x3 x4 xsc) = eH (ET (XB x0 x1) x2 x3 x4 (bOf i)) 1 := ldCov arg11.view c11 _

theorem e_v687 : (mainRun_B.sl.v687 c arg2 harg2 arg3 harg3 arg9 arg12 harg12 x0 x1 xsc) = xC (XB x0 x1) 0 := ldCov arg9.view c9 _

theorem e_v694 : (mainRun_B.sl.v694 c arg2 harg2 arg3 harg3 arg9 arg12 harg12 x0 x1 xsc) = xC (XB x0 x1) 1 := ldCov arg9.view c9 _

theorem e_v701 : (mainRun_B.sl.v701 c arg2 harg2 arg3 harg3 arg9 arg12 harg12 x0 x1 xsc) = xC (XB x0 x1) 2 := ldCov arg9.view c9 _

theorem e_v708 : (mainRun_B.sl.v708 c arg2 harg2 arg3 harg3 arg9 arg12 harg12 x0 x1 xsc) = xC (XB x0 x1) 3 := ldCov arg9.view c9 _

theorem e_v715 : (mainRun_B.sl.v715 c arg2 harg2 arg3 harg3 arg9 arg12 harg12 x0 x1 xsc) = xC (XB x0 x1) 4 := ldCov arg9.view c9 _

theorem e_v722 : (mainRun_B.sl.v722 c arg2 harg2 arg3 harg3 arg9 arg12 harg12 x0 x1 xsc) = xC (XB x0 x1) 5 := ldCov arg9.view c9 _

theorem e_v729 : (mainRun_B.sl.v729 c arg2 harg2 arg3 harg3 arg9 arg12 harg12 x0 x1 xsc) = xC (XB x0 x1) 6 := ldCov arg9.view c9 _

theorem e_v736 : (mainRun_B.sl.v736 c arg2 harg2 arg3 harg3 arg9 arg12 harg12 x0 x1 xsc) = xC (XB x0 x1) 7 := ldCov arg9.view c9 _

theorem e_v743 : (mainRun_B.sl.v743 c arg2 harg2 arg3 harg3 arg9 arg12 harg12 x0 x1 xsc) = xC (XB x0 x1) 8 := ldCov arg9.view c9 _

theorem e_v750 : (mainRun_B.sl.v750 c arg2 harg2 arg3 harg3 arg9 arg12 harg12 x0 x1 xsc) = xC (XB x0 x1) 9 := ldCov arg9.view c9 _

theorem e_v757 : (mainRun_B.sl.v757 c arg2 harg2 arg3 harg3 arg9 arg12 harg12 x0 x1 xsc) = xC (XB x0 x1) 10 := ldCov arg9.view c9 _

theorem e_v764 : (mainRun_B.sl.v764 c arg2 harg2 arg3 harg3 arg9 arg12 harg12 x0 x1 xsc) = xL (XB x0 x1) := ldCov arg9.view c9 _

theorem e_v848 : (mainRun_B.sl.v848 c arg2 harg2 arg3 harg3 arg9 arg12 harg12 x0 x1 xsc) = xL (XB x0 x1) := ldCov arg9.view c9 _

theorem h13 : (mainRun_B.sl.H13_4 c i arg2 harg2 arg3 harg3 arg4 harg4 arg5 harg5 arg6 harg6 arg9 arg10 arg12 harg12 hc1 hc3 hc5 hc7 x0 x1 x2 x3 x4 xsc) = [⟨Rect.unit (k1_off11 i) S1x8x256.size (k1_off11_inb i hc7), (aNew1 true (XB x0 x1) x2 x3 x4 (bOf i) xA (tOf i)) 3⟩, ⟨Rect.unit (k1_off8 i) S1x8x256.size (k1_off8_inb i hc5), (aNew1 true (XB x0 x1) x2 x3 x4 (bOf i) xA (tOf i)) 2⟩, ⟨Rect.unit (k1_off5 i) S1x8x256.size (k1_off5_inb i hc3), (aNew1 true (XB x0 x1) x2 x3 x4 (bOf i) xA (tOf i)) 1⟩, ⟨Rect.unit (k1_off2 i) S1x8x256.size (k1_off2_inb i hc1), (aNew1 true (XB x0 x1) x2 x3 x4 (bOf i) xA (tOf i)) 0⟩] := by
  unfold mainRun_B.sl.H13_4
  simp only [mainRun_B.sl.r_1, mainRun_B.sl.r_2, mainRun_B.sl.r_3, mainRun_B.sl.r_4, mainRun_B.sl.r_5, mainRun_B.sl.r_6, mainRun_B.sl.r_7, mainRun_B.sl.r_8, mainRun_B.sl.r_9, mainRun_B.sl.r_10, mainRun_B.sl.v558, e_v462, e_v515, e_v568, e_v621, e_v466, e_v489, e_v519, e_v542, e_v572, e_v595, e_v625, e_v648, ldIn harg5, ldIn harg6, pay49_eq, pay60_eq, pay70_eq, pay79_eq]
  rfl

theorem w13 : arg13.view.read (Elt F) (arg13.view.writes (Elt F) (harg13.unread xA) (mainRun_B.sl.H13_4 c i arg2 harg2 arg3 harg3 arg4 harg4 arg5 harg5 arg6 harg6 arg9 arg10 arg12 harg12 hc1 hc3 hc5 hc7 x0 x1 x2 x3 x4 xsc)) = setRow xA (tOf i) (rowOf (aNew1 true (XB x0 x1) x2 x3 x4 (bOf i) xA (tOf i))) := by
  rw [h13 (hc1 := hc1) (hc3 := hc3) (hc5 := hc5) (hc7 := hc7)]
  refine (read_rows arg13.view _ (tOf i) (off2_eq i) (off5_eq i) (off8_eq i) (off11_eq i) _ _ _ _ (aNew1 true (XB x0 x1) x2 x3 x4 (bOf i) xA (tOf i))).trans ?_
  rw [harg13.read_unread]

theorem e_v672 : (mainRun_B.sl.v672 c i arg2 harg2 arg3 harg3 arg4 harg4 arg5 harg5 arg6 harg6 arg9 arg10 arg12 harg12 arg13 hc1 hc3 hc5 hc7 x0 x1 x2 x3 x4 xsc) = rowOf (aNew1 true (XB x0 x1) x2 x3 x4 (bOf i) xA (tOf i)) := by
  unfold mainRun_B.sl.v672
  rw [h13 (hc1 := hc1) (hc3 := hc3) (hc5 := hc5) (hc7 := hc7)]
  refine (View.readAt_eq_ld arg13.view _ _).trans ?_
  rw [read_rows arg13.view _ (tOf i) (off2_eq i) (off5_eq i) (off8_eq i) (off11_eq i) _ _ _ _ (aNew1 true (XB x0 x1) x2 x3 x4 (bOf i) xA (tOf i))]
  exact ld_setRow _ (tOf i) _ _ (off13_eq i) _

theorem g_v684 : View.readAt (Elt F) arg8.view (Rect.unit (s := S960x2880) ![0, 0] S480x256.size inb_S960x2880_S480x256_0_0).toLoadRect (harg8.unread xg) = gC xg 0 0 := ldIn harg8 xg _

theorem g_v691 : (mainRun_B.sl.v691 c arg8 harg8 xg) = gC xg 0 1 := ldIn harg8 xg _

theorem g_v698 : (mainRun_B.sl.v698 c arg8 harg8 xg) = gC xg 0 2 := ldIn harg8 xg _

theorem g_v705 : (mainRun_B.sl.v705 c arg8 harg8 xg) = gC xg 0 3 := ldIn harg8 xg _

theorem g_v712 : (mainRun_B.sl.v712 c arg8 harg8 xg) = gC xg 0 4 := ldIn harg8 xg _

theorem g_v719 : (mainRun_B.sl.v719 c arg8 harg8 xg) = gC xg 0 5 := ldIn harg8 xg _

theorem g_v726 : (mainRun_B.sl.v726 c arg8 harg8 xg) = gC xg 0 6 := ldIn harg8 xg _

theorem g_v733 : (mainRun_B.sl.v733 c arg8 harg8 xg) = gC xg 0 7 := ldIn harg8 xg _

theorem g_v740 : (mainRun_B.sl.v740 c arg8 harg8 xg) = gC xg 0 8 := ldIn harg8 xg _

theorem g_v747 : (mainRun_B.sl.v747 c arg8 harg8 xg) = gC xg 0 9 := ldIn harg8 xg _

theorem g_v754 : (mainRun_B.sl.v754 c arg8 harg8 xg) = gC xg 0 10 := ldIn harg8 xg _

theorem g_v761 : (mainRun_B.sl.v761 c arg8 harg8 xg) = gL xg 0 := ldIn harg8 xg _

theorem g_v768 : (mainRun_B.sl.v768 c arg8 harg8 xg) = gC xg 1 0 := ldIn harg8 xg _

theorem g_v775 : (mainRun_B.sl.v775 c arg8 harg8 xg) = gC xg 1 1 := ldIn harg8 xg _

theorem g_v782 : (mainRun_B.sl.v782 c arg8 harg8 xg) = gC xg 1 2 := ldIn harg8 xg _

theorem g_v789 : (mainRun_B.sl.v789 c arg8 harg8 xg) = gC xg 1 3 := ldIn harg8 xg _

theorem g_v796 : (mainRun_B.sl.v796 c arg8 harg8 xg) = gC xg 1 4 := ldIn harg8 xg _

theorem g_v803 : (mainRun_B.sl.v803 c arg8 harg8 xg) = gC xg 1 5 := ldIn harg8 xg _

theorem g_v810 : (mainRun_B.sl.v810 c arg8 harg8 xg) = gC xg 1 6 := ldIn harg8 xg _

theorem g_v817 : (mainRun_B.sl.v817 c arg8 harg8 xg) = gC xg 1 7 := ldIn harg8 xg _

theorem g_v824 : (mainRun_B.sl.v824 c arg8 harg8 xg) = gC xg 1 8 := ldIn harg8 xg _

theorem g_v831 : (mainRun_B.sl.v831 c arg8 harg8 xg) = gC xg 1 9 := ldIn harg8 xg _

theorem g_v838 : (mainRun_B.sl.v838 c arg8 harg8 xg) = gC xg 1 10 := ldIn harg8 xg _

theorem g_v : (mainRun_B.sl.v c arg8 harg8 xg) = gL xg 1 := ldIn harg8 xg _

theorem l8 : (mainRun_B c i arg2 harg2 arg3 harg3 arg4 harg4 arg5 harg5 arg6 harg6 arg7 harg7 arg8 harg8 arg9 harg9 arg10 harg10 arg11 harg11 arg12 harg12 arg13 harg13 hc1 hc2 hc3 hc4 hc5 hc6 hc7 hc8 hz x0 x1 x2 x3 x4 xg xsc xA).2.1 = gPieces xg (ET (XB x0 x1) x2 x3 x4 (bOf i)) (XB x0 x1) ++ [] := by
  show ([⟨Rect.unit ![480, 2816] ![480, 64] inb_S960x2880_S480x64_480_2816, k1_pay1 (mainRun_B.sl.v c arg8 harg8 xg) (mainRun_B.sl.v847 c i arg2 harg2 arg3 harg3 arg4 harg4 arg5 harg5 arg6 harg6 arg9 arg10 arg11 arg12 harg12 x0 x1 x2 x3 x4 xsc) (mainRun_B.sl.v848 c arg2 harg2 arg3 harg3 arg9 arg12 harg12 x0 x1 xsc)⟩, ⟨Rect.unit ![480, 2560] S480x256.size inb_S960x2880_S480x256_480_2560, k1_pay108 (mainRun_B.sl.v838 c arg8 harg8 xg) (mainRun_B.sl.v770 c i arg2 harg2 arg3 harg3 arg4 harg4 arg5 harg5 arg6 harg6 arg9 arg10 arg11 arg12 harg12 x0 x1 x2 x3 x4 xsc) (mainRun_B.sl.v757 c arg2 harg2 arg3 harg3 arg9 arg12 harg12 x0 x1 xsc)⟩, ⟨Rect.unit ![480, 2304] S480x256.size inb_S960x2880_S480x256_480_2304, k1_pay107 (mainRun_B.sl.v831 c arg8 harg8 xg) (mainRun_B.sl.v770 c i arg2 harg2 arg3 harg3 arg4 harg4 arg5 harg5 arg6 harg6 arg9 arg10 arg11 arg12 harg12 x0 x1 x2 x3 x4 xsc) (mainRun_B.sl.v750 c arg2 harg2 arg3 harg3 arg9 arg12 harg12 x0 x1 xsc)⟩, ⟨Rect.unit ![480, 2048] S480x256.size inb_S960x2880_S480x256_480_2048, k1_pay106 (mainRun_B.sl.v824 c arg8 harg8 xg) (mainRun_B.sl.v770 c i arg2 harg2 arg3 harg3 arg4 harg4 arg5 harg5 arg6 harg6 arg9 arg10 arg11 arg12 harg12 x0 x1 x2 x3 x4 xsc) (mainRun_B.sl.v743 c arg2 harg2 arg3 harg3 arg9 arg12 harg12 x0 x1 xsc)⟩, ⟨Rect.unit ![480, 1792] S480x256.size inb_S960x2880_S480x256_480_1792, k1_pay105 (mainRun_B.sl.r_13 c arg8 harg8 xg) (mainRun_B.sl.v770 c i arg2 harg2 arg3 harg3 arg4 harg4 arg5 harg5 arg6 harg6 arg9 arg10 arg11 arg12 harg12 x0 x1 x2 x3 x4 xsc) (mainRun_B.sl.v736 c arg2 harg2 arg3 harg3 arg9 arg12 harg12 x0 x1 xsc) mainRun_B.sl.cst_440⟩, ⟨Rect.unit ![480, 1536] S480x256.size inb_S960x2880_S480x256_480_1536, k1_pay103 (mainRun_B.sl.v810 c arg8 harg8 xg) (mainRun_B.sl.v770 c i arg2 harg2 arg3 harg3 arg4 harg4 arg5 harg5 arg6 harg6 arg9 arg10 arg11 arg12 harg12 x0 x1 x2 x3 x4 xsc) (mainRun_B.sl.v729 c arg2 harg2 arg3 harg3 arg9 arg12 harg12 x0 x1 xsc)⟩, ⟨Rect.unit ![480, 1280] S480x256.size inb_S960x2880_S480x256_480_1280, k1_pay102 (mainRun_B.sl.v803 c arg8 harg8 xg) (mainRun_B.sl.v770 c i arg2 harg2 arg3 harg3 arg4 harg4 arg5 harg5 arg6 harg6 arg9 arg10 arg11 arg12 harg12 x0 x1 x2 x3 x4 xsc) (mainRun_B.sl.v722 c arg2 harg2 arg3 harg3 arg9 arg12 harg12 x0 x1 xsc)⟩, ⟨Rect.unit ![480, 1024] S480x256.size inb_S960x2880_S480x256_480_1024, k1_pay101 (mainRun_B.sl.v796 c arg8 harg8 xg) (mainRun_B.sl.v770 c i arg2 harg2 arg3 harg3 arg4 harg4 arg5 harg5 arg6 harg6 arg9 arg10 arg11 arg12 harg12 x0 x1 x2 x3 x4 xsc) (mainRun_B.sl.v715 c arg2 harg2 arg3 harg3 arg9 arg12 harg12 x0 x1 xsc)⟩, ⟨Rect.unit ![480, 768] S480x256.size inb_S960x2880_S480x256_480_768, k1_pay100 (mainRun_B.sl.v789 c arg8 harg8 xg) (mainRun_B.sl.v770 c i arg2 harg2 arg3 harg3 arg4 harg4 arg5 harg5 arg6 harg6 arg9 arg10 arg11 arg12 harg12 x0 x1 x2 x3 x4 xsc) (mainRun_B.sl.v708 c arg2 harg2 arg3 harg3 arg9 arg12 harg12 x0 x1 xsc)⟩, ⟨Rect.unit ![480, 512] S480x256.size inb_S960x2880_S480x256_480_512, k1_pay99 (mainRun_B.sl.v782 c arg8 harg8 xg) (mainRun_B.sl.v770 c i arg2 harg2 arg3 harg3 arg4 harg4 arg5 harg5 arg6 harg6 arg9 arg10 arg11 arg12 harg12 x0 x1 x2 x3 x4 xsc) (mainRun_B.sl.v701 c arg2 harg2 arg3 harg3 arg9 arg12 harg12 x0 x1 xsc)⟩, ⟨Rect.unit ![480, 256] S480x256.size inb_S960x2880_S480x256_480_256, k1_pay98 (mainRun_B.sl.v775 c arg8 harg8 xg) (mainRun_B.sl.v770 c i arg2 harg2 arg3 harg3 arg4 harg4 arg5 harg5 arg6 harg6 arg9 arg10 arg11 arg12 harg12 x0 x1 x2 x3 x4 xsc) (mainRun_B.sl.v694 c arg2 harg2 arg3 harg3 arg9 arg12 harg12 x0 x1 xsc)⟩, ⟨Rect.unit ![480, 0] S480x256.size inb_S960x2880_S480x256_480_0, k1_pay97 (mainRun_B.sl.r_12 c arg8 harg8 xg) (mainRun_B.sl.v770 c i arg2 harg2 arg3 harg3 arg4 harg4 arg5 harg5 arg6 harg6 arg9 arg10 arg11 arg12 harg12 x0 x1 x2 x3 x4 xsc) (mainRun_B.sl.v687 c arg2 harg2 arg3 harg3 arg9 arg12 harg12 x0 x1 xsc)⟩, ⟨Rect.unit ![0, 2816] S480x64.size inb_S960x2880_S480x64_0_2816, k1_pay95 (mainRun_B.sl.v761 c arg8 harg8 xg) (mainRun_B.sl.v686 c i arg2 harg2 arg3 harg3 arg4 harg4 arg5 harg5 arg6 harg6 arg9 arg10 arg11 arg12 harg12 x0 x1 x2 x3 x4 xsc) (mainRun_B.sl.v764 c arg2 harg2 arg3 harg3 arg9 arg12 harg12 x0 x1 xsc)⟩, ⟨Rect.unit ![0, 2560] S480x256.size inb_S960x2880_S480x256_0_2560, k1_pay94 (mainRun_B.sl.v754 c arg8 harg8 xg) (mainRun_B.sl.v686 c i arg2 harg2 arg3 harg3 arg4 harg4 arg5 harg5 arg6 harg6 arg9 arg10 arg11 arg12 harg12 x0 x1 x2 x3 x4 xsc) (mainRun_B.sl.v757 c arg2 harg2 arg3 harg3 arg9 arg12 harg12 x0 x1 xsc)⟩, ⟨Rect.unit ![0, 2304] S480x256.size inb_S960x2880_S480x256_0_2304, k1_pay93 (mainRun_B.sl.v747 c arg8 harg8 xg) (mainRun_B.sl.v686 c i arg2 harg2 arg3 harg3 arg4 harg4 arg5 harg5 arg6 harg6 arg9 arg10 arg11 arg12 harg12 x0 x1 x2 x3 x4 xsc) (mainRun_B.sl.v750 c arg2 harg2 arg3 harg3 arg9 arg12 harg12 x0 x1 xsc)⟩, ⟨Rect.unit ![0, 2048] S480x256.size inb_S960x2880_S480x256_0_2048, k1_pay92 (mainRun_B.sl.v740 c arg8 harg8 xg) (mainRun_B.sl.v686 c i arg2 harg2 arg3 harg3 arg4 harg4 arg5 harg5 arg6 harg6 arg9 arg10 arg11 arg12 harg12 x0 x1 x2 x3 x4 xsc) (mainRun_B.sl.v743 c arg2 harg2 arg3 harg3 arg9 arg12 harg12 x0 x1 xsc)⟩, ⟨Rect.unit ![0, 1792] S480x256.size inb_S960x2880_S480x256_0_1792, k1_pay91 (mainRun_B.sl.v733 c arg8 harg8 xg) (mainRun_B.sl.v686 c i arg2 harg2 arg3 harg3 arg4 harg4 arg5 harg5 arg6 harg6 arg9 arg10 arg11 arg12 harg12 x0 x1 x2 x3 x4 xsc) (mainRun_B.sl.v736 c arg2 harg2 arg3 harg3 arg9 arg12 harg12 x0 x1 xsc)⟩, ⟨Rect.unit ![0, 1536] S480x256.size inb_S960x2880_S480x256_0_1536, k1_pay90 (mainRun_B.sl.v726 c arg8 harg8 xg) (mainRun_B.sl.v686 c i arg2 harg2 arg3 harg3 arg4 harg4 arg5 harg5 arg6 harg6 arg9 arg10 arg11 arg12 harg12 x0 x1 x2 x3 x4 xsc) (mainRun_B.sl.v729 c arg2 harg2 arg3 harg3 arg9 arg12 harg12 x0 x1 xsc)⟩, ⟨Rect.unit ![0, 1280] S480x256.size inb_S960x2880_S480x256_0_1280, k1_pay89 (mainRun_B.sl.r_11 c arg8 harg8 xg) (mainRun_B.sl.v686 c i arg2 harg2 arg3 harg3 arg4 harg4 arg5 harg5 arg6 harg6 arg9 arg10 arg11 arg12 harg12 x0 x1 x2 x3 x4 xsc) (mainRun_B.sl.v722 c arg2 harg2 arg3 harg3 arg9 arg12 harg12 x0 x1 xsc)⟩, ⟨Rect.unit ![0, 1024] S480x256.size inb_S960x2880_S480x256_0_1024, k1_pay87 (mainRun_B.sl.v712 c arg8 harg8 xg) (mainRun_B.sl.v686 c i arg2 harg2 arg3 harg3 arg4 harg4 arg5 harg5 arg6 harg6 arg9 arg10 arg11 arg12 harg12 x0 x1 x2 x3 x4 xsc) (mainRun_B.sl.v715 c arg2 harg2 arg3 harg3 arg9 arg12 harg12 x0 x1 xsc)⟩, ⟨Rect.unit ![0, 768] S480x256.size inb_S960x2880_S480x256_0_768, k1_pay86 (mainRun_B.sl.v705 c arg8 harg8 xg) (mainRun_B.sl.v686 c i arg2 harg2 arg3 harg3 arg4 harg4 arg5 harg5 arg6 harg6 arg9 arg10 arg11 arg12 harg12 x0 x1 x2 x3 x4 xsc) (mainRun_B.sl.v708 c arg2 harg2 arg3 harg3 arg9 arg12 harg12 x0 x1 xsc)⟩, ⟨Rect.unit ![0, 512] S480x256.size inb_S960x2880_S480x256_0_512, k1_pay85 (mainRun_B.sl.v698 c arg8 harg8 xg) (mainRun_B.sl.v686 c i arg2 harg2 arg3 harg3 arg4 harg4 arg5 harg5 arg6 harg6 arg9 arg10 arg11 arg12 harg12 x0 x1 x2 x3 x4 xsc) (mainRun_B.sl.v701 c arg2 harg2 arg3 harg3 arg9 arg12 harg12 x0 x1 xsc)⟩, ⟨Rect.unit ![0, 256] S480x256.size inb_S960x2880_S480x256_0_256, k1_pay84 (mainRun_B.sl.v691 c arg8 harg8 xg) (mainRun_B.sl.v686 c i arg2 harg2 arg3 harg3 arg4 harg4 arg5 harg5 arg6 harg6 arg9 arg10 arg11 arg12 harg12 x0 x1 x2 x3 x4 xsc) (mainRun_B.sl.v694 c arg2 harg2 arg3 harg3 arg9 arg12 harg12 x0 x1 xsc)⟩, ⟨Rect.unit ![0, 0] S480x256.size inb_S960x2880_S480x256_0_0, k1_pay83 (View.readAt (Elt F) arg8.view (Rect.unit (s := S960x2880) ![0, 0] S480x256.size inb_S960x2880_S480x256_0_0).toLoadRect (harg8.unread xg)) (mainRun_B.sl.v686 c i arg2 harg2 arg3 harg3 arg4 harg4 arg5 harg5 arg6 harg6 arg9 arg10 arg11 arg12 harg12 x0 x1 x2 x3 x4 xsc) (mainRun_B.sl.v687 c arg2 harg2 arg3 harg3 arg9 arg12 harg12 x0 x1 xsc)⟩] : List (Piece (Elt F) S960x2880 .f32)) = _
  simp only [mainRun_B.sl.r_11, mainRun_B.sl.r_12, mainRun_B.sl.r_13, mainRun_B.sl.cst_440, ldIn harg8, g_v684, g_v691, g_v698, g_v705, g_v712, g_v719, g_v726, g_v733, g_v740, g_v747, g_v754, g_v761, g_v768, g_v775, g_v782, g_v789, g_v796, g_v803, g_v810, g_v817, g_v824, g_v831, g_v838, g_v, e_v686, e_v770, e_v847, e_v687, e_v694, e_v701, e_v708, e_v715, e_v722, e_v729, e_v736, e_v743, e_v750, e_v757, e_v764, e_v848, pay84_eq, pay85_eq, pay86_eq, pay87_eq, pay89_eq, pay90_eq, pay91_eq, pay92_eq, pay93_eq, pay94_eq, pay97_eq, pay98_eq, pay99_eq, pay100_eq, pay101_eq, pay102_eq, pay103_eq, pay105_eq, pay106_eq, pay107_eq, pay108_eq, pay1_eq]
  rfl

theorem l7 (f : arg7.view.ty.Contents (Elt F)) : arg7.view.read (Elt F) (arg7.view.writes (Elt F) f (mainRun_B c i arg2 harg2 arg3 harg3 arg4 harg4 arg5 harg5 arg6 harg6 arg7 harg7 arg8 harg8 arg9 harg9 arg10 harg10 arg11 harg11 arg12 harg12 arg13 harg13 hc1 hc2 hc3 hc4 hc5 hc6 hc7 hc8 hz x0 x1 x2 x3 x4 xg xsc xA).1) = k1_pay81 (rowOf (aNew1 true (XB x0 x1) x2 x3 x4 (bOf i) xA (tOf i))) := by
  show arg7.view.read (Elt F) (arg7.view.writes (Elt F) f [⟨Rect.unit ![0, 0, 0] S1x1x1024.size inb_S1x1x1024_S1x1x1024_0_0_0, k1_pay81 (mainRun_B.sl.v672 c i arg2 harg2 arg3 harg3 arg4 harg4 arg5 harg5 arg6 harg6 arg9 arg10 arg12 harg12 arg13 hc1 hc3 hc5 hc7 x0 x1 x2 x3 x4 xsc)⟩]) = _
  rw [e_v672 (hc1 := hc1) (hc3 := hc3) (hc5 := hc5) (hc7 := hc7), View.read_writes_eq_canon _ _ _ (View.cover_of_tiledBy _ ![1, 1, 1024] (by sl_kernel_rfl))]
  exact View.canon_cons_unit_zero zero3 _ _ _

theorem w13' : arg13.view.read (Elt F) (mainRun_B c i arg2 harg2 arg3 harg3 arg4 harg4 arg5 harg5 arg6 harg6 arg7 harg7 arg8 harg8 arg9 harg9 arg10 harg10 arg11 harg11 arg12 harg12 arg13 harg13 hc1 hc2 hc3 hc4 hc5 hc6 hc7 hc8 hz x0 x1 x2 x3 x4 xg xsc xA).2.2.1 = setRow xA (tOf i) (rowOf (aNew1 true (XB x0 x1) x2 x3 x4 (bOf i) xA (tOf i))) := by
  have e : (mainRun_B c i arg2 harg2 arg3 harg3 arg4 harg4 arg5 harg5 arg6 harg6 arg7 harg7 arg8 harg8 arg9 harg9 arg10 harg10 arg11 harg11 arg12 harg12 arg13 harg13 hc1 hc2 hc3 hc4 hc5 hc6 hc7 hc8 hz x0 x1 x2 x3 x4 xg xsc xA).2.2.1 = arg13.view.writes (Elt F) (harg13.unread xA) (mainRun_B.sl.H13_4 c i arg2 harg2 arg3 harg3 arg4 harg4 arg5 harg5 arg6 harg6 arg9 arg10 arg12 harg12 hc1 hc3 hc5 hc7 x0 x1 x2 x3 x4 xsc) := by sl_kernel_rfl
  rw [e]
  exact w13 (c := c) (i := i) (arg2 := arg2) (harg2 := harg2) (arg3 := arg3) (harg3 := harg3) (arg4 := arg4) (harg4 := harg4) (arg5 := arg5) (harg5 := harg5) (arg6 := arg6) (harg6 := harg6) (arg9 := arg9) (arg10 := arg10) (arg12 := arg12) (harg12 := harg12) (hc1 := hc1) (hc3 := hc3) (hc5 := hc5) (hc7 := hc7) (x0 := x0) (x1 := x1) (x2 := x2) (x3 := x3) (x4 := x4) (xsc := xsc) (xA := xA) (harg13 := harg13) (arg13 := arg13)

theorem l8' (f : arg8.view.ty.Contents (Elt F)) : arg8.view.read (Elt F) (arg8.view.writes (Elt F) f (mainRun_B c i arg2 harg2 arg3 harg3 arg4 harg4 arg5 harg5 arg6 harg6 arg7 harg7 arg8 harg8 arg9 harg9 arg10 harg10 arg11 harg11 arg12 harg12 arg13 harg13 hc1 hc2 hc3 hc4 hc5 hc6 hc7 hc8 hz x0 x1 x2 x3 x4 xg xsc xA).2.1) = GN xg (ET (XB x0 x1) x2 x3 x4 (bOf i)) (XB x0 x1) := by
  rw [l8]; exact read_gPieces _ _ _ _ _ _

end RunB

set_option maxHeartbeats 2000000 in
/-- One grid point of the main kernel (first block of output channels, later block of tokens): from the five input blocks to the row losses, the new gradient block and
    the accumulator with this token block's row replaced. -/
theorem mainSpec_B (c : Dev nD) (i : grid1.Coords) (arg2 : Memref sig .tc .vmem S1024x2880 .fp8e4m3) (harg2 : arg2.IsWhole) (arg3 : Memref sig .tc .vmem S1024x90 .f32) (harg3 : arg3.IsWhole) (arg4 : Memref sig .tc .vmem S1024x1024 .bf16) (harg4 : arg4.IsWhole) (arg5 : Memref sig .tc .vmem S960x3072 .bf16) (harg5 : arg5.IsWhole) (arg6 : Memref sig .tc .vmem S960x1 .f32) (harg6 : arg6.IsWhole) (arg7 : Memref sig .tc .vmem S1x1x1024 .f32) (harg7 : arg7.IsWhole) (arg8 : Memref sig .tc .vmem S960x2880 .f32) (harg8 : arg8.IsWhole) (arg9 : Memref sig .tc .vmem S1024x3072 .bf16) (harg9 : arg9.IsWhole) (arg10 : Memref sig .tc .vmem S1024x1024 .bf16) (harg10 : arg10.IsWhole) (arg11 : Memref sig .tc .vmem S960x1024 .bf16) (harg11 : arg11.IsWhole) (arg12 : Memref sig .tc .vmem S1024x128 .f32) (harg12 : arg12.IsWhole) (arg13 : Memref sig .tc .vmem S15x8x1024 .f32) (harg13 : arg13.IsWhole) (hc1 : k1_cond1 i = 1#1) (hc2 : ¬k1_cond2 i = 1#1) (hc3 : k1_cond3 i = 1#1) (hc4 : ¬k1_cond4 i = 1#1) (hc5 : k1_cond5 i = 1#1) (hc6 : ¬k1_cond6 i = 1#1) (hc7 : k1_cond7 i = 1#1) (hc8 : ¬k1_cond8 i = 1#1) (hz : ¬(Scalar.cmpi .ne (Scalar.extui (Scalar.cmpi .eq (BitVec.ofNat 32 (i 1).val) 0#32)) 0#32) = 1#1) (x0 : Vec F S1024x2880 .fp8e4m3) (x1 : Vec F S1024x90 .f32) (x2 : Vec F S1024x1024 .bf16) (x3 : Vec F S960x3072 .bf16) (x4 : Vec F S960x1 .f32) (xg : Vec F S960x2880 .f32) (xA : Vec F S15x8x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xg ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xA
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k1_pay81 (rowOf (aNew1 true (XB x0 x1) x2 x3 x4 (bOf i) xA (tOf i)))) ∗ owns (c : Thread nD τ) arg8 fullShare (GN xg (ET (XB x0 x1) x2 x3 x4 (bOf i)) (XB x0 x1)) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare (setRow xA (tOf i) (rowOf (aNew1 true (XB x0 x1) x2 x3 x4 (bOf i) xA (tOf i))))) -∗ K ⟨⟩))
      ⊢ wp frame (wpE (defs₀ (F := F)) Variants.none c none) E (cc1_main i arg2 harg2 arg3 harg3 arg4 harg4 arg5 harg5 arg6 harg6 arg7 harg7 arg8 harg8 arg9 harg9 arg10 harg10 arg11 harg11 arg12 harg12 arg13 harg13) K := by
  iintro ⟨H2, H3, H4, H5, H6, H7, H8, H9, H10, H11, ⟨%xsc, H12⟩, H13, HK⟩
  iapply (mainRun_B c i arg2 harg2 arg3 harg3 arg4 harg4 arg5 harg5 arg6 harg6 arg7 harg7 arg8 harg8 arg9 harg9 arg10 harg10 arg11 harg11 arg12 harg12 arg13 harg13 hc1 hc2 hc3 hc4 hc5 hc6 hc7 hc8 hz x0 x1 x2 x3 x4 xg xsc xA).2.2.2 E K
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H2, H3, H4, H5, H6, ⟨%f7, H7⟩, ⟨%f8, H8⟩, H9, H10, H11, H12, H13⟩
  iapply HK
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact RunB.l7 f7
  isplitl [H8]
  · unfold owns; iexists _; isplitr
    swap; · iexact H8
    ipureintro; exact RunB.l8' f8
  isplitl [H9]; · iexact H9
  isplitl [H10]; · iexact H10
  isplitl [H11]; · iexact H11
  isplitl [H12]; · iexact H12
  unfold owns; iexists _; isplitr
  swap; · iexact H13
  ipureintro; exact RunB.w13'

end Cert.KernelIdeal.Gen
-- ==== Proof.K.MainRunC.lean ====
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Ring
public import Idealize.ShloMosaic.Lib.Tactic
public import Idealize.ShloMosaic.Lib.WordCmp
public import proofs.«01_k».proof.Proof.K.MainRunB

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
set_option sl_exec.resultNames true in
/-- What one grid point of the main kernel leaves behind (later block of output channels, first block of tokens): the pieces stored into the
    row-loss block and into the gradient block, and the whole contents of the row-loss accumulator,
    with the proof that the body runs from the five input blocks to those contents. -/
noncomputable def mainRun_C (c : Dev nD) (i : grid1.Coords) (arg2 : Memref sig .tc .vmem S1024x2880 .fp8e4m3) (harg2 : arg2.IsWhole) (arg3 : Memref sig .tc .vmem S1024x90 .f32) (harg3 : arg3.IsWhole) (arg4 : Memref sig .tc .vmem S1024x1024 .bf16) (harg4 : arg4.IsWhole) (arg5 : Memref sig .tc .vmem S960x3072 .bf16) (harg5 : arg5.IsWhole) (arg6 : Memref sig .tc .vmem S960x1 .f32) (harg6 : arg6.IsWhole) (arg7 : Memref sig .tc .vmem S1x1x1024 .f32) (harg7 : arg7.IsWhole) (arg8 : Memref sig .tc .vmem S960x2880 .f32) (harg8 : arg8.IsWhole) (arg9 : Memref sig .tc .vmem S1024x3072 .bf16) (harg9 : arg9.IsWhole) (arg10 : Memref sig .tc .vmem S1024x1024 .bf16) (harg10 : arg10.IsWhole) (arg11 : Memref sig .tc .vmem S960x1024 .bf16) (harg11 : arg11.IsWhole) (arg12 : Memref sig .tc .vmem S1024x128 .f32) (harg12 : arg12.IsWhole) (arg13 : Memref sig .tc .vmem S15x8x1024 .f32) (harg13 : arg13.IsWhole) (hc1 : ¬k1_cond1 i = 1#1) (hc2 : k1_cond2 i = 1#1) (hc3 : ¬k1_cond3 i = 1#1) (hc4 : k1_cond4 i = 1#1) (hc5 : ¬k1_cond5 i = 1#1) (hc6 : k1_cond6 i = 1#1) (hc7 : ¬k1_cond7 i = 1#1) (hc8 : k1_cond8 i = 1#1) (hz : (Scalar.cmpi .ne (Scalar.extui (Scalar.cmpi .eq (BitVec.ofNat 32 (i 1).val) 0#32)) 0#32) = 1#1)
    (x0 : Vec F S1024x2880 .fp8e4m3) (x1 : Vec F S1024x90 .f32) (x2 : Vec F S1024x1024 .bf16) (x3 : Vec F S960x3072 .bf16) (x4 : Vec F S960x1 .f32) (xsc : Vec F S1024x128 .f32) (xA : Vec F S15x8x1024 .f32) :
    Σ' (L7 : List (View.Piece (Elt F) S1x1x1024 .f32)), Σ' (L8 : List (View.Piece (Elt F) S960x2880 .f32)), { W13 : arg13.view.ty.Contents (Elt F) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xsc ∗ owns (c : Thread nD τ) arg13 fullShare xA
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (arg13.view.loc (c : Thread nD τ) ↦[arg13.view.set]{fullShare} W13)) -∗ K ⟨⟩))
          ⊢ wp frame (wpE (defs₀ (F := F)) Variants.none c none) E (cc1_main i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc1_main_eq_skeleton]; unfold cc1_main_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%d8, %f8, -, H8⟩, ⟨%d9, %f9, -, H9⟩, ⟨%d10, %f10, -, H10⟩, ⟨%d11, %f11, -, H11⟩, ⟨%f12, %hf12, H12⟩, ⟨%f13, %hf13, H13⟩, Hk⟩
    obtain rfl := harg2.eq_unread hf0; obtain rfl := harg3.eq_unread hf1; obtain rfl := harg4.eq_unread hf2; obtain rfl := harg5.eq_unread hf3; obtain rfl := harg6.eq_unread hf4; obtain rfl := harg12.eq_unread hf12; obtain rfl := harg13.eq_unread hf13
    sl_exec (disch := first | sl_exact hc1 | sl_exact hc2 | sl_exact hc3 | sl_exact hc4 | sl_exact hc5 | sl_exact hc6 | sl_exact hc7 | sl_exact hc8 | sl_exact hz)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]; · iexists _; iexact H7
    isplitl [H8]; · iexists _; iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexact H13

end Cert.KernelIdeal.Gen

end
-- ==== Proof.K.MainVC.lean ====
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Ring
public import Idealize.ShloMosaic.Lib.Tactic
public import Idealize.ShloMosaic.Lib.WordCmp
public import proofs.«01_k».proof.Proof.K.MainRunC
public import proofs.«01_k».proof.Proof.K.MainF

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open View (canon Piece PiecesOf)

variable {F : FTy → Type} [FloatOps F] [Named F]

local notation "𝕄" => MT nD τ sig Unit (Elt F) ℕ (UR sig nD τ) ℕ

namespace RunC

variable {c : Dev nD}
  {i : grid1.Coords}
  {arg2 : Memref sig .tc .vmem S1024x2880 .fp8e4m3}
  {harg2 : arg2.IsWhole}
  {arg3 : Memref sig .tc .vmem S1024x90 .f32}
  {harg3 : arg3.IsWhole}
  {arg4 : Memref sig .tc .vmem S1024x1024 .bf16}
  {harg4 : arg4.IsWhole}
  {arg5 : Memref sig .tc .vmem S960x3072 .bf16}
  {harg5 : arg5.IsWhole}
  {arg6 : Memref sig .tc .vmem S960x1 .f32}
  {harg6 : arg6.IsWhole}
  {arg7 : Memref sig .tc .vmem S1x1x1024 .f32}
  {harg7 : arg7.IsWhole}
  {arg8 : Memref sig .tc .vmem S960x2880 .f32}
  {harg8 : arg8.IsWhole}
  {arg9 : Memref sig .tc .vmem S1024x3072 .bf16}
  {harg9 : arg9.IsWhole}
  {arg10 : Memref sig .tc .vmem S1024x1024 .bf16}
  {harg10 : arg10.IsWhole}
  {arg11 : Memref sig .tc .vmem S960x1024 .bf16}
  {harg11 : arg11.IsWhole}
  {arg12 : Memref sig .tc .vmem S1024x128 .f32}
  {harg12 : arg12.IsWhole}
  {arg13 : Memref sig .tc .vmem S15x8x1024 .f32}
  {harg13 : arg13.IsWhole}
  {hc1 : ¬k1_cond1 i = 1#1}
  {hc2 : k1_cond2 i = 1#1}
  {hc3 : ¬k1_cond3 i = 1#1}
  {hc4 : k1_cond4 i = 1#1}
  {hc5 : ¬k1_cond5 i = 1#1}
  {hc6 : k1_cond6 i = 1#1}
  {hc7 : ¬k1_cond7 i = 1#1}
  {hc8 : k1_cond8 i = 1#1}
  {hz : (Scalar.cmpi .ne (Scalar.extui (Scalar.cmpi .eq (BitVec.ofNat 32 (i 1).val) 0#32)) 0#32) = 1#1}
  {x0 : Vec F S1024x2880 .fp8e4m3}
  {x1 : Vec F S1024x90 .f32}
  {x2 : Vec F S1024x1024 .bf16}
  {x3 : Vec F S960x3072 .bf16}
  {x4 : Vec F S960x1 .f32}
  {xsc : Vec F S1024x128 .f32}
  {xA : Vec F S15x8x1024 .f32}

/-! What each load of the body reads, as a function of the blocks. -/

theorem h12 : (mainRun_C.sl.H12_1 c arg3 harg3 x1) = [⟨Rect.unit ![0, 0] S1024x90.size inb_S1024x128_S1024x90_0_0, x1⟩] := by
  unfold mainRun_C.sl.H12_1
  rw [ldIn harg3, View.ld_unit_zero zero2, pay2_eq]

theorem rr (r : Fin 1024) (l : Fin 90) : (mainRun_C.sl.r c arg3 harg3 arg12 harg12 x1 xsc) (ix2 r ⟨l.val, by omega⟩) = x1 (ix2 r l) := by
  unfold mainRun_C.sl.r
  rw [h12]
  exact sc_read _ _ x1 _ _ r l

theorem h9 : (mainRun_C.sl.H9_24 c arg2 harg2 arg3 harg3 arg12 harg12 x0 x1 xsc) = xbPieces (mainRun_C.sl.r c arg3 harg3 arg12 harg12 x1 xsc) x0 := by
  unfold mainRun_C.sl.H9_24
  simp only [mainRun_C.sl.v80, mainRun_C.sl.v120, mainRun_C.sl.v206, mainRun_C.sl.v246, mainRun_C.sl.v372, mainRun_C.sl.v0, mainRun_C.sl.v1, ldIn harg2]
  rfl

theorem c9 : canon (mainRun_C.sl.H9_24 c arg2 harg2 arg3 harg3 arg12 harg12 x0 x1 xsc) = (XB x0 x1) := by
  rw [h9]; exact canon_xbPieces _ x0 x1 rr

theorem e_v462 : (mainRun_C.sl.v462 c arg2 harg2 arg3 harg3 arg9 arg12 harg12 x0 x1 xsc) = xR (XB x0 x1) 0 := ldCov arg9.view c9 _

theorem e_v515 : (mainRun_C.sl.v515 c arg2 harg2 arg3 harg3 arg9 arg12 harg12 x0 x1 xsc) = xR (XB x0 x1) 1 := ldCov arg9.view c9 _

theorem e_v568 : (mainRun_C.sl.v568 c arg2 harg2 arg3 harg3 arg9 arg12 harg12 x0 x1 xsc) = xR (XB x0 x1) 2 := ldCov arg9.view c9 _

theorem e_v621 : (mainRun_C.sl.v621 c arg2 harg2 arg3 harg3 arg9 arg12 harg12 x0 x1 xsc) = xR (XB x0 x1) 3 := ldCov arg9.view c9 _

theorem h10 : canon (mainRun_C.sl.H10_1 c arg4 harg4 x2) = k1_pay41 x2 := by
  unfold mainRun_C.sl.H10_1
  rw [ldIn harg4, View.ld_unit_zero zero2]; exact View.canon_cons_unit_zero zero2 _ _ _

theorem e_v466 : (mainRun_C.sl.v466 c i arg4 harg4 arg10 x2) = yH x2 (bOf i) 0 0 := ldY arg10.view x2 h10 _ 0 0 _ (off1_0 i) _

theorem e_v489 : (mainRun_C.sl.v489 c i arg4 harg4 arg10 x2) = yH x2 (bOf i) 1 0 := ldY arg10.view x2 h10 _ 1 0 _ (off1_1 i) _

theorem e_v519 : (mainRun_C.sl.v519 c i arg4 harg4 arg10 x2) = yH x2 (bOf i) 0 1 := ldY arg10.view x2 h10 _ 0 1 _ (off4_0 i) _

theorem e_v542 : (mainRun_C.sl.v542 c i arg4 harg4 arg10 x2) = yH x2 (bOf i) 1 1 := ldY arg10.view x2 h10 _ 1 1 _ (off4_1 i) _

theorem e_v572 : (mainRun_C.sl.v572 c i arg4 harg4 arg10 x2) = yH x2 (bOf i) 0 2 := ldY arg10.view x2 h10 _ 0 2 _ (off7_0 i) _

theorem e_v595 : (mainRun_C.sl.v595 c i arg4 harg4 arg10 x2) = yH x2 (bOf i) 1 2 := ldY arg10.view x2 h10 _ 1 2 _ (off7_1 i) _

theorem e_v625 : (mainRun_C.sl.v625 c i arg4 harg4 arg10 x2) = yH x2 (bOf i) 0 3 := ldY arg10.view x2 h10 _ 0 3 _ (off10_0 i) _

theorem e_v648 : (mainRun_C.sl.v648 c i arg4 harg4 arg10 x2) = yH x2 (bOf i) 1 3 := ldY arg10.view x2 h10 _ 1 3 _ (off10_1 i) _

theorem h11 : (mainRun_C.sl.H11_8 c i arg2 harg2 arg3 harg3 arg4 harg4 arg5 harg5 arg6 harg6 arg9 arg10 arg12 harg12 x0 x1 x2 x3 x4 xsc) = etPieces (XB x0 x1) x2 x3 x4 (bOf i) := by
  unfold mainRun_C.sl.H11_8
  simp only [mainRun_C.sl.r_1, mainRun_C.sl.r_2, mainRun_C.sl.r_3, mainRun_C.sl.r_4, mainRun_C.sl.r_5, mainRun_C.sl.r_6, mainRun_C.sl.r_7, mainRun_C.sl.r_8, mainRun_C.sl.r_9, e_v462, e_v515, e_v568, e_v621, e_v466, e_v489, e_v519, e_v542, e_v572, e_v595, e_v625, e_v648, ldIn harg5, ldIn harg6, pay47_eq, pay56_eq, pay58_eq, pay63_eq, pay68_eq, pay75_eq, pay77_eq]
  rfl

theorem c11 : canon (mainRun_C.sl.H11_8 c i arg2 harg2 arg3 harg3 arg4 harg4 arg5 harg5 arg6 harg6 arg9 arg10 arg12 harg12 x0 x1 x2 x3 x4 xsc) = (ET (XB x0 x1) x2 x3 x4 (bOf i)) := by
  rw [h11]; exact canon_etPieces _ _ _ _ _

theorem e_v686 : (mainRun_C.sl.v686 c i arg2 harg2 arg3 harg3 arg4 harg4 arg5 harg5 arg6 harg6 arg9 arg10 arg11 arg12 harg12 x0 x1 x2 x3 x4 xsc) = eH (ET (XB x0 x1) x2 x3 x4 (bOf i)) 0 := ldCov arg11.view c11 _

theorem e_v770 : (mainRun_C.sl.v770 c i arg2 harg2 arg3 harg3 arg4 harg4 arg5 harg5 arg6 harg6 arg9 arg10 arg11 arg12 harg12 x0 x1 x2 x3 x4 xsc) = eH (ET (XB x0 x1) x2 x3 x4 (bOf i)) 1 := ldCov arg11.view c11 _

theorem e_v847 : (mainRun_C.sl.v847 c i arg2 harg2 arg3 harg3 arg4 harg4 arg5 harg5 arg6 harg6 arg9 arg10 arg11 arg12 harg12 x0 x1 x2 x3 x4 xsc) = eH (ET (XB x0 x1) x2 x3 x4 (bOf i)) 1 := ldCov arg11.view c11 _

theorem e_v687 : (mainRun_C.sl.v687 c arg2 harg2 arg3 harg3 arg9 arg12 harg12 x0 x1 xsc) = xC (XB x0 x1) 0 := ldCov arg9.view c9 _

theorem e_v694 : (mainRun_C.sl.v694 c arg2 harg2 arg3 harg3 arg9 arg12 harg12 x0 x1 xsc) = xC (XB x0 x1) 1 := ldCov arg9.view c9 _

theorem e_v701 : (mainRun_C.sl.v701 c arg2 harg2 arg3 harg3 arg9 arg12 harg12 x0 x1 xsc) = xC (XB x0 x1) 2 := ldCov arg9.view c9 _

theorem e_v708 : (mainRun_C.sl.v708 c arg2 harg2 arg3 harg3 arg9 arg12 harg12 x0 x1 xsc) = xC (XB x0 x1) 3 := ldCov arg9.view c9 _

theorem e_v715 : (mainRun_C.sl.v715 c arg2 harg2 arg3 harg3 arg9 arg12 harg12 x0 x1 xsc) = xC (XB x0 x1) 4 := ldCov arg9.view c9 _

theorem e_v722 : (mainRun_C.sl.v722 c arg2 harg2 arg3 harg3 arg9 arg12 harg12 x0 x1 xsc) = xC (XB x0 x1) 5 := ldCov arg9.view c9 _

theorem e_v729 : (mainRun_C.sl.v729 c arg2 harg2 arg3 harg3 arg9 arg12 harg12 x0 x1 xsc) = xC (XB x0 x1) 6 := ldCov arg9.view c9 _

theorem e_v736 : (mainRun_C.sl.v736 c arg2 harg2 arg3 harg3 arg9 arg12 harg12 x0 x1 xsc) = xC (XB x0 x1) 7 := ldCov arg9.view c9 _

theorem e_v743 : (mainRun_C.sl.v743 c arg2 harg2 arg3 harg3 arg9 arg12 harg12 x0 x1 xsc) = xC (XB x0 x1) 8 := ldCov arg9.view c9 _

theorem e_v750 : (mainRun_C.sl.v750 c arg2 harg2 arg3 harg3 arg9 arg12 harg12 x0 x1 xsc) = xC (XB x0 x1) 9 := ldCov arg9.view c9 _

theorem e_v757 : (mainRun_C.sl.v757 c arg2 harg2 arg3 harg3 arg9 arg12 harg12 x0 x1 xsc) = xC (XB x0 x1) 10 := ldCov arg9.view c9 _

theorem e_v764 : (mainRun_C.sl.v764 c arg2 harg2 arg3 harg3 arg9 arg12 harg12 x0 x1 xsc) = xL (XB x0 x1) := ldCov arg9.view c9 _

theorem e_v848 : (mainRun_C.sl.v848 c arg2 harg2 arg3 harg3 arg9 arg12 harg12 x0 x1 xsc) = xL (XB x0 x1) := ldCov arg9.view c9 _

theorem e_v853 : (mainRun_C.sl.v853 c i arg13 harg13 hc4 xA) = aOld xA (tOf i) 1 := (ldIn harg13 xA _).trans (aOld_eq xA (tOf i) 1 _ (off6_eq i) _)

theorem e_v853_1 : (mainRun_C.sl.v853_1 c i arg13 harg13 hc6 xA) = aOld xA (tOf i) 2 := (ldIn harg13 xA _).trans (aOld_eq xA (tOf i) 2 _ (off9_eq i) _)

theorem e_v853_2 : (mainRun_C.sl.v853_2 c i arg13 harg13 hc8 xA) = aOld xA (tOf i) 3 := (ldIn harg13 xA _).trans (aOld_eq xA (tOf i) 3 _ (off12_eq i) _)

theorem e_old (inb : ∀ a, k1_off3 i a + S1x8x256.size a ≤ S15x8x1024.size a) : View.readAt (Elt F) arg13.view (Rect.unit (s := S15x8x1024) (k1_off3 i) S1x8x256.size inb).toLoadRect (harg13.unread xA) = aOld xA (tOf i) 0 := (ldIn harg13 xA _).trans (aOld_eq xA (tOf i) 0 _ (off3_eq i) _)

theorem h13 : (mainRun_C.sl.H13_4 c i arg2 harg2 arg3 harg3 arg4 harg4 arg5 harg5 arg6 harg6 arg9 arg10 arg12 harg12 arg13 harg13 hc2 hc4 hc6 hc8 x0 x1 x2 x3 x4 xsc xA) = [⟨Rect.unit (k1_off12 i) S1x8x256.size (k1_off12_inb i hc8), (aNew1 false (XB x0 x1) x2 x3 x4 (bOf i) xA (tOf i)) 3⟩, ⟨Rect.unit (k1_off9 i) S1x8x256.size (k1_off9_inb i hc6), (aNew1 false (XB x0 x1) x2 x3 x4 (bOf i) xA (tOf i)) 2⟩, ⟨Rect.unit (k1_off6 i) S1x8x256.size (k1_off6_inb i hc4), (aNew1 false (XB x0 x1) x2 x3 x4 (bOf i) xA (tOf i)) 1⟩, ⟨Rect.unit (k1_off3 i) S1x8x256.size (k1_off3_inb i hc2), (aNew1 false (XB x0 x1) x2 x3 x4 (bOf i) xA (tOf i)) 0⟩] := by
  unfold mainRun_C.sl.H13_4
  rw [e_old]
  simp only [mainRun_C.sl.r_1, mainRun_C.sl.r_2, mainRun_C.sl.r_3, mainRun_C.sl.r_4, mainRun_C.sl.r_5, mainRun_C.sl.r_6, mainRun_C.sl.r_7, mainRun_C.sl.r_8, mainRun_C.sl.r_9, mainRun_C.sl.r_10, mainRun_C.sl.v558, e_v462, e_v515, e_v568, e_v621, e_v466, e_v489, e_v519, e_v542, e_v572, e_v595, e_v625, e_v648, ldIn harg5, ldIn harg6, pay50_eq, pay61_eq, pay71_eq, pay80_eq, e_v853, e_v853_1, e_v853_2]
  rfl

theorem w13 : arg13.view.read (Elt F) (arg13.view.writes (Elt F) (harg13.unread xA) (mainRun_C.sl.H13_4 c i arg2 harg2 arg3 harg3 arg4 harg4 arg5 harg5 arg6 harg6 arg9 arg10 arg12 harg12 arg13 harg13 hc2 hc4 hc6 hc8 x0 x1 x2 x3 x4 xsc xA)) = setRow xA (tOf i) (rowOf (aNew1 false (XB x0 x1) x2 x3 x4 (bOf i) xA (tOf i))) := by
  rw [h13 (hc2 := hc2) (hc4 := hc4) (hc6 := hc6) (hc8 := hc8)]
  refine (read_rows arg13.view _ (tOf i) (off3_eq i) (off6_eq i) (off9_eq i) (off12_eq i) _ _ _ _ (aNew1 false (XB x0 x1) x2 x3 x4 (bOf i) xA (tOf i))).trans ?_
  rw [harg13.read_unread]

theorem e_v672 : (mainRun_C.sl.v672 c i arg2 harg2 arg3 harg3 arg4 harg4 arg5 harg5 arg6 harg6 arg9 arg10 arg12 harg12 arg13 harg13 hc2 hc4 hc6 hc8 x0 x1 x2 x3 x4 xsc xA) = rowOf (aNew1 false (XB x0 x1) x2 x3 x4 (bOf i) xA (tOf i)) := by
  unfold mainRun_C.sl.v672
  rw [h13 (hc2 := hc2) (hc4 := hc4) (hc6 := hc6) (hc8 := hc8)]
  refine (View.readAt_eq_ld arg13.view _ _).trans ?_
  rw [read_rows arg13.view _ (tOf i) (off3_eq i) (off6_eq i) (off9_eq i) (off12_eq i) _ _ _ _ (aNew1 false (XB x0 x1) x2 x3 x4 (bOf i) xA (tOf i))]
  exact ld_setRow _ (tOf i) _ _ (off13_eq i) _

theorem g_v684 : (mainRun_C.sl.v684 c arg8) = gC (k1_pay82 (F := F)) 0 0 := by
  unfold mainRun_C.sl.v684
  unfold mainRun_C.sl.H8_1
  exact fillC arg8.view k1_pay82 0 0 0 0 rfl rfl _ _

theorem g_v691 : (mainRun_C.sl.v691 c i arg2 harg2 arg3 harg3 arg4 harg4 arg5 harg5 arg6 harg6 arg8 arg9 arg10 arg11 arg12 harg12 x0 x1 x2 x3 x4 xsc) = gC (k1_pay82 (F := F)) 0 1 := by
  unfold mainRun_C.sl.v691
  unfold mainRun_C.sl.H8_2
  rw [View.readCov_skip _ _ _ _ _ (by decide)]
  unfold mainRun_C.sl.H8_1
  exact fillC arg8.view k1_pay82 0 1 0 256 rfl rfl _ _

theorem g_v698 : (mainRun_C.sl.v698 c i arg2 harg2 arg3 harg3 arg4 harg4 arg5 harg5 arg6 harg6 arg8 arg9 arg10 arg11 arg12 harg12 x0 x1 x2 x3 x4 xsc) = gC (k1_pay82 (F := F)) 0 2 := by
  unfold mainRun_C.sl.v698
  unfold mainRun_C.sl.H8_3
  rw [View.readCov_skip _ _ _ _ _ (by decide)]
  unfold mainRun_C.sl.H8_2
  rw [View.readCov_skip _ _ _ _ _ (by decide)]
  unfold mainRun_C.sl.H8_1
  exact fillC arg8.view k1_pay82 0 2 0 512 rfl rfl _ _

theorem g_v705 : (mainRun_C.sl.v705 c i arg2 harg2 arg3 harg3 arg4 harg4 arg5 harg5 arg6 harg6 arg8 arg9 arg10 arg11 arg12 harg12 x0 x1 x2 x3 x4 xsc) = gC (k1_pay82 (F := F)) 0 3 := by
  unfold mainRun_C.sl.v705
  unfold mainRun_C.sl.H8_4
  rw [View.readCov_skip _ _ _ _ _ (by decide)]
  unfold mainRun_C.sl.H8_3
  rw [View.readCov_skip _ _ _ _ _ (by decide)]
  unfold mainRun_C.sl.H8_2
  rw [View.readCov_skip _ _ _ _ _ (by decide)]
  unfold mainRun_C.sl.H8_1
  exact fillC arg8.view k1_pay82 0 3 0 768 rfl rfl _ _

theorem g_v712 : (mainRun_C.sl.v712 c i arg2 harg2 arg3 harg3 arg4 harg4 arg5 harg5 arg6 harg6 arg8 arg9 arg10 arg11 arg12 harg12 x0 x1 x2 x3 x4 xsc) = gC (k1_pay82 (F := F)) 0 4 := by
  unfold mainRun_C.sl.v712
  unfold mainRun_C.sl.H8_5
  rw [View.readCov_skip _ _ _ _ _ (by decide)]
  unfold mainRun_C.sl.H8_4
  rw [View.readCov_skip _ _ _ _ _ (by decide)]
  unfold mainRun_C.sl.H8_3
  rw [View.readCov_skip _ _ _ _ _ (by decide)]
  unfold mainRun_C.sl.H8_2
  rw [View.readCov_skip _ _ _ _ _ (by decide)]
  unfold mainRun_C.sl.H8_1
  exact fillC arg8.view k1_pay82 0 4 0 1024 rfl rfl _ _

theorem g_v719 : (mainRun_C.sl.v719 c i arg2 harg2 arg3 harg3 arg4 harg4 arg5 harg5 arg6 harg6 arg8 arg9 arg10 arg11 arg12 harg12 x0 x1 x2 x3 x4 xsc) = gC (k1_pay82 (F := F)) 0 5 := by
  unfold mainRun_C.sl.v719
  unfold mainRun_C.sl.H8_6
  rw [View.readCov_skip _ _ _ _ _ (by decide)]
  unfold mainRun_C.sl.H8_5
  rw [View.readCov_skip _ _ _ _ _ (by decide)]
  unfold mainRun_C.sl.H8_4
  rw [View.readCov_skip _ _ _ _ _ (by decide)]
  unfold mainRun_C.sl.H8_3
  rw [View.readCov_skip _ _ _ _ _ (by decide)]
  unfold mainRun_C.sl.H8_2
  rw [View.readCov_skip _ _ _ _ _ (by decide)]
  unfold mainRun_C.sl.H8_1
  exact fillC arg8.view k1_pay82 0 5 0 1280 rfl rfl _ _

theorem g_v726 : (mainRun_C.sl.v726 c i arg2 harg2 arg3 harg3 arg4 harg4 arg5 harg5 arg6 harg6 arg8 arg9 arg10 arg11 arg12 harg12 x0 x1 x2 x3 x4 xsc) = gC (k1_pay82 (F := F)) 0 6 := by
  unfold mainRun_C.sl.v726
  unfold mainRun_C.sl.H8_7
  rw [View.readCov_skip _ _ _ _ _ (by decide)]
  unfold mainRun_C.sl.H8_6
  rw [View.readCov_skip _ _ _ _ _ (by decide)]
  unfold mainRun_C.sl.H8_5
  rw [View.readCov_skip _ _ _ _ _ (by decide)]
  unfold mainRun_C.sl.H8_4
  rw [View.readCov_skip _ _ _ _ _ (by decide)]
  unfold mainRun_C.sl.H8_3
  rw [View.readCov_skip _ _ _ _ _ (by decide)]
  unfold mainRun_C.sl.H8_2
  rw [View.readCov_skip _ _ _ _ _ (by decide)]
  unfold mainRun_C.sl.H8_1
  exact fillC arg8.view k1_pay82 0 6 0 1536 rfl rfl _ _

theorem g_v733 : (mainRun_C.sl.v733 c i arg2 harg2 arg3 harg3 arg4 harg4 arg5 harg5 arg6 harg6 arg8 arg9 arg10 arg11 arg12 harg12 x0 x1 x2 x3 x4 xsc) = gC (k1_pay82 (F := F)) 0 7 := by
  unfold mainRun_C.sl.v733
  unfold mainRun_C.sl.H8_8
  rw [View.readCov_skip _ _ _ _ _ (by decide)]
  unfold mainRun_C.sl.H8_7
  rw [View.readCov_skip _ _ _ _ _ (by decide)]
  unfold mainRun_C.sl.H8_6
  rw [View.readCov_skip _ _ _ _ _ (by decide)]
  unfold mainRun_C.sl.H8_5
  rw [View.readCov_skip _ _ _ _ _ (by decide)]
  unfold mainRun_C.sl.H8_4
  rw [View.readCov_skip _ _ _ _ _ (by decide)]
  unfold mainRun_C.sl.H8_3
  rw [View.readCov_skip _ _ _ _ _ (by decide)]
  unfold mainRun_C.sl.H8_2
  rw [View.readCov_skip _ _ _ _ _ (by decide)]
  unfold mainRun_C.sl.H8_1
  exact fillC arg8.view k1_pay82 0 7 0 1792 rfl rfl _ _

theorem g_v740 : (mainRun_C.sl.v740 c i arg2 harg2 arg3 harg3 arg4 harg4 arg5 harg5 arg6 harg6 arg8 arg9 arg10 arg11 arg12 harg12 x0 x1 x2 x3 x4 xsc) = gC (k1_pay82 (F := F)) 0 8 := by
  unfold mainRun_C.sl.v740
  unfold mainRun_C.sl.H8_9
  rw [View.readCov_skip _ _ _ _ _ (by decide)]
  unfold mainRun_C.sl.H8_8
  rw [View.readCov_skip _ _ _ _ _ (by decide)]
  unfold mainRun_C.sl.H8_7
  rw [View.readCov_skip _ _ _ _ _ (by decide)]
  unfold mainRun_C.sl.H8_6
  rw [View.readCov_skip _ _ _ _ _ (by decide)]
  unfold mainRun_C.sl.H8_5
  rw [View.readCov_skip _ _ _ _ _ (by decide)]
  unfold mainRun_C.sl.H8_4
  rw [View.readCov_skip _ _ _ _ _ (by decide)]
  unfold mainRun_C.sl.H8_3
  rw [View.readCov_skip _ _ _ _ _ (by decide)]
  unfold mainRun_C.sl.H8_2
  rw [View.readCov_skip _ _ _ _ _ (by decide)]
  unfold mainRun_C.sl.H8_1
  exact fillC arg8.view k1_pay82 0 8 0 2048 rfl rfl _ _

theorem g_v747 : (mainRun_C.sl.v747 c i arg2 harg2 arg3 harg3 arg4 harg4 arg5 harg5 arg6 harg6 arg8 arg9 arg10 arg11 arg12 harg12 x0 x1 x2 x3 x4 xsc) = gC (k1_pay82 (F := F)) 0 9 := by
  unfold mainRun_C.sl.v747
  unfold mainRun_C.sl.H8_10
  rw [View.readCov_skip _ _ _ _ _ (by decide)]
  unfold mainRun_C.sl.H8_9
  rw [View.readCov_skip _ _ _ _ _ (by decide)]
  unfold mainRun_C.sl.H8_8
  rw [View.readCov_skip _ _ _ _ _ (by decide)]
  unfold mainRun_C.sl.H8_7
  rw [View.readCov_skip _ _ _ _ _ (by decide)]
  unfold mainRun_C.sl.H8_6
  rw [View.readCov_skip _ _ _ _ _ (by decide)]
  unfold mainRun_C.sl.H8_5
  rw [View.readCov_skip _ _ _ _ _ (by decide)]
  unfold mainRun_C.sl.H8_4
  rw [View.readCov_skip _ _ _ _ _ (by decide)]
  unfold mainRun_C.sl.H8_3
  rw [View.readCov_skip _ _ _ _ _ (by decide)]
  unfold mainRun_C.sl.H8_2
  rw [View.readCov_skip _ _ _ _ _ (by decide)]
  unfold mainRun_C.sl.H8_1
  exact fillC arg8.view k1_pay82 0 9 0 2304 rfl rfl _ _

theorem g_v754 : (mainRun_C.sl.v754 c i arg2 harg2 arg3 harg3 arg4 harg4 arg5 harg5 arg6 harg6 arg8 arg9 arg10 arg11 arg12 harg12 x0 x1 x2 x3 x4 xsc) = gC (k1_pay82 (F := F)) 0 10 := by
  unfold mainRun_C.sl.v754
  unfold mainRun_C.sl.H8_11
  rw [View.readCov_skip _ _ _ _ _ (by decide)]
  unfold mainRun_C.sl.H8_10
  rw [View.readCov_skip _ _ _ _ _ (by decide)]
  unfold mainRun_C.sl.H8_9
  rw [View.readCov_skip _ _ _ _ _ (by decide)]
  unfold mainRun_C.sl.H8_8
  rw [View.readCov_skip _ _ _ _ _ (by decide)]
  unfold mainRun_C.sl.H8_7
  rw [View.readCov_skip _ _ _ _ _ (by decide)]
  unfold mainRun_C.sl.H8_6
  rw [View.readCov_skip _ _ _ _ _ (by decide)]
  unfold mainRun_C.sl.H8_5
  rw [View.readCov_skip _ _ _ _ _ (by decide)]
  unfold mainRun_C.sl.H8_4
  rw [View.readCov_skip _ _ _ _ _ (by decide)]
  unfold mainRun_C.sl.H8_3
  rw [View.readCov_skip _ _ _ _ _ (by decide)]
  unfold mainRun_C.sl.H8_2
  rw [View.readCov_skip _ _ _ _ _ (by decide)]
  unfold mainRun_C.sl.H8_1
  exact fillC arg8.view k1_pay82 0 10 0 2560 rfl rfl _ _

theorem g_v761 : (mainRun_C.sl.v761 c i arg2 harg2 arg3 harg3 arg4 harg4 arg5 harg5 arg6 harg6 arg8 arg9 arg10 arg11 arg12 harg12 x0 x1 x2 x3 x4 xsc) = gL (k1_pay82 (F := F)) 0 := by
  unfold mainRun_C.sl.v761
  unfold mainRun_C.sl.H8_12
  rw [View.readCov_skip _ _ _ _ _ (by decide)]
  unfold mainRun_C.sl.H8_11
  rw [View.readCov_skip _ _ _ _ _ (by decide)]
  unfold mainRun_C.sl.H8_10
  rw [View.readCov_skip _ _ _ _ _ (by decide)]
  unfold mainRun_C.sl.H8_9
  rw [View.readCov_skip _ _ _ _ _ (by decide)]
  unfold mainRun_C.sl.H8_8
  rw [View.readCov_skip _ _ _ _ _ (by decide)]
  unfold mainRun_C.sl.H8_7
  rw [View.readCov_skip _ _ _ _ _ (by decide)]
  unfold mainRun_C.sl.H8_6
  rw [View.readCov_skip _ _ _ _ _ (by decide)]
  unfold mainRun_C.sl.H8_5
  rw [View.readCov_skip _ _ _ _ _ (by decide)]
  unfold mainRun_C.sl.H8_4
  rw [View.readCov_skip _ _ _ _ _ (by decide)]
  unfold mainRun_C.sl.H8_3
  rw [View.readCov_skip _ _ _ _ _ (by decide)]
  unfold mainRun_C.sl.H8_2
  rw [View.readCov_skip _ _ _ _ _ (by decide)]
  unfold mainRun_C.sl.H8_1
  exact fillL arg8.view k1_pay82 0 0 rfl _ _

theorem g_v768 : (mainRun_C.sl.v768 c i arg2 harg2 arg3 harg3 arg4 harg4 arg5 harg5 arg6 harg6 arg8 arg9 arg10 arg11 arg12 harg12 x0 x1 x2 x3 x4 xsc) = gC (k1_pay82 (F := F)) 1 0 := by
  unfold mainRun_C.sl.v768
  unfold mainRun_C.sl.H8_13
  rw [View.readCov_skip _ _ _ _ _ (by decide)]
  unfold mainRun_C.sl.H8_12
  rw [View.readCov_skip _ _ _ _ _ (by decide)]
  unfold mainRun_C.sl.H8_11
  rw [View.readCov_skip _ _ _ _ _ (by decide)]
  unfold mainRun_C.sl.H8_10
  rw [View.readCov_skip _ _ _ _ _ (by decide)]
  unfold mainRun_C.sl.H8_9
  rw [View.readCov_skip _ _ _ _ _ (by decide)]
  unfold mainRun_C.sl.H8_8
  rw [View.readCov_skip _ _ _ _ _ (by decide)]
  unfold mainRun_C.sl.H8_7
  rw [View.readCov_skip _ _ _ _ _ (by decide)]
  unfold mainRun_C.sl.H8_6
  rw [View.readCov_skip _ _ _ _ _ (by decide)]
  unfold mainRun_C.sl.H8_5
  rw [View.readCov_skip _ _ _ _ _ (by decide)]
  unfold mainRun_C.sl.H8_4
  rw [View.readCov_skip _ _ _ _ _ (by decide)]
  unfold mainRun_C.sl.H8_3
  rw [View.readCov_skip _ _ _ _ _ (by decide)]
  unfold mainRun_C.sl.H8_2
  rw [View.readCov_skip _ _ _ _ _ (by decide)]
  unfold mainRun_C.sl.H8_1
  exact fillC arg8.view k1_pay82 1 0 480 0 rfl rfl _ _

theorem g_v775 : (mainRun_C.sl.v775 c i arg2 harg2 arg3 harg3 arg4 harg4 arg5 harg5 arg6 harg6 arg8 arg9 arg10 arg11 arg12 harg12 x0 x1 x2 x3 x4 xsc) = gC (k1_pay82 (F := F)) 1 1 := by
  unfold mainRun_C.sl.v775
  unfold mainRun_C.sl.H8_14
  rw [View.readCov_skip _ _ _ _ _ (by decide)]
  unfold mainRun_C.sl.H8_13
  rw [View.readCov_skip _ _ _ _ _ (by decide)]
  unfold mainRun_C.sl.H8_12
  rw [View.readCov_skip _ _ _ _ _ (by decide)]
  unfold mainRun_C.sl.H8_11
  rw [View.readCov_skip _ _ _ _ _ (by decide)]
  unfold mainRun_C.sl.H8_10
  rw [View.readCov_skip _ _ _ _ _ (by decide)]
  unfold mainRun_C.sl.H8_9
  rw [View.readCov_skip _ _ _ _ _ (by decide)]
  unfold mainRun_C.sl.H8_8
  rw [View.readCov_skip _ _ _ _ _ (by decide)]
  unfold mainRun_C.sl.H8_7
  rw [View.readCov_skip _ _ _ _ _ (by decide)]
  unfold mainRun_C.sl.H8_6
  rw [View.readCov_skip _ _ _ _ _ (by decide)]
  unfold mainRun_C.sl.H8_5
  rw [View.readCov_skip _ _ _ _ _ (by decide)]
  unfold mainRun_C.sl.H8_4
  rw [View.readCov_skip _ _ _ _ _ (by decide)]
  unfold mainRun_C.sl.H8_3
  rw [View.readCov_skip _ _ _ _ _ (by decide)]
  unfold mainRun_C.sl.H8_2
  rw [View.readCov_skip _ _ _ _ _ (by decide)]
  unfold mainRun_C.sl.H8_1
  exact fillC arg8.view k1_pay82 1 1 480 256 rfl rfl _ _

theorem g_v782 : (mainRun_C.sl.v782 c i arg2 harg2 arg3 harg3 arg4 harg4 arg5 harg5 arg6 harg6 arg8 arg9 arg10 arg11 arg12 harg12 x0 x1 x2 x3 x4 xsc) = gC (k1_pay82 (F := F)) 1 2 := by
  unfold mainRun_C.sl.v782
  unfold mainRun_C.sl.H8_15
  rw [View.readCov_skip _ _ _ _ _ (by decide)]
  unfold mainRun_C.sl.H8_14
  rw [View.readCov_skip _ _ _ _ _ (by decide)]
  unfold mainRun_C.sl.H8_13
  rw [View.readCov_skip _ _ _ _ _ (by decide)]
  unfold mainRun_C.sl.H8_12
  rw [View.readCov_skip _ _ _ _ _ (by decide)]
  unfold mainRun_C.sl.H8_11
  rw [View.readCov_skip _ _ _ _ _ (by decide)]
  unfold mainRun_C.sl.H8_10
  rw [View.readCov_skip _ _ _ _ _ (by decide)]
  unfold mainRun_C.sl.H8_9
  rw [View.readCov_skip _ _ _ _ _ (by decide)]
  unfold mainRun_C.sl.H8_8
  rw [View.readCov_skip _ _ _ _ _ (by decide)]
  unfold mainRun_C.sl.H8_7
  rw [View.readCov_skip _ _ _ _ _ (by decide)]
  unfold mainRun_C.sl.H8_6
  rw [View.readCov_skip _ _ _ _ _ (by decide)]
  unfold mainRun_C.sl.H8_5
  rw [View.readCov_skip _ _ _ _ _ (by decide)]
  unfold mainRun_C.sl.H8_4
  rw [View.readCov_skip _ _ _ _ _ (by decide)]
  unfold mainRun_C.sl.H8_3
  rw [View.readCov_skip _ _ _ _ _ (by decide)]
  unfold mainRun_C.sl.H8_2
  rw [View.readCov_skip _ _ _ _ _ (by decide)]
  unfold mainRun_C.sl.H8_1
  exact fillC arg8.view k1_pay82 1 2 480 512 rfl rfl _ _

theorem g_v789 : (mainRun_C.sl.v789 c i arg2 harg2 arg3 harg3 arg4 harg4 arg5 harg5 arg6 harg6 arg8 arg9 arg10 arg11 arg12 harg12 x0 x1 x2 x3 x4 xsc) = gC (k1_pay82 (F := F)) 1 3 := by
  unfold mainRun_C.sl.v789
  unfold mainRun_C.sl.H8_16
  rw [View.readCov_skip _ _ _ _ _ (by decide)]
  unfold mainRun_C.sl.H8_15
  rw [View.readCov_skip _ _ _ _ _ (by decide)]
  unfold mainRun_C.sl.H8_14
  rw [View.readCov_skip _ _ _ _ _ (by decide)]
  unfold mainRun_C.sl.H8_13
  rw [View.readCov_skip _ _ _ _ _ (by decide)]
  unfold mainRun_C.sl.H8_12
  rw [View.readCov_skip _ _ _ _ _ (by decide)]
  unfold mainRun_C.sl.H8_11
  rw [View.readCov_skip _ _ _ _ _ (by decide)]
  unfold mainRun_C.sl.H8_10
  rw [View.readCov_skip _ _ _ _ _ (by decide)]
  unfold mainRun_C.sl.H8_9
  rw [View.readCov_skip _ _ _ _ _ (by decide)]
  unfold mainRun_C.sl.H8_8
  rw [View.readCov_skip _ _ _ _ _ (by decide)]
  unfold mainRun_C.sl.H8_7
  rw [View.readCov_skip _ _ _ _ _ (by decide)]
  unfold mainRun_C.sl.H8_6
  rw [View.readCov_skip _ _ _ _ _ (by decide)]
  unfold mainRun_C.sl.H8_5
  rw [View.readCov_skip _ _ _ _ _ (by decide)]
  unfold mainRun_C.sl.H8_4
  rw [View.readCov_skip _ _ _ _ _ (by decide)]
  unfold mainRun_C.sl.H8_3
  rw [View.readCov_skip _ _ _ _ _ (by decide)]
  unfold mainRun_C.sl.H8_2
  rw [View.readCov_skip _ _ _ _ _ (by decide)]
  unfold mainRun_C.sl.H8_1
  exact fillC arg8.view k1_pay82 1 3 480 768 rfl rfl _ _

theorem g_v796 : (mainRun_C.sl.v796 c i arg2 harg2 arg3 harg3 arg4 harg4 arg5 harg5 arg6 harg6 arg8 arg9 arg10 arg11 arg12 harg12 x0 x1 x2 x3 x4 xsc) = gC (k1_pay82 (F := F)) 1 4 := by
  unfold mainRun_C.sl.v796
  unfold mainRun_C.sl.H8_17
  rw [View.readCov_skip _ _ _ _ _ (by decide)]
  unfold mainRun_C.sl.H8_16
  rw [View.readCov_skip _ _ _ _ _ (by decide)]
  unfold mainRun_C.sl.H8_15
  rw [View.readCov_skip _ _ _ _ _ (by decide)]
  unfold mainRun_C.sl.H8_14
  rw [View.readCov_skip _ _ _ _ _ (by decide)]
  unfold mainRun_C.sl.H8_13
  rw [View.readCov_skip _ _ _ _ _ (by decide)]
  unfold mainRun_C.sl.H8_12
  rw [View.readCov_skip _ _ _ _ _ (by decide)]
  unfold mainRun_C.sl.H8_11
  rw [View.readCov_skip _ _ _ _ _ (by decide)]
  unfold mainRun_C.sl.H8_10
  rw [View.readCov_skip _ _ _ _ _ (by decide)]
  unfold mainRun_C.sl.H8_9
  rw [View.readCov_skip _ _ _ _ _ (by decide)]
  unfold mainRun_C.sl.H8_8
  rw [View.readCov_skip _ _ _ _ _ (by decide)]
  unfold mainRun_C.sl.H8_7
  rw [View.readCov_skip _ _ _ _ _ (by decide)]
  unfold mainRun_C.sl.H8_6
  rw [View.readCov_skip _ _ _ _ _ (by decide)]
  unfold mainRun_C.sl.H8_5
  rw [View.readCov_skip _ _ _ _ _ (by decide)]
  unfold mainRun_C.sl.H8_4
  rw [View.readCov_skip _ _ _ _ _ (by decide)]
  unfold mainRun_C.sl.H8_3
  rw [View.readCov_skip _ _ _ _ _ (by decide)]
  unfold mainRun_C.sl.H8_2
  rw [View.readCov_skip _ _ _ _ _ (by decide)]
  unfold mainRun_C.sl.H8_1
  exact fillC arg8.view k1_pay82 1 4 480 1024 rfl rfl _ _

theorem g_v803 : (mainRun_C.sl.v803 c i arg2 harg2 arg3 harg3 arg4 harg4 arg5 harg5 arg6 harg6 arg8 arg9 arg10 arg11 arg12 harg12 x0 x1 x2 x3 x4 xsc) = gC (k1_pay82 (F := F)) 1 5 := by
  unfold mainRun_C.sl.v803
  unfold mainRun_C.sl.H8_18
  rw [View.readCov_skip _ _ _ _ _ (by decide)]
  unfold mainRun_C.sl.H8_17
  rw [View.readCov_skip _ _ _ _ _ (by decide)]
  unfold mainRun_C.sl.H8_16
  rw [View.readCov_skip _ _ _ _ _ (by decide)]
  unfold mainRun_C.sl.H8_15
  rw [View.readCov_skip _ _ _ _ _ (by decide)]
  unfold mainRun_C.sl.H8_14
  rw [View.readCov_skip _ _ _ _ _ (by decide)]
  unfold mainRun_C.sl.H8_13
  rw [View.readCov_skip _ _ _ _ _ (by decide)]
  unfold mainRun_C.sl.H8_12
  rw [View.readCov_skip _ _ _ _ _ (by decide)]
  unfold mainRun_C.sl.H8_11
  rw [View.readCov_skip _ _ _ _ _ (by decide)]
  unfold mainRun_C.sl.H8_10
  rw [View.readCov_skip _ _ _ _ _ (by decide)]
  unfold mainRun_C.sl.H8_9
  rw [View.readCov_skip _ _ _ _ _ (by decide)]
  unfold mainRun_C.sl.H8_8
  rw [View.readCov_skip _ _ _ _ _ (by decide)]
  unfold mainRun_C.sl.H8_7
  rw [View.readCov_skip _ _ _ _ _ (by decide)]
  unfold mainRun_C.sl.H8_6
  rw [View.readCov_skip _ _ _ _ _ (by decide)]
  unfold mainRun_C.sl.H8_5
  rw [View.readCov_skip _ _ _ _ _ (by decide)]
  unfold mainRun_C.sl.H8_4
  rw [View.readCov_skip _ _ _ _ _ (by decide)]
  unfold mainRun_C.sl.H8_3
  rw [View.readCov_skip _ _ _ _ _ (by decide)]
  unfold mainRun_C.sl.H8_2
  rw [View.readCov_skip _ _ _ _ _ (by decide)]
  unfold mainRun_C.sl.H8_1
  exact fillC arg8.view k1_pay82 1 5 480 1280 rfl rfl _ _

theorem g_v810 : (mainRun_C.sl.v810 c i arg2 harg2 arg3 harg3 arg4 harg4 arg5 harg5 arg6 harg6 arg8 arg9 arg10 arg11 arg12 harg12 x0 x1 x2 x3 x4 xsc) = gC (k1_pay82 (F := F)) 1 6 := by
  unfold mainRun_C.sl.v810
  unfold mainRun_C.sl.H8_19
  rw [View.readCov_skip _ _ _ _ _ (by decide)]
  unfold mainRun_C.sl.H8_18
  rw [View.readCov_skip _ _ _ _ _ (by decide)]
  unfold mainRun_C.sl.H8_17
  rw [View.readCov_skip _ _ _ _ _ (by decide)]
  unfold mainRun_C.sl.H8_16
  rw [View.readCov_skip _ _ _ _ _ (by decide)]
  unfold mainRun_C.sl.H8_15
  rw [View.readCov_skip _ _ _ _ _ (by decide)]
  unfold mainRun_C.sl.H8_14
  rw [View.readCov_skip _ _ _ _ _ (by decide)]
  unfold mainRun_C.sl.H8_13
  rw [View.readCov_skip _ _ _ _ _ (by decide)]
  unfold mainRun_C.sl.H8_12
  rw [View.readCov_skip _ _ _ _ _ (by decide)]
  unfold mainRun_C.sl.H8_11
  rw [View.readCov_skip _ _ _ _ _ (by decide)]
  unfold mainRun_C.sl.H8_10
  rw [View.readCov_skip _ _ _ _ _ (by decide)]
  unfold mainRun_C.sl.H8_9
  rw [View.readCov_skip _ _ _ _ _ (by decide)]
  unfold mainRun_C.sl.H8_8
  rw [View.readCov_skip _ _ _ _ _ (by decide)]
  unfold mainRun_C.sl.H8_7
  rw [View.readCov_skip _ _ _ _ _ (by decide)]
  unfold mainRun_C.sl.H8_6
  rw [View.readCov_skip _ _ _ _ _ (by decide)]
  unfold mainRun_C.sl.H8_5
  rw [View.readCov_skip _ _ _ _ _ (by decide)]
  unfold mainRun_C.sl.H8_4
  rw [View.readCov_skip _ _ _ _ _ (by decide)]
  unfold mainRun_C.sl.H8_3
  rw [View.readCov_skip _ _ _ _ _ (by decide)]
  unfold mainRun_C.sl.H8_2
  rw [View.readCov_skip _ _ _ _ _ (by decide)]
  unfold mainRun_C.sl.H8_1
  exact fillC arg8.view k1_pay82 1 6 480 1536 rfl rfl _ _

theorem g_v817 : (mainRun_C.sl.v817 c i arg2 harg2 arg3 harg3 arg4 harg4 arg5 harg5 arg6 harg6 arg8 arg9 arg10 arg11 arg12 harg12 x0 x1 x2 x3 x4 xsc) = gC (k1_pay82 (F := F)) 1 7 := by
  unfold mainRun_C.sl.v817
  unfold mainRun_C.sl.H8_20
  rw [View.readCov_skip _ _ _ _ _ (by decide)]
  unfold mainRun_C.sl.H8_19
  rw [View.readCov_skip _ _ _ _ _ (by decide)]
  unfold mainRun_C.sl.H8_18
  rw [View.readCov_skip _ _ _ _ _ (by decide)]
  unfold mainRun_C.sl.H8_17
  rw [View.readCov_skip _ _ _ _ _ (by decide)]
  unfold mainRun_C.sl.H8_16
  rw [View.readCov_skip _ _ _ _ _ (by decide)]
  unfold mainRun_C.sl.H8_15
  rw [View.readCov_skip _ _ _ _ _ (by decide)]
  unfold mainRun_C.sl.H8_14
  rw [View.readCov_skip _ _ _ _ _ (by decide)]
  unfold mainRun_C.sl.H8_13
  rw [View.readCov_skip _ _ _ _ _ (by decide)]
  unfold mainRun_C.sl.H8_12
  rw [View.readCov_skip _ _ _ _ _ (by decide)]
  unfold mainRun_C.sl.H8_11
  rw [View.readCov_skip _ _ _ _ _ (by decide)]
  unfold mainRun_C.sl.H8_10
  rw [View.readCov_skip _ _ _ _ _ (by decide)]
  unfold mainRun_C.sl.H8_9
  rw [View.readCov_skip _ _ _ _ _ (by decide)]
  unfold mainRun_C.sl.H8_8
  rw [View.readCov_skip _ _ _ _ _ (by decide)]
  unfold mainRun_C.sl.H8_7
  rw [View.readCov_skip _ _ _ _ _ (by decide)]
  unfold mainRun_C.sl.H8_6
  rw [View.readCov_skip _ _ _ _ _ (by decide)]
  unfold mainRun_C.sl.H8_5
  rw [View.readCov_skip _ _ _ _ _ (by decide)]
  unfold mainRun_C.sl.H8_4
  rw [View.readCov_skip _ _ _ _ _ (by decide)]
  unfold mainRun_C.sl.H8_3
  rw [View.readCov_skip _ _ _ _ _ (by decide)]
  unfold mainRun_C.sl.H8_2
  rw [View.readCov_skip _ _ _ _ _ (by decide)]
  unfold mainRun_C.sl.H8_1
  exact fillC arg8.view k1_pay82 1 7 480 1792 rfl rfl _ _

theorem g_v824 : (mainRun_C.sl.v824 c i arg2 harg2 arg3 harg3 arg4 harg4 arg5 harg5 arg6 harg6 arg8 arg9 arg10 arg11 arg12 harg12 x0 x1 x2 x3 x4 xsc) = gC (k1_pay82 (F := F)) 1 8 := by
  unfold mainRun_C.sl.v824
  unfold mainRun_C.sl.H8_21
  rw [View.readCov_skip _ _ _ _ _ (by decide)]
  unfold mainRun_C.sl.H8_20
  rw [View.readCov_skip _ _ _ _ _ (by decide)]
  unfold mainRun_C.sl.H8_19
  rw [View.readCov_skip _ _ _ _ _ (by decide)]
  unfold mainRun_C.sl.H8_18
  rw [View.readCov_skip _ _ _ _ _ (by decide)]
  unfold mainRun_C.sl.H8_17
  rw [View.readCov_skip _ _ _ _ _ (by decide)]
  unfold mainRun_C.sl.H8_16
  rw [View.readCov_skip _ _ _ _ _ (by decide)]
  unfold mainRun_C.sl.H8_15
  rw [View.readCov_skip _ _ _ _ _ (by decide)]
  unfold mainRun_C.sl.H8_14
  rw [View.readCov_skip _ _ _ _ _ (by decide)]
  unfold mainRun_C.sl.H8_13
  rw [View.readCov_skip _ _ _ _ _ (by decide)]
  unfold mainRun_C.sl.H8_12
  rw [View.readCov_skip _ _ _ _ _ (by decide)]
  unfold mainRun_C.sl.H8_11
  rw [View.readCov_skip _ _ _ _ _ (by decide)]
  unfold mainRun_C.sl.H8_10
  rw [View.readCov_skip _ _ _ _ _ (by decide)]
  unfold mainRun_C.sl.H8_9
  rw [View.readCov_skip _ _ _ _ _ (by decide)]
  unfold mainRun_C.sl.H8_8
  rw [View.readCov_skip _ _ _ _ _ (by decide)]
  unfold mainRun_C.sl.H8_7
  rw [View.readCov_skip _ _ _ _ _ (by decide)]
  unfold mainRun_C.sl.H8_6
  rw [View.readCov_skip _ _ _ _ _ (by decide)]
  unfold mainRun_C.sl.H8_5
  rw [View.readCov_skip _ _ _ _ _ (by decide)]
  unfold mainRun_C.sl.H8_4
  rw [View.readCov_skip _ _ _ _ _ (by decide)]
  unfold mainRun_C.sl.H8_3
  rw [View.readCov_skip _ _ _ _ _ (by decide)]
  unfold mainRun_C.sl.H8_2
  rw [View.readCov_skip _ _ _ _ _ (by decide)]
  unfold mainRun_C.sl.H8_1
  exact fillC arg8.view k1_pay82 1 8 480 2048 rfl rfl _ _

theorem g_v831 : (mainRun_C.sl.v831 c i arg2 harg2 arg3 harg3 arg4 harg4 arg5 harg5 arg6 harg6 arg8 arg9 arg10 arg11 arg12 harg12 x0 x1 x2 x3 x4 xsc) = gC (k1_pay82 (F := F)) 1 9 := by
  unfold mainRun_C.sl.v831
  unfold mainRun_C.sl.H8_22
  rw [View.readCov_skip _ _ _ _ _ (by decide)]
  unfold mainRun_C.sl.H8_21
  rw [View.readCov_skip _ _ _ _ _ (by decide)]
  unfold mainRun_C.sl.H8_20
  rw [View.readCov_skip _ _ _ _ _ (by decide)]
  unfold mainRun_C.sl.H8_19
  rw [View.readCov_skip _ _ _ _ _ (by decide)]
  unfold mainRun_C.sl.H8_18
  rw [View.readCov_skip _ _ _ _ _ (by decide)]
  unfold mainRun_C.sl.H8_17
  rw [View.readCov_skip _ _ _ _ _ (by decide)]
  unfold mainRun_C.sl.H8_16
  rw [View.readCov_skip _ _ _ _ _ (by decide)]
  unfold mainRun_C.sl.H8_15
  rw [View.readCov_skip _ _ _ _ _ (by decide)]
  unfold mainRun_C.sl.H8_14
  rw [View.readCov_skip _ _ _ _ _ (by decide)]
  unfold mainRun_C.sl.H8_13
  rw [View.readCov_skip _ _ _ _ _ (by decide)]
  unfold mainRun_C.sl.H8_12
  rw [View.readCov_skip _ _ _ _ _ (by decide)]
  unfold mainRun_C.sl.H8_11
  rw [View.readCov_skip _ _ _ _ _ (by decide)]
  unfold mainRun_C.sl.H8_10
  rw [View.readCov_skip _ _ _ _ _ (by decide)]
  unfold mainRun_C.sl.H8_9
  rw [View.readCov_skip _ _ _ _ _ (by decide)]
  unfold mainRun_C.sl.H8_8
  rw [View.readCov_skip _ _ _ _ _ (by decide)]
  unfold mainRun_C.sl.H8_7
  rw [View.readCov_skip _ _ _ _ _ (by decide)]
  unfold mainRun_C.sl.H8_6
  rw [View.readCov_skip _ _ _ _ _ (by decide)]
  unfold mainRun_C.sl.H8_5
  rw [View.readCov_skip _ _ _ _ _ (by decide)]
  unfold mainRun_C.sl.H8_4
  rw [View.readCov_skip _ _ _ _ _ (by decide)]
  unfold mainRun_C.sl.H8_3
  rw [View.readCov_skip _ _ _ _ _ (by decide)]
  unfold mainRun_C.sl.H8_2
  rw [View.readCov_skip _ _ _ _ _ (by decide)]
  unfold mainRun_C.sl.H8_1
  exact fillC arg8.view k1_pay82 1 9 480 2304 rfl rfl _ _

theorem g_v838 : (mainRun_C.sl.v838 c i arg2 harg2 arg3 harg3 arg4 harg4 arg5 harg5 arg6 harg6 arg8 arg9 arg10 arg11 arg12 harg12 x0 x1 x2 x3 x4 xsc) = gC (k1_pay82 (F := F)) 1 10 := by
  unfold mainRun_C.sl.v838
  unfold mainRun_C.sl.H8_23
  rw [View.readCov_skip _ _ _ _ _ (by decide)]
  unfold mainRun_C.sl.H8_22
  rw [View.readCov_skip _ _ _ _ _ (by decide)]
  unfold mainRun_C.sl.H8_21
  rw [View.readCov_skip _ _ _ _ _ (by decide)]
  unfold mainRun_C.sl.H8_20
  rw [View.readCov_skip _ _ _ _ _ (by decide)]
  unfold mainRun_C.sl.H8_19
  rw [View.readCov_skip _ _ _ _ _ (by decide)]
  unfold mainRun_C.sl.H8_18
  rw [View.readCov_skip _ _ _ _ _ (by decide)]
  unfold mainRun_C.sl.H8_17
  rw [View.readCov_skip _ _ _ _ _ (by decide)]
  unfold mainRun_C.sl.H8_16
  rw [View.readCov_skip _ _ _ _ _ (by decide)]
  unfold mainRun_C.sl.H8_15
  rw [View.readCov_skip _ _ _ _ _ (by decide)]
  unfold mainRun_C.sl.H8_14
  rw [View.readCov_skip _ _ _ _ _ (by decide)]
  unfold mainRun_C.sl.H8_13
  rw [View.readCov_skip _ _ _ _ _ (by decide)]
  unfold mainRun_C.sl.H8_12
  rw [View.readCov_skip _ _ _ _ _ (by decide)]
  unfold mainRun_C.sl.H8_11
  rw [View.readCov_skip _ _ _ _ _ (by decide)]
  unfold mainRun_C.sl.H8_10
  rw [View.readCov_skip _ _ _ _ _ (by decide)]
  unfold mainRun_C.sl.H8_9
  rw [View.readCov_skip _ _ _ _ _ (by decide)]
  unfold mainRun_C.sl.H8_8
  rw [View.readCov_skip _ _ _ _ _ (by decide)]
  unfold mainRun_C.sl.H8_7
  rw [View.readCov_skip _ _ _ _ _ (by decide)]
  unfold mainRun_C.sl.H8_6
  rw [View.readCov_skip _ _ _ _ _ (by decide)]
  unfold mainRun_C.sl.H8_5
  rw [View.readCov_skip _ _ _ _ _ (by decide)]
  unfold mainRun_C.sl.H8_4
  rw [View.readCov_skip _ _ _ _ _ (by decide)]
  unfold mainRun_C.sl.H8_3
  rw [View.readCov_skip _ _ _ _ _ (by decide)]
  unfold mainRun_C.sl.H8_2
  rw [View.readCov_skip _ _ _ _ _ (by decide)]
  unfold mainRun_C.sl.H8_1
  exact fillC arg8.view k1_pay82 1 10 480 2560 rfl rfl _ _

theorem g_v : (mainRun_C.sl.v c i arg2 harg2 arg3 harg3 arg4 harg4 arg5 harg5 arg6 harg6 arg8 arg9 arg10 arg11 arg12 harg12 x0 x1 x2 x3 x4 xsc) = gL (k1_pay82 (F := F)) 1 := by
  unfold mainRun_C.sl.v
  unfold mainRun_C.sl.H8_24
  rw [View.readCov_skip _ _ _ _ _ (by decide)]
  unfold mainRun_C.sl.H8_23
  rw [View.readCov_skip _ _ _ _ _ (by decide)]
  unfold mainRun_C.sl.H8_22
  rw [View.readCov_skip _ _ _ _ _ (by decide)]
  unfold mainRun_C.sl.H8_21
  rw [View.readCov_skip _ _ _ _ _ (by decide)]
  unfold mainRun_C.sl.H8_20
  rw [View.readCov_skip _ _ _ _ _ (by decide)]
  unfold mainRun_C.sl.H8_19
  rw [View.readCov_skip _ _ _ _ _ (by decide)]
  unfold mainRun_C.sl.H8_18
  rw [View.readCov_skip _ _ _ _ _ (by decide)]
  unfold mainRun_C.sl.H8_17
  rw [View.readCov_skip _ _ _ _ _ (by decide)]
  unfold mainRun_C.sl.H8_16
  rw [View.readCov_skip _ _ _ _ _ (by decide)]
  unfold mainRun_C.sl.H8_15
  rw [View.readCov_skip _ _ _ _ _ (by decide)]
  unfold mainRun_C.sl.H8_14
  rw [View.readCov_skip _ _ _ _ _ (by decide)]
  unfold mainRun_C.sl.H8_13
  rw [View.readCov_skip _ _ _ _ _ (by decide)]
  unfold mainRun_C.sl.H8_12
  rw [View.readCov_skip _ _ _ _ _ (by decide)]
  unfold mainRun_C.sl.H8_11
  rw [View.readCov_skip _ _ _ _ _ (by decide)]
  unfold mainRun_C.sl.H8_10
  rw [View.readCov_skip _ _ _ _ _ (by decide)]
  unfold mainRun_C.sl.H8_9
  rw [View.readCov_skip _ _ _ _ _ (by decide)]
  unfold mainRun_C.sl.H8_8
  rw [View.readCov_skip _ _ _ _ _ (by decide)]
  unfold mainRun_C.sl.H8_7
  rw [View.readCov_skip _ _ _ _ _ (by decide)]
  unfold mainRun_C.sl.H8_6
  rw [View.readCov_skip _ _ _ _ _ (by decide)]
  unfold mainRun_C.sl.H8_5
  rw [View.readCov_skip _ _ _ _ _ (by decide)]
  unfold mainRun_C.sl.H8_4
  rw [View.readCov_skip _ _ _ _ _ (by decide)]
  unfold mainRun_C.sl.H8_3
  rw [View.readCov_skip _ _ _ _ _ (by decide)]
  unfold mainRun_C.sl.H8_2
  rw [View.readCov_skip _ _ _ _ _ (by decide)]
  unfold mainRun_C.sl.H8_1
  exact fillL arg8.view k1_pay82 1 480 rfl _ _

theorem l8 : (mainRun_C c i arg2 harg2 arg3 harg3 arg4 harg4 arg5 harg5 arg6 harg6 arg7 harg7 arg8 harg8 arg9 harg9 arg10 harg10 arg11 harg11 arg12 harg12 arg13 harg13 hc1 hc2 hc3 hc4 hc5 hc6 hc7 hc8 hz x0 x1 x2 x3 x4 xsc xA).2.1 = gPieces (k1_pay82 (F := F)) (ET (XB x0 x1) x2 x3 x4 (bOf i)) (XB x0 x1) ++ (mainRun_C.sl.H8_1 (F := F)) := by
  show (⟨Rect.unit ![480, 2816] ![480, 64] inb_S960x2880_S480x64_480_2816, k1_pay1 (mainRun_C.sl.v c i arg2 harg2 arg3 harg3 arg4 harg4 arg5 harg5 arg6 harg6 arg8 arg9 arg10 arg11 arg12 harg12 x0 x1 x2 x3 x4 xsc) (mainRun_C.sl.v847 c i arg2 harg2 arg3 harg3 arg4 harg4 arg5 harg5 arg6 harg6 arg9 arg10 arg11 arg12 harg12 x0 x1 x2 x3 x4 xsc) (mainRun_C.sl.v848 c arg2 harg2 arg3 harg3 arg9 arg12 harg12 x0 x1 xsc)⟩ :: mainRun_C.sl.H8_24 c i arg2 harg2 arg3 harg3 arg4 harg4 arg5 harg5 arg6 harg6 arg8 arg9 arg10 arg11 arg12 harg12 x0 x1 x2 x3 x4 xsc : List (Piece (Elt F) S960x2880 .f32)) = _
  simp only [mainRun_C.sl.H8_24, mainRun_C.sl.H8_23, mainRun_C.sl.H8_22, mainRun_C.sl.H8_21, mainRun_C.sl.H8_20, mainRun_C.sl.H8_19, mainRun_C.sl.H8_18, mainRun_C.sl.H8_17, mainRun_C.sl.H8_16, mainRun_C.sl.H8_15, mainRun_C.sl.H8_14, mainRun_C.sl.H8_13, mainRun_C.sl.H8_12, mainRun_C.sl.H8_11, mainRun_C.sl.H8_10, mainRun_C.sl.H8_9, mainRun_C.sl.H8_8, mainRun_C.sl.H8_7, mainRun_C.sl.H8_6, mainRun_C.sl.H8_5, mainRun_C.sl.H8_4, mainRun_C.sl.H8_3, mainRun_C.sl.H8_2, mainRun_C.sl.r_11, mainRun_C.sl.r_12, mainRun_C.sl.r_13, mainRun_C.sl.cst_440, g_v684, g_v691, g_v698, g_v705, g_v712, g_v719, g_v726, g_v733, g_v740, g_v747, g_v754, g_v761, g_v768, g_v775, g_v782, g_v789, g_v796, g_v803, g_v810, g_v817, g_v824, g_v831, g_v838, g_v, e_v686, e_v770, e_v847, e_v687, e_v694, e_v701, e_v708, e_v715, e_v722, e_v729, e_v736, e_v743, e_v750, e_v757, e_v764, e_v848, pay84_eq, pay85_eq, pay86_eq, pay87_eq, pay89_eq, pay90_eq, pay91_eq, pay92_eq, pay93_eq, pay94_eq, pay97_eq, pay98_eq, pay99_eq, pay100_eq, pay101_eq, pay102_eq, pay103_eq, pay105_eq, pay106_eq, pay107_eq, pay108_eq, pay1_eq]
  rfl

theorem l7 (f : arg7.view.ty.Contents (Elt F)) : arg7.view.read (Elt F) (arg7.view.writes (Elt F) f (mainRun_C c i arg2 harg2 arg3 harg3 arg4 harg4 arg5 harg5 arg6 harg6 arg7 harg7 arg8 harg8 arg9 harg9 arg10 harg10 arg11 harg11 arg12 harg12 arg13 harg13 hc1 hc2 hc3 hc4 hc5 hc6 hc7 hc8 hz x0 x1 x2 x3 x4 xsc xA).1) = k1_pay81 (rowOf (aNew1 false (XB x0 x1) x2 x3 x4 (bOf i) xA (tOf i))) := by
  show arg7.view.read (Elt F) (arg7.view.writes (Elt F) f [⟨Rect.unit ![0, 0, 0] S1x1x1024.size inb_S1x1x1024_S1x1x1024_0_0_0, k1_pay81 (mainRun_C.sl.v672 c i arg2 harg2 arg3 harg3 arg4 harg4 arg5 harg5 arg6 harg6 arg9 arg10 arg12 harg12 arg13 harg13 hc2 hc4 hc6 hc8 x0 x1 x2 x3 x4 xsc xA)⟩]) = _
  rw [e_v672 (hc2 := hc2) (hc4 := hc4) (hc6 := hc6) (hc8 := hc8), View.read_writes_eq_canon _ _ _ (View.cover_of_tiledBy _ ![1, 1, 1024] (by sl_kernel_rfl))]
  exact View.canon_cons_unit_zero zero3 _ _ _

theorem w13' : arg13.view.read (Elt F) (mainRun_C c i arg2 harg2 arg3 harg3 arg4 harg4 arg5 harg5 arg6 harg6 arg7 harg7 arg8 harg8 arg9 harg9 arg10 harg10 arg11 harg11 arg12 harg12 arg13 harg13 hc1 hc2 hc3 hc4 hc5 hc6 hc7 hc8 hz x0 x1 x2 x3 x4 xsc xA).2.2.1 = setRow xA (tOf i) (rowOf (aNew1 false (XB x0 x1) x2 x3 x4 (bOf i) xA (tOf i))) := by
  have e : (mainRun_C c i arg2 harg2 arg3 harg3 arg4 harg4 arg5 harg5 arg6 harg6 arg7 harg7 arg8 harg8 arg9 harg9 arg10 harg10 arg11 harg11 arg12 harg12 arg13 harg13 hc1 hc2 hc3 hc4 hc5 hc6 hc7 hc8 hz x0 x1 x2 x3 x4 xsc xA).2.2.1 = arg13.view.writes (Elt F) (harg13.unread xA) (mainRun_C.sl.H13_4 c i arg2 harg2 arg3 harg3 arg4 harg4 arg5 harg5 arg6 harg6 arg9 arg10 arg12 harg12 arg13 harg13 hc2 hc4 hc6 hc8 x0 x1 x2 x3 x4 xsc xA) := by sl_kernel_rfl
  rw [e]
  exact w13 (c := c) (i := i) (arg2 := arg2) (harg2 := harg2) (arg3 := arg3) (harg3 := harg3) (arg4 := arg4) (harg4 := harg4) (arg5 := arg5) (harg5 := harg5) (arg6 := arg6) (harg6 := harg6) (arg9 := arg9) (arg10 := arg10) (arg12 := arg12) (harg12 := harg12) (arg13 := arg13) (harg13 := harg13) (hc2 := hc2) (hc4 := hc4) (hc6 := hc6) (hc8 := hc8) (x0 := x0) (x1 := x1) (x2 := x2) (x3 := x3) (x4 := x4) (xsc := xsc) (xA := xA)

theorem l8' (f : arg8.view.ty.Contents (Elt F)) : arg8.view.read (Elt F) (arg8.view.writes (Elt F) f (mainRun_C c i arg2 harg2 arg3 harg3 arg4 harg4 arg5 harg5 arg6 harg6 arg7 harg7 arg8 harg8 arg9 harg9 arg10 harg10 arg11 harg11 arg12 harg12 arg13 harg13 hc1 hc2 hc3 hc4 hc5 hc6 hc7 hc8 hz x0 x1 x2 x3 x4 xsc xA).2.1) = GN (k1_pay82 (F := F)) (ET (XB x0 x1) x2 x3 x4 (bOf i)) (XB x0 x1) := by
  rw [l8]; exact read_gPieces _ _ _ _ _ _

end RunC

set_option maxHeartbeats 2000000 in
/-- One grid point of the main kernel (later block of output channels, first block of tokens): from the five input blocks to the row losses, the new gradient block and
    the accumulator with this token block's row replaced. -/
theorem mainSpec_C (c : Dev nD) (i : grid1.Coords) (arg2 : Memref sig .tc .vmem S1024x2880 .fp8e4m3) (harg2 : arg2.IsWhole) (arg3 : Memref sig .tc .vmem S1024x90 .f32) (harg3 : arg3.IsWhole) (arg4 : Memref sig .tc .vmem S1024x1024 .bf16) (harg4 : arg4.IsWhole) (arg5 : Memref sig .tc .vmem S960x3072 .bf16) (harg5 : arg5.IsWhole) (arg6 : Memref sig .tc .vmem S960x1 .f32) (harg6 : arg6.IsWhole) (arg7 : Memref sig .tc .vmem S1x1x1024 .f32) (harg7 : arg7.IsWhole) (arg8 : Memref sig .tc .vmem S960x2880 .f32) (harg8 : arg8.IsWhole) (arg9 : Memref sig .tc .vmem S1024x3072 .bf16) (harg9 : arg9.IsWhole) (arg10 : Memref sig .tc .vmem S1024x1024 .bf16) (harg10 : arg10.IsWhole) (arg11 : Memref sig .tc .vmem S960x1024 .bf16) (harg11 : arg11.IsWhole) (arg12 : Memref sig .tc .vmem S1024x128 .f32) (harg12 : arg12.IsWhole) (arg13 : Memref sig .tc .vmem S15x8x1024 .f32) (harg13 : arg13.IsWhole) (hc1 : ¬k1_cond1 i = 1#1) (hc2 : k1_cond2 i = 1#1) (hc3 : ¬k1_cond3 i = 1#1) (hc4 : k1_cond4 i = 1#1) (hc5 : ¬k1_cond5 i = 1#1) (hc6 : k1_cond6 i = 1#1) (hc7 : ¬k1_cond7 i = 1#1) (hc8 : k1_cond8 i = 1#1) (hz : (Scalar.cmpi .ne (Scalar.extui (Scalar.cmpi .eq (BitVec.ofNat 32 (i 1).val) 0#32)) 0#32) = 1#1) (x0 : Vec F S1024x2880 .fp8e4m3) (x1 : Vec F S1024x90 .f32) (x2 : Vec F S1024x1024 .bf16) (x3 : Vec F S960x3072 .bf16) (x4 : Vec F S960x1 .f32) (xA : Vec F S15x8x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xA
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k1_pay81 (rowOf (aNew1 false (XB x0 x1) x2 x3 x4 (bOf i) xA (tOf i)))) ∗ owns (c : Thread nD τ) arg8 fullShare (GN (k1_pay82 (F := F)) (ET (XB x0 x1) x2 x3 x4 (bOf i)) (XB x0 x1)) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare (setRow xA (tOf i) (rowOf (aNew1 false (XB x0 x1) x2 x3 x4 (bOf i) xA (tOf i))))) -∗ K ⟨⟩))
      ⊢ wp frame (wpE (defs₀ (F := F)) Variants.none c none) E (cc1_main i arg2 harg2 arg3 harg3 arg4 harg4 arg5 harg5 arg6 harg6 arg7 harg7 arg8 harg8 arg9 harg9 arg10 harg10 arg11 harg11 arg12 harg12 arg13 harg13) K := by
  iintro ⟨H2, H3, H4, H5, H6, H7, H8, H9, H10, H11, ⟨%xsc, H12⟩, H13, HK⟩
  iapply (mainRun_C c i arg2 harg2 arg3 harg3 arg4 harg4 arg5 harg5 arg6 harg6 arg7 harg7 arg8 harg8 arg9 harg9 arg10 harg10 arg11 harg11 arg12 harg12 arg13 harg13 hc1 hc2 hc3 hc4 hc5 hc6 hc7 hc8 hz x0 x1 x2 x3 x4 xsc xA).2.2.2 E K
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H2, H3, H4, H5, H6, ⟨%f7, H7⟩, ⟨%f8, H8⟩, H9, H10, H11, H12, H13⟩
  iapply HK
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact RunC.l7 f7
  isplitl [H8]
  · unfold owns; iexists _; isplitr
    swap; · iexact H8
    ipureintro; exact RunC.l8' f8
  isplitl [H9]; · iexact H9
  isplitl [H10]; · iexact H10
  isplitl [H11]; · iexact H11
  isplitl [H12]; · iexact H12
  unfold owns; iexists _; isplitr
  swap; · iexact H13
  ipureintro; exact RunC.w13'

end Cert.KernelIdeal.Gen
-- ==== Proof.K.MainRunD.lean ====
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Ring
public import Idealize.ShloMosaic.Lib.Tactic
public import Idealize.ShloMosaic.Lib.WordCmp
public import proofs.«01_k».proof.Proof.K.MainRunC

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
set_option sl_exec.resultNames true in
/-- What one grid point of the main kernel leaves behind (later block of output channels, later block of tokens): the pieces stored into the
    row-loss block and into the gradient block, and the whole contents of the row-loss accumulator,
    with the proof that the body runs from the five input blocks to those contents. -/
noncomputable def mainRun_D (c : Dev nD) (i : grid1.Coords) (arg2 : Memref sig .tc .vmem S1024x2880 .fp8e4m3) (harg2 : arg2.IsWhole) (arg3 : Memref sig .tc .vmem S1024x90 .f32) (harg3 : arg3.IsWhole) (arg4 : Memref sig .tc .vmem S1024x1024 .bf16) (harg4 : arg4.IsWhole) (arg5 : Memref sig .tc .vmem S960x3072 .bf16) (harg5 : arg5.IsWhole) (arg6 : Memref sig .tc .vmem S960x1 .f32) (harg6 : arg6.IsWhole) (arg7 : Memref sig .tc .vmem S1x1x1024 .f32) (harg7 : arg7.IsWhole) (arg8 : Memref sig .tc .vmem S960x2880 .f32) (harg8 : arg8.IsWhole) (arg9 : Memref sig .tc .vmem S1024x3072 .bf16) (harg9 : arg9.IsWhole) (arg10 : Memref sig .tc .vmem S1024x1024 .bf16) (harg10 : arg10.IsWhole) (arg11 : Memref sig .tc .vmem S960x1024 .bf16) (harg11 : arg11.IsWhole) (arg12 : Memref sig .tc .vmem S1024x128 .f32) (harg12 : arg12.IsWhole) (arg13 : Memref sig .tc .vmem S15x8x1024 .f32) (harg13 : arg13.IsWhole) (hc1 : ¬k1_cond1 i = 1#1) (hc2 : k1_cond2 i = 1#1) (hc3 : ¬k1_cond3 i = 1#1) (hc4 : k1_cond4 i = 1#1) (hc5 : ¬k1_cond5 i = 1#1) (hc6 : k1_cond6 i = 1#1) (hc7 : ¬k1_cond7 i = 1#1) (hc8 : k1_cond8 i = 1#1) (hz : ¬(Scalar.cmpi .ne (Scalar.extui (Scalar.cmpi .eq (BitVec.ofNat 32 (i 1).val) 0#32)) 0#32) = 1#1)
    (x0 : Vec F S1024x2880 .fp8e4m3) (x1 : Vec F S1024x90 .f32) (x2 : Vec F S1024x1024 .bf16) (x3 : Vec F S960x3072 .bf16) (x4 : Vec F S960x1 .f32) (xg : Vec F S960x2880 .f32) (xsc : Vec F S1024x128 .f32) (xA : Vec F S15x8x1024 .f32) :
    Σ' (L7 : List (View.Piece (Elt F) S1x1x1024 .f32)), Σ' (L8 : List (View.Piece (Elt F) S960x2880 .f32)), { W13 : arg13.view.ty.Contents (Elt F) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xg ∗ (∃ d, owns (c : Thread nD τ) arg9 fullShare d) ∗ (∃ d, owns (c : Thread nD τ) arg10 fullShare d) ∗ (∃ d, owns (c : Thread nD τ) arg11 fullShare d) ∗ owns (c : Thread nD τ) arg12 fullShare xsc ∗ owns (c : Thread nD τ) arg13 fullShare xA
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ f, arg7.view.loc (c : Thread nD τ) ↦[arg7.view.set]{fullShare} arg7.view.writes (Elt F) f L7) ∗ (∃ f, arg8.view.loc (c : Thread nD τ) ↦[arg8.view.set]{fullShare} arg8.view.writes (Elt F) f L8) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (arg13.view.loc (c : Thread nD τ) ↦[arg13.view.set]{fullShare} W13)) -∗ K ⟨⟩))
          ⊢ wp frame (wpE (defs₀ (F := F)) Variants.none c none) E (cc1_main i arg2 harg2 arg3 harg3 arg4 harg4 arg5 harg5 arg6 harg6 arg7 harg7 arg8 harg8 arg9 harg9 arg10 harg10 arg11 harg11 arg12 harg12 arg13 harg13) K } := by
  refine ⟨?_, ?_, ?_, fun E K => ?run⟩
  case run =>
    simp only [cc1_main_eq_skeleton]; unfold cc1_main_skel
    simp only [k1_part1_eq_skeleton, k1_part2_eq_skeleton, k1_part3_eq_skeleton, k1_part4_eq_skeleton, k1_part5_eq_skeleton, k1_part6_eq_skeleton, k1_part7_eq_skeleton, k1_part8_eq_skeleton, k1_part9_eq_skeleton, k1_part10_eq_skeleton, k1_part11_eq_skeleton, k1_part12_eq_skeleton, k1_part13_eq_skeleton, k1_part14_eq_skeleton, k1_part15_eq_skeleton, k1_part16_eq_skeleton, k1_part17_eq_skeleton, k1_part18_eq_skeleton, k1_part19_eq_skeleton, k1_part20_eq_skeleton, k1_part21_eq_skeleton, k1_part22_eq_skeleton, k1_part23_eq_skeleton, k1_part24_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d7, %f7, -, H7⟩, ⟨%f8, %hf8, H8⟩, ⟨%d9, %f9, -, H9⟩, ⟨%d10, %f10, -, H10⟩, ⟨%d11, %f11, -, H11⟩, ⟨%f12, %hf12, H12⟩, ⟨%f13, %hf13, H13⟩, Hk⟩
    obtain rfl := harg2.eq_unread hf0; obtain rfl := harg3.eq_unread hf1; obtain rfl := harg4.eq_unread hf2; obtain rfl := harg5.eq_unread hf3; obtain rfl := harg6.eq_unread hf4; obtain rfl := harg8.eq_unread hf8; obtain rfl := harg12.eq_unread hf12; obtain rfl := harg13.eq_unread hf13
    sl_exec (disch := first | sl_exact hc1 | sl_exact hc2 | sl_exact hc3 | sl_exact hc4 | sl_exact hc5 | sl_exact hc6 | sl_exact hc7 | sl_exact hc8 | sl_exact hz)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H7]; · iexists _; iexact H7
    isplitl [H8]; · iexists _; iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    iexact H13

end Cert.KernelIdeal.Gen

end
-- ==== Proof.K.MainVD.lean ====
module

public import proofs.«01_k».proof.Proof.Gen.KernelIdeal.Skeleton
public import proofs.«01_k».proof.Proof.Gen.KernelIdeal.Points
public import proofs.«01_k».proof.Proof.Gen.KernelIdeal.Launch
public import Idealize.ShloMosaic.Lib.Pipeline.FrameBody
public import Idealize.ShloMosaic.Lib.Ring
public import Idealize.ShloMosaic.Lib.Tactic
public import Idealize.ShloMosaic.Lib.WordCmp
public import proofs.«01_k».proof.Proof.K.MainRunD
public import proofs.«01_k».proof.Proof.K.MainF

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open View (canon Piece PiecesOf)

variable {F : FTy → Type} [FloatOps F] [Named F]

local notation "𝕄" => MT nD τ sig Unit (Elt F) ℕ (UR sig nD τ) ℕ

namespace RunD

variable {c : Dev nD}
  {i : grid1.Coords}
  {arg2 : Memref sig .tc .vmem S1024x2880 .fp8e4m3}
  {harg2 : arg2.IsWhole}
  {arg3 : Memref sig .tc .vmem S1024x90 .f32}
  {harg3 : arg3.IsWhole}
  {arg4 : Memref sig .tc .vmem S1024x1024 .bf16}
  {harg4 : arg4.IsWhole}
  {arg5 : Memref sig .tc .vmem S960x3072 .bf16}
  {harg5 : arg5.IsWhole}
  {arg6 : Memref sig .tc .vmem S960x1 .f32}
  {harg6 : arg6.IsWhole}
  {arg7 : Memref sig .tc .vmem S1x1x1024 .f32}
  {harg7 : arg7.IsWhole}
  {arg8 : Memref sig .tc .vmem S960x2880 .f32}
  {harg8 : arg8.IsWhole}
  {arg9 : Memref sig .tc .vmem S1024x3072 .bf16}
  {harg9 : arg9.IsWhole}
  {arg10 : Memref sig .tc .vmem S1024x1024 .bf16}
  {harg10 : arg10.IsWhole}
  {arg11 : Memref sig .tc .vmem S960x1024 .bf16}
  {harg11 : arg11.IsWhole}
  {arg12 : Memref sig .tc .vmem S1024x128 .f32}
  {harg12 : arg12.IsWhole}
  {arg13 : Memref sig .tc .vmem S15x8x1024 .f32}
  {harg13 : arg13.IsWhole}
  {hc1 : ¬k1_cond1 i = 1#1}
  {hc2 : k1_cond2 i = 1#1}
  {hc3 : ¬k1_cond3 i = 1#1}
  {hc4 : k1_cond4 i = 1#1}
  {hc5 : ¬k1_cond5 i = 1#1}
  {hc6 : k1_cond6 i = 1#1}
  {hc7 : ¬k1_cond7 i = 1#1}
  {hc8 : k1_cond8 i = 1#1}
  {hz : ¬(Scalar.cmpi .ne (Scalar.extui (Scalar.cmpi .eq (BitVec.ofNat 32 (i 1).val) 0#32)) 0#32) = 1#1}
  {x0 : Vec F S1024x2880 .fp8e4m3}
  {x1 : Vec F S1024x90 .f32}
  {x2 : Vec F S1024x1024 .bf16}
  {x3 : Vec F S960x3072 .bf16}
  {x4 : Vec F S960x1 .f32}
  {xg : Vec F S960x2880 .f32}
  {xsc : Vec F S1024x128 .f32}
  {xA : Vec F S15x8x1024 .f32}

/-! What each load of the body reads, as a function of the blocks. -/

theorem h12 : (mainRun_D.sl.H12_1 c arg3 harg3 x1) = [⟨Rect.unit ![0, 0] S1024x90.size inb_S1024x128_S1024x90_0_0, x1⟩] := by
  unfold mainRun_D.sl.H12_1
  rw [ldIn harg3, View.ld_unit_zero zero2, pay2_eq]

theorem rr (r : Fin 1024) (l : Fin 90) : (mainRun_D.sl.r c arg3 harg3 arg12 harg12 x1 xsc) (ix2 r ⟨l.val, by omega⟩) = x1 (ix2 r l) := by
  unfold mainRun_D.sl.r
  rw [h12]
  exact sc_read _ _ x1 _ _ r l

theorem h9 : (mainRun_D.sl.H9_24 c arg2 harg2 arg3 harg3 arg12 harg12 x0 x1 xsc) = xbPieces (mainRun_D.sl.r c arg3 harg3 arg12 harg12 x1 xsc) x0 := by
  unfold mainRun_D.sl.H9_24
  simp only [mainRun_D.sl.v80, mainRun_D.sl.v120, mainRun_D.sl.v206, mainRun_D.sl.v246, mainRun_D.sl.v372, mainRun_D.sl.v0, mainRun_D.sl.v1, ldIn harg2]
  rfl

theorem c9 : canon (mainRun_D.sl.H9_24 c arg2 harg2 arg3 harg3 arg12 harg12 x0 x1 xsc) = (XB x0 x1) := by
  rw [h9]; exact canon_xbPieces _ x0 x1 rr

theorem e_v462 : (mainRun_D.sl.v462 c arg2 harg2 arg3 harg3 arg9 arg12 harg12 x0 x1 xsc) = xR (XB x0 x1) 0 := ldCov arg9.view c9 _

theorem e_v515 : (mainRun_D.sl.v515 c arg2 harg2 arg3 harg3 arg9 arg12 harg12 x0 x1 xsc) = xR (XB x0 x1) 1 := ldCov arg9.view c9 _

theorem e_v568 : (mainRun_D.sl.v568 c arg2 harg2 arg3 harg3 arg9 arg12 harg12 x0 x1 xsc) = xR (XB x0 x1) 2 := ldCov arg9.view c9 _

theorem e_v621 : (mainRun_D.sl.v621 c arg2 harg2 arg3 harg3 arg9 arg12 harg12 x0 x1 xsc) = xR (XB x0 x1) 3 := ldCov arg9.view c9 _

theorem h10 : canon (mainRun_D.sl.H10_1 c arg4 harg4 x2) = k1_pay41 x2 := by
  unfold mainRun_D.sl.H10_1
  rw [ldIn harg4, View.ld_unit_zero zero2]; exact View.canon_cons_unit_zero zero2 _ _ _

theorem e_v466 : (mainRun_D.sl.v466 c i arg4 harg4 arg10 x2) = yH x2 (bOf i) 0 0 := ldY arg10.view x2 h10 _ 0 0 _ (off1_0 i) _

theorem e_v489 : (mainRun_D.sl.v489 c i arg4 harg4 arg10 x2) = yH x2 (bOf i) 1 0 := ldY arg10.view x2 h10 _ 1 0 _ (off1_1 i) _

theorem e_v519 : (mainRun_D.sl.v519 c i arg4 harg4 arg10 x2) = yH x2 (bOf i) 0 1 := ldY arg10.view x2 h10 _ 0 1 _ (off4_0 i) _

theorem e_v542 : (mainRun_D.sl.v542 c i arg4 harg4 arg10 x2) = yH x2 (bOf i) 1 1 := ldY arg10.view x2 h10 _ 1 1 _ (off4_1 i) _

theorem e_v572 : (mainRun_D.sl.v572 c i arg4 harg4 arg10 x2) = yH x2 (bOf i) 0 2 := ldY arg10.view x2 h10 _ 0 2 _ (off7_0 i) _

theorem e_v595 : (mainRun_D.sl.v595 c i arg4 harg4 arg10 x2) = yH x2 (bOf i) 1 2 := ldY arg10.view x2 h10 _ 1 2 _ (off7_1 i) _

theorem e_v625 : (mainRun_D.sl.v625 c i arg4 harg4 arg10 x2) = yH x2 (bOf i) 0 3 := ldY arg10.view x2 h10 _ 0 3 _ (off10_0 i) _

theorem e_v648 : (mainRun_D.sl.v648 c i arg4 harg4 arg10 x2) = yH x2 (bOf i) 1 3 := ldY arg10.view x2 h10 _ 1 3 _ (off10_1 i) _

theorem h11 : (mainRun_D.sl.H11_8 c i arg2 harg2 arg3 harg3 arg4 harg4 arg5 harg5 arg6 harg6 arg9 arg10 arg12 harg12 x0 x1 x2 x3 x4 xsc) = etPieces (XB x0 x1) x2 x3 x4 (bOf i) := by
  unfold mainRun_D.sl.H11_8
  simp only [mainRun_D.sl.r_1, mainRun_D.sl.r_2, mainRun_D.sl.r_3, mainRun_D.sl.r_4, mainRun_D.sl.r_5, mainRun_D.sl.r_6, mainRun_D.sl.r_7, mainRun_D.sl.r_8, mainRun_D.sl.r_9, e_v462, e_v515, e_v568, e_v621, e_v466, e_v489, e_v519, e_v542, e_v572, e_v595, e_v625, e_v648, ldIn harg5, ldIn harg6, pay47_eq, pay56_eq, pay58_eq, pay63_eq, pay68_eq, pay75_eq, pay77_eq]
  rfl

theorem c11 : canon (mainRun_D.sl.H11_8 c i arg2 harg2 arg3 harg3 arg4 harg4 arg5 harg5 arg6 harg6 arg9 arg10 arg12 harg12 x0 x1 x2 x3 x4 xsc) = (ET (XB x0 x1) x2 x3 x4 (bOf i)) := by
  rw [h11]; exact canon_etPieces _ _ _ _ _

theorem e_v686 : (mainRun_D.sl.v686 c i arg2 harg2 arg3 harg3 arg4 harg4 arg5 harg5 arg6 harg6 arg9 arg10 arg11 arg12 harg12 x0 x1 x2 x3 x4 xsc) = eH (ET (XB x0 x1) x2 x3 x4 (bOf i)) 0 := ldCov arg11.view c11 _

theorem e_v770 : (mainRun_D.sl.v770 c i arg2 harg2 arg3 harg3 arg4 harg4 arg5 harg5 arg6 harg6 arg9 arg10 arg11 arg12 harg12 x0 x1 x2 x3 x4 xsc) = eH (ET (XB x0 x1) x2 x3 x4 (bOf i)) 1 := ldCov arg11.view c11 _

theorem e_v847 : (mainRun_D.sl.v847 c i arg2 harg2 arg3 harg3 arg4 harg4 arg5 harg5 arg6 harg6 arg9 arg10 arg11 arg12 harg12 x0 x1 x2 x3 x4 xsc) = eH (ET (XB x0 x1) x2 x3 x4 (bOf i)) 1 := ldCov arg11.view c11 _

theorem e_v687 : (mainRun_D.sl.v687 c arg2 harg2 arg3 harg3 arg9 arg12 harg12 x0 x1 xsc) = xC (XB x0 x1) 0 := ldCov arg9.view c9 _

theorem e_v694 : (mainRun_D.sl.v694 c arg2 harg2 arg3 harg3 arg9 arg12 harg12 x0 x1 xsc) = xC (XB x0 x1) 1 := ldCov arg9.view c9 _

theorem e_v701 : (mainRun_D.sl.v701 c arg2 harg2 arg3 harg3 arg9 arg12 harg12 x0 x1 xsc) = xC (XB x0 x1) 2 := ldCov arg9.view c9 _

theorem e_v708 : (mainRun_D.sl.v708 c arg2 harg2 arg3 harg3 arg9 arg12 harg12 x0 x1 xsc) = xC (XB x0 x1) 3 := ldCov arg9.view c9 _

theorem e_v715 : (mainRun_D.sl.v715 c arg2 harg2 arg3 harg3 arg9 arg12 harg12 x0 x1 xsc) = xC (XB x0 x1) 4 := ldCov arg9.view c9 _

theorem e_v722 : (mainRun_D.sl.v722 c arg2 harg2 arg3 harg3 arg9 arg12 harg12 x0 x1 xsc) = xC (XB x0 x1) 5 := ldCov arg9.view c9 _

theorem e_v729 : (mainRun_D.sl.v729 c arg2 harg2 arg3 harg3 arg9 arg12 harg12 x0 x1 xsc) = xC (XB x0 x1) 6 := ldCov arg9.view c9 _

theorem e_v736 : (mainRun_D.sl.v736 c arg2 harg2 arg3 harg3 arg9 arg12 harg12 x0 x1 xsc) = xC (XB x0 x1) 7 := ldCov arg9.view c9 _

theorem e_v743 : (mainRun_D.sl.v743 c arg2 harg2 arg3 harg3 arg9 arg12 harg12 x0 x1 xsc) = xC (XB x0 x1) 8 := ldCov arg9.view c9 _

theorem e_v750 : (mainRun_D.sl.v750 c arg2 harg2 arg3 harg3 arg9 arg12 harg12 x0 x1 xsc) = xC (XB x0 x1) 9 := ldCov arg9.view c9 _

theorem e_v757 : (mainRun_D.sl.v757 c arg2 harg2 arg3 harg3 arg9 arg12 harg12 x0 x1 xsc) = xC (XB x0 x1) 10 := ldCov arg9.view c9 _

theorem e_v764 : (mainRun_D.sl.v764 c arg2 harg2 arg3 harg3 arg9 arg12 harg12 x0 x1 xsc) = xL (XB x0 x1) := ldCov arg9.view c9 _

theorem e_v848 : (mainRun_D.sl.v848 c arg2 harg2 arg3 harg3 arg9 arg12 harg12 x0 x1 xsc) = xL (XB x0 x1) := ldCov arg9.view c9 _

theorem e_v853 : (mainRun_D.sl.v853 c i arg13 harg13 hc4 xA) = aOld xA (tOf i) 1 := (ldIn harg13 xA _).trans (aOld_eq xA (tOf i) 1 _ (off6_eq i) _)

theorem e_v853_1 : (mainRun_D.sl.v853_1 c i arg13 harg13 hc6 xA) = aOld xA (tOf i) 2 := (ldIn harg13 xA _).trans (aOld_eq xA (tOf i) 2 _ (off9_eq i) _)

theorem e_v853_2 : (mainRun_D.sl.v853_2 c i arg13 harg13 hc8 xA) = aOld xA (tOf i) 3 := (ldIn harg13 xA _).trans (aOld_eq xA (tOf i) 3 _ (off12_eq i) _)

theorem e_old (inb : ∀ a, k1_off3 i a + S1x8x256.size a ≤ S15x8x1024.size a) : View.readAt (Elt F) arg13.view (Rect.unit (s := S15x8x1024) (k1_off3 i) S1x8x256.size inb).toLoadRect (harg13.unread xA) = aOld xA (tOf i) 0 := (ldIn harg13 xA _).trans (aOld_eq xA (tOf i) 0 _ (off3_eq i) _)

theorem h13 : (mainRun_D.sl.H13_4 c i arg2 harg2 arg3 harg3 arg4 harg4 arg5 harg5 arg6 harg6 arg9 arg10 arg12 harg12 arg13 harg13 hc2 hc4 hc6 hc8 x0 x1 x2 x3 x4 xsc xA) = [⟨Rect.unit (k1_off12 i) S1x8x256.size (k1_off12_inb i hc8), (aNew1 false (XB x0 x1) x2 x3 x4 (bOf i) xA (tOf i)) 3⟩, ⟨Rect.unit (k1_off9 i) S1x8x256.size (k1_off9_inb i hc6), (aNew1 false (XB x0 x1) x2 x3 x4 (bOf i) xA (tOf i)) 2⟩, ⟨Rect.unit (k1_off6 i) S1x8x256.size (k1_off6_inb i hc4), (aNew1 false (XB x0 x1) x2 x3 x4 (bOf i) xA (tOf i)) 1⟩, ⟨Rect.unit (k1_off3 i) S1x8x256.size (k1_off3_inb i hc2), (aNew1 false (XB x0 x1) x2 x3 x4 (bOf i) xA (tOf i)) 0⟩] := by
  unfold mainRun_D.sl.H13_4
  rw [e_old]
  simp only [mainRun_D.sl.r_1, mainRun_D.sl.r_2, mainRun_D.sl.r_3, mainRun_D.sl.r_4, mainRun_D.sl.r_5, mainRun_D.sl.r_6, mainRun_D.sl.r_7, mainRun_D.sl.r_8, mainRun_D.sl.r_9, mainRun_D.sl.r_10, mainRun_D.sl.v558, e_v462, e_v515, e_v568, e_v621, e_v466, e_v489, e_v519, e_v542, e_v572, e_v595, e_v625, e_v648, ldIn harg5, ldIn harg6, pay50_eq, pay61_eq, pay71_eq, pay80_eq, e_v853, e_v853_1, e_v853_2]
  rfl

theorem w13 : arg13.view.read (Elt F) (arg13.view.writes (Elt F) (harg13.unread xA) (mainRun_D.sl.H13_4 c i arg2 harg2 arg3 harg3 arg4 harg4 arg5 harg5 arg6 harg6 arg9 arg10 arg12 harg12 arg13 harg13 hc2 hc4 hc6 hc8 x0 x1 x2 x3 x4 xsc xA)) = setRow xA (tOf i) (rowOf (aNew1 false (XB x0 x1) x2 x3 x4 (bOf i) xA (tOf i))) := by
  rw [h13 (hc2 := hc2) (hc4 := hc4) (hc6 := hc6) (hc8 := hc8)]
  refine (read_rows arg13.view _ (tOf i) (off3_eq i) (off6_eq i) (off9_eq i) (off12_eq i) _ _ _ _ (aNew1 false (XB x0 x1) x2 x3 x4 (bOf i) xA (tOf i))).trans ?_
  rw [harg13.read_unread]

theorem e_v672 : (mainRun_D.sl.v672 c i arg2 harg2 arg3 harg3 arg4 harg4 arg5 harg5 arg6 harg6 arg9 arg10 arg12 harg12 arg13 harg13 hc2 hc4 hc6 hc8 x0 x1 x2 x3 x4 xsc xA) = rowOf (aNew1 false (XB x0 x1) x2 x3 x4 (bOf i) xA (tOf i)) := by
  unfold mainRun_D.sl.v672
  rw [h13 (hc2 := hc2) (hc4 := hc4) (hc6 := hc6) (hc8 := hc8)]
  refine (View.readAt_eq_ld arg13.view _ _).trans ?_
  rw [read_rows arg13.view _ (tOf i) (off3_eq i) (off6_eq i) (off9_eq i) (off12_eq i) _ _ _ _ (aNew1 false (XB x0 x1) x2 x3 x4 (bOf i) xA (tOf i))]
  exact ld_setRow _ (tOf i) _ _ (off13_eq i) _

theorem g_v684 : View.readAt (Elt F) arg8.view (Rect.unit (s := S960x2880) ![0, 0] S480x256.size inb_S960x2880_S480x256_0_0).toLoadRect (harg8.unread xg) = gC xg 0 0 := ldIn harg8 xg _

theorem g_v691 : (mainRun_D.sl.v691 c arg8 harg8 xg) = gC xg 0 1 := ldIn harg8 xg _

theorem g_v698 : (mainRun_D.sl.v698 c arg8 harg8 xg) = gC xg 0 2 := ldIn harg8 xg _

theorem g_v705 : (mainRun_D.sl.v705 c arg8 harg8 xg) = gC xg 0 3 := ldIn harg8 xg _

theorem g_v712 : (mainRun_D.sl.v712 c arg8 harg8 xg) = gC xg 0 4 := ldIn harg8 xg _

theorem g_v719 : (mainRun_D.sl.v719 c arg8 harg8 xg) = gC xg 0 5 := ldIn harg8 xg _

theorem g_v726 : (mainRun_D.sl.v726 c arg8 harg8 xg) = gC xg 0 6 := ldIn harg8 xg _

theorem g_v733 : (mainRun_D.sl.v733 c arg8 harg8 xg) = gC xg 0 7 := ldIn harg8 xg _

theorem g_v740 : (mainRun_D.sl.v740 c arg8 harg8 xg) = gC xg 0 8 := ldIn harg8 xg _

theorem g_v747 : (mainRun_D.sl.v747 c arg8 harg8 xg) = gC xg 0 9 := ldIn harg8 xg _

theorem g_v754 : (mainRun_D.sl.v754 c arg8 harg8 xg) = gC xg 0 10 := ldIn harg8 xg _

theorem g_v761 : (mainRun_D.sl.v761 c arg8 harg8 xg) = gL xg 0 := ldIn harg8 xg _

theorem g_v768 : (mainRun_D.sl.v768 c arg8 harg8 xg) = gC xg 1 0 := ldIn harg8 xg _

theorem g_v775 : (mainRun_D.sl.v775 c arg8 harg8 xg) = gC xg 1 1 := ldIn harg8 xg _

theorem g_v782 : (mainRun_D.sl.v782 c arg8 harg8 xg) = gC xg 1 2 := ldIn harg8 xg _

theorem g_v789 : (mainRun_D.sl.v789 c arg8 harg8 xg) = gC xg 1 3 := ldIn harg8 xg _

theorem g_v796 : (mainRun_D.sl.v796 c arg8 harg8 xg) = gC xg 1 4 := ldIn harg8 xg _

theorem g_v803 : (mainRun_D.sl.v803 c arg8 harg8 xg) = gC xg 1 5 := ldIn harg8 xg _

theorem g_v810 : (mainRun_D.sl.v810 c arg8 harg8 xg) = gC xg 1 6 := ldIn harg8 xg _

theorem g_v817 : (mainRun_D.sl.v817 c arg8 harg8 xg) = gC xg 1 7 := ldIn harg8 xg _

theorem g_v824 : (mainRun_D.sl.v824 c arg8 harg8 xg) = gC xg 1 8 := ldIn harg8 xg _

theorem g_v831 : (mainRun_D.sl.v831 c arg8 harg8 xg) = gC xg 1 9 := ldIn harg8 xg _

theorem g_v838 : (mainRun_D.sl.v838 c arg8 harg8 xg) = gC xg 1 10 := ldIn harg8 xg _

theorem g_v : (mainRun_D.sl.v c arg8 harg8 xg) = gL xg 1 := ldIn harg8 xg _

theorem l8 : (mainRun_D c i arg2 harg2 arg3 harg3 arg4 harg4 arg5 harg5 arg6 harg6 arg7 harg7 arg8 harg8 arg9 harg9 arg10 harg10 arg11 harg11 arg12 harg12 arg13 harg13 hc1 hc2 hc3 hc4 hc5 hc6 hc7 hc8 hz x0 x1 x2 x3 x4 xg xsc xA).2.1 = gPieces xg (ET (XB x0 x1) x2 x3 x4 (bOf i)) (XB x0 x1) ++ [] := by
  show ([⟨Rect.unit ![480, 2816] ![480, 64] inb_S960x2880_S480x64_480_2816, k1_pay1 (mainRun_D.sl.v c arg8 harg8 xg) (mainRun_D.sl.v847 c i arg2 harg2 arg3 harg3 arg4 harg4 arg5 harg5 arg6 harg6 arg9 arg10 arg11 arg12 harg12 x0 x1 x2 x3 x4 xsc) (mainRun_D.sl.v848 c arg2 harg2 arg3 harg3 arg9 arg12 harg12 x0 x1 xsc)⟩, ⟨Rect.unit ![480, 2560] S480x256.size inb_S960x2880_S480x256_480_2560, k1_pay108 (mainRun_D.sl.v838 c arg8 harg8 xg) (mainRun_D.sl.v770 c i arg2 harg2 arg3 harg3 arg4 harg4 arg5 harg5 arg6 harg6 arg9 arg10 arg11 arg12 harg12 x0 x1 x2 x3 x4 xsc) (mainRun_D.sl.v757 c arg2 harg2 arg3 harg3 arg9 arg12 harg12 x0 x1 xsc)⟩, ⟨Rect.unit ![480, 2304] S480x256.size inb_S960x2880_S480x256_480_2304, k1_pay107 (mainRun_D.sl.v831 c arg8 harg8 xg) (mainRun_D.sl.v770 c i arg2 harg2 arg3 harg3 arg4 harg4 arg5 harg5 arg6 harg6 arg9 arg10 arg11 arg12 harg12 x0 x1 x2 x3 x4 xsc) (mainRun_D.sl.v750 c arg2 harg2 arg3 harg3 arg9 arg12 harg12 x0 x1 xsc)⟩, ⟨Rect.unit ![480, 2048] S480x256.size inb_S960x2880_S480x256_480_2048, k1_pay106 (mainRun_D.sl.v824 c arg8 harg8 xg) (mainRun_D.sl.v770 c i arg2 harg2 arg3 harg3 arg4 harg4 arg5 harg5 arg6 harg6 arg9 arg10 arg11 arg12 harg12 x0 x1 x2 x3 x4 xsc) (mainRun_D.sl.v743 c arg2 harg2 arg3 harg3 arg9 arg12 harg12 x0 x1 xsc)⟩, ⟨Rect.unit ![480, 1792] S480x256.size inb_S960x2880_S480x256_480_1792, k1_pay105 (mainRun_D.sl.r_13 c arg8 harg8 xg) (mainRun_D.sl.v770 c i arg2 harg2 arg3 harg3 arg4 harg4 arg5 harg5 arg6 harg6 arg9 arg10 arg11 arg12 harg12 x0 x1 x2 x3 x4 xsc) (mainRun_D.sl.v736 c arg2 harg2 arg3 harg3 arg9 arg12 harg12 x0 x1 xsc) mainRun_D.sl.cst_440⟩, ⟨Rect.unit ![480, 1536] S480x256.size inb_S960x2880_S480x256_480_1536, k1_pay103 (mainRun_D.sl.v810 c arg8 harg8 xg) (mainRun_D.sl.v770 c i arg2 harg2 arg3 harg3 arg4 harg4 arg5 harg5 arg6 harg6 arg9 arg10 arg11 arg12 harg12 x0 x1 x2 x3 x4 xsc) (mainRun_D.sl.v729 c arg2 harg2 arg3 harg3 arg9 arg12 harg12 x0 x1 xsc)⟩, ⟨Rect.unit ![480, 1280] S480x256.size inb_S960x2880_S480x256_480_1280, k1_pay102 (mainRun_D.sl.v803 c arg8 harg8 xg) (mainRun_D.sl.v770 c i arg2 harg2 arg3 harg3 arg4 harg4 arg5 harg5 arg6 harg6 arg9 arg10 arg11 arg12 harg12 x0 x1 x2 x3 x4 xsc) (mainRun_D.sl.v722 c arg2 harg2 arg3 harg3 arg9 arg12 harg12 x0 x1 xsc)⟩, ⟨Rect.unit ![480, 1024] S480x256.size inb_S960x2880_S480x256_480_1024, k1_pay101 (mainRun_D.sl.v796 c arg8 harg8 xg) (mainRun_D.sl.v770 c i arg2 harg2 arg3 harg3 arg4 harg4 arg5 harg5 arg6 harg6 arg9 arg10 arg11 arg12 harg12 x0 x1 x2 x3 x4 xsc) (mainRun_D.sl.v715 c arg2 harg2 arg3 harg3 arg9 arg12 harg12 x0 x1 xsc)⟩, ⟨Rect.unit ![480, 768] S480x256.size inb_S960x2880_S480x256_480_768, k1_pay100 (mainRun_D.sl.v789 c arg8 harg8 xg) (mainRun_D.sl.v770 c i arg2 harg2 arg3 harg3 arg4 harg4 arg5 harg5 arg6 harg6 arg9 arg10 arg11 arg12 harg12 x0 x1 x2 x3 x4 xsc) (mainRun_D.sl.v708 c arg2 harg2 arg3 harg3 arg9 arg12 harg12 x0 x1 xsc)⟩, ⟨Rect.unit ![480, 512] S480x256.size inb_S960x2880_S480x256_480_512, k1_pay99 (mainRun_D.sl.v782 c arg8 harg8 xg) (mainRun_D.sl.v770 c i arg2 harg2 arg3 harg3 arg4 harg4 arg5 harg5 arg6 harg6 arg9 arg10 arg11 arg12 harg12 x0 x1 x2 x3 x4 xsc) (mainRun_D.sl.v701 c arg2 harg2 arg3 harg3 arg9 arg12 harg12 x0 x1 xsc)⟩, ⟨Rect.unit ![480, 256] S480x256.size inb_S960x2880_S480x256_480_256, k1_pay98 (mainRun_D.sl.v775 c arg8 harg8 xg) (mainRun_D.sl.v770 c i arg2 harg2 arg3 harg3 arg4 harg4 arg5 harg5 arg6 harg6 arg9 arg10 arg11 arg12 harg12 x0 x1 x2 x3 x4 xsc) (mainRun_D.sl.v694 c arg2 harg2 arg3 harg3 arg9 arg12 harg12 x0 x1 xsc)⟩, ⟨Rect.unit ![480, 0] S480x256.size inb_S960x2880_S480x256_480_0, k1_pay97 (mainRun_D.sl.r_12 c arg8 harg8 xg) (mainRun_D.sl.v770 c i arg2 harg2 arg3 harg3 arg4 harg4 arg5 harg5 arg6 harg6 arg9 arg10 arg11 arg12 harg12 x0 x1 x2 x3 x4 xsc) (mainRun_D.sl.v687 c arg2 harg2 arg3 harg3 arg9 arg12 harg12 x0 x1 xsc)⟩, ⟨Rect.unit ![0, 2816] S480x64.size inb_S960x2880_S480x64_0_2816, k1_pay95 (mainRun_D.sl.v761 c arg8 harg8 xg) (mainRun_D.sl.v686 c i arg2 harg2 arg3 harg3 arg4 harg4 arg5 harg5 arg6 harg6 arg9 arg10 arg11 arg12 harg12 x0 x1 x2 x3 x4 xsc) (mainRun_D.sl.v764 c arg2 harg2 arg3 harg3 arg9 arg12 harg12 x0 x1 xsc)⟩, ⟨Rect.unit ![0, 2560] S480x256.size inb_S960x2880_S480x256_0_2560, k1_pay94 (mainRun_D.sl.v754 c arg8 harg8 xg) (mainRun_D.sl.v686 c i arg2 harg2 arg3 harg3 arg4 harg4 arg5 harg5 arg6 harg6 arg9 arg10 arg11 arg12 harg12 x0 x1 x2 x3 x4 xsc) (mainRun_D.sl.v757 c arg2 harg2 arg3 harg3 arg9 arg12 harg12 x0 x1 xsc)⟩, ⟨Rect.unit ![0, 2304] S480x256.size inb_S960x2880_S480x256_0_2304, k1_pay93 (mainRun_D.sl.v747 c arg8 harg8 xg) (mainRun_D.sl.v686 c i arg2 harg2 arg3 harg3 arg4 harg4 arg5 harg5 arg6 harg6 arg9 arg10 arg11 arg12 harg12 x0 x1 x2 x3 x4 xsc) (mainRun_D.sl.v750 c arg2 harg2 arg3 harg3 arg9 arg12 harg12 x0 x1 xsc)⟩, ⟨Rect.unit ![0, 2048] S480x256.size inb_S960x2880_S480x256_0_2048, k1_pay92 (mainRun_D.sl.v740 c arg8 harg8 xg) (mainRun_D.sl.v686 c i arg2 harg2 arg3 harg3 arg4 harg4 arg5 harg5 arg6 harg6 arg9 arg10 arg11 arg12 harg12 x0 x1 x2 x3 x4 xsc) (mainRun_D.sl.v743 c arg2 harg2 arg3 harg3 arg9 arg12 harg12 x0 x1 xsc)⟩, ⟨Rect.unit ![0, 1792] S480x256.size inb_S960x2880_S480x256_0_1792, k1_pay91 (mainRun_D.sl.v733 c arg8 harg8 xg) (mainRun_D.sl.v686 c i arg2 harg2 arg3 harg3 arg4 harg4 arg5 harg5 arg6 harg6 arg9 arg10 arg11 arg12 harg12 x0 x1 x2 x3 x4 xsc) (mainRun_D.sl.v736 c arg2 harg2 arg3 harg3 arg9 arg12 harg12 x0 x1 xsc)⟩, ⟨Rect.unit ![0, 1536] S480x256.size inb_S960x2880_S480x256_0_1536, k1_pay90 (mainRun_D.sl.v726 c arg8 harg8 xg) (mainRun_D.sl.v686 c i arg2 harg2 arg3 harg3 arg4 harg4 arg5 harg5 arg6 harg6 arg9 arg10 arg11 arg12 harg12 x0 x1 x2 x3 x4 xsc) (mainRun_D.sl.v729 c arg2 harg2 arg3 harg3 arg9 arg12 harg12 x0 x1 xsc)⟩, ⟨Rect.unit ![0, 1280] S480x256.size inb_S960x2880_S480x256_0_1280, k1_pay89 (mainRun_D.sl.r_11 c arg8 harg8 xg) (mainRun_D.sl.v686 c i arg2 harg2 arg3 harg3 arg4 harg4 arg5 harg5 arg6 harg6 arg9 arg10 arg11 arg12 harg12 x0 x1 x2 x3 x4 xsc) (mainRun_D.sl.v722 c arg2 harg2 arg3 harg3 arg9 arg12 harg12 x0 x1 xsc)⟩, ⟨Rect.unit ![0, 1024] S480x256.size inb_S960x2880_S480x256_0_1024, k1_pay87 (mainRun_D.sl.v712 c arg8 harg8 xg) (mainRun_D.sl.v686 c i arg2 harg2 arg3 harg3 arg4 harg4 arg5 harg5 arg6 harg6 arg9 arg10 arg11 arg12 harg12 x0 x1 x2 x3 x4 xsc) (mainRun_D.sl.v715 c arg2 harg2 arg3 harg3 arg9 arg12 harg12 x0 x1 xsc)⟩, ⟨Rect.unit ![0, 768] S480x256.size inb_S960x2880_S480x256_0_768, k1_pay86 (mainRun_D.sl.v705 c arg8 harg8 xg) (mainRun_D.sl.v686 c i arg2 harg2 arg3 harg3 arg4 harg4 arg5 harg5 arg6 harg6 arg9 arg10 arg11 arg12 harg12 x0 x1 x2 x3 x4 xsc) (mainRun_D.sl.v708 c arg2 harg2 arg3 harg3 arg9 arg12 harg12 x0 x1 xsc)⟩, ⟨Rect.unit ![0, 512] S480x256.size inb_S960x2880_S480x256_0_512, k1_pay85 (mainRun_D.sl.v698 c arg8 harg8 xg) (mainRun_D.sl.v686 c i arg2 harg2 arg3 harg3 arg4 harg4 arg5 harg5 arg6 harg6 arg9 arg10 arg11 arg12 harg12 x0 x1 x2 x3 x4 xsc) (mainRun_D.sl.v701 c arg2 harg2 arg3 harg3 arg9 arg12 harg12 x0 x1 xsc)⟩, ⟨Rect.unit ![0, 256] S480x256.size inb_S960x2880_S480x256_0_256, k1_pay84 (mainRun_D.sl.v691 c arg8 harg8 xg) (mainRun_D.sl.v686 c i arg2 harg2 arg3 harg3 arg4 harg4 arg5 harg5 arg6 harg6 arg9 arg10 arg11 arg12 harg12 x0 x1 x2 x3 x4 xsc) (mainRun_D.sl.v694 c arg2 harg2 arg3 harg3 arg9 arg12 harg12 x0 x1 xsc)⟩, ⟨Rect.unit ![0, 0] S480x256.size inb_S960x2880_S480x256_0_0, k1_pay83 (View.readAt (Elt F) arg8.view (Rect.unit (s := S960x2880) ![0, 0] S480x256.size inb_S960x2880_S480x256_0_0).toLoadRect (harg8.unread xg)) (mainRun_D.sl.v686 c i arg2 harg2 arg3 harg3 arg4 harg4 arg5 harg5 arg6 harg6 arg9 arg10 arg11 arg12 harg12 x0 x1 x2 x3 x4 xsc) (mainRun_D.sl.v687 c arg2 harg2 arg3 harg3 arg9 arg12 harg12 x0 x1 xsc)⟩] : List (Piece (Elt F) S960x2880 .f32)) = _
  simp only [mainRun_D.sl.r_11, mainRun_D.sl.r_12, mainRun_D.sl.r_13, mainRun_D.sl.cst_440, ldIn harg8, g_v684, g_v691, g_v698, g_v705, g_v712, g_v719, g_v726, g_v733, g_v740, g_v747, g_v754, g_v761, g_v768, g_v775, g_v782, g_v789, g_v796, g_v803, g_v810, g_v817, g_v824, g_v831, g_v838, g_v, e_v686, e_v770, e_v847, e_v687, e_v694, e_v701, e_v708, e_v715, e_v722, e_v729, e_v736, e_v743, e_v750, e_v757, e_v764, e_v848, pay84_eq, pay85_eq, pay86_eq, pay87_eq, pay89_eq, pay90_eq, pay91_eq, pay92_eq, pay93_eq, pay94_eq, pay97_eq, pay98_eq, pay99_eq, pay100_eq, pay101_eq, pay102_eq, pay103_eq, pay105_eq, pay106_eq, pay107_eq, pay108_eq, pay1_eq]
  rfl

theorem l7 (f : arg7.view.ty.Contents (Elt F)) : arg7.view.read (Elt F) (arg7.view.writes (Elt F) f (mainRun_D c i arg2 harg2 arg3 harg3 arg4 harg4 arg5 harg5 arg6 harg6 arg7 harg7 arg8 harg8 arg9 harg9 arg10 harg10 arg11 harg11 arg12 harg12 arg13 harg13 hc1 hc2 hc3 hc4 hc5 hc6 hc7 hc8 hz x0 x1 x2 x3 x4 xg xsc xA).1) = k1_pay81 (rowOf (aNew1 false (XB x0 x1) x2 x3 x4 (bOf i) xA (tOf i))) := by
  show arg7.view.read (Elt F) (arg7.view.writes (Elt F) f [⟨Rect.unit ![0, 0, 0] S1x1x1024.size inb_S1x1x1024_S1x1x1024_0_0_0, k1_pay81 (mainRun_D.sl.v672 c i arg2 harg2 arg3 harg3 arg4 harg4 arg5 harg5 arg6 harg6 arg9 arg10 arg12 harg12 arg13 harg13 hc2 hc4 hc6 hc8 x0 x1 x2 x3 x4 xsc xA)⟩]) = _
  rw [e_v672 (hc2 := hc2) (hc4 := hc4) (hc6 := hc6) (hc8 := hc8), View.read_writes_eq_canon _ _ _ (View.cover_of_tiledBy _ ![1, 1, 1024] (by sl_kernel_rfl))]
  exact View.canon_cons_unit_zero zero3 _ _ _

theorem w13' : arg13.view.read (Elt F) (mainRun_D c i arg2 harg2 arg3 harg3 arg4 harg4 arg5 harg5 arg6 harg6 arg7 harg7 arg8 harg8 arg9 harg9 arg10 harg10 arg11 harg11 arg12 harg12 arg13 harg13 hc1 hc2 hc3 hc4 hc5 hc6 hc7 hc8 hz x0 x1 x2 x3 x4 xg xsc xA).2.2.1 = setRow xA (tOf i) (rowOf (aNew1 false (XB x0 x1) x2 x3 x4 (bOf i) xA (tOf i))) := by
  have e : (mainRun_D c i arg2 harg2 arg3 harg3 arg4 harg4 arg5 harg5 arg6 harg6 arg7 harg7 arg8 harg8 arg9 harg9 arg10 harg10 arg11 harg11 arg12 harg12 arg13 harg13 hc1 hc2 hc3 hc4 hc5 hc6 hc7 hc8 hz x0 x1 x2 x3 x4 xg xsc xA).2.2.1 = arg13.view.writes (Elt F) (harg13.unread xA) (mainRun_D.sl.H13_4 c i arg2 harg2 arg3 harg3 arg4 harg4 arg5 harg5 arg6 harg6 arg9 arg10 arg12 harg12 arg13 harg13 hc2 hc4 hc6 hc8 x0 x1 x2 x3 x4 xsc xA) := by sl_kernel_rfl
  rw [e]
  exact w13 (c := c) (i := i) (arg2 := arg2) (harg2 := harg2) (arg3 := arg3) (harg3 := harg3) (arg4 := arg4) (harg4 := harg4) (arg5 := arg5) (harg5 := harg5) (arg6 := arg6) (harg6 := harg6) (arg9 := arg9) (arg10 := arg10) (arg12 := arg12) (harg12 := harg12) (arg13 := arg13) (harg13 := harg13) (hc2 := hc2) (hc4 := hc4) (hc6 := hc6) (hc8 := hc8) (x0 := x0) (x1 := x1) (x2 := x2) (x3 := x3) (x4 := x4) (xsc := xsc) (xA := xA)

theorem l8' (f : arg8.view.ty.Contents (Elt F)) : arg8.view.read (Elt F) (arg8.view.writes (Elt F) f (mainRun_D c i arg2 harg2 arg3 harg3 arg4 harg4 arg5 harg5 arg6 harg6 arg7 harg7 arg8 harg8 arg9 harg9 arg10 harg10 arg11 harg11 arg12 harg12 arg13 harg13 hc1 hc2 hc3 hc4 hc5 hc6 hc7 hc8 hz x0 x1 x2 x3 x4 xg xsc xA).2.1) = GN xg (ET (XB x0 x1) x2 x3 x4 (bOf i)) (XB x0 x1) := by
  rw [l8]; exact read_gPieces _ _ _ _ _ _

end RunD

set_option maxHeartbeats 2000000 in
/-- One grid point of the main kernel (later block of output channels, later block of tokens): from the five input blocks to the row losses, the new gradient block and
    the accumulator with this token block's row replaced. -/
theorem mainSpec_D (c : Dev nD) (i : grid1.Coords) (arg2 : Memref sig .tc .vmem S1024x2880 .fp8e4m3) (harg2 : arg2.IsWhole) (arg3 : Memref sig .tc .vmem S1024x90 .f32) (harg3 : arg3.IsWhole) (arg4 : Memref sig .tc .vmem S1024x1024 .bf16) (harg4 : arg4.IsWhole) (arg5 : Memref sig .tc .vmem S960x3072 .bf16) (harg5 : arg5.IsWhole) (arg6 : Memref sig .tc .vmem S960x1 .f32) (harg6 : arg6.IsWhole) (arg7 : Memref sig .tc .vmem S1x1x1024 .f32) (harg7 : arg7.IsWhole) (arg8 : Memref sig .tc .vmem S960x2880 .f32) (harg8 : arg8.IsWhole) (arg9 : Memref sig .tc .vmem S1024x3072 .bf16) (harg9 : arg9.IsWhole) (arg10 : Memref sig .tc .vmem S1024x1024 .bf16) (harg10 : arg10.IsWhole) (arg11 : Memref sig .tc .vmem S960x1024 .bf16) (harg11 : arg11.IsWhole) (arg12 : Memref sig .tc .vmem S1024x128 .f32) (harg12 : arg12.IsWhole) (arg13 : Memref sig .tc .vmem S15x8x1024 .f32) (harg13 : arg13.IsWhole) (hc1 : ¬k1_cond1 i = 1#1) (hc2 : k1_cond2 i = 1#1) (hc3 : ¬k1_cond3 i = 1#1) (hc4 : k1_cond4 i = 1#1) (hc5 : ¬k1_cond5 i = 1#1) (hc6 : k1_cond6 i = 1#1) (hc7 : ¬k1_cond7 i = 1#1) (hc8 : k1_cond8 i = 1#1) (hz : ¬(Scalar.cmpi .ne (Scalar.extui (Scalar.cmpi .eq (BitVec.ofNat 32 (i 1).val) 0#32)) 0#32) = 1#1) (x0 : Vec F S1024x2880 .fp8e4m3) (x1 : Vec F S1024x90 .f32) (x2 : Vec F S1024x1024 .bf16) (x3 : Vec F S960x3072 .bf16) (x4 : Vec F S960x1 .f32) (xg : Vec F S960x2880 .f32) (xA : Vec F S15x8x1024 .f32) (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare xg ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare xA
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k1_pay81 (rowOf (aNew1 false (XB x0 x1) x2 x3 x4 (bOf i) xA (tOf i)))) ∗ owns (c : Thread nD τ) arg8 fullShare (GN xg (ET (XB x0 x1) x2 x3 x4 (bOf i)) (XB x0 x1)) ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ owns (c : Thread nD τ) arg13 fullShare (setRow xA (tOf i) (rowOf (aNew1 false (XB x0 x1) x2 x3 x4 (bOf i) xA (tOf i))))) -∗ K ⟨⟩))
      ⊢ wp frame (wpE (defs₀ (F := F)) Variants.none c none) E (cc1_main i arg2 harg2 arg3 harg3 arg4 harg4 arg5 harg5 arg6 harg6 arg7 harg7 arg8 harg8 arg9 harg9 arg10 harg10 arg11 harg11 arg12 harg12 arg13 harg13) K := by
  iintro ⟨H2, H3, H4, H5, H6, H7, H8, H9, H10, H11, ⟨%xsc, H12⟩, H13, HK⟩
  iapply (mainRun_D c i arg2 harg2 arg3 harg3 arg4 harg4 arg5 harg5 arg6 harg6 arg7 harg7 arg8 harg8 arg9 harg9 arg10 harg10 arg11 harg11 arg12 harg12 arg13 harg13 hc1 hc2 hc3 hc4 hc5 hc6 hc7 hc8 hz x0 x1 x2 x3 x4 xg xsc xA).2.2.2 E K
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  iintro ⟨H2, H3, H4, H5, H6, ⟨%f7, H7⟩, ⟨%f8, H8⟩, H9, H10, H11, H12, H13⟩
  iapply HK
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact RunD.l7 f7
  isplitl [H8]
  · unfold owns; iexists _; isplitr
    swap; · iexact H8
    ipureintro; exact RunD.l8' f8
  isplitl [H9]; · iexact H9
  isplitl [H10]; · iexact H10
  isplitl [H11]; · iexact H11
  isplitl [H12]; · iexact H12
  unfold owns; iexists _; isplitr
  swap; · iexact H13
  ipureintro; exact RunD.w13'

end Cert.KernelIdeal.Gen
-- ==== Proof.K.Reg1.lean ====
module

public import proofs.«01_k».proof.Proof.K.MainVA
public import proofs.«01_k».proof.Proof.K.MainVB
public import proofs.«01_k».proof.Proof.K.MainVC
public import proofs.«01_k».proof.Proof.K.MainVD
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Value
public import Idealize.ShloMosaic.Lib.Pipeline.ReadBack
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open View (canon Piece PiecesOf)

variable {F : FTy → Type} [FloatOps F] [Named F]

local notation "𝕄" => MT nD τ sig Unit (Elt F) ℕ (UR sig nD τ) ℕ

theorem hcond1_1 : ∀ i : grid1.Coords, k1_cond1 i = 1#1 ↔ (i 0).val = 0 := by decide +kernel
theorem hcond1_3 : ∀ i : grid1.Coords, k1_cond3 i = 1#1 ↔ (i 0).val = 0 := by decide +kernel
theorem hcond1_5 : ∀ i : grid1.Coords, k1_cond5 i = 1#1 ↔ (i 0).val = 0 := by decide +kernel
theorem hcond1_7 : ∀ i : grid1.Coords, k1_cond7 i = 1#1 ↔ (i 0).val = 0 := by decide +kernel
theorem hcond1_2 : ∀ i : grid1.Coords, k1_cond2 i = 1#1 ↔ ¬(i 0).val = 0 := by decide +kernel
theorem hcond1_4 : ∀ i : grid1.Coords, k1_cond4 i = 1#1 ↔ ¬(i 0).val = 0 := by decide +kernel
theorem hcond1_6 : ∀ i : grid1.Coords, k1_cond6 i = 1#1 ↔ ¬(i 0).val = 0 := by decide +kernel
theorem hcond1_8 : ∀ i : grid1.Coords, k1_cond8 i = 1#1 ↔ ¬(i 0).val = 0 := by decide +kernel
theorem hcond1_z : ∀ i : grid1.Coords, (Scalar.cmpi .ne (Scalar.extui (Scalar.cmpi .eq (BitVec.ofNat 32 (i 1).val) 0#32)) 0#32) = 1#1 ↔ (i 1).val = 0 := by decide +kernel

variable (W : Valuation τ sig (Elt F))

/-- Window `w`'s block at point `t`, read off its array as the region finds it. -/
def iblk1 (w : Fin cfg1.W) (t : Fin cfg1.N) : ((cfg1.win w).xblock (cfg1.grid.coords t)).Idx → Elt F (cfg1.win w).elt :=
  ((cfg1.win w).blk t).view.read (Elt F) (W (Proc.devRef .tc (Pipeline.arrRef spec1 w)))

/-- Point `k` of this region, the count wrapped at its end. -/
def pt1 (k : ℕ) : Fin cfg1.N := ⟨k % 135, lt_of_lt_of_eq (Nat.mod_lt _ (by decide)) (show 135 = cfg1.N from N_1.symm)⟩
theorem pt1_val (t : Fin cfg1.N) : pt1 t.val = t :=
  Fin.ext (Nat.mod_eq_of_lt (lt_of_lt_of_eq t.isLt (show cfg1.N = 135 from N_1)))
theorem coords1_0 (t : Fin cfg1.N) : (grid1.coords t 0).val = t.val / 15 % 9 := Pipeline.Grid.coords_val t 0 (by decide) rfl
theorem coords1_1 (t : Fin cfg1.N) : (grid1.coords t 1).val = t.val / 1 % 15 := Pipeline.Grid.coords_val t 1 (by decide) rfl

/-- The dequantised activations of point `t`. -/
def xAt (t : Fin cfg1.N) : Vec F S1024x3072 .bf16 := XB (iblk1 W 0 t) (iblk1 W 1 t)
/-- The row of partial losses point `t` leaves, over the accumulator `A`. -/
def rowAt (t : Fin cfg1.N) (A : Vec F S15x8x1024 .f32) : Vec F S1x8x1024 .f32 :=
  rowOf (aNew1 (decide (t.val < 15)) (xAt W t) (iblk1 W 2 t) (iblk1 W 3 t) (iblk1 W 4 t) (bOf (grid1.coords t)) A (tOf (grid1.coords t)))
/-- The accumulator of row losses after `k` points (rows not yet reached hold nothing of meaning). -/
def accAt : ℕ → Vec F S15x8x1024 .f32
  | 0 => fun _ => k1_pay82 (ix2 0 0)
  | k + 1 => setRow (accAt k) (tOf (grid1.coords (pt1 k))) (rowAt W (pt1 k) (accAt k))
/-- The scaled, rounded residual of point `t`. -/
def eAt (t : Fin cfg1.N) : Vec F S960x1024 .bf16 := ET (xAt W t) (iblk1 W 2 t) (iblk1 W 3 t) (iblk1 W 4 t) (bOf (grid1.coords t))
/-- The weight gradient's block after `k` points. -/
def gAt : ℕ → Vec F S960x2880 .f32
  | 0 => k1_pay82
  | k + 1 => GN (if k % 15 = 0 then k1_pay82 else gAt k) (eAt W (pt1 k)) (xAt W (pt1 k))

/-- An accumulator that is right on the rows already reached. -/
def Good (k : ℕ) (A : Vec F S15x8x1024 .f32) : Prop := ∀ i : S15x8x1024.Idx, (i 0).val < k → A i = accAt W k i

/-- The body's scratch memory between points: the accumulator right where it was reached, the rest at anything. -/
def Phi1 (c : Dev nD) (k : ℕ) : sProp 𝕄 :=
  iprop((∃ d, owns (c : Thread nD τ) (Memref.whole cc1_scratch0) fullShare d) ∗ (∃ d, owns (c : Thread nD τ) (Memref.whole cc1_scratch1) fullShare d) ∗ (∃ d, owns (c : Thread nD τ) (Memref.whole cc1_scratch2) fullShare d) ∗ (∃ d, owns (c : Thread nD τ) (Memref.whole cc1_scratch3) fullShare d) ∗ (∃ A, ⌜Good W k A⌝ ∗ owns (c : Thread nD τ) (Memref.whole cc1_scratch4) fullShare A)
    ∗ Pipeline.scopedRestBut (Ix := Unit) (Name := ℕ) (U := UR sig nD τ) (Lvl := ℕ) (Val := Elt F) spec1 c [cc1_scratch0, cc1_scratch1, cc1_scratch2, cc1_scratch3, cc1_scratch4])

theorem rowAt_good (t : Fin cfg1.N) (A : Vec F S15x8x1024 .f32) (h : Good W t.val A) : rowAt W t A = rowAt W t (accAt W t.val) := by
  by_cases ht : t.val < 15
  · unfold rowAt
    have e : ∀ B, aNew1 (decide (t.val < 15)) (xAt W t) (iblk1 W 2 t) (iblk1 W 3 t) (iblk1 W 4 t) (bOf (grid1.coords t)) B (tOf (grid1.coords t))
        = fun n => newF (row1 (xAt W t) (iblk1 W 2 t) (iblk1 W 3 t) (iblk1 W 4 t) (bOf (grid1.coords t)) n) := fun B => by
      funext n; unfold aNew1; rw [decide_eq_true ht]; rfl
    rw [e A, e]
  · have : A = accAt W t.val := funext fun i => h i (by have h : (i 0).val < 15 := (i 0).isLt; omega)
    rw [this]

theorem good_step (t : Fin cfg1.N) (A : Vec F S15x8x1024 .f32) (h : Good W t.val A) :
    Good W (t.val + 1) (setRow A (tOf (grid1.coords t)) (rowAt W t A)) := by
  intro i hi
  have hN : t.val < 135 := lt_of_lt_of_eq t.isLt (show cfg1.N = 135 from N_1)
  show _ = setRow (accAt W t.val) (tOf (grid1.coords (pt1 t.val))) (rowAt W (pt1 t.val) (accAt W t.val)) i
  rw [pt1_val, rowAt_good W t A h]
  unfold setRow
  by_cases hr : (i 0).val = (tOf (grid1.coords t)).val
  · rw [if_pos hr, if_pos hr]
  · rw [if_neg hr, if_neg hr]
    refine h i ?_
    have e : (tOf (grid1.coords t)).val = t.val / 1 % 15 := coords1_1 t
    have h15 : (i 0).val < 15 := (i 0).isLt
    rw [e] at hr
    omega

/-- The proof data of this region on core `c`, entered at the contents `W`. -/
def dat1 (c : Dev nD) : Dat τ (Elt F) Unit ℕ (UR sig nD τ) ℕ cfg1 c where
  A w := W (Proc.devRef .tc (Pipeline.arrRef spec1 w))
  after w t := match w with
    | ⟨0, _⟩ => iblk1 W 0 t
    | ⟨1, _⟩ => iblk1 W 1 t
    | ⟨2, _⟩ => iblk1 W 2 t
    | ⟨3, _⟩ => iblk1 W 3 t
    | ⟨4, _⟩ => iblk1 W 4 t
    | ⟨5, _⟩ => k1_pay81 (rowAt W t (accAt W t.val))
    | ⟨6, _⟩ => gAt W (t.val + 1)
  Φ t := Phi1 W c t.val
  q _ := fullShare
  owed _ := 0

theorem dat1_A (c : Dev nD) (w : Fin cfg1.W) : (dat1 W c).A w = W (Proc.devRef .tc (Pipeline.arrRef spec1 w)) := by
  dsimp only [dat1]
theorem after1_0 (c : Dev nD) (t : Fin cfg1.N) : (dat1 W c).after 0 t = iblk1 W 0 t := by dsimp only [dat1]
theorem after1_1 (c : Dev nD) (t : Fin cfg1.N) : (dat1 W c).after 1 t = iblk1 W 1 t := by dsimp only [dat1]
theorem after1_2 (c : Dev nD) (t : Fin cfg1.N) : (dat1 W c).after 2 t = iblk1 W 2 t := by dsimp only [dat1]
theorem after1_3 (c : Dev nD) (t : Fin cfg1.N) : (dat1 W c).after 3 t = iblk1 W 3 t := by dsimp only [dat1]
theorem after1_4 (c : Dev nD) (t : Fin cfg1.N) : (dat1 W c).after 4 t = iblk1 W 4 t := by dsimp only [dat1]
theorem after1_5 (c : Dev nD) (t : Fin cfg1.N) : (dat1 W c).after 5 t = k1_pay81 (rowAt W t (accAt W t.val)) := by dsimp only [dat1]
theorem after1_6 (c : Dev nD) (t : Fin cfg1.N) : (dat1 W c).after 6 t = gAt W (t.val + 1) := by dsimp only [dat1]
theorem before1_0 (c : Dev nD) (t : Fin cfg1.N) (d) : (dat1 W c).before 0 t d = iblk1 W 0 t :=
  ((dat1 W c).before_in_eq_fetched 0 rfl (fun _ => rfl) (fun _ _ _ => rfl) (fun t => by rw [after1_0]; unfold Dat.blockOf iblk1; rw [dat1_A]; try rfl) t d).trans
    (by unfold Dat.fetched Dat.blockOf iblk1; rw [dat1_A]; try rfl)
theorem before1_1 (c : Dev nD) (t : Fin cfg1.N) (d) : (dat1 W c).before 1 t d = iblk1 W 1 t :=
  ((dat1 W c).before_in_eq_fetched 1 rfl (fun _ => rfl) (fun _ _ _ => rfl) (fun t => by rw [after1_1]; unfold Dat.blockOf iblk1; rw [dat1_A]; try rfl) t d).trans
    (by unfold Dat.fetched Dat.blockOf iblk1; rw [dat1_A]; try rfl)
theorem before1_2 (c : Dev nD) (t : Fin cfg1.N) (d) : (dat1 W c).before 2 t d = iblk1 W 2 t :=
  ((dat1 W c).before_in_eq_fetched 2 rfl (fun _ => rfl) (fun _ _ _ => rfl) (fun t => by rw [after1_2]; unfold Dat.blockOf iblk1; rw [dat1_A]; try rfl) t d).trans
    (by unfold Dat.fetched Dat.blockOf iblk1; rw [dat1_A]; try rfl)
theorem before1_3 (c : Dev nD) (t : Fin cfg1.N) (d) : (dat1 W c).before 3 t d = iblk1 W 3 t :=
  ((dat1 W c).before_in_eq_fetched 3 rfl (fun _ => rfl) (fun _ _ _ => rfl) (fun t => by rw [after1_3]; unfold Dat.blockOf iblk1; rw [dat1_A]; try rfl) t d).trans
    (by unfold Dat.fetched Dat.blockOf iblk1; rw [dat1_A]; try rfl)
theorem before1_4 (c : Dev nD) (t : Fin cfg1.N) (d) : (dat1 W c).before 4 t d = iblk1 W 4 t :=
  ((dat1 W c).before_in_eq_fetched 4 rfl (fun _ => rfl) (fun _ _ _ => rfl) (fun t => by rw [after1_4]; unfold Dat.blockOf iblk1; rw [dat1_A]; try rfl) t d).trans
    (by unfold Dat.fetched Dat.blockOf iblk1; rw [dat1_A]; try rfl)
abbrev ms1_0 (t : Fin cfg1.N) := win1_0.stage (cfg1.slots t 0)
abbrev ms1_1 (t : Fin cfg1.N) := win1_1.stage (cfg1.slots t 1)
abbrev ms1_2 (t : Fin cfg1.N) := win1_2.stage (cfg1.slots t 2)
abbrev ms1_3 (t : Fin cfg1.N) := win1_3.stage (cfg1.slots t 3)
abbrev ms1_4 (t : Fin cfg1.N) := win1_4.stage (cfg1.slots t 4)
abbrev ms1_5 (t : Fin cfg1.N) := win1_5.stage (cfg1.slots t 5)
abbrev ms1_6 (t : Fin cfg1.N) := win1_6.stage (cfg1.slots t 6)

/-- What the body is called with at point `t`, the windows one by one. -/
def bodyPre1 (c : Dev nD) (t : Fin cfg1.N) : sProp 𝕄 :=
  iprop((dat1 W c).Φ t.castSucc ∗ (dat1 W c).owesAt () t.castSucc ∗ (∃ d, owns (c : Thread nD τ) (ms1_0 t) fullShare ((dat1 W c).before 0 t d)) ∗ (∃ d, owns (c : Thread nD τ) (ms1_1 t) fullShare ((dat1 W c).before 1 t d)) ∗ (∃ d, owns (c : Thread nD τ) (ms1_2 t) fullShare ((dat1 W c).before 2 t d)) ∗ (∃ d, owns (c : Thread nD τ) (ms1_3 t) fullShare ((dat1 W c).before 3 t d)) ∗ (∃ d, owns (c : Thread nD τ) (ms1_4 t) fullShare ((dat1 W c).before 4 t d)) ∗ (∃ d, owns (c : Thread nD τ) (ms1_5 t) fullShare ((dat1 W c).before 5 t d)) ∗ (∃ d, owns (c : Thread nD τ) (ms1_6 t) fullShare ((dat1 W c).before 6 t d)))

/-- What it returns. -/
def bodyPost1 (c : Dev nD) (t : Fin cfg1.N) : sProp 𝕄 :=
  iprop((dat1 W c).Φ t.succ ∗ (dat1 W c).owesAt () t.succ ∗ owns (c : Thread nD τ) (ms1_0 t) fullShare ((dat1 W c).after 0 t) ∗ owns (c : Thread nD τ) (ms1_1 t) fullShare ((dat1 W c).after 1 t) ∗ owns (c : Thread nD τ) (ms1_2 t) fullShare ((dat1 W c).after 2 t) ∗ owns (c : Thread nD τ) (ms1_3 t) fullShare ((dat1 W c).after 3 t) ∗ owns (c : Thread nD τ) (ms1_4 t) fullShare ((dat1 W c).after 4 t) ∗ owns (c : Thread nD τ) (ms1_5 t) fullShare ((dat1 W c).after 5 t) ∗ owns (c : Thread nD τ) (ms1_6 t) fullShare ((dat1 W c).after 6 t))

/-- Between two points of one block of output channels the gradient's buffer keeps what the point before left. -/
theorem before1_6 (c : Dev nD) (t : Fin cfg1.N) (h0 : ¬t.val % 15 = 0) (d) : (dat1 W c).before 6 t d = gAt W t.val := by
  have hN : t.val < 135 := lt_of_lt_of_eq t.isLt (show cfg1.N = 135 from N_1)
  rw [Dat.before_out_kept _ 6 rfl t (by omega) (Bool.eq_false_iff.mpr fun h => by have := (flush1_6 _).mp h; dsimp only at this; omega)
    (fun _ => rfl) (fun _ _ => rfl)]
  dsimp only [dat1]
  rw [show t.val - 1 + 1 = t.val from by omega]

theorem sound_body1 (c : Dev nD) (t : Fin cfg1.N) :
    bodyPre1 W c t ⊢ wp frame (wpE (defs₀ (F := F)) Variants.none c none) Set.univ (bodyAt1 t) (fun _ => bodyPost1 W c t) := by
  have hN : t.val < 135 := lt_of_lt_of_eq t.isLt (show cfg1.N = 135 from N_1)
  unfold bodyPre1 bodyPost1 bodyAt1
  simp only [before1_0, before1_1, before1_2, before1_3, before1_4]
  rw [show (dat1 W c).Φ t.succ = Phi1 W c (t.val + 1) from rfl, show (dat1 W c).Φ t.castSucc = Phi1 W c t.val from rfl,
    show (dat1 W c).owesAt () t.succ = (dat1 W c).owesAt () t.castSucc from rfl,
    after1_0, after1_1, after1_2, after1_3, after1_4, after1_5, after1_6]
  by_cases ho : t.val < 15
  · have hi0 : (grid1.coords t 0).val = 0 := by rw [coords1_0]; omega
    have hc1 : k1_cond1 (grid1.coords t) = 1#1 := (hcond1_1 _).mpr hi0
    have hc2 : ¬k1_cond2 (grid1.coords t) = 1#1 := fun h => (hcond1_2 _).mp h hi0
    have hc3 : k1_cond3 (grid1.coords t) = 1#1 := (hcond1_3 _).mpr hi0
    have hc4 : ¬k1_cond4 (grid1.coords t) = 1#1 := fun h => (hcond1_4 _).mp h hi0
    have hc5 : k1_cond5 (grid1.coords t) = 1#1 := (hcond1_5 _).mpr hi0
    have hc6 : ¬k1_cond6 (grid1.coords t) = 1#1 := fun h => (hcond1_6 _).mp h hi0
    have hc7 : k1_cond7 (grid1.coords t) = 1#1 := (hcond1_7 _).mpr hi0
    have hc8 : ¬k1_cond8 (grid1.coords t) = 1#1 := fun h => (hcond1_8 _).mp h hi0
    by_cases h0 : t.val % 15 = 0
    · have hz : (Scalar.cmpi .ne (Scalar.extui (Scalar.cmpi .eq (BitVec.ofNat 32 (grid1.coords t 1).val) 0#32)) 0#32) = 1#1 := (hcond1_z _).mpr (by rw [coords1_1]; omega)
      have hb : decide (t.val < 15) = true := decide_eq_true ho
      have hG : gAt W (t.val + 1) = GN k1_pay82 (eAt W t) (xAt W t) := by
        show GN (if t.val % 15 = 0 then _ else _) _ _ = _; rw [if_pos h0, pt1_val]
      iintro ⟨HΦ, Ho, ⟨%d0, H0⟩, ⟨%d1, H1⟩, ⟨%d2, H2⟩, ⟨%d3, H3⟩, ⟨%d4, H4⟩, ⟨%d5, H5⟩, ⟨%d6, H6⟩⟩
      unfold Phi1
      icases HΦ with ⟨S0, S1, S2, S3, ⟨%A, %hA, S4⟩, HB⟩
      iapply (mainSpec_A c (grid1.coords t) _ _ _ _ _ _ _ _ _ _ _ _ _ _ _ _ _ _ _ _ _ _ _ _ hc1 hc2 hc3 hc4 hc5 hc6 hc7 hc8 hz (iblk1 W 0 t) (iblk1 W 1 t) (iblk1 W 2 t) (iblk1 W 3 t) (iblk1 W 4 t) A Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [S0]; · iexact S0
      isplitl [S1]; · iexact S1
      isplitl [S2]; · iexact S2
      isplitl [S3]; · iexact S3
      isplitl [S4]; · iexact S4
      iintro ⟨H0, H1, H2, H3, H4, H5, H6, S0, S1, S2, S3, S4⟩
      have hrow : rowOf (aNew1 true (XB (iblk1 W 0 t) (iblk1 W 1 t)) (iblk1 W 2 t) (iblk1 W 3 t) (iblk1 W 4 t) (bOf (grid1.coords t)) A (tOf (grid1.coords t))) = rowAt W t A := by
        unfold rowAt; rw [hb]; rfl
      rw [hrow, rowAt_good W t A hA, hG]
      isplitl [S0 S1 S2 S3 S4 HB]
      · isplitl [S0]; · iexact S0
        isplitl [S1]; · iexact S1
        isplitl [S2]; · iexact S2
        isplitl [S3]; · iexact S3
        isplitl [S4]
        · iexists _; isplitr; swap; · iexact S4
          ipureintro; rw [← rowAt_good W t A hA]; exact good_step W t A hA
        iexact HB
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hz : ¬((Scalar.cmpi .ne (Scalar.extui (Scalar.cmpi .eq (BitVec.ofNat 32 (grid1.coords t 1).val) 0#32)) 0#32) = 1#1) := fun h => h0 (by have := (hcond1_z _).mp h; rw [coords1_1] at this; omega)
      simp only [before1_6 W c t h0]
      have hb : decide (t.val < 15) = true := decide_eq_true ho
      have hG : gAt W (t.val + 1) = GN (gAt W t.val) (eAt W t) (xAt W t) := by
        show GN (if t.val % 15 = 0 then _ else _) _ _ = _; rw [if_neg h0, pt1_val]
      iintro ⟨HΦ, Ho, ⟨%d0, H0⟩, ⟨%d1, H1⟩, ⟨%d2, H2⟩, ⟨%d3, H3⟩, ⟨%d4, H4⟩, ⟨%d5, H5⟩, ⟨%d6, H6⟩⟩
      unfold Phi1
      icases HΦ with ⟨S0, S1, S2, S3, ⟨%A, %hA, S4⟩, HB⟩
      iapply (mainSpec_B c (grid1.coords t) _ _ _ _ _ _ _ _ _ _ _ _ _ _ _ _ _ _ _ _ _ _ _ _ hc1 hc2 hc3 hc4 hc5 hc6 hc7 hc8 hz (iblk1 W 0 t) (iblk1 W 1 t) (iblk1 W 2 t) (iblk1 W 3 t) (iblk1 W 4 t) (gAt W t.val) A Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [S0]; · iexact S0
      isplitl [S1]; · iexact S1
      isplitl [S2]; · iexact S2
      isplitl [S3]; · iexact S3
      isplitl [S4]; · iexact S4
      iintro ⟨H0, H1, H2, H3, H4, H5, H6, S0, S1, S2, S3, S4⟩
      have hrow : rowOf (aNew1 true (XB (iblk1 W 0 t) (iblk1 W 1 t)) (iblk1 W 2 t) (iblk1 W 3 t) (iblk1 W 4 t) (bOf (grid1.coords t)) A (tOf (grid1.coords t))) = rowAt W t A := by
        unfold rowAt; rw [hb]; rfl
      rw [hrow, rowAt_good W t A hA, hG]
      isplitl [S0 S1 S2 S3 S4 HB]
      · isplitl [S0]; · iexact S0
        isplitl [S1]; · iexact S1
        isplitl [S2]; · iexact S2
        isplitl [S3]; · iexact S3
        isplitl [S4]
        · iexists _; isplitr; swap; · iexact S4
          ipureintro; rw [← rowAt_good W t A hA]; exact good_step W t A hA
        iexact HB
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
  · have hi0 : ¬(grid1.coords t 0).val = 0 := by rw [coords1_0]; omega
    have hc1 : ¬k1_cond1 (grid1.coords t) = 1#1 := fun h => hi0 ((hcond1_1 _).mp h)
    have hc2 : k1_cond2 (grid1.coords t) = 1#1 := (hcond1_2 _).mpr hi0
    have hc3 : ¬k1_cond3 (grid1.coords t) = 1#1 := fun h => hi0 ((hcond1_3 _).mp h)
    have hc4 : k1_cond4 (grid1.coords t) = 1#1 := (hcond1_4 _).mpr hi0
    have hc5 : ¬k1_cond5 (grid1.coords t) = 1#1 := fun h => hi0 ((hcond1_5 _).mp h)
    have hc6 : k1_cond6 (grid1.coords t) = 1#1 := (hcond1_6 _).mpr hi0
    have hc7 : ¬k1_cond7 (grid1.coords t) = 1#1 := fun h => hi0 ((hcond1_7 _).mp h)
    have hc8 : k1_cond8 (grid1.coords t) = 1#1 := (hcond1_8 _).mpr hi0
    by_cases h0 : t.val % 15 = 0
    · have hz : (Scalar.cmpi .ne (Scalar.extui (Scalar.cmpi .eq (BitVec.ofNat 32 (grid1.coords t 1).val) 0#32)) 0#32) = 1#1 := (hcond1_z _).mpr (by rw [coords1_1]; omega)
      have hb : decide (t.val < 15) = false := decide_eq_false ho
      have hG : gAt W (t.val + 1) = GN k1_pay82 (eAt W t) (xAt W t) := by
        show GN (if t.val % 15 = 0 then _ else _) _ _ = _; rw [if_pos h0, pt1_val]
      iintro ⟨HΦ, Ho, ⟨%d0, H0⟩, ⟨%d1, H1⟩, ⟨%d2, H2⟩, ⟨%d3, H3⟩, ⟨%d4, H4⟩, ⟨%d5, H5⟩, ⟨%d6, H6⟩⟩
      unfold Phi1
      icases HΦ with ⟨S0, S1, S2, S3, ⟨%A, %hA, S4⟩, HB⟩
      iapply (mainSpec_C c (grid1.coords t) _ _ _ _ _ _ _ _ _ _ _ _ _ _ _ _ _ _ _ _ _ _ _ _ hc1 hc2 hc3 hc4 hc5 hc6 hc7 hc8 hz (iblk1 W 0 t) (iblk1 W 1 t) (iblk1 W 2 t) (iblk1 W 3 t) (iblk1 W 4 t) A Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexists _; iexact H6
      isplitl [S0]; · iexact S0
      isplitl [S1]; · iexact S1
      isplitl [S2]; · iexact S2
      isplitl [S3]; · iexact S3
      isplitl [S4]; · iexact S4
      iintro ⟨H0, H1, H2, H3, H4, H5, H6, S0, S1, S2, S3, S4⟩
      have hrow : rowOf (aNew1 false (XB (iblk1 W 0 t) (iblk1 W 1 t)) (iblk1 W 2 t) (iblk1 W 3 t) (iblk1 W 4 t) (bOf (grid1.coords t)) A (tOf (grid1.coords t))) = rowAt W t A := by
        unfold rowAt; rw [hb]; rfl
      rw [hrow, rowAt_good W t A hA, hG]
      isplitl [S0 S1 S2 S3 S4 HB]
      · isplitl [S0]; · iexact S0
        isplitl [S1]; · iexact S1
        isplitl [S2]; · iexact S2
        isplitl [S3]; · iexact S3
        isplitl [S4]
        · iexists _; isplitr; swap; · iexact S4
          ipureintro; rw [← rowAt_good W t A hA]; exact good_step W t A hA
        iexact HB
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6
    · have hz : ¬((Scalar.cmpi .ne (Scalar.extui (Scalar.cmpi .eq (BitVec.ofNat 32 (grid1.coords t 1).val) 0#32)) 0#32) = 1#1) := fun h => h0 (by have := (hcond1_z _).mp h; rw [coords1_1] at this; omega)
      simp only [before1_6 W c t h0]
      have hb : decide (t.val < 15) = false := decide_eq_false ho
      have hG : gAt W (t.val + 1) = GN (gAt W t.val) (eAt W t) (xAt W t) := by
        show GN (if t.val % 15 = 0 then _ else _) _ _ = _; rw [if_neg h0, pt1_val]
      iintro ⟨HΦ, Ho, ⟨%d0, H0⟩, ⟨%d1, H1⟩, ⟨%d2, H2⟩, ⟨%d3, H3⟩, ⟨%d4, H4⟩, ⟨%d5, H5⟩, ⟨%d6, H6⟩⟩
      unfold Phi1
      icases HΦ with ⟨S0, S1, S2, S3, ⟨%A, %hA, S4⟩, HB⟩
      iapply (mainSpec_D c (grid1.coords t) _ _ _ _ _ _ _ _ _ _ _ _ _ _ _ _ _ _ _ _ _ _ _ _ hc1 hc2 hc3 hc4 hc5 hc6 hc7 hc8 hz (iblk1 W 0 t) (iblk1 W 1 t) (iblk1 W 2 t) (iblk1 W 3 t) (iblk1 W 4 t) (gAt W t.val) A Set.univ _)
      isplitl [H0]; · iexact H0
      isplitl [H1]; · iexact H1
      isplitl [H2]; · iexact H2
      isplitl [H3]; · iexact H3
      isplitl [H4]; · iexact H4
      isplitl [H5]; · iexists _; iexact H5
      isplitl [H6]; · iexact H6
      isplitl [S0]; · iexact S0
      isplitl [S1]; · iexact S1
      isplitl [S2]; · iexact S2
      isplitl [S3]; · iexact S3
      isplitl [S4]; · iexact S4
      iintro ⟨H0, H1, H2, H3, H4, H5, H6, S0, S1, S2, S3, S4⟩
      have hrow : rowOf (aNew1 false (XB (iblk1 W 0 t) (iblk1 W 1 t)) (iblk1 W 2 t) (iblk1 W 3 t) (iblk1 W 4 t) (bOf (grid1.coords t)) A (tOf (grid1.coords t))) = rowAt W t A := by
        unfold rowAt; rw [hb]; rfl
      rw [hrow, rowAt_good W t A hA, hG]
      isplitl [S0 S1 S2 S3 S4 HB]
      · isplitl [S0]; · iexact S0
        isplitl [S1]; · iexact S1
        isplitl [S2]; · iexact S2
        isplitl [S3]; · iexact S3
        isplitl [S4]
        · iexists _; isplitr; swap; · iexact S4
          ipureintro; rw [← rowAt_good W t A hA]; exact good_step W t A hA
        iexact HB
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The body table's row at point `t`. -/
theorem defs1_row (t : Fin cfg1.N) :
    defs₀ (F := F) .tc cfg1.body (cfg1.bodyArgs t (cfg1.slots t)) = bodyAt1 t := by
  unfold defs₀; rw [Defs.onTc_tc]

/-- The body obligation of this region, at every point. -/
theorem body_obligation1 (c : Dev nD) : BodyObligation (dat1 W c) (defs₀ (F := F)) Variants.none () Set.univ := fun t => by
  rw [bigSep_W1, bigSep_W1, defs1_row]
  exact triple_restated (sound_body1 W c t) rfl .rfl fun _ => .rfl

end Cert.KernelIdeal.Gen
-- ==== Proof.K.Epi.lean ====
module

public import proofs.«01_k».proof.Proof.K.Quant
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Value
public import Idealize.ShloMosaic.Lib.Pipeline.ReadBack
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open View (canon Piece PiecesOf)

variable {F : FTy → Type} [FloatOps F] [Named F]

local notation "𝕄" => MT nD τ sig Unit (Elt F) ℕ (UR sig nD τ) ℕ

/-- The condition of the body's first branch: the first block. -/
abbrev cond2_0 (i : grid2.Coords) : Prop := (Scalar.cmpi .ne (Scalar.extui (Scalar.cmpi .eq (BitVec.ofNat 32 (i 0).val) 0#32)) 0#32) = 1#1
theorem hcond2_0 : ∀ i : grid2.Coords, cond2_0 i ↔ (i 0).val = 0 := by decide +kernel
/-- The condition of the body's second branch: the last block. -/
abbrev cond2_1 (i : grid2.Coords) : Prop := (Scalar.cmpi .ne (Scalar.extui (Scalar.cmpi .eq (BitVec.ofNat 32 (i 0).val) 89#32)) 0#32) = 1#1
theorem hcond2_1 : ∀ i : grid2.Coords, cond2_1 i ↔ (i 0).val = 89 := by decide +kernel

/-- After the last block: row 0 is the sum of the eight rows, the others stay. -/
def foldRows (N : Vec F S8x2880 .f32) : Vec F S8x2880 .f32 :=
  canon ([⟨Rect.unit (s := S8x2880) ![0, 0] S1x2880.size inb_S8x2880_S1x2880_0_0, k2_pay5 N⟩,
    ⟨Rect.unit (s := S8x2880) ![0, 0] S8x2880.size inb_S8x2880_S8x2880_0_0, N⟩] : List (Piece (Elt F) S8x2880 .f32))

set_option maxHeartbeats 1000000 in
/-- The epilogue on one block of rows (the first). -/
theorem epiSpec_A (c : Dev nD) (i : grid2.Coords) (arg1 : Memref sig .tc .vmem S96x2880 .f32) (harg1 : arg1.IsWhole) (arg2 : Memref sig .tc .vmem S96x2880 .f32) (harg2 : arg2.IsWhole) (arg3 : Memref sig .tc .vmem S96x1 .f32) (harg3 : arg3.IsWhole) (arg4 : Memref sig .tc .vmem S96x2880 .f32) (harg4 : arg4.IsWhole) (arg5 : Memref sig .tc .vmem S96x1 .f32) (harg5 : arg5.IsWhole) (arg6 : Memref sig .tc .vmem S1x2880 .f32) (harg6 : arg6.IsWhole) (arg7 : Memref sig .tc .vmem S96x2880 .f32) (harg7 : arg7.IsWhole) (arg8 : Memref sig .tc .vmem S96x1 .f32) (harg8 : arg8.IsWhole) (arg9 : Memref sig .tc .vmem S96x1 .f32) (harg9 : arg9.IsWhole) (arg10 : Memref sig .tc .vmem S8x2880 .f32) (harg10 : arg10.IsWhole) (hc0 : cond2_0 i) (hc1 : ¬cond2_1 i)
    (x0 : Vec F S96x2880 .f32) (x1 : Vec F S96x2880 .f32) (x2 : Vec F S96x1 .f32) (x3 : Vec F S96x2880 .f32) (x4 : Vec F S96x1 .f32) (x5 : Vec F S1x2880 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k2_pay11 x2 x1 x3 x4 x5 x0) ∗ owns (c : Thread nD τ) arg8 fullShare (k2_pay1 (k2_pay11 x2 x1 x3 x4 x5 x0)) ∗ owns (c : Thread nD τ) arg9 fullShare (k2_pay2 (k2_pay8 x2 x1 x3 x4 x5) (k2_pay9 x0) (k2_pay10 x2 x1 x3 x4 x5)) ∗ owns (c : Thread nD τ) arg10 fullShare (k2_pay4 (k2_pay11 x2 x1 x3 x4 x5 x0) k2_pay3)) -∗ K ⟨⟩))
      ⊢ wp frame (wpE (defs₀ (F := F)) Variants.none c none) E (cc2_epi i arg1 harg1 arg2 harg2 arg3 harg3 arg4 harg4 arg5 harg5 arg6 harg6 arg7 harg7 arg8 harg8 arg9 harg9 arg10 harg10) K := by
  simp only [cc2_epi_eq_skeleton]; unfold cc2_epi_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%d9, %f9, -, H9⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5
  sl_exec (disch := first | sl_exact hc0 | sl_exact hc1)
  sl_step
  iapply Hk
  have e0 := ldAll harg1 x0 ![0, 0] zero2 inb_S96x2880_S96x2880_0_0
  have e1 := ldAll harg2 x1 ![0, 0] zero2 inb_S96x2880_S96x2880_0_0
  have e2 := ldAll harg3 x2 ![0, 0] zero2 inb_S96x1_S96x1_0_0
  have e3 := ldAll harg4 x3 ![0, 0] zero2 inb_S96x2880_S96x2880_0_0
  have e4 := ldAll harg5 x4 ![0, 0] zero2 inb_S96x1_S96x1_0_0
  have e5 := ldAll harg6 x5 ![0, 0] zero2 inb_S1x2880_S1x2880_0_0
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    refine (View.read_writes_eq_canon _ _ _ (View.cover_of_tiledBy _ ![96, 2880] (by sl_kernel_rfl))).trans ?_
    refine (View.canon_cons_unit_zero zero2 _ _ _).trans ?_
    delta epiSpec_A.sl.r_3
    repeat first | rw [e0] | rw [e1] | rw [e2] | rw [e3] | rw [e4] | rw [e5]
  isplitl [H7]
  · iexists _; isplitr; swap; · iexact H7
    ipureintro
    refine (View.read_writes_eq_canon _ _ _ (View.cover_of_tiledBy _ ![96, 1] (by sl_kernel_rfl))).trans ?_
    refine (View.canon_cons_unit_zero zero2 _ _ _).trans ?_
    delta epiSpec_A.sl.r_3
    repeat first | rw [e0] | rw [e1] | rw [e2] | rw [e3] | rw [e4] | rw [e5]
  isplitl [H8]
  · iexists _; isplitr; swap; · iexact H8
    ipureintro
    refine (View.read_writes_eq_canon _ _ _ (View.cover_of_tiledBy _ ![96, 1] (by sl_kernel_rfl))).trans ?_
    refine (View.canon_cons_unit_zero zero2 _ _ _).trans ?_
    delta epiSpec_A.sl.r
    delta epiSpec_A.sl.r_1
    delta epiSpec_A.sl.r_2
    repeat first | rw [e0] | rw [e1] | rw [e2] | rw [e3] | rw [e4] | rw [e5]
  · iexists _; isplitr; swap; · iexact H9
    ipureintro
    refine (View.read_writes_eq_canon _ _ _ (View.cover_of_tiledBy _ ![8, 2880] (by sl_kernel_rfl))).trans ?_
    refine (View.canon_cons_unit_zero zero2 _ _ _).trans ?_
    have q : ∀ N : Vec F S8x2880 .f32, arg10.view.readCov ([⟨Rect.unit (s := S8x2880) ![0, 0] S8x2880.size inb_S8x2880_S8x2880_0_0, N⟩] : List (Piece (Elt F) S8x2880 .f32)) (Rect.unit (s := S8x2880) ![0, 0] S8x2880.size inb_S8x2880_S8x2880_0_0).toLoadRect = N := fun N => (ldCov _ (View.canon_cons_unit_zero zero2 _ _ _) _).trans (View.ld_unit_zero zero2 _ _)
    delta epiSpec_A.sl.r_3
    delta epiSpec_A.sl.v49
    delta epiSpec_A.sl.H9_1
    repeat first | rw [e0] | rw [e1] | rw [e2] | rw [e3] | rw [e4] | rw [e5]
    rw [q]

set_option maxHeartbeats 1000000 in
/-- The epilogue on one block of rows (neither first nor last). -/
theorem epiSpec_B (c : Dev nD) (i : grid2.Coords) (arg1 : Memref sig .tc .vmem S96x2880 .f32) (harg1 : arg1.IsWhole) (arg2 : Memref sig .tc .vmem S96x2880 .f32) (harg2 : arg2.IsWhole) (arg3 : Memref sig .tc .vmem S96x1 .f32) (harg3 : arg3.IsWhole) (arg4 : Memref sig .tc .vmem S96x2880 .f32) (harg4 : arg4.IsWhole) (arg5 : Memref sig .tc .vmem S96x1 .f32) (harg5 : arg5.IsWhole) (arg6 : Memref sig .tc .vmem S1x2880 .f32) (harg6 : arg6.IsWhole) (arg7 : Memref sig .tc .vmem S96x2880 .f32) (harg7 : arg7.IsWhole) (arg8 : Memref sig .tc .vmem S96x1 .f32) (harg8 : arg8.IsWhole) (arg9 : Memref sig .tc .vmem S96x1 .f32) (harg9 : arg9.IsWhole) (arg10 : Memref sig .tc .vmem S8x2880 .f32) (harg10 : arg10.IsWhole) (hc0 : ¬cond2_0 i) (hc1 : ¬cond2_1 i)
    (x0 : Vec F S96x2880 .f32) (x1 : Vec F S96x2880 .f32) (x2 : Vec F S96x1 .f32) (x3 : Vec F S96x2880 .f32) (x4 : Vec F S96x1 .f32) (x5 : Vec F S1x2880 .f32) (d9 : Vec F S8x2880 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare d9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k2_pay11 x2 x1 x3 x4 x5 x0) ∗ owns (c : Thread nD τ) arg8 fullShare (k2_pay1 (k2_pay11 x2 x1 x3 x4 x5 x0)) ∗ owns (c : Thread nD τ) arg9 fullShare (k2_pay2 (k2_pay8 x2 x1 x3 x4 x5) (k2_pay9 x0) (k2_pay10 x2 x1 x3 x4 x5)) ∗ owns (c : Thread nD τ) arg10 fullShare (k2_pay4 (k2_pay11 x2 x1 x3 x4 x5 x0) d9)) -∗ K ⟨⟩))
      ⊢ wp frame (wpE (defs₀ (F := F)) Variants.none c none) E (cc2_epi i arg1 harg1 arg2 harg2 arg3 harg3 arg4 harg4 arg5 harg5 arg6 harg6 arg7 harg7 arg8 harg8 arg9 harg9 arg10 harg10) K := by
  simp only [cc2_epi_eq_skeleton]; unfold cc2_epi_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hf9
  sl_exec (disch := first | sl_exact hc0 | sl_exact hc1)
  sl_step
  iapply Hk
  have e0 := ldAll harg1 x0 ![0, 0] zero2 inb_S96x2880_S96x2880_0_0
  have e1 := ldAll harg2 x1 ![0, 0] zero2 inb_S96x2880_S96x2880_0_0
  have e2 := ldAll harg3 x2 ![0, 0] zero2 inb_S96x1_S96x1_0_0
  have e3 := ldAll harg4 x3 ![0, 0] zero2 inb_S96x2880_S96x2880_0_0
  have e4 := ldAll harg5 x4 ![0, 0] zero2 inb_S96x1_S96x1_0_0
  have e5 := ldAll harg6 x5 ![0, 0] zero2 inb_S1x2880_S1x2880_0_0
  have ed := ldAll harg10 d9 ![0, 0] zero2 inb_S8x2880_S8x2880_0_0
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    refine (View.read_writes_eq_canon _ _ _ (View.cover_of_tiledBy _ ![96, 2880] (by sl_kernel_rfl))).trans ?_
    refine (View.canon_cons_unit_zero zero2 _ _ _).trans ?_
    delta epiSpec_B.sl.r_3
    repeat first | rw [ed] | rw [e0] | rw [e1] | rw [e2] | rw [e3] | rw [e4] | rw [e5]
  isplitl [H7]
  · iexists _; isplitr; swap; · iexact H7
    ipureintro
    refine (View.read_writes_eq_canon _ _ _ (View.cover_of_tiledBy _ ![96, 1] (by sl_kernel_rfl))).trans ?_
    refine (View.canon_cons_unit_zero zero2 _ _ _).trans ?_
    delta epiSpec_B.sl.r_3
    repeat first | rw [ed] | rw [e0] | rw [e1] | rw [e2] | rw [e3] | rw [e4] | rw [e5]
  isplitl [H8]
  · iexists _; isplitr; swap; · iexact H8
    ipureintro
    refine (View.read_writes_eq_canon _ _ _ (View.cover_of_tiledBy _ ![96, 1] (by sl_kernel_rfl))).trans ?_
    refine (View.canon_cons_unit_zero zero2 _ _ _).trans ?_
    delta epiSpec_B.sl.r
    delta epiSpec_B.sl.r_1
    delta epiSpec_B.sl.r_2
    repeat first | rw [ed] | rw [e0] | rw [e1] | rw [e2] | rw [e3] | rw [e4] | rw [e5]
  · iexists _; isplitr; swap; · iexact H9
    ipureintro
    refine (View.read_writes_eq_canon _ _ _ (View.cover_of_tiledBy _ ![8, 2880] (by sl_kernel_rfl))).trans ?_
    refine (View.canon_cons_unit_zero zero2 _ _ _).trans ?_
    delta epiSpec_B.sl.r_3
    repeat first | rw [ed] | rw [e0] | rw [e1] | rw [e2] | rw [e3] | rw [e4] | rw [e5]

set_option maxHeartbeats 1000000 in
/-- The epilogue on one block of rows (the last). -/
theorem epiSpec_C (c : Dev nD) (i : grid2.Coords) (arg1 : Memref sig .tc .vmem S96x2880 .f32) (harg1 : arg1.IsWhole) (arg2 : Memref sig .tc .vmem S96x2880 .f32) (harg2 : arg2.IsWhole) (arg3 : Memref sig .tc .vmem S96x1 .f32) (harg3 : arg3.IsWhole) (arg4 : Memref sig .tc .vmem S96x2880 .f32) (harg4 : arg4.IsWhole) (arg5 : Memref sig .tc .vmem S96x1 .f32) (harg5 : arg5.IsWhole) (arg6 : Memref sig .tc .vmem S1x2880 .f32) (harg6 : arg6.IsWhole) (arg7 : Memref sig .tc .vmem S96x2880 .f32) (harg7 : arg7.IsWhole) (arg8 : Memref sig .tc .vmem S96x1 .f32) (harg8 : arg8.IsWhole) (arg9 : Memref sig .tc .vmem S96x1 .f32) (harg9 : arg9.IsWhole) (arg10 : Memref sig .tc .vmem S8x2880 .f32) (harg10 : arg10.IsWhole) (hc0 : ¬cond2_0 i) (hc1 : cond2_1 i)
    (x0 : Vec F S96x2880 .f32) (x1 : Vec F S96x2880 .f32) (x2 : Vec F S96x1 .f32) (x3 : Vec F S96x2880 .f32) (x4 : Vec F S96x1 .f32) (x5 : Vec F S1x2880 .f32) (d9 : Vec F S8x2880 .f32) (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ (∃ d, owns (c : Thread nD τ) arg7 fullShare d) ∗ (∃ d, owns (c : Thread nD τ) arg8 fullShare d) ∗ (∃ d, owns (c : Thread nD τ) arg9 fullShare d) ∗ owns (c : Thread nD τ) arg10 fullShare d9
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare (k2_pay11 x2 x1 x3 x4 x5 x0) ∗ owns (c : Thread nD τ) arg8 fullShare (k2_pay1 (k2_pay11 x2 x1 x3 x4 x5 x0)) ∗ owns (c : Thread nD τ) arg9 fullShare (k2_pay2 (k2_pay8 x2 x1 x3 x4 x5) (k2_pay9 x0) (k2_pay10 x2 x1 x3 x4 x5)) ∗ owns (c : Thread nD τ) arg10 fullShare (foldRows (k2_pay4 (k2_pay11 x2 x1 x3 x4 x5 x0) d9))) -∗ K ⟨⟩))
      ⊢ wp frame (wpE (defs₀ (F := F)) Variants.none c none) E (cc2_epi i arg1 harg1 arg2 harg2 arg3 harg3 arg4 harg4 arg5 harg5 arg6 harg6 arg7 harg7 arg8 harg8 arg9 harg9 arg10 harg10) K := by
  simp only [cc2_epi_eq_skeleton]; unfold cc2_epi_skel
  simp only [k2_part1_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, ⟨%d7, %f7, -, H7⟩, ⟨%d8, %f8, -, H8⟩, ⟨%f9, %hf9, H9⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg10.eq_unread hf9
  sl_exec (disch := first | sl_exact hc0 | sl_exact hc1)
  sl_step
  iapply Hk
  have e0 := ldAll harg1 x0 ![0, 0] zero2 inb_S96x2880_S96x2880_0_0
  have e1 := ldAll harg2 x1 ![0, 0] zero2 inb_S96x2880_S96x2880_0_0
  have e2 := ldAll harg3 x2 ![0, 0] zero2 inb_S96x1_S96x1_0_0
  have e3 := ldAll harg4 x3 ![0, 0] zero2 inb_S96x2880_S96x2880_0_0
  have e4 := ldAll harg5 x4 ![0, 0] zero2 inb_S96x1_S96x1_0_0
  have e5 := ldAll harg6 x5 ![0, 0] zero2 inb_S1x2880_S1x2880_0_0
  have ed := ldAll harg10 d9 ![0, 0] zero2 inb_S8x2880_S8x2880_0_0
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; swap; · iexact H6
    ipureintro
    refine (View.read_writes_eq_canon _ _ _ (View.cover_of_tiledBy _ ![96, 2880] (by sl_kernel_rfl))).trans ?_
    refine (View.canon_cons_unit_zero zero2 _ _ _).trans ?_
    delta epiSpec_C.sl.r_3
    repeat first | rw [ed] | rw [e0] | rw [e1] | rw [e2] | rw [e3] | rw [e4] | rw [e5]
  isplitl [H7]
  · iexists _; isplitr; swap; · iexact H7
    ipureintro
    refine (View.read_writes_eq_canon _ _ _ (View.cover_of_tiledBy _ ![96, 1] (by sl_kernel_rfl))).trans ?_
    refine (View.canon_cons_unit_zero zero2 _ _ _).trans ?_
    delta epiSpec_C.sl.r_3
    repeat first | rw [ed] | rw [e0] | rw [e1] | rw [e2] | rw [e3] | rw [e4] | rw [e5]
  isplitl [H8]
  · iexists _; isplitr; swap; · iexact H8
    ipureintro
    refine (View.read_writes_eq_canon _ _ _ (View.cover_of_tiledBy _ ![96, 1] (by sl_kernel_rfl))).trans ?_
    refine (View.canon_cons_unit_zero zero2 _ _ _).trans ?_
    delta epiSpec_C.sl.r
    delta epiSpec_C.sl.r_1
    delta epiSpec_C.sl.r_2
    repeat first | rw [ed] | rw [e0] | rw [e1] | rw [e2] | rw [e3] | rw [e4] | rw [e5]
  · iexists _; isplitr; swap; · iexact H9
    ipureintro
    refine (View.read_writes_eq_canon _ _ _ (View.cover_of_tiledBy _ ![1, 2880] (by sl_kernel_rfl))).trans ?_
    have q : ∀ N : Vec F S8x2880 .f32, arg10.view.readCov ([⟨Rect.unit (s := S8x2880) ![0, 0] S8x2880.size inb_S8x2880_S8x2880_0_0, N⟩] : List (Piece (Elt F) S8x2880 .f32)) (Rect.unit (s := S8x2880) ![0, 0] S8x2880.size inb_S8x2880_S8x2880_0_0).toLoadRect = N := fun N => (ldCov _ (View.canon_cons_unit_zero zero2 _ _ _) _).trans (View.ld_unit_zero zero2 _ _)
    delta epiSpec_C.sl.v58
    delta epiSpec_C.sl.H9_1
    delta epiSpec_C.sl.r_3
    repeat first | rw [ed] | rw [e0] | rw [e1] | rw [e2] | rw [e3] | rw [e4] | rw [e5]
    rw [q]
    rfl

end Cert.KernelIdeal.Gen

end
-- ==== Proof.K.Reg2.lean ====
module

public import proofs.«01_k».proof.Proof.K.Epi
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Value
public import Idealize.ShloMosaic.Lib.Pipeline.ReadBack
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open View (canon Piece PiecesOf)

variable {F : FTy → Type} [FloatOps F] [Named F]

local notation "𝕄" => MT nD τ sig Unit (Elt F) ℕ (UR sig nD τ) ℕ

variable (W : Valuation τ sig (Elt F))

/-- Window `w`'s block at point `t`, read off its array as the region finds it. -/
def iblk2 (w : Fin cfg2.W) (t : Fin cfg2.N) : ((cfg2.win w).xblock (cfg2.grid.coords t)).Idx → Elt F (cfg2.win w).elt :=
  ((cfg2.win w).blk t).view.read (Elt F) (W (Proc.devRef .tc (Pipeline.arrRef spec2 w)))

/-- Point `k` of this region, the count wrapped at its end. -/
def pt2 (k : ℕ) : Fin cfg2.N := ⟨k % 90, lt_of_lt_of_eq (Nat.mod_lt _ (by decide)) (show 90 = cfg2.N from N_2.symm)⟩
theorem pt2_val (t : Fin cfg2.N) : pt2 t.val = t :=
  Fin.ext (Nat.mod_eq_of_lt (lt_of_lt_of_eq t.isLt (show cfg2.N = 90 from N_2)))

/-- The gradient of the second scale, as the body computes it at point `t`. -/
def d2At (t : Fin cfg2.N) : Vec F S96x2880 .f32 := k2_pay11 (iblk2 W 2 t) (iblk2 W 1 t) (iblk2 W 3 t) (iblk2 W 4 t) (iblk2 W 5 t) (iblk2 W 0 t)

/-- What the column sums' buffer holds after `k` points: the partial sums so far, folded to one row at the last point. -/
def dcAt : ℕ → Vec F S8x2880 .f32
  | 0 => k2_pay3
  | k + 1 => if k = 89 then foldRows (k2_pay4 (d2At W (pt2 k)) (dcAt k)) else k2_pay4 (d2At W (pt2 k)) (dcAt k)

/-- The proof data of this region on core `c`, entered at the contents `W`. -/
def dat2 (c : Dev nD) : Dat τ (Elt F) Unit ℕ (UR sig nD τ) ℕ cfg2 c where
  A w := W (Proc.devRef .tc (Pipeline.arrRef spec2 w))
  after w t := match w with
    | ⟨0, _⟩ => iblk2 W 0 t
    | ⟨1, _⟩ => iblk2 W 1 t
    | ⟨2, _⟩ => iblk2 W 2 t
    | ⟨3, _⟩ => iblk2 W 3 t
    | ⟨4, _⟩ => iblk2 W 4 t
    | ⟨5, _⟩ => iblk2 W 5 t
    | ⟨6, _⟩ => d2At W t
    | ⟨7, _⟩ => k2_pay1 (d2At W t)
    | ⟨8, _⟩ => k2_pay2 (k2_pay8 (iblk2 W 2 t) (iblk2 W 1 t) (iblk2 W 3 t) (iblk2 W 4 t) (iblk2 W 5 t)) (k2_pay9 (iblk2 W 0 t)) (k2_pay10 (iblk2 W 2 t) (iblk2 W 1 t) (iblk2 W 3 t) (iblk2 W 4 t) (iblk2 W 5 t))
    | ⟨9, _⟩ => dcAt W (t.val + 1)
  Φ t := Pipeline.scopedRest spec2 c
  q _ := fullShare
  owed _ := 0

theorem dat2_A (c : Dev nD) (w : Fin cfg2.W) : (dat2 W c).A w = W (Proc.devRef .tc (Pipeline.arrRef spec2 w)) := by
  dsimp only [dat2]
theorem after2_0 (c : Dev nD) (t : Fin cfg2.N) : (dat2 W c).after 0 t = iblk2 W 0 t := by dsimp only [dat2]
theorem after2_1 (c : Dev nD) (t : Fin cfg2.N) : (dat2 W c).after 1 t = iblk2 W 1 t := by dsimp only [dat2]
theorem after2_2 (c : Dev nD) (t : Fin cfg2.N) : (dat2 W c).after 2 t = iblk2 W 2 t := by dsimp only [dat2]
theorem after2_3 (c : Dev nD) (t : Fin cfg2.N) : (dat2 W c).after 3 t = iblk2 W 3 t := by dsimp only [dat2]
theorem after2_4 (c : Dev nD) (t : Fin cfg2.N) : (dat2 W c).after 4 t = iblk2 W 4 t := by dsimp only [dat2]
theorem after2_5 (c : Dev nD) (t : Fin cfg2.N) : (dat2 W c).after 5 t = iblk2 W 5 t := by dsimp only [dat2]
theorem after2_6 (c : Dev nD) (t : Fin cfg2.N) : (dat2 W c).after 6 t = d2At W t := by dsimp only [dat2]
theorem after2_7 (c : Dev nD) (t : Fin cfg2.N) : (dat2 W c).after 7 t = k2_pay1 (d2At W t) := by dsimp only [dat2]
theorem after2_8 (c : Dev nD) (t : Fin cfg2.N) : (dat2 W c).after 8 t = k2_pay2 (k2_pay8 (iblk2 W 2 t) (iblk2 W 1 t) (iblk2 W 3 t) (iblk2 W 4 t) (iblk2 W 5 t)) (k2_pay9 (iblk2 W 0 t)) (k2_pay10 (iblk2 W 2 t) (iblk2 W 1 t) (iblk2 W 3 t) (iblk2 W 4 t) (iblk2 W 5 t)) := by dsimp only [dat2]
theorem after2_9 (c : Dev nD) (t : Fin cfg2.N) : (dat2 W c).after 9 t = dcAt W (t.val + 1) := by dsimp only [dat2]
theorem before2_0 (c : Dev nD) (t : Fin cfg2.N) (d) : (dat2 W c).before 0 t d = iblk2 W 0 t :=
  ((dat2 W c).before_in_eq_fetched 0 rfl (fun _ => rfl) (fun _ _ _ => rfl) (fun t => by rw [after2_0]; unfold Dat.blockOf iblk2; rw [dat2_A]; try rfl) t d).trans
    (by unfold Dat.fetched Dat.blockOf iblk2; rw [dat2_A]; try rfl)
theorem before2_1 (c : Dev nD) (t : Fin cfg2.N) (d) : (dat2 W c).before 1 t d = iblk2 W 1 t :=
  ((dat2 W c).before_in_eq_fetched 1 rfl (fun _ => rfl) (fun _ _ _ => rfl) (fun t => by rw [after2_1]; unfold Dat.blockOf iblk2; rw [dat2_A]; try rfl) t d).trans
    (by unfold Dat.fetched Dat.blockOf iblk2; rw [dat2_A]; try rfl)
theorem before2_2 (c : Dev nD) (t : Fin cfg2.N) (d) : (dat2 W c).before 2 t d = iblk2 W 2 t :=
  ((dat2 W c).before_in_eq_fetched 2 rfl (fun _ => rfl) (fun _ _ _ => rfl) (fun t => by rw [after2_2]; unfold Dat.blockOf iblk2; rw [dat2_A]; try rfl) t d).trans
    (by unfold Dat.fetched Dat.blockOf iblk2; rw [dat2_A]; try rfl)
theorem before2_3 (c : Dev nD) (t : Fin cfg2.N) (d) : (dat2 W c).before 3 t d = iblk2 W 3 t :=
  ((dat2 W c).before_in_eq_fetched 3 rfl (fun _ => rfl) (fun _ _ _ => rfl) (fun t => by rw [after2_3]; unfold Dat.blockOf iblk2; rw [dat2_A]; try rfl) t d).trans
    (by unfold Dat.fetched Dat.blockOf iblk2; rw [dat2_A]; try rfl)
theorem before2_4 (c : Dev nD) (t : Fin cfg2.N) (d) : (dat2 W c).before 4 t d = iblk2 W 4 t :=
  ((dat2 W c).before_in_eq_fetched 4 rfl (fun _ => rfl) (fun _ _ _ => rfl) (fun t => by rw [after2_4]; unfold Dat.blockOf iblk2; rw [dat2_A]; try rfl) t d).trans
    (by unfold Dat.fetched Dat.blockOf iblk2; rw [dat2_A]; try rfl)
theorem before2_5 (c : Dev nD) (t : Fin cfg2.N) (d) : (dat2 W c).before 5 t d = iblk2 W 5 t :=
  ((dat2 W c).before_in_eq_fetched 5 rfl (fun _ => rfl) (fun _ _ _ => rfl) (fun t => by rw [after2_5]; unfold Dat.blockOf iblk2; rw [dat2_A]; try rfl) t d).trans
    (by unfold Dat.fetched Dat.blockOf iblk2; rw [dat2_A]; try rfl)
abbrev ms2_0 (t : Fin cfg2.N) := win2_0.stage (cfg2.slots t 0)
abbrev ms2_1 (t : Fin cfg2.N) := win2_1.stage (cfg2.slots t 1)
abbrev ms2_2 (t : Fin cfg2.N) := win2_2.stage (cfg2.slots t 2)
abbrev ms2_3 (t : Fin cfg2.N) := win2_3.stage (cfg2.slots t 3)
abbrev ms2_4 (t : Fin cfg2.N) := win2_4.stage (cfg2.slots t 4)
abbrev ms2_5 (t : Fin cfg2.N) := win2_5.stage (cfg2.slots t 5)
abbrev ms2_6 (t : Fin cfg2.N) := win2_6.stage (cfg2.slots t 6)
abbrev ms2_7 (t : Fin cfg2.N) := win2_7.stage (cfg2.slots t 7)
abbrev ms2_8 (t : Fin cfg2.N) := win2_8.stage (cfg2.slots t 8)
abbrev ms2_9 (t : Fin cfg2.N) := win2_9.stage (cfg2.slots t 9)

/-- What the body is called with at point `t`, the windows one by one. -/
def bodyPre2 (c : Dev nD) (t : Fin cfg2.N) : sProp 𝕄 :=
  iprop((dat2 W c).Φ t.castSucc ∗ (dat2 W c).owesAt () t.castSucc ∗ (∃ d, owns (c : Thread nD τ) (ms2_0 t) fullShare ((dat2 W c).before 0 t d)) ∗ (∃ d, owns (c : Thread nD τ) (ms2_1 t) fullShare ((dat2 W c).before 1 t d)) ∗ (∃ d, owns (c : Thread nD τ) (ms2_2 t) fullShare ((dat2 W c).before 2 t d)) ∗ (∃ d, owns (c : Thread nD τ) (ms2_3 t) fullShare ((dat2 W c).before 3 t d)) ∗ (∃ d, owns (c : Thread nD τ) (ms2_4 t) fullShare ((dat2 W c).before 4 t d)) ∗ (∃ d, owns (c : Thread nD τ) (ms2_5 t) fullShare ((dat2 W c).before 5 t d)) ∗ (∃ d, owns (c : Thread nD τ) (ms2_6 t) fullShare ((dat2 W c).before 6 t d)) ∗ (∃ d, owns (c : Thread nD τ) (ms2_7 t) fullShare ((dat2 W c).before 7 t d)) ∗ (∃ d, owns (c : Thread nD τ) (ms2_8 t) fullShare ((dat2 W c).before 8 t d)) ∗ (∃ d, owns (c : Thread nD τ) (ms2_9 t) fullShare ((dat2 W c).before 9 t d)))

/-- What it returns. -/
def bodyPost2 (c : Dev nD) (t : Fin cfg2.N) : sProp 𝕄 :=
  iprop((dat2 W c).Φ t.succ ∗ (dat2 W c).owesAt () t.succ ∗ owns (c : Thread nD τ) (ms2_0 t) fullShare ((dat2 W c).after 0 t) ∗ owns (c : Thread nD τ) (ms2_1 t) fullShare ((dat2 W c).after 1 t) ∗ owns (c : Thread nD τ) (ms2_2 t) fullShare ((dat2 W c).after 2 t) ∗ owns (c : Thread nD τ) (ms2_3 t) fullShare ((dat2 W c).after 3 t) ∗ owns (c : Thread nD τ) (ms2_4 t) fullShare ((dat2 W c).after 4 t) ∗ owns (c : Thread nD τ) (ms2_5 t) fullShare ((dat2 W c).after 5 t) ∗ owns (c : Thread nD τ) (ms2_6 t) fullShare ((dat2 W c).after 6 t) ∗ owns (c : Thread nD τ) (ms2_7 t) fullShare ((dat2 W c).after 7 t) ∗ owns (c : Thread nD τ) (ms2_8 t) fullShare ((dat2 W c).after 8 t) ∗ owns (c : Thread nD τ) (ms2_9 t) fullShare ((dat2 W c).after 9 t))

/-- After the first point the column sums' buffer holds what the point before left. -/
theorem before2_9 (c : Dev nD) (t : Fin cfg2.N) (h0 : ¬t.val = 0) (d) : (dat2 W c).before 9 t d = dcAt W t.val := by
  have hN : t.val < 90 := lt_of_lt_of_eq t.isLt (show cfg2.N = 90 from N_2)
  rw [Dat.before_out_kept _ 9 rfl t (by omega) (Bool.eq_false_iff.mpr fun h => by have := (flush2_9 _).mp h; dsimp only at this; omega)
    (fun _ => rfl) (fun _ _ => rfl)]
  dsimp only [dat2]
  rw [show t.val - 1 + 1 = t.val from by omega]

theorem coords2 (t : Fin cfg2.N) : (grid2.coords t 0).val = t.val := by
  have hN : t.val < 90 := lt_of_lt_of_eq t.isLt (show cfg2.N = 90 from N_2)
  have e : (grid2.coords t 0).val = t.val / 1 % 90 := Pipeline.Grid.coords_val t 0 (by decide) rfl
  rw [e]; omega

theorem sound_body2 (c : Dev nD) (t : Fin cfg2.N) :
    bodyPre2 W c t ⊢ wp frame (wpE (defs₀ (F := F)) Variants.none c none) Set.univ (bodyAt2 t) (fun _ => bodyPost2 W c t) := by
  have hN : t.val < 90 := lt_of_lt_of_eq t.isLt (show cfg2.N = 90 from N_2)
  unfold bodyPre2 bodyPost2 bodyAt2
  simp only [before2_0, before2_1, before2_2, before2_3, before2_4, before2_5]
  rw [show (dat2 W c).Φ t.succ = (dat2 W c).Φ t.castSucc from rfl,
    show (dat2 W c).owesAt () t.succ = (dat2 W c).owesAt () t.castSucc from rfl,
    after2_0, after2_1, after2_2, after2_3, after2_4, after2_5, after2_6, after2_7, after2_8, after2_9]
  by_cases h0 : t.val = 0
  · have hc0 : cond2_0 (grid2.coords t) := (hcond2_0 _).mpr ((coords2 t).trans h0)
    have hc1 : ¬cond2_1 (grid2.coords t) := fun h => by have := (coords2 t).symm.trans ((hcond2_1 _).mp h); omega
    have e9 : dcAt W (t.val + 1) = k2_pay4 (d2At W t) k2_pay3 := by
      show (if t.val = 89 then _ else _) = _
      rw [if_neg (by omega), pt2_val, h0]; rfl
    rw [e9]
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
    iapply (epiSpec_A c (grid2.coords t) _ _ _ _ _ _ _ _ _ _ _ _ _ _ _ _ _ _ _ _ hc0 hc1 (iblk2 W 0 t) (iblk2 W 1 t) (iblk2 W 2 t) (iblk2 W 3 t) (iblk2 W 4 t) (iblk2 W 5 t) Set.univ _)
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    isplitl [H8]; · iexists _; iexact H8
    isplitl [H9]; · iexists _; iexact H9
    iintro ⟨H0, H1, H2, H3, H4, H5, H6, H7, H8, H9⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  · have hc0 : ¬cond2_0 (grid2.coords t) := fun h => h0 ((coords2 t).symm.trans ((hcond2_0 _).mp h))
    simp only [before2_9 W c t h0]
    by_cases h1 : t.val = 89
    · have hc1 : cond2_1 (grid2.coords t) := (hcond2_1 _).mpr ((coords2 t).trans h1)
      have e9 : dcAt W (t.val + 1) = foldRows (k2_pay4 (d2At W t) (dcAt W t.val)) := by
        show (if t.val = 89 then _ else _) = _
        rw [if_pos h1, pt2_val]
      rw [e9]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (epiSpec_C c (grid2.coords t) _ _ _ _ _ _ _ _ _ _ _ _ _ _ _ _ _ _ _ _ hc0 hc1 (iblk2 W 0 t) (iblk2 W 1 t) (iblk2 W 2 t) (iblk2 W 3 t) (iblk2 W 4 t) (iblk2 W 5 t) (dcAt W t.val) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexact H9
      iintro ⟨H0, H1, H2, H3, H4, H5, H6, H7, H8, H9⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9
    · have hc1 : ¬cond2_1 (grid2.coords t) := fun h => h1 ((coords2 t).symm.trans ((hcond2_1 _).mp h))
      have e9 : dcAt W (t.val + 1) = k2_pay4 (d2At W t) (dcAt W t.val) := by
        show (if t.val = 89 then _ else _) = _
        rw [if_neg h1, pt2_val]
      rw [e9]
      iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
      iapply (epiSpec_B c (grid2.coords t) _ _ _ _ _ _ _ _ _ _ _ _ _ _ _ _ _ _ _ _ hc0 hc1 (iblk2 W 0 t) (iblk2 W 1 t) (iblk2 W 2 t) (iblk2 W 3 t) (iblk2 W 4 t) (iblk2 W 5 t) (dcAt W t.val) Set.univ _)
      isplitl [H0]; · iexact H0
      isplitl [H1]; · iexact H1
      isplitl [H2]; · iexact H2
      isplitl [H3]; · iexact H3
      isplitl [H4]; · iexact H4
      isplitl [H5]; · iexact H5
      isplitl [H6]; · iexists _; iexact H6
      isplitl [H7]; · iexists _; iexact H7
      isplitl [H8]; · iexists _; iexact H8
      isplitl [H9]; · iexact H9
      iintro ⟨H0, H1, H2, H3, H4, H5, H6, H7, H8, H9⟩
      isplitl [HΦ]; · iexact HΦ
      isplitl [Ho]; · iexact Ho
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      iexact H9

/-- The body table's row at point `t`. -/
theorem defs2_row (t : Fin cfg2.N) :
    defs₀ (F := F) .tc cfg2.body (cfg2.bodyArgs t (cfg2.slots t)) = bodyAt2 t := by
  unfold defs₀; rw [Defs.onTc_tc]

/-- The body obligation of this region, at every point. -/
theorem body_obligation2 (c : Dev nD) : BodyObligation (dat2 W c) (defs₀ (F := F)) Variants.none () Set.univ := fun t => by
  rw [bigSep_W2, bigSep_W2, defs2_row]
  exact triple_restated (sound_body2 W c t) rfl .rfl fun _ => .rfl

end Cert.KernelIdeal.Gen
-- ==== Proof.K.Recs.lean ====
module

public import proofs.«01_k».proof.Proof.K.Reg0
public import proofs.«01_k».proof.Proof.K.Reg1
public import proofs.«01_k».proof.Proof.K.Reg2
public import proofs.«01_k».proof.Proof.Gen.KernelIdeal.Regions
public import Idealize.ShloMosaic.Lib.Pipeline.RegionArraysS
public import Idealize.ShloMosaic.Lib.Pipeline.FrameTail
public import Idealize.ShloMosaic.Lib.Claim
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Value
public import Idealize.ShloMosaic.Lib.Pipeline.ReadBack
public import Idealize.ShloMosaic.Lib.Ring
public import Idealize.ShloMosaic.Lib.Tactic
public import Idealize.ShloMosaic.Lib.WordCmp

@[expose] public section

set_option maxRecDepth 16384
set_option maxHeartbeats 400000

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg HostSeg RegionSeg)
open Idealize.ShloMosaic.Pipeline (Dat Cfg Window BodyObligation cellOf)
open View (canon Piece PiecesOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## What the buffers hold between the three kernels -/

/-- Before the quantiser. -/
def U3 (c : Dev nD) : Valuation τ sig (Elt F) := V3 m c
/-- After the quantiser. -/
def U4 (c : Dev nD) : Valuation τ sig (Elt F) := Pipeline.afterRegion (dat0 (U3 m c) c) (U3 m c)
/-- After the main kernel. -/
def U5 (c : Dev nD) : Valuation τ sig (Elt F) := Pipeline.afterRegion (dat1 (U4 m c) c) (U4 m c)
/-- After the epilogue kernel. -/
def U6 (c : Dev nD) : Valuation τ sig (Elt F) := Pipeline.afterRegion (dat2 (U5 m c) c) (U5 m c)
/-- At the end. -/
def U7 (c : Dev nD) : Valuation τ sig (Elt F) := StableHlo.after hostOps3 (U6 m c)

/-- The proof data of the three kernels. -/
def pdats (p : Fin 3) (c : Dev nD) : Dat τ (Elt F) Unit ℕ (UR sig nD τ) ℕ (cfgs p) c :=
  match p with
  | ⟨0, _⟩ => dat0 (U3 m c) c
  | ⟨1, _⟩ => dat1 (U4 m c) c
  | ⟨2, _⟩ => dat2 (U5 m c) c

/-! ## The kernels as segments of the run -/

abbrev Lv : GSem nD τ sig → Finset Unit := fun g => if g.1.2 = .tc then Finset.univ else ∅
abbrev lvl : GSem nD τ sig → Unit → ℕ := fun _ _ => 0
/-- What rides beside the buffers: the core owing nothing. -/
abbrev Er (c : Dev nD) : sProp 𝕄 :=
  iprop((∃ Wd, owes (c : Thread nD τ) (0 : CellTallies nD τ sig Unit) Wd) ∗ (BI.emp : sProp 𝕄) ∗ (BI.emp : sProp 𝕄))

theorem cut (p : Fin 3) : Pipeline.LevelCut (pcfgs (F := F)) adm () Lv lvl p (fun _ : Dev nD => 0) (fun _ => 0) where
  hι := fun _ _ _ => by simp [Lv]
  hιb := fun _ _ _ => le_refl _
  hD := fun _ _ _ h => absurd h (by simp)

theorem dat0_at0 (W : Valuation τ sig (Elt F)) (c : Dev nD) (w : Fin cfg0.W) : (dat0 W c).arrAt w 0 = W (Proc.devRef .tc (Pipeline.arrRef spec0 w)) := rfl
theorem arrs_sub0 : Pipeline.arrRefs (τ := τ) spec0 ⊆ Pipeline.ucRefs τ sig := by decide
theorem dat1_at0 (W : Valuation τ sig (Elt F)) (c : Dev nD) (w : Fin cfg1.W) : (dat1 W c).arrAt w 0 = W (Proc.devRef .tc (Pipeline.arrRef spec1 w)) := rfl
theorem arrs_sub1 : Pipeline.arrRefs (τ := τ) spec1 ⊆ Pipeline.ucRefs τ sig := by decide
theorem dat2_at0 (W : Valuation τ sig (Elt F)) (c : Dev nD) (w : Fin cfg2.W) : (dat2 W c).arrAt w 0 = W (Proc.devRef .tc (Pipeline.arrRef spec2 w)) := rfl
theorem arrs_sub2 : Pipeline.arrRefs (τ := τ) spec2 ⊆ Pipeline.ucRefs τ sig := by decide

/-- A whole buffer owned at some contents, in the two ways of writing it. -/
theorem owns_some (c : Dev nD) (r : Ref sig .tc) :
    (iprop(∃ f : Buf (Elt F) ((c : Thread nD τ).loc r), ((c : Thread nD τ).loc r) ↦{fullShare} f) : sProp 𝕄)
      = iprop(∃ d : r.ty.Contents (Elt F), owns (c : Thread nD τ) (Memref.whole r) fullShare d) := by
  have h : (fun d : r.ty.Contents (Elt F) => (owns (c : Thread nD τ) (Memref.whole r) fullShare d : sProp 𝕄))
      = fun d => (((c : Thread nD τ).loc r) ↦{fullShare} d) := funext fun d => owns_whole (c : Thread nD τ) r fullShare d
  exact congrArg (fun P : r.ty.Contents (Elt F) → sProp 𝕄 => (iprop(∃ d, P d) : sProp 𝕄)) h.symm

theorem phi1_in_aux (P0 P1 P2 P3 B : sProp 𝕄) {α : Type} (Q : α → sProp 𝕄) (p : α → Prop) (hp : ∀ a, p a) :
    iprop(iprop(iprop(P0 ∗ P1 ∗ P2 ∗ P3 ∗ ∃ a, Q a) ∗ B) ∗ (BI.emp : sProp 𝕄)) ⊢ iprop(P0 ∗ P1 ∗ P2 ∗ P3 ∗ (∃ a, ⌜p a⌝ ∗ Q a) ∗ B) := by
  iintro ⟨⟨⟨H0, H1, H2, H3, ⟨%f4, H4⟩⟩, HB⟩, -⟩
  isplitl [H0]; · iexact H0
  isplitl [H1]; · iexact H1
  isplitl [H2]; · iexact H2
  isplitl [H3]; · iexact H3
  isplitl [H4]
  · iexists f4; isplitr
    · ipureintro; exact hp f4
    iexact H4
  iexact HB

theorem phi1_out_aux (P0 P1 P2 P3 B : sProp 𝕄) {α : Type} (Q : α → sProp 𝕄) (p : α → Prop) :
    iprop(P0 ∗ P1 ∗ P2 ∗ P3 ∗ (∃ a, ⌜p a⌝ ∗ Q a) ∗ B) ⊢ iprop(iprop(iprop(P0 ∗ P1 ∗ P2 ∗ P3 ∗ ∃ a, Q a) ∗ B) ∗ (BI.emp : sProp 𝕄)) := by
  iintro ⟨H0, H1, H2, H3, ⟨%f4, -, H4⟩, HB⟩
  isplitl [H0 H1 H2 H3 H4 HB]
  · isplitl [H0 H1 H2 H3 H4]
    · isplitl [H0]; · iexact H0
      isplitl [H1]; · iexact H1
      isplitl [H2]; · iexact H2
      isplitl [H3]; · iexact H3
      iexists f4; iexact H4
    iexact HB
  iempintro

theorem phi1_in (W : Valuation τ sig (Elt F)) (c : Dev nD) : iprop(Pipeline.scopedRest spec1 c ∗ (BI.emp : sProp 𝕄)) ⊢ Phi1 W c 0 := by
  rw [scopedRest1_split c, owns_some c cc1_scratch0, owns_some c cc1_scratch1, owns_some c cc1_scratch2, owns_some c cc1_scratch3, owns_some c cc1_scratch4]
  exact phi1_in_aux _ _ _ _ _ _ (fun A => Good W 0 A) (fun A i hi => absurd hi (Nat.not_lt_zero _))

theorem phi1_out (W : Valuation τ sig (Elt F)) (c : Dev nD) (k : ℕ) : Phi1 W c k ⊢ iprop(Pipeline.scopedRest spec1 c ∗ (BI.emp : sProp 𝕄)) := by
  rw [scopedRest1_split c, owns_some c cc1_scratch0, owns_some c cc1_scratch1, owns_some c cc1_scratch2, owns_some c cc1_scratch3, owns_some c cc1_scratch4]
  exact phi1_out_aux _ _ _ _ _ _ (fun A => Good W k A)

/-! ## The three kernels' records -/

theorem hbody0 (c : Dev nD) : Pipeline.BodyObligationLoose (pdats m 0 c) defs₀ Variants.none () Set.univ := (body_obligation0 (U3 m c) c).loose
theorem howed0 (c : Dev nD) (t) : (pdats m 0 c).owed t = 0 := rfl
theorem hrec0 (c : Dev nD) : (pdats m 0 c).recorded 0 = Set.univ := rfl
theorem hshare0 (c : Dev nD) (w) : (pdats m 0 c).share w = fullShare := (dat0 (U3 m c) c).share_full (fun _ => rfl) w
theorem hin0 (c : Dev nD) : iprop(Pipeline.scopedRest (Pipeline.pin (pcfgs (F := F)) adm 0).spec c ∗ (BI.emp : sProp 𝕄)) ⊢ (pdats m 0 c).Φ 0 := by
  show iprop(Pipeline.scopedRest spec0 c ∗ BI.emp) ⊢ Pipeline.scopedRest spec0 c
  iintro ⟨H, -⟩; iexact H
theorem hout0 (c : Dev nD) : (pdats m 0 c).Φ (Fin.last (Pipeline.pin (pcfgs (F := F)) adm 0).N) ⊢ iprop(Pipeline.scopedRest (Pipeline.pin (pcfgs (F := F)) adm 0).spec c ∗ (BI.emp : sProp 𝕄)) := by
  show Pipeline.scopedRest spec0 c ⊢ iprop(Pipeline.scopedRest spec0 c ∗ BI.emp)
  iintro H; isplitl [H]; · iexact H
  iempintro
theorem hW0 (c : Dev nD) (w) : (pdats m 0 c).arrAt w 0 = U3 m c (Proc.devRef .tc (Pipeline.arrRef (Pipeline.pin (pcfgs (F := F)) adm 0).spec w)) := dat0_at0 (U3 m c) c w
theorem U4_eq (c : Dev nD) : U4 m c = Pipeline.afterRegion (pdats m 0 c) (U3 m c) := rfl

/-- The record of kernel 0. -/
def reg0 : RegionSeg (pcfgs (F := F)) adm (pdats m) () defs₀ Variants.none Lv lvl 0 :=
  RegionSeg.ofHeldIn (pcfgs (F := F)) adm (pdats m) () defs₀ Variants.none Lv lvl 0 (fun _ => 0) (Pipeline.ucRefs τ sig)
    (fun _ => BI.emp) (fun _ => BI.emp) launch0.toP rfl (hbody0 m) (howed0 m) (hrec0 m) (hshare0 m) (hin0 m) (hout0 m)
    (fun _ => 0) (cut 0) (fun _ => BI.emp) (U3 m) (hW0 m)

theorem reg0_pre (c : Dev nD) : iprop(StableHlo.held (c : Thread nD τ) (Pipeline.ucRefs τ sig) (U3 m c) ∗ Er c) ⊢ (reg0 m).pre c := by
  have h := RegionSeg.ofHeldIn_pre (L := Lv) (lv := lvl) (p := 0) (D := fun _ => 0) (S := Pipeline.ucRefs τ sig) (kit := launch0.toP) (hK := rfl) (hbody := hbody0 m) (howed := howed0 m) (hrec := hrec0 m) (hshare := hshare0 m)
    (hin := hin0 m) (hout := hout0 m) (b := fun _ => 0) (hcut := cut 0) (R := fun _ => (BI.emp : sProp 𝕄)) (hW := hW0 m) arrs_sub0 c
  exact h

theorem reg0_post (c : Dev nD) : (reg0 m).post c ⊢ iprop(StableHlo.held (c : Thread nD τ) (Pipeline.ucRefs τ sig) (U4 m c) ∗ Er c) := by
  have h := RegionSeg.ofHeldIn_post (L := Lv) (lv := lvl) (p := 0) (D := fun _ => 0) (S := Pipeline.ucRefs τ sig) (kit := launch0.toP) (hK := rfl) (hbody := hbody0 m) (howed := howed0 m) (hrec := hrec0 m) (hshare := hshare0 m)
    (hin := hin0 m) (hout := hout0 m) (b := fun _ => 0) (hcut := cut 0) (R := fun _ => (BI.emp : sProp 𝕄)) (hW := hW0 m) arrs_sub0 c
  rw [← U4_eq] at h
  exact h

theorem hbody1 (c : Dev nD) : Pipeline.BodyObligationLoose (pdats m 1 c) defs₀ Variants.none () Set.univ := (body_obligation1 (U4 m c) c).loose
theorem howed1 (c : Dev nD) (t) : (pdats m 1 c).owed t = 0 := rfl
theorem hrec1 (c : Dev nD) : (pdats m 1 c).recorded 0 = Set.univ := rfl
theorem hshare1 (c : Dev nD) (w) : (pdats m 1 c).share w = fullShare := (dat1 (U4 m c) c).share_full (fun _ => rfl) w
theorem hin1 (c : Dev nD) : iprop(Pipeline.scopedRest (Pipeline.pin (pcfgs (F := F)) adm 1).spec c ∗ (BI.emp : sProp 𝕄)) ⊢ (pdats m 1 c).Φ 0 := phi1_in (U4 m c) c
theorem hout1 (c : Dev nD) : (pdats m 1 c).Φ (Fin.last (Pipeline.pin (pcfgs (F := F)) adm 1).N) ⊢ iprop(Pipeline.scopedRest (Pipeline.pin (pcfgs (F := F)) adm 1).spec c ∗ (BI.emp : sProp 𝕄)) := phi1_out (U4 m c) c _
theorem hW1 (c : Dev nD) (w) : (pdats m 1 c).arrAt w 0 = U4 m c (Proc.devRef .tc (Pipeline.arrRef (Pipeline.pin (pcfgs (F := F)) adm 1).spec w)) := dat1_at0 (U4 m c) c w
theorem U5_eq (c : Dev nD) : U5 m c = Pipeline.afterRegion (pdats m 1 c) (U4 m c) := rfl

/-- The record of kernel 1. -/
def reg1 : RegionSeg (pcfgs (F := F)) adm (pdats m) () defs₀ Variants.none Lv lvl 1 :=
  RegionSeg.ofHeldIn (pcfgs (F := F)) adm (pdats m) () defs₀ Variants.none Lv lvl 1 (fun _ => 0) (Pipeline.ucRefs τ sig)
    (fun _ => BI.emp) (fun _ => BI.emp) launch1.toP rfl (hbody1 m) (howed1 m) (hrec1 m) (hshare1 m) (hin1 m) (hout1 m)
    (fun _ => 0) (cut 1) (fun _ => BI.emp) (U4 m) (hW1 m)

theorem reg1_pre (c : Dev nD) : iprop(StableHlo.held (c : Thread nD τ) (Pipeline.ucRefs τ sig) (U4 m c) ∗ Er c) ⊢ (reg1 m).pre c := by
  have h := RegionSeg.ofHeldIn_pre (L := Lv) (lv := lvl) (p := 1) (D := fun _ => 0) (S := Pipeline.ucRefs τ sig) (kit := launch1.toP) (hK := rfl) (hbody := hbody1 m) (howed := howed1 m) (hrec := hrec1 m) (hshare := hshare1 m)
    (hin := hin1 m) (hout := hout1 m) (b := fun _ => 0) (hcut := cut 1) (R := fun _ => (BI.emp : sProp 𝕄)) (hW := hW1 m) arrs_sub1 c
  exact h

theorem reg1_post (c : Dev nD) : (reg1 m).post c ⊢ iprop(StableHlo.held (c : Thread nD τ) (Pipeline.ucRefs τ sig) (U5 m c) ∗ Er c) := by
  have h := RegionSeg.ofHeldIn_post (L := Lv) (lv := lvl) (p := 1) (D := fun _ => 0) (S := Pipeline.ucRefs τ sig) (kit := launch1.toP) (hK := rfl) (hbody := hbody1 m) (howed := howed1 m) (hrec := hrec1 m) (hshare := hshare1 m)
    (hin := hin1 m) (hout := hout1 m) (b := fun _ => 0) (hcut := cut 1) (R := fun _ => (BI.emp : sProp 𝕄)) (hW := hW1 m) arrs_sub1 c
  rw [← U5_eq] at h
  exact h

theorem hbody2 (c : Dev nD) : Pipeline.BodyObligationLoose (pdats m 2 c) defs₀ Variants.none () Set.univ := (body_obligation2 (U5 m c) c).loose
theorem howed2 (c : Dev nD) (t) : (pdats m 2 c).owed t = 0 := rfl
theorem hrec2 (c : Dev nD) : (pdats m 2 c).recorded 0 = Set.univ := rfl
theorem hshare2 (c : Dev nD) (w) : (pdats m 2 c).share w = fullShare := (dat2 (U5 m c) c).share_full (fun _ => rfl) w
theorem hin2 (c : Dev nD) : iprop(Pipeline.scopedRest (Pipeline.pin (pcfgs (F := F)) adm 2).spec c ∗ (BI.emp : sProp 𝕄)) ⊢ (pdats m 2 c).Φ 0 := by
  show iprop(Pipeline.scopedRest spec2 c ∗ BI.emp) ⊢ Pipeline.scopedRest spec2 c
  iintro ⟨H, -⟩; iexact H
theorem hout2 (c : Dev nD) : (pdats m 2 c).Φ (Fin.last (Pipeline.pin (pcfgs (F := F)) adm 2).N) ⊢ iprop(Pipeline.scopedRest (Pipeline.pin (pcfgs (F := F)) adm 2).spec c ∗ (BI.emp : sProp 𝕄)) := by
  show Pipeline.scopedRest spec2 c ⊢ iprop(Pipeline.scopedRest spec2 c ∗ BI.emp)
  iintro H; isplitl [H]; · iexact H
  iempintro
theorem hW2 (c : Dev nD) (w) : (pdats m 2 c).arrAt w 0 = U5 m c (Proc.devRef .tc (Pipeline.arrRef (Pipeline.pin (pcfgs (F := F)) adm 2).spec w)) := dat2_at0 (U5 m c) c w
theorem U6_eq (c : Dev nD) : U6 m c = Pipeline.afterRegion (pdats m 2 c) (U5 m c) := rfl

/-- The record of kernel 2. -/
def reg2 : RegionSeg (pcfgs (F := F)) adm (pdats m) () defs₀ Variants.none Lv lvl 2 :=
  RegionSeg.ofHeldIn (pcfgs (F := F)) adm (pdats m) () defs₀ Variants.none Lv lvl 2 (fun _ => 0) (Pipeline.ucRefs τ sig)
    (fun _ => BI.emp) (fun _ => BI.emp) launch2.toP rfl (hbody2 m) (howed2 m) (hrec2 m) (hshare2 m) (hin2 m) (hout2 m)
    (fun _ => 0) (cut 2) (fun _ => BI.emp) (U5 m) (hW2 m)

theorem reg2_pre (c : Dev nD) : iprop(StableHlo.held (c : Thread nD τ) (Pipeline.ucRefs τ sig) (U5 m c) ∗ Er c) ⊢ (reg2 m).pre c := by
  have h := RegionSeg.ofHeldIn_pre (L := Lv) (lv := lvl) (p := 2) (D := fun _ => 0) (S := Pipeline.ucRefs τ sig) (kit := launch2.toP) (hK := rfl) (hbody := hbody2 m) (howed := howed2 m) (hrec := hrec2 m) (hshare := hshare2 m)
    (hin := hin2 m) (hout := hout2 m) (b := fun _ => 0) (hcut := cut 2) (R := fun _ => (BI.emp : sProp 𝕄)) (hW := hW2 m) arrs_sub2 c
  exact h

theorem reg2_post (c : Dev nD) : (reg2 m).post c ⊢ iprop(StableHlo.held (c : Thread nD τ) (Pipeline.ucRefs τ sig) (U6 m c) ∗ Er c) := by
  have h := RegionSeg.ofHeldIn_post (L := Lv) (lv := lvl) (p := 2) (D := fun _ => 0) (S := Pipeline.ucRefs τ sig) (kit := launch2.toP) (hK := rfl) (hbody := hbody2 m) (howed := howed2 m) (hrec := hrec2 m) (hshare := hshare2 m)
    (hin := hin2 m) (hout := hout2 m) (b := fun _ => 0) (hcut := cut 2) (R := fun _ => (BI.emp : sProp 𝕄)) (hW := hW2 m) arrs_sub2 c
  rw [← U6_eq] at h
  exact h

end Cert.KernelIdeal.Gen
-- ==== Proof.K.Run.lean ====
module

public import proofs.«01_k».proof.Proof.K.Recs
public import proofs.«01_k».proof.Proof.Gen.KernelIdeal.Regions
public import Idealize.ShloMosaic.Lib.Pipeline.RegionArraysS
public import Idealize.ShloMosaic.Lib.Pipeline.FrameTail
public import Idealize.ShloMosaic.Lib.Claim
public import proofs.«01_k».proof.Proof.Gen.KernelIdeal.Launch
public import proofs.«01_k».proof.Proof.Gen.KernelIdeal.Points
public import Idealize.ShloMosaic.Lib.Pipeline.FrameBody
public import Idealize.ShloMosaic.Lib.Pipeline.Value
public import Idealize.ShloMosaic.Lib.Pipeline.ReadBack
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Seg HostSeg RegionSeg)
open Idealize.ShloMosaic.Pipeline (Dat Cfg Window BodyObligation cellOf)
open View (canon Piece PiecesOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- A buffer that is no result of kernel 0 passes through it. -/
theorem U4_of (c : Dev nD) (r : Ref sig .tc) (h : r ∉ ([main_v7_0, main_v7_1] : List (Ref sig .tc))) : U4 m c r = U3 m c r := by
  unfold U4
  refine Pipeline.afterRegion_keeps (dat0 (U3 m c) c) (U3 m c) launch0.win.arr_inj (fun w => rfl) r ?_
  intro w e
  have hw : ∀ w : Fin cfg0.W, (cfg0.win w).isOut = true → Pipeline.arrRef spec0 w ∈ ([main_v7_0, main_v7_1] : List (Ref sig .tc)) := by decide
  by_contra hn
  exact h (e ▸ hw w (by simpa using hn))
/-- A buffer that is no result of kernel 1 passes through it. -/
theorem U5_of (c : Dev nD) (r : Ref sig .tc) (h : r ∉ ([main_v8_0, main_v8_1] : List (Ref sig .tc))) : U5 m c r = U4 m c r := by
  unfold U5
  refine Pipeline.afterRegion_keeps (dat1 (U4 m c) c) (U4 m c) launch1.win.arr_inj (fun w => rfl) r ?_
  intro w e
  have hw : ∀ w : Fin cfg1.W, (cfg1.win w).isOut = true → Pipeline.arrRef spec1 w ∈ ([main_v8_0, main_v8_1] : List (Ref sig .tc)) := by decide
  by_contra hn
  exact h (e ▸ hw w (by simpa using hn))
/-- A buffer that is no result of kernel 2 passes through it. -/
theorem U6_of (c : Dev nD) (r : Ref sig .tc) (h : r ∉ ([main_v9_0, main_v9_1, main_v9_2, main_v9_3] : List (Ref sig .tc))) : U6 m c r = U5 m c r := by
  unfold U6
  refine Pipeline.afterRegion_keeps (dat2 (U5 m c) c) (U5 m c) launch2.win.arr_inj (fun w => rfl) r ?_
  intro w e
  have hw : ∀ w : Fin cfg2.W, (cfg2.win w).isOut = true → Pipeline.arrRef spec2 w ∈ ([main_v9_0, main_v9_1, main_v9_2, main_v9_3] : List (Ref sig .tc)) := by decide
  by_contra hn
  exact h (e ▸ hw w (by simpa using hn))
theorem U7_of (c : Dev nD) (r : Ref sig .tc) (h : r ∉ hostOps3_W) : U7 m c r = U6 m c r :=
  StableHlo.after_of_writes_sub hostOps3 _ hostOps3_writes h

/-- A buffer no part of the program writes holds at the end what it held at first. -/
theorem U7_kept (c : Dev nD) (r : Ref sig .tc) (h7 : r ∉ hostOps3_W) (h6 : r ∉ ([main_v9_0, main_v9_1, main_v9_2, main_v9_3] : List (Ref sig .tc)))
    (h5 : r ∉ ([main_v8_0, main_v8_1] : List (Ref sig .tc))) (h4 : r ∉ ([main_v7_0, main_v7_1] : List (Ref sig .tc)))
    (h3 : r ∉ hostOps0_2_W) (h2 : r ∉ hostOps0_1_W) (h1 : r ∉ hostOps0_W) : U7 m c r = m ((c : Thread nD τ).loc r) :=
  (U7_of m c r h7).trans <| (U6_of m c r h6).trans <| (U5_of m c r h5).trans <| (U4_of m c r h4).trans <| (V3_of m c r h3).trans <|
    (V2_of m c r h2).trans <| (V1_of m c r h1).trans rfl

/-- The last host stretch. -/
def segLast : HostSeg (Ix := Unit) (Name := ℕ) (U := UR sig nD τ) (Lvl := ℕ) (pcfgs (F := F)) defs₀ Variants.none Lv lvl :=
  HostSeg.ofOps _ _ _ _ _ (Pipeline.ucRefs τ sig) hostOps3
    (fun op h => Pipeline.sub_ucRefs op ((List.forall_iff_forall_mem.mp hostOps3_sub) op h))
    (fun op h => (List.forall_iff_forall_mem.mp hostOps3_fresh) op h) (U6 m) Er

/-- The whole program's items. -/
def items (c : Dev nD) : List (Seg (pcfgs (F := F)) adm (pdats m) () defs₀ Variants.none Lv lvl) :=
  [.host (seg0 m Variants.none Lv lvl (fun _ => Er)), .host (seg1 m Variants.none Lv lvl (fun _ => Er)), .host (seg2 m Variants.none Lv lvl (fun _ => Er)),
    .region (reg0 m), .region (reg1 m), .region (reg2 m), .host (segLast m)]

-- the kit's implicit arguments are found by unifying its conclusion with this one
set_option backward.isDefEq.respectTransparency.types false in
/-- THE RUN: every weakly fair execution of the program terminates, and at the end every unscoped buffer holds what the three kernels'
    proof data say (`U7`), with every semaphore counter at zero. -/
theorem run_all : θ_run defs (onTc (τ := τ) (main (F := F))) ⟨m, fun _ => 0, ρ⟩
    (fun r => (∀ c : Dev nD, ∀ b ∈ Pipeline.ucRefs τ sig, r.2.mem ((c.tc : Thread nD τ).1, b) = U7 m c b) ∧ r.2.sem = fun _ => 0) := by
  refine Pipeline.θ_run_regions_kit_dev_sems (pcfgs (F := F)) adm (pdats m) () cellOf_inj emb₁ defs₀ Variants.none Lv lvl m ρ main (items m)
    (fun c Q => by
      rewrite [main_chain c, Seg.run_eq_chain,
        show (items m c).map Seg.prog = [
          StableHlo.seq hostOps0,
          StableHlo.seq hostOps0_1,
          StableHlo.seq hostOps0_2,
          Prog.lift (.customCall (Pipeline.entry 0) ()),
          Prog.lift (.customCall (Pipeline.entry 1) ()),
          Prog.lift (.customCall (Pipeline.entry 2) ()),
          StableHlo.seq hostOps3 ] from rfl]
      dsimp (config := { failIfUnchanged := false }) only
      exact .rfl)
    (fun c => by simp only [items, Seg.pipes_host, Seg.pipes_region, Seg.pipes_nil]; decide) (O₀ := 0)
    (hL := fun g hg => if_neg hg)
    (G := fun _ => iprop(emp)) (u₀ := initOf (Pipeline.cells cfgs cellOf_inj) (Pipeline.launchToks cfgs cellOf_inj))
    (hu₀ := ?_)
    (T₀ := fun c => iprop(StableHlo.held (c : Thread nD τ) (Pipeline.ucRefs τ sig) (V0 m c) ∗ Er c))
    (Tₙ := fun c => StableHlo.held (c : Thread nD τ) (Pipeline.ucRefs τ sig) (U7 m c))
    (hch := fun c => ⟨.rfl, .rfl, .rfl, reg0_pre m c, (reg0_post m c).trans (reg1_pre m c), (reg1_post m c).trans (reg2_pre m c), reg2_post m c, ?_⟩)
    (hinit := ?_) (QY := fun c s => ∀ b ∈ Pipeline.ucRefs τ sig, s.mem ((c.tc : Thread nD τ).1, b) = U7 m c b)
    (hfin := fun c s' => ?_) (hQ := fun _ h hz => ⟨h, funext fun g => hz g (.inr (regions_no_unscoped g.2))⟩)
  · iintro Hu; imodintro
    isplitl [Hu]
    · iapply (show (ownU _ : sProp 𝕄) ⊢ BI.own (emb₁ (initOf (Pipeline.cells cfgs cellOf_inj) (Pipeline.launchToks cfgs cellOf_inj))) from .rfl)
      iexact Hu
    iapply (show (BI.emp : sProp 𝕄) ⊢ bigSep Finset.univ (fun _ : Dev nD => (BI.emp : sProp 𝕄)) from by rw [BI.bigSep_emp_const])
    iempintro
  · show iprop(StableHlo.held (c : Thread nD τ) (Pipeline.ucRefs τ sig) (U7 m c) ∗ Er c) ⊢ (_ : sProp 𝕄)
    iintro ⟨Hh, HO, -, -⟩
    isplitl [Hh]; · iexact Hh
    iexact HO
  · refine Pipeline.initEach Lv lvl fun c => ?_
    rw [show unscopedBufs c (fun b => m ((c.tc : Thread nD τ).loc b)) = StableHlo.held (c.tc : Thread nD τ) (Pipeline.ucRefs τ sig) (V0 m c)
        from Pipeline.unscopedBufs_held (Ix := Unit) (Name := ℕ) (U := UR sig nD τ) (Lvl := ℕ) c (V0 m c)]
    iintro ⟨⟨Hh, -, HO, -, -, -⟩, -⟩
    imodintro
    isplitl [Hh]; · iexact Hh
    isplitl [HO]; · iexists _; iexact HO
    isplitr <;> iempintro
  · unfold StableHlo.held
    iintro ⟨Hh, HSI⟩
    ihave Hr := (pointsTo_read_all (Pipeline.ucRefs τ sig) (fun b => ((c : Thread nD τ).1, b)) (U7 m c) s') $$ [Hh HSI]
    · isplitl [Hh] <;> iassumption
    icases Hr with ⟨%h, HSI⟩
    imodintro
    isplitr
    · ipureintro; exact h
    iexact HSI

/-- What a named buffer holds at the end. -/
theorem run_read {s : MemSt nD τ sig (Elt F)} (h : ∀ c : Dev nD, ∀ b ∈ Pipeline.ucRefs τ sig, s.mem ((c.tc : Thread nD τ).1, b) = U7 m c b)
    (c : Dev nD) (r : Ref sig .tc) (hr : r.isScoped = false) : s.mem ((c.tc : Thread nD τ).loc r) = U7 m c r :=
  h c (Proc.devRef .tc r) (Finset.mem_filter.mpr ⟨StableHlo.devRef_mem_tcRefs r, by simpa using hr⟩)

/-- THE FRAME. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun r h => ⟨fun c => ⟨(run_read m h.1 c main_arg0 (by decide)).trans (U7_kept m c main_arg0 (by decide) (by decide) (by decide) (by decide) (by decide) (by decide) (by decide)),
    (run_read m h.1 c main_arg1 (by decide)).trans (U7_kept m c main_arg1 (by decide) (by decide) (by decide) (by decide) (by decide) (by decide) (by decide)),
    (run_read m h.1 c main_arg2 (by decide)).trans (U7_kept m c main_arg2 (by decide) (by decide) (by decide) (by decide) (by decide) (by decide) (by decide)),
    (run_read m h.1 c main_arg3 (by decide)).trans (U7_kept m c main_arg3 (by decide) (by decide) (by decide) (by decide) (by decide) (by decide) (by decide)),
    (run_read m h.1 c main_arg4 (by decide)).trans (U7_kept m c main_arg4 (by decide) (by decide) (by decide) (by decide) (by decide) (by decide) (by decide)),
    (run_read m h.1 c main_arg5 (by decide)).trans (U7_kept m c main_arg5 (by decide) (by decide) (by decide) (by decide) (by decide) (by decide) (by decide)),
    (run_read m h.1 c main_arg6 (by decide)).trans (U7_kept m c main_arg6 (by decide) (by decide) (by decide) (by decide) (by decide) (by decide) (by decide)),
    (run_read m h.1 c main_arg7 (by decide)).trans (U7_kept m c main_arg7 (by decide) (by decide) (by decide) (by decide) (by decide) (by decide) (by decide))⟩, h.2⟩) (run_all m ρ)

end Cert.KernelIdeal.Gen
-- ==== Proof.V.Spec.lean ====
module

public import Idealize.ShloMosaic.Lib.Pointwise
public import Idealize.ShloMosaic.Lib.IdealHost
public import Idealize.ShloMosaic.Lib.Pipeline.ValueKit

/-! The gradients of the rounded linear layer as plain sums over tokens, channels and columns: what both programs
compute, stated once, on extended reals. -/

@[expose] public section

noncomputable section

namespace Cert.V

open Idealize.ShloMosaic

/-- The rounded and clipped value of `z`, a whole number between −8 and 7. -/
def qz (z : EReal) : EReal :=
  min (Ideal.ofBits .f32 0x40E00000#32) (max (Ideal.ofBits .f32 0xC1000000#32) (Ideal.liftRound Ideal.roundHalfEven z))

/-- The code of `z`: its rounded and clipped value as an eight-bit word. -/
def cz (z : EReal) : BitVec 8 := Ideal.fptosi 8 (qz z)

/-- One where rounding `z` does not leave the clipping range, else zero. -/
def mz (z : EReal) : EReal :=
  Scalar.select (IntOp.andi (Ideal.cmp .oge z (Ideal.ofBits .f32 0xC1080000#32)) (Ideal.cmp .olt z (Ideal.ofBits .f32 0x40F00000#32)))
    (Ideal.ofBits .f32 0x3F800000#32) (0 : EReal)

theorem ofBits_7 : Ideal.ofBits .f32 0x40E00000#32 = ((7 : ℝ) : EReal) := by
  simp [Ideal.ofBits, Ideal.ieee, -EReal.coe_mul]; norm_num

theorem ofBits_m8 : Ideal.ofBits .f32 0xC1000000#32 = ((-8 : ℝ) : EReal) := by
  simp [Ideal.ofBits, Ideal.ieee, -EReal.coe_mul, -EReal.coe_neg]; norm_num

theorem ofBits_8640 : Ideal.ofBits .f32 0x46070000#32 = ((8640 : ℝ) : EReal) := by
  simp [Ideal.ofBits, Ideal.ieee, -EReal.coe_mul]; norm_num

/-- The rounded and clipped value is a whole number between −8 and 7. -/
theorem qz_int (z : EReal) : ∃ n : ℤ, -8 ≤ n ∧ n ≤ 7 ∧ qz z = ((n : ℝ) : EReal) := by
  unfold qz
  rw [ofBits_7, ofBits_m8]
  induction z using EReal.rec with
  | bot =>
    refine ⟨-8, by norm_num, by norm_num, ?_⟩
    have : Ideal.liftRound Ideal.roundHalfEven ⊥ = ⊥ := rfl
    rw [this, max_eq_left bot_le, min_eq_right (EReal.coe_le_coe_iff.2 (by norm_num))]; norm_num
  | top =>
    refine ⟨7, by norm_num, by norm_num, ?_⟩
    have : Ideal.liftRound Ideal.roundHalfEven ⊤ = ⊤ := rfl
    rw [this, max_eq_right le_top, min_eq_left le_top]; norm_num
  | coe r =>
    have : Ideal.liftRound Ideal.roundHalfEven (r : EReal) = (((Ideal.roundHalfEven r : ℤ) : ℝ) : EReal) := rfl
    rw [this]
    refine ⟨min 7 (max (-8) (Ideal.roundHalfEven r)), by omega, by omega, ?_⟩
    push_cast
    rw [EReal.coe_strictMono.monotone.map_min, EReal.coe_strictMono.monotone.map_max]
    norm_num

/-- Reading the code back gives the rounded and clipped value. -/
theorem toInt_cz (z : EReal) : (((cz z).toInt : ℝ) : EReal) = qz z := by
  obtain ⟨n, h0, h1, e⟩ := qz_int z
  unfold cz
  rw [e]
  have : Ideal.fptosi 8 ((n : ℝ) : EReal) = BitVec.ofInt 8 n := by
    show BitVec.ofInt 8 (max (-(2 ^ 7 : ℕ) : ℤ) (min ((2 ^ 7 : ℕ) - 1 : ℤ) (if (0 : ℝ) ≤ (n : ℝ) then ⌊(n : ℝ)⌋ else ⌈(n : ℝ)⌉))) = _
    congr 1
    rw [Int.floor_intCast, Int.ceil_intCast, ite_self]
    norm_num; omega
  rw [this]
  have : (BitVec.ofInt 8 n).toInt = n := by
    rw [BitVec.toInt_ofInt]
    rw [Int.bmod_eq_of_le] <;> norm_num <;> omega
  rw [this]

/-- Dividing by 8640 multiplies by its inverse. -/
theorem div_8640 (x : EReal) : Ideal.div x (Ideal.ofBits .f32 0x46070000#32) = x * ((1 / 8640 : ℝ) : EReal) := by
  rw [ofBits_8640]
  unfold Ideal.div
  rw [if_neg (by norm_num : ¬((8640 : ℝ) : EReal) = 0), ← EReal.coe_inv, one_div]

/-- The mask times `z` is `z` where the mask is one, else zero. -/
theorem mz_mul (z : EReal) : mz z * z
    = Scalar.select (IntOp.andi (Ideal.cmp .oge z (Ideal.ofBits .f32 0xC1080000#32)) (Ideal.cmp .olt z (Ideal.ofBits .f32 0x40F00000#32))) z (0 : EReal) := by
  unfold mz Scalar.select
  split_ifs
  · rw [Ideal.ofBits_one_f32, one_mul]
  · rw [zero_mul]

/-- A function on the first `n` numbers, zero beyond them. -/
def ext0 {n : ℕ} (f : Fin n → EReal) (k : ℕ) : EReal := if h : k < n then f ⟨k, h⟩ else 0

theorem ext0_of {n : ℕ} (f : Fin n → EReal) (k : ℕ) (h : k < n) : ext0 f k = f ⟨k, h⟩ := dif_pos h

theorem sum_ext0 {n : ℕ} (f : Fin n → EReal) : ∑ i : Fin n, ext0 f i.val = ∑ i : Fin n, f i :=
  Finset.sum_congr rfl fun i _ => ext0_of f i.val i.isLt

/-- A sum over lanes, then over groups of lanes, is the sum over all. -/
theorem sum_lanes (B C : ℕ) (f : ℕ → EReal) : ∑ r : Fin C, ∑ g : Fin B, f (g.val * C + r.val) = ∑ i : Fin (B * C), f i.val := by
  rw [Finset.sum_comm]; exact Fin.sum_univ_univ_mul_add B C f

/-- The same with an outermost count of blocks. -/
theorem sum_blocks (A B C : ℕ) (f : ℕ → EReal) :
    ∑ r : Fin C, ∑ t ∈ Finset.range A, ∑ g : Fin B, f (t * (B * C) + (g.val * C + r.val)) = ∑ i : Fin (A * (B * C)), f i.val := by
  rw [Finset.sum_comm, ← Fin.sum_univ_univ_mul_add A (B * C) f, Fin.sum_univ_eq_sum_range (fun t => ∑ k : Fin (B * C), f (t * (B * C) + k.val)) A]
  exact Finset.sum_congr rfl fun t _ => sum_lanes B C fun n => f (t * (B * C) + n)

/-- The same with the groups of a block in two halves. -/
theorem sum_blocks2 (A H B C : ℕ) (f : ℕ → EReal) :
    ∑ r : Fin C, ∑ t ∈ Finset.range A, ∑ h : Fin H, ∑ g : Fin B, f (t * (H * (B * C)) + (h.val * (B * C) + (g.val * C + r.val)))
      = ∑ i : Fin (A * (H * (B * C))), f i.val := by
  rw [Finset.sum_comm, ← Fin.sum_univ_univ_mul_add A (H * (B * C)) f, Fin.sum_univ_eq_sum_range (fun t => ∑ k : Fin (H * (B * C)), f (t * (H * (B * C)) + k.val)) A]
  refine Finset.sum_congr rfl fun t _ => ?_
  rw [Finset.sum_comm, ← Fin.sum_univ_univ_mul_add H (B * C) fun n => f (t * (H * (B * C)) + n)]
  exact Finset.sum_congr rfl fun h _ => sum_lanes B C fun n => f (t * (H * (B * C)) + (h.val * (B * C) + n))

/-- The arguments, tokens numbered from 0 to 15359. -/
structure Inp where
  x : Fin 15360 → Fin 2880 → EReal
  xs : Fin 15360 → Fin 90 → EReal
  w : Fin 8640 → Fin 2880 → EReal
  s1 : Fin 8640 → EReal
  s2 : Fin 8640 → Fin 2880 → EReal
  r : Fin 8640 → EReal
  c : Fin 2880 → EReal
  y : Fin 15360 → Fin 8640 → EReal

namespace Inp
variable (I : Inp)

/-- The weight over its scale. -/
def Z (i : Fin 8640) (d : Fin 2880) : EReal := Ideal.div (I.w i d) (I.s1 i * Ideal.exp ((I.s2 i d + I.r i) + I.c d))
/-- The activation: its code times its group's scale. -/
def X (t : Fin 15360) (d : Fin 2880) : EReal := I.x t d * I.xs t ⟨d.val / 32, by omega⟩
/-- The residual at channel `i`, token `t`. -/
def R (i : Fin 8640) (t : Fin 15360) : EReal := (∑ d : Fin 2880, qz (I.Z i d) * I.X t d) * I.s1 i - I.y t i
/-- The output's gradient. -/
def E (i : Fin 8640) (t : Fin 15360) : EReal := I.R i t * Ideal.ofBits .f32 0x3281742E#32
/-- The rounded weight's gradient. -/
def G (i : Fin 8640) (d : Fin 2880) : EReal := ∑ t : Fin 15360, I.E i t * I.X t d
/-- The gradient of the log scale. -/
def D2 (i : Fin 8640) (d : Fin 2880) : EReal := ((0 - I.s1 i) * (mz (I.Z i d) * I.Z i d)) * I.G i d
/-- A token's mean squared residual. -/
def rl (t : Fin 15360) : EReal := (∑ i : Fin 8640, I.R i t * I.R i t) * ((1 / 8640 : ℝ) : EReal)
def dr (i : Fin 8640) : EReal := ∑ d : Fin 2880, I.D2 i d
def dc (d : Fin 2880) : EReal := ∑ i : Fin 8640, I.D2 i d
def ds1 (i : Fin 8640) : EReal := ∑ d : Fin 2880, I.G i d * (qz (I.Z i d) - mz (I.Z i d) * I.Z i d)

end Inp

end Cert.V

end
-- ==== Proof.V.KPay.lean ====
module

public import proofs.«01_k».proof.Proof.V.Spec
public import proofs.«01_k».proof.Proof.K.MainF

@[expose] public section

set_option maxRecDepth 16384

noncomputable section

namespace Cert.V

open Idealize.ShloMosaic Cert.KernelIdeal Cert.KernelIdeal.Gen

/-! The stored values of the three kernels, element by element, on extended reals. -/

section quant
variable (w : Vec Ideal S96x2880 .f32) (s : Vec Ideal S96x1 .f32) (s2 : Vec Ideal S96x2880 .f32) (r : Vec Ideal S96x1 .f32) (c : Vec Ideal S1x2880 .f32)
variable (i : Fin 96) (d : Fin 2880)

/-- The weight over its scale, in a block of 96 rows. -/
def zB (w : Vec Ideal S96x2880 .f32) (s : Vec Ideal S96x1 .f32) (s2 : Vec Ideal S96x2880 .f32) (r : Vec Ideal S96x1 .f32) (c : Vec Ideal S1x2880 .f32)
    (i : Fin 96) (d : Fin 2880) : EReal :=
  Ideal.div (w (ix2 i d)) (s (ix2 i 0) * Ideal.exp ((s2 (ix2 i d) + r (ix2 i 0)) + c (ix2 0 d)))

theorem k0_pay1_at : k0_pay1 (F := Ideal) w s s2 r c (ix2 i d) = qz (zB w s s2 r c i d) := by
  pointwise [k0_pay1]
  rfl
theorem k0_pay2_at : k0_pay2 (F := Ideal) w s s2 r c (ix2 i d) = cz (zB w s s2 r c i d) := by
  pointwise [k0_pay2]
  rw [k0_pay1_at]; rfl
theorem k0_pay3_at : k0_pay3 (F := Ideal) w s s2 r c (ix2 i d) = qz (zB w s s2 r c i d) := by
  pointwise [k0_pay3]
  rw [k0_pay1_at]
theorem k0_pay4_at (j : Fin 192) : k0_pay4 (F := Ideal) (ix2 i j) = (0 : EReal) := by
  pointwise [k0_pay4]
end quant

section main
variable (q : Vec Ideal S480x3072 .bf16) (x : Vec Ideal S256x3072 .bf16) (y : Vec Ideal S480x256 .bf16) (s : Vec Ideal S480x1 .f32)

theorem k1_pay42_at (i : Fin 480) (t : Fin 256) :
    k1_pay42 (F := Ideal) q x y s (ix2 i t) = (∑ k : Fin 3072, q (ix2 i k) * x (ix2 t k)) * s (ix2 i 0) - y (ix2 i t) := by
  pointwise [k1_pay42]
theorem k1_pay43_at (i : Fin 480) (t : Fin 256) :
    k1_pay43 (F := Ideal) q x y s (ix2 i t) = k1_pay42 (F := Ideal) q x y s (ix2 i t) * Ideal.ofBits .f32 0x3281742E#32 := by
  pointwise [k1_pay43]
theorem k1_pay44_at (i : Fin 8) (t : Fin 256) :
    k1_pay44 (F := Ideal) q x y s (ix2 i t) = ∑ g : Fin 60, k1_pay42 (F := Ideal) q x y s (ix2 ⟨g.val * 8 + i.val, by omega⟩ t) * k1_pay42 (F := Ideal) q x y s (ix2 ⟨g.val * 8 + i.val, by omega⟩ t) := by
  pointwise [k1_pay44]
theorem k1_pay46_eq : k1_pay46 (F := Ideal) (k1_pay45 q x) y s = k1_pay42 q x y s := rfl
theorem k1_pay48_at (a : FVec Ideal S8x256 .f32) (i : Fin 8) (t : Fin 256) :
    k1_pay48 (F := Ideal) a (k1_pay45 q x) y s (ix2 i t) = a (ix2 i t) + ∑ g : Fin 60, k1_pay42 (F := Ideal) q x y s (ix2 ⟨g.val * 8 + i.val, by omega⟩ t) * k1_pay42 (F := Ideal) q x y s (ix2 ⟨g.val * 8 + i.val, by omega⟩ t) := by
  pointwise [k1_pay48]
  rfl
theorem k1_pay81_at (a : Vec Ideal S1x8x1024 .f32) (t : Fin 1024) :
    k1_pay81 (F := Ideal) a (ix3 0 0 t) = (∑ r : Fin 8, a (ix3 0 r t)) * ((1 / 8640 : ℝ) : EReal) := by
  pointwise [k1_pay81]
  congr 1
theorem k1_pay83_at (g : Vec Ideal S480x256 .f32) (e : Vec Ideal S480x1024 .bf16) (x : Vec Ideal S1024x256 .bf16) (i : Fin 480) (d : Fin 256) :
    k1_pay83 (F := Ideal) g e x (ix2 i d) = g (ix2 i d) + ∑ t : Fin 1024, e (ix2 i t) * x (ix2 t d) := by
  pointwise [k1_pay83]
theorem k1_pay95_at (g : Vec Ideal S480x64 .f32) (e : Vec Ideal S480x1024 .bf16) (x : Vec Ideal S1024x64 .bf16) (i : Fin 480) (d : Fin 64) :
    k1_pay95 (F := Ideal) g e x (ix2 i d) = g (ix2 i d) + ∑ t : Fin 1024, e (ix2 i t) * x (ix2 t d) := by
  pointwise [k1_pay95]
theorem k1_pay41_at (y : Vec Ideal S1024x1024 .bf16) (i t : Fin 1024) : k1_pay41 (F := Ideal) y (ix2 i t) = y (ix2 t i) := by
  pointwise [k1_pay41]
theorem k1_pay82_at (i : Fin 960) (d : Fin 2880) : k1_pay82 (F := Ideal) (ix2 i d) = (0 : EReal) := by
  pointwise [k1_pay82]
end main

section epi
variable (s : Vec Ideal S96x1 .f32) (w s2 : Vec Ideal S96x2880 .f32) (r : Vec Ideal S96x1 .f32) (c : Vec Ideal S1x2880 .f32) (g : Vec Ideal S96x2880 .f32)
variable (i : Fin 96) (d : Fin 2880)

theorem k2_pay8_at : k2_pay8 (F := Ideal) s w s2 r c (ix2 i d) = qz (zB w s s2 r c i d) := by
  pointwise [k2_pay8, k2_pay7, k2_pay6]
  rfl
theorem k2_pay10_at : k2_pay10 (F := Ideal) s w s2 r c (ix2 i d) = mz (zB w s s2 r c i d) * zB w s s2 r c i d := by
  pointwise [k2_pay10, k2_pay7, k2_pay6]
  rw [mz_mul]; rfl
theorem k2_pay11_at : k2_pay11 (F := Ideal) s w s2 r c g (ix2 i d)
    = ((0 - s (ix2 i 0)) * (mz (zB w s s2 r c i d) * zB w s s2 r c i d)) * g (ix2 i d) := by
  pointwise [k2_pay11, k2_pay9, k2_pay6]
  rw [k2_pay10_at]
theorem k2_pay1_at (a : FVec Ideal S96x2880 .f32) : k2_pay1 (F := Ideal) a (ix2 i 0) = ∑ d : Fin 2880, a (ix2 i d) := by
  pointwise [k2_pay1]
theorem k2_pay2_at (a b m : FVec Ideal S96x2880 .f32) : k2_pay2 (F := Ideal) a b m (ix2 i 0) = ∑ d : Fin 2880, b (ix2 i d) * (a (ix2 i d) - m (ix2 i d)) := by
  pointwise [k2_pay2]
theorem k2_pay3_at (r : Fin 8) : k2_pay3 (F := Ideal) (ix2 r d) = (0 : EReal) := by
  pointwise [k2_pay3]
theorem k2_pay4_at (a : FVec Ideal S96x2880 .f32) (o : Vec Ideal S8x2880 .f32) (r : Fin 8) :
    k2_pay4 (F := Ideal) a o (ix2 r d) = o (ix2 r d) + ∑ g : Fin 12, a (ix2 ⟨g.val * 8 + r.val, by omega⟩ d) := by
  pointwise [k2_pay4]
theorem k2_pay5_at (a : Vec Ideal S8x2880 .f32) : k2_pay5 (F := Ideal) a (ix2 0 d) = ∑ r : Fin 8, a (ix2 r d) := by
  pointwise [k2_pay5]
theorem k2_pay9_at (a : Vec Ideal S96x2880 .f32) : k2_pay9 (F := Ideal) a (ix2 i d) = a (ix2 i d) := by
  pointwise [k2_pay9]
end epi

end Cert.V

end
-- ==== Proof.V.KIn.lean ====
module

public import proofs.«01_k».proof.Proof.V.Spec
public import proofs.«01_k».proof.Proof.K.Reg0
public import proofs.«01_k».proof.Proof.K.Reg1
public import proofs.«01_k».proof.Proof.K.Reg2
public import Idealize.ShloMosaic.Lib.Pipeline.ValueKit

@[expose] public section

set_option maxRecDepth 16384

noncomputable section

namespace Cert.V

open Idealize.ShloMosaic Idealize.ShloMosaic.TcCoe Cert.KernelIdeal Cert.KernelIdeal.Gen

/-! What each window of the three regions reads: its block of its array. -/

variable (W : Valuation τ sig (Elt Ideal))

theorem idx0 : ∀ t : Fin cfg0.N, win0_0.index t = ![t.val, 0] ∧ win0_1.index t = ![t.val, 0] ∧ win0_2.index t = ![t.val, 0] ∧ win0_3.index t = ![t.val, 0]
    ∧ win0_4.index t = ![0, 0] ∧ win0_5.index t = ![t.val, 0] ∧ win0_6.index t = ![t.val, 0] := (by decide +kernel : ∀ t : Fin grid0.N, _)
theorem idx1 : ∀ t : Fin cfg1.N, win1_0.index t = ![t.val % 15, 0] ∧ win1_1.index t = ![t.val % 15, 0] ∧ win1_2.index t = ![1024 * (t.val % 15), 960 * (t.val / 15) - 64 * (t.val / 15 % 2)] ∧ win1_3.index t = ![t.val / 15, 0]
    ∧ win1_4.index t = ![t.val / 15, 0] ∧ win1_5.index t = ![t.val % 15, 0, 0] ∧ win1_6.index t = ![t.val / 15, 0] := (by decide +kernel : ∀ t : Fin grid1.N, _)
theorem idx2 : ∀ t : Fin cfg2.N, win2_0.index t = ![t.val, 0] ∧ win2_1.index t = ![t.val, 0] ∧ win2_2.index t = ![t.val, 0] ∧ win2_3.index t = ![t.val, 0]
    ∧ win2_4.index t = ![t.val, 0] ∧ win2_5.index t = ![0, 0] ∧ win2_6.index t = ![t.val, 0] ∧ win2_7.index t = ![t.val, 0] ∧ win2_8.index t = ![t.val, 0]
    ∧ win2_9.index t = ![0, 0] := (by decide +kernel : ∀ t : Fin grid2.N, _)

theorem iblk0_0 (t : Fin cfg0.N) (i : Fin 96) (d : Fin 2880) (j : Fin 8640) (hj : j.val = t.val * 96 + i.val) :
    iblk0 W 0 t (ix2 i d) = W (Proc.devRef .tc main_arg2) (ix2 j d) := by
  blk_ext [iblk0, idx0 t]

theorem iblk0_1 (t : Fin cfg0.N) (i : Fin 96) (d : Fin 1) (j : Fin 8640) (hj : j.val = t.val * 96 + i.val) :
    iblk0 W 1 t (ix2 i d) = W (Proc.devRef .tc main_v4) (ix2 j d) := by
  blk_ext [iblk0, idx0 t]

theorem iblk0_2 (t : Fin cfg0.N) (i : Fin 96) (d : Fin 2880) (j : Fin 8640) (hj : j.val = t.val * 96 + i.val) :
    iblk0 W 2 t (ix2 i d) = W (Proc.devRef .tc main_arg4) (ix2 j d) := by
  blk_ext [iblk0, idx0 t]

theorem iblk0_3 (t : Fin cfg0.N) (i : Fin 96) (d : Fin 1) (j : Fin 8640) (hj : j.val = t.val * 96 + i.val) :
    iblk0 W 3 t (ix2 i d) = W (Proc.devRef .tc main_v5) (ix2 j d) := by
  blk_ext [iblk0, idx0 t]

theorem iblk0_4 (t : Fin cfg0.N) (d : Fin 2880) :
    iblk0 W 4 t (ix2 0 d) = W (Proc.devRef .tc main_v6) (ix2 0 d) := by
  blk_ext [iblk0, idx0 t]

theorem iblk1_0 (t : Fin cfg1.N) (i : Fin 1024) (d : Fin 2880) (j : Fin 15360) (hj : j.val = (t.val % 15) * 1024 + i.val) :
    iblk1 W 0 t (ix2 i d) = W (Proc.devRef .tc main_v0) (ix2 j d) := by
  blk_ext [iblk1, idx1 t]

theorem iblk1_1 (t : Fin cfg1.N) (i : Fin 1024) (d : Fin 90) (j : Fin 15360) (hj : j.val = (t.val % 15) * 1024 + i.val) :
    iblk1 W 1 t (ix2 i d) = W (Proc.devRef .tc main_v1) (ix2 j d) := by
  blk_ext [iblk1, idx1 t]

theorem iblk1_3 (t : Fin cfg1.N) (i : Fin 960) (d : Fin 3072) (j : Fin 8640) (hj : j.val = (t.val / 15) * 960 + i.val) :
    iblk1 W 3 t (ix2 i d) = W (Proc.devRef .tc main_v7_1) (ix2 j d) := by
  blk_ext [iblk1, idx1 t]

theorem iblk1_4 (t : Fin cfg1.N) (i : Fin 960) (d : Fin 1) (j : Fin 8640) (hj : j.val = (t.val / 15) * 960 + i.val) :
    iblk1 W 4 t (ix2 i d) = W (Proc.devRef .tc main_v4) (ix2 j d) := by
  blk_ext [iblk1, idx1 t]

theorem iblk2_0 (t : Fin cfg2.N) (i : Fin 96) (d : Fin 2880) (j : Fin 8640) (hj : j.val = t.val * 96 + i.val) :
    iblk2 W 0 t (ix2 i d) = W (Proc.devRef .tc main_v8_1) (ix2 j d) := by
  blk_ext [iblk2, idx2 t]

theorem iblk2_1 (t : Fin cfg2.N) (i : Fin 96) (d : Fin 2880) (j : Fin 8640) (hj : j.val = t.val * 96 + i.val) :
    iblk2 W 1 t (ix2 i d) = W (Proc.devRef .tc main_arg2) (ix2 j d) := by
  blk_ext [iblk2, idx2 t]

theorem iblk2_2 (t : Fin cfg2.N) (i : Fin 96) (d : Fin 1) (j : Fin 8640) (hj : j.val = t.val * 96 + i.val) :
    iblk2 W 2 t (ix2 i d) = W (Proc.devRef .tc main_v4) (ix2 j d) := by
  blk_ext [iblk2, idx2 t]

theorem iblk2_3 (t : Fin cfg2.N) (i : Fin 96) (d : Fin 2880) (j : Fin 8640) (hj : j.val = t.val * 96 + i.val) :
    iblk2 W 3 t (ix2 i d) = W (Proc.devRef .tc main_arg4) (ix2 j d) := by
  blk_ext [iblk2, idx2 t]

theorem iblk2_4 (t : Fin cfg2.N) (i : Fin 96) (d : Fin 1) (j : Fin 8640) (hj : j.val = t.val * 96 + i.val) :
    iblk2 W 4 t (ix2 i d) = W (Proc.devRef .tc main_v5) (ix2 j d) := by
  blk_ext [iblk2, idx2 t]

theorem iblk2_5 (t : Fin cfg2.N) (d : Fin 2880) :
    iblk2 W 5 t (ix2 0 d) = W (Proc.devRef .tc main_v6) (ix2 0 d) := by
  blk_ext [iblk2, idx2 t]

theorem iblk1_2 (t : Fin cfg1.N) (i : Fin 1024) (d : Fin 1024) (j : Fin 15360) (hj : j.val = (t.val % 15) * 1024 + i.val)
    (l : Fin 8704) (hl : l.val = 960 * (t.val / 15) - 64 * (t.val / 15 % 2) + d.val) :
    iblk1 W 2 t (ix2 i d) = W (Proc.devRef .tc main_v3) (ix2 j l) := by
  blk_ext [iblk1, idx1 t]
  · show ((win1_2.rect t).emb (ix2 i d) 0).val = j.val
    rw [Pipeline.Window.rect_emb_val_off, (idx1 t).2.2.1]
    show 1024 * (t.val % 15) + i.val = j.val
    omega
  · show ((win1_2.rect t).emb (ix2 i d) 1).val = l.val
    rw [Pipeline.Window.rect_emb_val_off, (idx1 t).2.2.1]
    show 960 * (t.val / 15) - 64 * (t.val / 15 % 2) + d.val = l.val
    omega

end Cert.V

end
-- ==== Proof.V.KQuant.lean ====
module

public import proofs.«01_k».proof.Proof.V.KPay
public import proofs.«01_k».proof.Proof.V.KIn
public import Idealize.ShloMosaic.Lib.Pipeline.ValueKit

@[expose] public section

set_option maxRecDepth 16384

noncomputable section

namespace Cert.V

open Idealize.ShloMosaic Idealize.ShloMosaic.TcCoe Cert.KernelIdeal Cert.KernelIdeal.Gen

/-! The quantiser's two arrays. -/

variable (W : Valuation τ sig (Elt Ideal))

/-- The weight over its scale, from the arrays it is computed of. -/
def zF (w : S8640x2880.Idx → EReal) (s : S8640x1.Idx → EReal) (s2 : S8640x2880.Idx → EReal) (r : S8640x1.Idx → EReal) (c : S1x2880.Idx → EReal)
    (i : Fin 8640) (d : Fin 2880) : EReal :=
  Ideal.div (w (ix2 i d)) (s (ix2 i 0) * Ideal.exp ((s2 (ix2 i d) + r (ix2 i 0)) + c (ix2 0 d)))

/-- The weight over its scale, read off the arrays. -/
def zA (i : Fin 8640) (d : Fin 2880) : EReal :=
  zF (W (Proc.devRef .tc main_arg2)) (W (Proc.devRef .tc main_v4)) (W (Proc.devRef .tc main_arg4)) (W (Proc.devRef .tc main_v5)) (W (Proc.devRef .tc main_v6)) i d

theorem zB0 (t : Fin cfg0.N) (i : Fin 96) (d : Fin 2880) (j : Fin 8640) (hj : j.val = t.val * 96 + i.val) :
    zB (iblk0 W 0 t) (iblk0 W 1 t) (iblk0 W 2 t) (iblk0 W 3 t) (iblk0 W 4 t) i d = zA W j d := by
  unfold zB zA zF
  rw [iblk0_0 W t i d j hj, iblk0_1 W t i 0 j hj, iblk0_2 W t i d j hj, iblk0_3 W t i 0 j hj, iblk0_4 W t d]

theorem zB2 (t : Fin cfg2.N) (i : Fin 96) (d : Fin 2880) (j : Fin 8640) (hj : j.val = t.val * 96 + i.val) :
    zB (iblk2 W 1 t) (iblk2 W 2 t) (iblk2 W 3 t) (iblk2 W 4 t) (iblk2 W 5 t) i d = zA W j d := by
  unfold zB zA zF
  rw [iblk2_1 W t i d j hj, iblk2_2 W t i 0 j hj, iblk2_3 W t i d j hj, iblk2_4 W t i 0 j hj, iblk2_5 W t d]

/-- The codes. -/
theorem codes_eq (c : Dev nD) : (dat0 W c).arrAt 5 cfg0.N = fun j : S8640x2880.Idx => cz (zA W (j 0) (j 1)) := by
  refine (dat0 W c).arrAt_eq_of_covers 5 _ (by decide +kernel) fun t hf y => ?_
  blk_simp
  rw [after0_5]
  obtain ⟨i, d, rfl⟩ : ∃ (i : Fin 96) (d : Fin 2880), y = ix2 i d := ⟨y 0, y 1, eq_ix2 y⟩
  have ht : t.val < 90 := lt_of_lt_of_eq t.isLt (show cfg0.N = 90 from N_0)
  refine (k0_pay2_at _ _ _ _ _ i d).trans (congrArg cz ((zB0 W t i d ⟨t.val * 96 + i.val, by omega⟩ rfl).trans
    (congrArg₂ (zA W) (Fin.ext ?_) (Fin.ext ?_))))
  · blk_simp [idx0 t]
  · blk_simp [idx0 t]

/-- The quantised block with its padding columns. -/
def padU (p : FVec Ideal S96x2880 .bf16) : FVec Ideal S96x3072 .bf16 :=
  fun j => if h : (j 1).val < 2880 then p (ix2 (n0 := 96) (n1 := 2880) (j 0) ⟨(j 1).val, h⟩) else (0 : EReal)

theorem padCodes_at (p : FVec Ideal S96x2880 .bf16) (i : Fin 96) (k : Fin 3072) :
    padCodes p (ix2 i k) = if h : k.val < 2880 then p (ix2 i ⟨k.val, h⟩) else (0 : EReal) := by
  have h0 : ∀ x : S96x192.Idx, k0_pay4 (F := Ideal) x = padU p ((Rect.unit (s := S96x3072) ![0, 2880] S96x192.size inb_S96x3072_S96x192_0_2880).emb x) := by
    intro x
    obtain ⟨a, b, rfl⟩ : ∃ (a : Fin 96) (b : Fin 192), x = ix2 a b := ⟨x 0, x 1, eq_ix2 x⟩
    rw [k0_pay4_at]
    unfold padU
    refine Eq.symm (dif_neg ?_)
    show ¬ 2880 + 1 * b.val < 2880
    omega
  have h1 : ∀ x : S96x2880.Idx, p x = padU p ((Rect.unit (s := S96x3072) ![0, 0] S96x2880.size inb_S96x3072_S96x2880_0_0).emb x) := by
    intro x
    obtain ⟨a, b, rfl⟩ : ∃ (a : Fin 96) (b : Fin 2880), x = ix2 a b := ⟨x 0, x 1, eq_ix2 x⟩
    unfold padU
    have h : 0 + 1 * b.val < 2880 := by omega
    refine Eq.trans ?_ (dif_pos h).symm
    refine congrArg p (congrArg₂ ix2 (Fin.ext ?_) (Fin.ext ?_))
    · show a.val = 0 + 1 * a.val; omega
    · show b.val = 0 + 1 * b.val; omega
  have hp : View.PiecesOf (Val := Elt Ideal) (e := .bf16) (padU p)
      ([⟨Rect.unit (s := S96x3072) ![0, 2880] S96x192.size inb_S96x3072_S96x192_0_2880, k0_pay4 (F := Ideal)⟩,
        ⟨Rect.unit (s := S96x3072) ![0, 0] S96x2880.size inb_S96x3072_S96x2880_0_0, p⟩] : List (View.Piece (Elt Ideal) S96x3072 .bf16)) :=
    ⟨h0, h1, trivial⟩
  have e : padCodes p = padU p := by
    funext y
    refine View.canon_apply_of_pieces (Val := Elt Ideal) (e := .bf16) (padU p) _ hp.mem y ?_
    exact View.cover_of_tiledBy _ ![96, 192] (by sl_kernel_rfl) y
  exact congrFun e (ix2 i k)

/-- The codes as floats, the padding columns zero. -/
theorem qbf_eq (c : Dev nD) : (dat0 W c).arrAt 6 cfg0.N
    = fun j : S8640x3072.Idx => if h : (j 1).val < 2880 then qz (zA W (j 0) ⟨(j 1).val, h⟩) else (0 : EReal) := by
  refine (dat0 W c).arrAt_eq_of_covers 6 _ (by decide +kernel) fun t hf y => ?_
  blk_simp
  rw [after0_6]
  obtain ⟨i, k, rfl⟩ : ∃ (i : Fin 96) (k : Fin 3072), y = ix2 i k := ⟨y 0, y 1, eq_ix2 y⟩
  have ht : t.val < 90 := lt_of_lt_of_eq t.isLt (show cfg0.N = 90 from N_0)
  refine (padCodes_at _ i k).trans ?_
  have e1 : win0_6.index t 1 * 3072 + k.val = k.val := by rw [(idx0 t).2.2.2.2.2.2]; show 0 * 3072 + k.val = k.val; omega
  by_cases h : k.val < 2880
  · refine (dif_pos h).trans (Eq.trans ?_ (dif_pos (show win0_6.index t 1 * 3072 + k.val < 2880 by omega)).symm)
    refine (k0_pay3_at _ _ _ _ _ i ⟨k.val, h⟩).trans (congrArg qz ((zB0 W t i ⟨k.val, h⟩ ⟨t.val * 96 + i.val, by omega⟩ rfl).trans
      (congrArg₂ (zA W) (Fin.ext ?_) (Fin.ext e1.symm))))
    blk_simp [idx0 t]
  · refine (dif_neg h).trans (Eq.symm ?_)
    refine dif_neg ?_
    show ¬win0_6.index t 1 * 3072 + k.val < 2880
    omega

end Cert.V

end
-- ==== Proof.V.KEpi.lean ====
module

public import proofs.«01_k».proof.Proof.V.KQuant
public import proofs.«01_k».proof.Proof.V.KIn
public import Idealize.ShloMosaic.Lib.Pipeline.ValueKit

@[expose] public section

set_option maxRecDepth 16384

noncomputable section

namespace Cert.V

open Idealize.ShloMosaic Idealize.ShloMosaic.TcCoe Cert.KernelIdeal Cert.KernelIdeal.Gen

/-! The epilogue's four arrays. -/

variable (W : Valuation τ sig (Elt Ideal))

/-- The log scale's gradient, from the scale, `z` and the weight's gradient. -/
def d2F (s : S8640x1.Idx → EReal) (g : S8640x2880.Idx → EReal) (z : Fin 8640 → Fin 2880 → EReal) (i : Fin 8640) (d : Fin 2880) : EReal :=
  ((0 - s (ix2 i 0)) * (mz (z i d) * z i d)) * g (ix2 i d)

def d2A (i : Fin 8640) (d : Fin 2880) : EReal := d2F (W (Proc.devRef .tc main_v4)) (W (Proc.devRef .tc main_v8_1)) (zA W) i d

theorem d2At_at (t : Fin cfg2.N) (i : Fin 96) (d : Fin 2880) (j : Fin 8640) (hj : j.val = t.val * 96 + i.val) :
    d2At W t (ix2 i d) = d2A W j d := by
  unfold d2At d2A d2F
  rw [k2_pay11_at, zB2 W t i d j hj, iblk2_2 W t i 0 j hj, iblk2_0 W t i d j hj]

/-- The log scale's gradient as the epilogue leaves it. -/
theorem ds2_eq (c : Dev nD) : (dat2 W c).arrAt 6 cfg2.N = fun j : S8640x2880.Idx => d2A W (j 0) (j 1) := by
  refine (dat2 W c).arrAt_eq_of_covers 6 _ (by decide +kernel) fun t hf y => ?_
  blk_simp
  rw [after2_6]
  obtain ⟨i, d, rfl⟩ : ∃ (i : Fin 96) (d : Fin 2880), y = ix2 i d := ⟨y 0, y 1, eq_ix2 y⟩
  have ht : t.val < 90 := lt_of_lt_of_eq t.isLt (show cfg2.N = 90 from N_2)
  refine (d2At_at W t i d ⟨t.val * 96 + i.val, by omega⟩ rfl).trans (congrArg₂ (d2A W) (Fin.ext ?_) (Fin.ext ?_))
  · blk_simp [idx2 t]
  · blk_simp [idx2 t]

/-- Its row sums. -/
theorem dr_eq (c : Dev nD) : (dat2 W c).arrAt 7 cfg2.N = fun j : S8640x1.Idx => ∑ d : Fin 2880, d2A W (j 0) d := by
  refine (dat2 W c).arrAt_eq_of_covers 7 _ (by decide +kernel) fun t hf y => ?_
  blk_simp
  rw [after2_7]
  obtain ⟨i, d, rfl⟩ : ∃ (i : Fin 96) (d : Fin 1), y = ix2 i d := ⟨y 0, y 1, eq_ix2 y⟩
  obtain rfl : d = 0 := Subsingleton.elim _ _
  have ht : t.val < 90 := lt_of_lt_of_eq t.isLt (show cfg2.N = 90 from N_2)
  refine (k2_pay1_at i _).trans (Finset.sum_congr rfl fun d _ => ?_)
  refine (d2At_at W t i d ⟨t.val * 96 + i.val, by omega⟩ rfl).trans (congrArg₂ (d2A W) (Fin.ext ?_) rfl)
  blk_simp [idx2 t]

/-- The scale's gradient, from the weight's gradient and `z`. -/
def s1F (g : S8640x2880.Idx → EReal) (z : Fin 8640 → Fin 2880 → EReal) (i : Fin 8640) : EReal :=
  ∑ d : Fin 2880, g (ix2 i d) * (qz (z i d) - mz (z i d) * z i d)

theorem ds1_eq (c : Dev nD) : (dat2 W c).arrAt 8 cfg2.N = fun j : S8640x1.Idx => s1F (W (Proc.devRef .tc main_v8_1)) (zA W) (j 0) := by
  refine (dat2 W c).arrAt_eq_of_covers 8 _ (by decide +kernel) fun t hf y => ?_
  blk_simp
  rw [after2_8]
  obtain ⟨i, d, rfl⟩ : ∃ (i : Fin 96) (d : Fin 1), y = ix2 i d := ⟨y 0, y 1, eq_ix2 y⟩
  obtain rfl : d = 0 := Subsingleton.elim _ _
  have ht : t.val < 90 := lt_of_lt_of_eq t.isLt (show cfg2.N = 90 from N_2)
  refine (k2_pay2_at i _ _ _).trans ?_
  refine Eq.trans (b := s1F (W (Proc.devRef .tc main_v8_1)) (zA W) ⟨t.val * 96 + i.val, by omega⟩) ?_ (congrArg _ (Fin.ext ?_))
  · unfold s1F
    refine Finset.sum_congr rfl fun d _ => ?_
    rw [k2_pay9_at, k2_pay8_at, k2_pay10_at, zB2 W t i d ⟨t.val * 96 + i.val, by omega⟩ rfl, iblk2_0 W t i d ⟨t.val * 96 + i.val, by omega⟩ rfl]
  · blk_simp [idx2 t]

/-- The eight rows of partial column sums after `k` blocks, before the last. -/
theorem dcAt_at (r : Fin 8) (d : Fin 2880) (k : ℕ) (hk : k ≤ 89) :
    dcAt W k (ix2 r d) = ∑ t ∈ Finset.range k, ∑ g : Fin 12, ext0 (fun i => d2A W i d) (t * (12 * 8) + (g.val * 8 + r.val)) := by
  induction k with
  | zero => exact k2_pay3_at d r
  | succ k ih =>
    rw [Finset.sum_range_succ, ← ih (by omega)]
    conv_lhs => unfold dcAt
    rw [if_neg (by omega : ¬k = 89), k2_pay4_at]
    congr 1
    refine Finset.sum_congr rfl fun g _ => ?_
    rw [ext0_of _ _ (by omega)]
    refine d2At_at W (pt2 k) _ d _ ?_
    show k * (12 * 8) + (g.val * 8 + r.val) = k % 90 * 96 + (g.val * 8 + r.val)
    omega

/-- The column sums: row 0 after the last block. -/
theorem dcAt_last (d : Fin 2880) : dcAt W 90 (ix2 0 d) = ∑ i : Fin 8640, d2A W i d := by
  have e : ∀ r : Fin 8, k2_pay4 (F := Ideal) (d2At W (pt2 89)) (dcAt W 89) (ix2 r d)
      = ∑ t ∈ Finset.range 90, ∑ g : Fin 12, ext0 (fun i => d2A W i d) (t * (12 * 8) + (g.val * 8 + r.val)) := fun r => by
    rw [Finset.sum_range_succ, ← dcAt_at W r d 89 le_rfl, k2_pay4_at]
    congr 1
    refine Finset.sum_congr rfl fun g _ => ?_
    rw [ext0_of _ _ (by omega)]
    refine d2At_at W (pt2 89) _ d _ ?_
    show 89 * (12 * 8) + (g.val * 8 + r.val) = 89 % 90 * 96 + (g.val * 8 + r.val)
    omega
  have h0 : dcAt W 90 = foldRows (k2_pay4 (F := Ideal) (d2At W (pt2 89)) (dcAt W 89)) := by
    conv_lhs => unfold dcAt
    rw [if_pos rfl]
  rw [h0]
  unfold foldRows
  have h1 : (ix2 0 d : S8x2880.Idx) = (Rect.unit (s := S8x2880) ![0, 0] S1x2880.size inb_S8x2880_S1x2880_0_0).emb (ix2 0 d) := by
    funext a
    match a with
    | ⟨0, _⟩ => exact Fin.ext rfl
    | ⟨1, _⟩ => exact Fin.ext (show d.val = 0 + 1 * d.val by omega)
  rw [h1, View.canon_cons_emb, k2_pay5_at]
  rw [Finset.sum_congr rfl fun r _ => e r, sum_blocks 90 12 8]
  exact sum_ext0 (n := 8640) fun i => d2A W i d

theorem dc_eq (c : Dev nD) : (dat2 W c).arrAt 9 cfg2.N = fun j : S8x2880.Idx => dcAt W 90 j := by
  refine (dat2 W c).arrAt_eq_of_after_last 9 ⟨89, by rw [show cfg2.N = 90 from N_2]; omega⟩ (by decide +kernel) _ fun j => ?_
  refine congrFun (after2_9 W c ⟨89, by rw [show cfg2.N = 90 from N_2]; omega⟩) _

end Cert.V

end
-- ==== Proof.V.KBlk.lean ====
module

public import proofs.«01_k».proof.Proof.V.KPay
public import proofs.«01_k».proof.Proof.K.Reg1

@[expose] public section

set_option maxRecDepth 16384

noncomputable section

namespace Cert.V

open Idealize.ShloMosaic Cert.KernelIdeal Cert.KernelIdeal.Gen

/-! One block of the main kernel, element by element. -/

variable (X : Vec Ideal S1024x3072 .bf16) (x2 : Vec Ideal S1024x1024 .bf16) (x3 : Vec Ideal S960x3072 .bf16) (x4 : Vec Ideal S960x1 .f32) (b : Fin 2)

/-- The residual of one block: channel `i`, token `t`. -/
def RB (i : Fin 960) (t : Fin 1024) : EReal :=
  (∑ k : Fin 3072, x3 (ix2 i k) * X (ix2 t k)) * x4 (ix2 i 0) - x2 (ix2 t ⟨64 * b.val + i.val, by omega⟩)

theorem pay42_at (h : Fin 2) (n : Fin 4) (r : Fin 480) (l : Fin 256) (i : Fin 960) (t : Fin 1024) (hi : i.val = 480 * h.val + r.val) (ht : t.val = 256 * n.val + l.val) :
    k1_pay42 (F := Ideal) (qH x3 h) (xR X n) (yH x2 b h n) (sH x4 h) (ix2 r l) = RB X x2 x3 x4 b i t := by
  have ei : (⟨480 * h.val + r.val, by omega⟩ : Fin 960) = i := Fin.ext hi.symm
  have et : (⟨256 * n.val + l.val, by omega⟩ : Fin 1024) = t := Fin.ext ht.symm
  have ey : (⟨64 * b.val + 480 * h.val + r.val, by omega⟩ : Fin 1024) = ⟨64 * b.val + i.val, by omega⟩ := Fin.ext (by show 64 * b.val + 480 * h.val + r.val = 64 * b.val + i.val; omega)
  rw [k1_pay42_at]
  unfold RB
  pointwise [qH, xR, yH, sH]
  simp only [ei, et, ey, k1_pay41_at]

theorem ET_at (i : Fin 960) (t : Fin 1024) :
    ET (F := Ideal) X x2 x3 x4 b (ix2 i t) = RB X x2 x3 x4 b i t * Ideal.ofBits .f32 0x3281742E#32 := by
  unfold ET et1
  refine (k1_pay43_at _ _ _ _ _ _).trans ?_
  rw [pay42_at X x2 x3 x4 b _ _ _ _ i t]
  · show i.val = 480 * (i.val / 480) + i.val % 480; omega
  · show t.val = 256 * (t.val / 256) + t.val % 256; omega

/-- The squared residuals of one block, summed over every eighth channel. -/
def SB (r : Fin 8) (t : Fin 1024) : EReal :=
  ∑ h : Fin 2, ∑ g : Fin 60, RB X x2 x3 x4 b ⟨480 * h.val + (g.val * 8 + r.val), by omega⟩ t * RB X x2 x3 x4 b ⟨480 * h.val + (g.val * 8 + r.val), by omega⟩ t

theorem row1_at (n : Fin 4) (r : Fin 8) (l : Fin 256) (t : Fin 1024) (ht : t.val = 256 * n.val + l.val) :
    row1 (F := Ideal) X x2 x3 x4 b n (ix2 r l) = SB X x2 x3 x4 b r t := by
  unfold row1 rowP SB
  rw [k1_pay48_at, k1_pay44_at, Fin.sum_univ_two]
  congr 1
  · refine Finset.sum_congr rfl fun g _ => ?_
    rw [pay42_at X x2 x3 x4 b 0 n _ l ⟨480 * (0 : Fin 2).val + (g.val * 8 + r.val), by have := (0 : Fin 2).isLt; omega⟩ t rfl ht]
  · refine Finset.sum_congr rfl fun g _ => ?_
    rw [pay42_at X x2 x3 x4 b 1 n _ l ⟨480 * (1 : Fin 2).val + (g.val * 8 + r.val), by have := (1 : Fin 2).isLt; omega⟩ t rfl ht]

theorem rowOf_at (o0 : Bool) (A : Vec Ideal S15x8x1024 .f32) (tt : Fin 15) (r : Fin 8) (t : Fin 1024) :
    rowOf (aNew1 (F := Ideal) o0 X x2 x3 x4 b A tt) (ix3 0 r t) = (if o0 then 0 else A (ix3 tt r t)) + SB X x2 x3 x4 b r t := by
  unfold rowOf aNew1
  have e := row1_at X x2 x3 x4 b ⟨t.val / 256, by omega⟩ r ⟨t.val % 256, by omega⟩ t (by show t.val = 256 * (t.val / 256) + t.val % 256; omega)
  cases o0
  · simp only [Bool.false_eq_true, if_false]
    pointwise [newN, aOld]
    have et : (⟨256 * (t.val / 256) + t.val % 256, by omega⟩ : Fin 1024) = t := Fin.ext (by show 256 * (t.val / 256) + t.val % 256 = t.val; omega)
    rw [e, et]
  · simp only [if_true]
    pointwise [newF]
    exact e

theorem GN_at (G : Vec Ideal S960x2880 .f32) (E : Vec Ideal S960x1024 .bf16) (i : Fin 960) (d : Fin 2880) :
    GN (F := Ideal) G E X (ix2 i d) = G (ix2 i d) + ∑ t : Fin 1024, E (ix2 i t) * X (ix2 t ⟨d.val, by omega⟩) := by
  have ei : (⟨480 * (i.val / 480) + i.val % 480, by omega⟩ : Fin 960) = i := Fin.ext (by show 480 * (i.val / 480) + i.val % 480 = i.val; omega)
  unfold GN
  split
  · rename_i hk
    unfold gn1
    rw [k1_pay83_at]
    pointwise [gC, eH, xC]
    have ed : 256 * (d.val / 256) + d.val % 256 = d.val := by omega
    simp only [ei, ed]
  · rename_i hk
    unfold gnL
    rw [k1_pay95_at]
    pointwise [gL, eH, xL]
    have ed : 2816 + (d.val - 2816) = d.val := by have h : ¬d.val < 2816 := hk; omega
    simp only [ei, ed]

theorem XB_at (x0 : Vec Ideal S1024x2880 .fp8e4m3) (x1 : Vec Ideal S1024x90 .f32) (t : Fin 1024) (k : Fin 3072) :
    XB (F := Ideal) x0 x1 (ix2 t k) = if h : k.val < 2880 then x0 (ix2 t ⟨k.val, h⟩) * x1 (ix2 t ⟨k.val / 32, by omega⟩) else (0 : EReal) := by
  by_cases h : k.val < 2880
  · rw [dif_pos h]
    exact XB_lt x0 x1 (ix2 t k) t k.val h rfl rfl
  · rw [dif_neg h]
    refine (XB_ge x0 x1 (ix2 t k) h).trans ?_
    pointwise

end Cert.V

end
-- ==== Proof.V.KMain.lean ====
module

public import proofs.«01_k».proof.Proof.V.Spec
public import proofs.«01_k».proof.Proof.V.KBlk
public import proofs.«01_k».proof.Proof.V.KIn
public import Idealize.ShloMosaic.Lib.Pipeline.ValueKit

@[expose] public section

set_option maxRecDepth 16384

noncomputable section

namespace Cert.V

open Idealize.ShloMosaic Idealize.ShloMosaic.TcCoe Cert.KernelIdeal Cert.KernelIdeal.Gen

/-! The main kernel's two arrays. -/

variable (W : Valuation τ sig (Elt Ideal))

/-- The activations, from their codes and scales. -/
def xF (x : S15360x2880.Idx → EReal) (xs : S15360x90.Idx → EReal) (t : Fin 15360) (d : Fin 2880) : EReal :=
  x (ix2 t d) * xs (ix2 t ⟨d.val / 32, by omega⟩)

/-- The residual, from the rounded weights, the activations, the scales and the targets. -/
def rF (q : S8640x3072.Idx → EReal) (s : S8640x1.Idx → EReal) (y : S15360x8704.Idx → EReal) (X : Fin 15360 → Fin 2880 → EReal)
    (i : Fin 8640) (t : Fin 15360) : EReal :=
  (∑ d : Fin 2880, q (ix2 i ⟨d.val, by omega⟩) * X t d) * s (ix2 i 0) - y (ix2 t ⟨i.val, by omega⟩)

def xA (t : Fin 15360) (d : Fin 2880) : EReal := xF (W (Proc.devRef .tc main_v0)) (W (Proc.devRef .tc main_v1)) t d
def rA (i : Fin 8640) (t : Fin 15360) : EReal :=
  rF (W (Proc.devRef .tc main_v7_1)) (W (Proc.devRef .tc main_v4)) (W (Proc.devRef .tc main_v3)) (xA W) i t
/-- The scaled residual. -/
def eA (i : Fin 8640) (t : Fin 15360) : EReal := rA W i t * Ideal.ofBits .f32 0x3281742E#32

/-- A sum over the padded axis is the sum over its real part. -/
theorem sum_pad (a : Fin 3072 → EReal) (b : Fin 2880 → EReal) :
    ∑ k : Fin 3072, a k * (if h : k.val < 2880 then b ⟨k.val, h⟩ else (0 : EReal)) = ∑ d : Fin 2880, a ⟨d.val, by omega⟩ * b d := by
  refine (Fin.sum_univ_add (a := 2880) (b := 192) (fun k : Fin (2880 + 192) => a k * (if h : k.val < 2880 then b ⟨k.val, h⟩ else (0 : EReal)))).trans ?_
  refine Eq.trans (congrArg₂ (· + ·) (Finset.sum_congr rfl fun d _ => ?_) (Finset.sum_eq_zero fun k _ => ?_)) (add_zero _)
  · show a _ * (if h : d.val < 2880 then b ⟨d.val, h⟩ else (0 : EReal)) = _
    rw [dif_pos d.isLt]; rfl
  · show a _ * (if h : 2880 + k.val < 2880 then b ⟨2880 + k.val, h⟩ else (0 : EReal)) = _
    rw [dif_neg (by omega), mul_zero]

theorem bOf_val (t : Fin cfg1.N) : (bOf (grid1.coords t)).val = t.val / 15 % 2 := by
  have h := coords1_0 t
  have ht : t.val < 135 := lt_of_lt_of_eq t.isLt (show cfg1.N = 135 from N_1)
  show (grid1.coords t 0).val % 2 = _
  rw [h]; omega

theorem xAt_at (t : Fin cfg1.N) (l : Fin 1024) (k : Fin 3072) (u : Fin 15360) (hu : u.val = (t.val % 15) * 1024 + l.val) :
    xAt W t (ix2 l k) = if h : k.val < 2880 then xA W u ⟨k.val, h⟩ else (0 : EReal) := by
  unfold xAt
  rw [XB_at]
  by_cases h : k.val < 2880
  · rw [dif_pos h, dif_pos h, iblk1_0 W t l ⟨k.val, h⟩ u hu, iblk1_1 W t l ⟨k.val / 32, by omega⟩ u hu]
    rfl
  · rw [dif_neg h, dif_neg h]

theorem RB_of (X : Vec Ideal S1024x3072 .bf16) (x2 : Vec Ideal S1024x1024 .bf16) (x3 : Vec Ideal S960x3072 .bf16) (x4 : Vec Ideal S960x1 .f32) (b : Fin 2)
    (i : Fin 960) (l : Fin 1024) (q : Fin 3072 → EReal) (xv : Fin 2880 → EReal) (sv yv : EReal) (h3 : ∀ k, x3 (ix2 i k) = q k)
    (hX : ∀ k : Fin 3072, X (ix2 l k) = if h : k.val < 2880 then xv ⟨k.val, h⟩ else (0 : EReal)) (h4 : x4 (ix2 i 0) = sv)
    (h2 : x2 (ix2 l ⟨64 * b.val + i.val, by omega⟩) = yv) :
    RB X x2 x3 x4 b i l = (∑ d : Fin 2880, q ⟨d.val, by omega⟩ * xv d) * sv - yv := by
  unfold RB
  rw [h2, h4, ← sum_pad]
  refine congrArg₂ (· - ·) (congrArg₂ (· * ·) (Finset.sum_congr rfl fun k _ => ?_) rfl) rfl
  rw [h3, hX]

theorem RB_eq (t : Fin cfg1.N) (i : Fin 960) (l : Fin 1024) (j : Fin 8640) (u : Fin 15360) (hj : j.val = (t.val / 15) * 960 + i.val)
    (hu : u.val = (t.val % 15) * 1024 + l.val) :
    RB (xAt W t) (iblk1 W 2 t) (iblk1 W 3 t) (iblk1 W 4 t) (bOf (grid1.coords t)) i l = rA W j u := by
  have hb := bOf_val t
  have ht : t.val < 135 := lt_of_lt_of_eq t.isLt (show cfg1.N = 135 from N_1)
  refine (RB_of _ _ _ _ _ i l (fun k => W (Proc.devRef .tc main_v7_1) (ix2 j k)) (xA W u) (W (Proc.devRef .tc main_v4) (ix2 j 0))
    (W (Proc.devRef .tc main_v3) (ix2 u ⟨j.val, by omega⟩)) (fun k => iblk1_3 W t i k j hj) (fun k => xAt_at W t l k u hu) (iblk1_4 W t i 0 j hj) ?_).trans rfl
  exact iblk1_2 W t l _ u hu ⟨j.val, by omega⟩ (by show j.val = 960 * (t.val / 15) - 64 * (t.val / 15 % 2) + (64 * (bOf (grid1.coords t)).val + i.val); omega)

/-! The weight's gradient. -/

theorem eAt_at (t : Fin cfg1.N) (i : Fin 960) (l : Fin 1024) (j : Fin 8640) (u : Fin 15360) (hj : j.val = (t.val / 15) * 960 + i.val)
    (hu : u.val = (t.val % 15) * 1024 + l.val) : eAt W t (ix2 i l) = eA W j u := by
  unfold eAt
  rw [ET_at, RB_eq W t i l j u hj hu]
  rfl

theorem gAt_succ (k : ℕ) : gAt W (k + 1) = GN (if k % 15 = 0 then k1_pay82 else gAt W k) (eAt W (pt1 k)) (xAt W (pt1 k)) := rfl

theorem pt1_lt (k : ℕ) (h : k < 135) : (pt1 k).val = k := Nat.mod_eq_of_lt h

theorem gAt_at (o : ℕ) (ho : o < 9) (i : Fin 960) (d : Fin 2880) (j : Fin 8640) (hj : j.val = o * 960 + i.val) (s : ℕ) (hs : s < 15) :
    gAt W (15 * o + s + 1) (ix2 i d) = ∑ a ∈ Finset.range (s + 1), ∑ l : Fin 1024, ext0 (fun u => eA W j u * xA W u d) (a * 1024 + l.val) := by
  have step : ∀ s : ℕ, s < 15 → ∀ g : Vec Ideal S960x2880 .f32, GN g (eAt W (pt1 (15 * o + s))) (xAt W (pt1 (15 * o + s))) (ix2 i d)
      = g (ix2 i d) + ∑ l : Fin 1024, ext0 (fun u => eA W j u * xA W u d) (s * 1024 + l.val) := fun s hs g => by
    have hp := pt1_lt (15 * o + s) (by omega)
    rw [GN_at]
    refine congrArg _ (Finset.sum_congr rfl fun l _ => ?_)
    have hl : s * 1024 + l.val < 15360 := by omega
    rw [ext0_of _ _ hl, eAt_at W _ i l j ⟨s * 1024 + l.val, hl⟩ (by rw [hp]; omega) (by rw [hp]; show s * 1024 + l.val = _; omega),
      xAt_at W _ l _ ⟨s * 1024 + l.val, hl⟩ (by rw [hp]; show s * 1024 + l.val = _; omega), dif_pos d.isLt]
  induction s with
  | zero =>
    refine (congrFun (gAt_succ W (15 * o + 0)) _).trans ?_
    rw [if_pos (by omega)]
    refine (step 0 (by omega) _).trans ?_
    rw [k1_pay82_at, Finset.sum_range_one, zero_add]
  | succ s ih =>
    rw [gAt_succ, if_neg (by omega), step (s + 1) hs, Finset.sum_range_succ, show 15 * o + (s + 1) = 15 * o + s + 1 from rfl, ih (by omega)]

/-- The weight's gradient, entry by entry. -/
def gA (i : Fin 8640) (d : Fin 2880) : EReal := ∑ u : Fin 15360, eA W i u * xA W u d

theorem gAt_last (o : ℕ) (ho : o < 9) (i : Fin 960) (d : Fin 2880) (j : Fin 8640) (hj : j.val = o * 960 + i.val) :
    gAt W (15 * o + 14 + 1) (ix2 i d) = gA W j d := by
  rw [gAt_at W o ho i d j hj 14 (by omega)]
  rw [← Fin.sum_univ_eq_sum_range (fun a => ∑ l : Fin 1024, ext0 (fun u => eA W j u * xA W u d) (a * 1024 + l.val)) 15,
    Fin.sum_univ_univ_mul_add 15 1024 (ext0 fun u => eA W j u * xA W u d)]
  exact sum_ext0 (n := 15360) fun u => eA W j u * xA W u d

/-- The weight's gradient as the main kernel leaves it. -/
theorem g_eq (c : Dev nD) : (dat1 W c).arrAt 6 cfg1.N = fun j : S8640x2880.Idx => gA W (j 0) (j 1) := by
  refine (dat1 W c).arrAt_eq_of_covers 6 _ (by decide +kernel) fun t hf y => ?_
  have hm := (flush1_6 t).mp hf
  blk_simp
  rw [after1_6]
  obtain ⟨i, d, rfl⟩ : ∃ (i : Fin 960) (d : Fin 2880), y = ix2 i d := ⟨y 0, y 1, eq_ix2 y⟩
  have ht : t.val < 135 := lt_of_lt_of_eq t.isLt (show cfg1.N = 135 from N_1)
  have e : t.val + 1 = 15 * (t.val / 15) + 14 + 1 := by omega
  rw [e]
  refine (gAt_last W (t.val / 15) (by omega) i d ⟨t.val / 15 * 960 + i.val, by omega⟩ rfl).trans (congrArg₂ (gA W) (Fin.ext ?_) (Fin.ext ?_))
  · blk_simp [idx1 t]
  · blk_simp [idx1 t]

/-! The row losses. -/

/-- What the channels of block `o` add to lane row `r` of a token's loss. -/
def sA (o : ℕ) (r : Fin 8) (u : Fin 15360) : EReal :=
  ∑ h : Fin 2, ∑ g : Fin 60, ext0 (fun i => rA W i u * rA W i u) (o * (2 * (60 * 8)) + (h.val * (60 * 8) + (g.val * 8 + r.val)))

theorem rowAt_at (t : Fin cfg1.N) (A : Vec Ideal S15x8x1024 .f32) (r : Fin 8) (l : Fin 1024) (u : Fin 15360) (hu : u.val = (t.val % 15) * 1024 + l.val) :
    rowAt W t A (ix3 0 r l) = (if t.val < 15 then 0 else A (ix3 (tOf (grid1.coords t)) r l)) + sA W (t.val / 15) r u := by
  have ht : t.val < 135 := lt_of_lt_of_eq t.isLt (show cfg1.N = 135 from N_1)
  unfold rowAt
  rw [rowOf_at]
  refine congrArg₂ (· + ·) (by simp only [decide_eq_true_eq]) ?_
  unfold SB sA
  refine Finset.sum_congr rfl fun h _ => Finset.sum_congr rfl fun g _ => ?_
  have hl : t.val / 15 * (2 * (60 * 8)) + (h.val * (60 * 8) + (g.val * 8 + r.val)) < 8640 := by omega
  rw [ext0_of _ _ hl, RB_eq W t _ l ⟨_, hl⟩ u (by show t.val / 15 * (2 * (60 * 8)) + (h.val * (60 * 8) + (g.val * 8 + r.val)) = t.val / 15 * 960 + (480 * h.val + (g.val * 8 + r.val)); omega) hu]

theorem accAt_succ (k : ℕ) : accAt W (k + 1) = setRow (accAt W k) (tOf (grid1.coords (pt1 k))) (rowAt W (pt1 k) (accAt W k)) := rfl

theorem tOf_pt1 (k : ℕ) (h : k < 135) : (tOf (grid1.coords (pt1 k))).val = k % 15 := by
  have e := coords1_1 (pt1 k)
  rw [pt1_lt k h] at e
  show (grid1.coords (pt1 k) 1).val = _
  rw [e]; omega

/-- A row of the accumulator keeps what its point left until the next round. -/
theorem accAt_keep (k : ℕ) (s : Fin 15) (hs : s.val = k % 15) (r : Fin 8) (l : Fin 1024) (n : ℕ) (hn : n < 15) (hk : k + n < 135) :
    accAt W (k + 1 + n) (ix3 s r l) = rowAt W (pt1 k) (accAt W k) (ix3 0 r l) := by
  induction n with
  | zero =>
    rw [Nat.add_zero, accAt_succ]
    unfold setRow
    exact if_pos (by rw [tOf_pt1 k (by omega)]; exact hs)
  | succ n ih =>
    rw [← ih (by omega) (by omega), show k + 1 + (n + 1) = k + 1 + n + 1 from rfl, accAt_succ]
    conv_lhs => unfold setRow
    refine if_neg ?_
    rw [tOf_pt1 _ (by omega)]
    show ¬s.val = _
    omega

theorem row_at (s : ℕ) (hs : s < 15) (r : Fin 8) (l : Fin 1024) (u : Fin 15360) (hu : u.val = s * 1024 + l.val) (o : ℕ) (ho : o < 9) :
    rowAt W (pt1 (15 * o + s)) (accAt W (15 * o + s)) (ix3 0 r l) = ∑ a ∈ Finset.range (o + 1), sA W a r u := by
  induction o with
  | zero =>
    have hp := pt1_lt (15 * 0 + s) (by omega)
    rw [rowAt_at W _ _ r l u (by rw [hp, hu]; congr 2; omega), hp, if_pos (by omega), zero_add, Finset.sum_range_one, show (15 * 0 + s) / 15 = 0 by omega]
  | succ o ih =>
    have hp := pt1_lt (15 * (o + 1) + s) (by omega)
    have ht := tOf_pt1 (15 * (o + 1) + s) (by omega)
    have e : accAt W (15 * (o + 1) + s) = accAt W (15 * o + s + 1 + 14) := congrArg _ (by omega)
    rw [rowAt_at W _ _ r l u (by rw [hp, hu]; congr 2; omega), hp, if_neg (by omega), Finset.sum_range_succ, ← ih (by omega),
      show (15 * (o + 1) + s) / 15 = o + 1 by omega, e, accAt_keep W (15 * o + s) _ (by rw [ht]; omega) r l 14 (by omega) (by omega)]

/-- A token's mean squared residual. -/
def rlA (u : Fin 15360) : EReal := (∑ i : Fin 8640, rA W i u * rA W i u) * ((1 / 8640 : ℝ) : EReal)

theorem rl_last (s : ℕ) (hs : s < 15) (l : Fin 1024) (u : Fin 15360) (hu : u.val = s * 1024 + l.val) :
    k1_pay81 (F := Ideal) (rowAt W (pt1 (120 + s)) (accAt W (120 + s))) (ix3 0 0 l) = rlA W u := by
  rw [k1_pay81_at]
  refine congrArg (· * _) ?_
  rw [Finset.sum_congr rfl fun r _ => row_at W s hs r l u hu 8 (by omega)]
  unfold sA
  rw [sum_blocks2 9 2 60 8]
  exact sum_ext0 (n := 8640) fun i => rA W i u * rA W i u

/-- A block that no later point overwrites ends as its point left it. -/
theorem read_blk_last (c : Dev nD) (w : Fin cfg1.W) (t : Fin cfg1.N) (hf : (cfg1.win w).flush t = true)
    (hlater : ∀ t' : Fin cfg1.N, t.val < t'.val → Disjoint ((cfg1.win w).blk t).view.set ((cfg1.win w).blk t').view.set) (n : ℕ) (hn : n ≤ cfg1.N) (ht : t.val < n) :
    ((cfg1.win w).blk t).view.read (Elt Ideal) ((dat1 W c).arrAt w n) = (dat1 W c).flushed w t := by
  induction n with
  | zero => exact absurd ht (Nat.not_lt_zero _)
  | succ n ih =>
    have e := (dat1 W c).arrAt_succ w ⟨n, hn⟩
    rw [show n + 1 = (⟨n, hn⟩ : Fin cfg1.N).val + 1 from rfl, e]
    by_cases htn : t.val = n
    · obtain rfl : t = ⟨n, hn⟩ := Fin.ext htn
      rw [if_pos hf]
      exact View.read_write_univ _ _
    · have hi := ih (by omega) (by omega)
      by_cases hfn : (cfg1.win w).flush ⟨n, hn⟩ = true
      · rw [if_pos hfn]
        refine Eq.trans (View.read_congr fun i h => View.write_of_not_mem _ _ _ ?_) hi
        exact Finset.disjoint_left.mp (hlater ⟨n, hn⟩ (by show t.val < n; omega)) h
      · rw [if_neg hfn]; exact hi

/-- The row losses as the main kernel leaves them. -/
theorem rl_eq (c : Dev nD) : (dat1 W c).arrAt 5 cfg1.N
    = fun j : S15x1x1024.Idx => rlA W ⟨(j 0).val * 1024 + (j 2).val, by have h0 : (j 0).val < 15 := (j 0).isLt; have h2 : (j 2).val < 1024 := (j 2).isLt; omega⟩ := by
  funext j
  obtain ⟨s, z, l, rfl⟩ : ∃ (s : Fin 15) (z : Fin 1) (l : Fin 1024), j = ix3 s z l := ⟨j 0, j 1, j 2, eq_ix3 j⟩
  obtain rfl : z = 0 := Subsingleton.elim _ _
  have hp := pt1_lt (120 + s.val) (by omega)
  have h := read_blk_last W c 5 (pt1 (120 + s.val)) (flush1_5 _) (fun t' h' => Pipeline.Window.disjoint_blk _ (fun e => by
    have ht' : t'.val < 135 := lt_of_lt_of_eq t'.isLt (show cfg1.N = 135 from N_1)
    have e0 : win1_5.index (pt1 (120 + s.val)) 0 = win1_5.index t' 0 := congrFun e 0
    rw [(idx1 t').2.2.2.2.2.1, (idx1 (pt1 (120 + s.val))).2.2.2.2.2.1] at e0
    have e1 : (pt1 (120 + s.val)).val % 15 = t'.val % 15 := e0
    omega)) cfg1.N le_rfl (pt1 (120 + s.val)).isLt
  have h1 := congrFun h (ix3 0 0 l)
  blk_simp at h1
  rw [after1_5, hp] at h1
  refine Eq.trans (Eq.trans (congrArg ((dat1 W c).arrAt 5 cfg1.N) ?_) h1) (rl_last W s.val s.isLt l _ rfl)
  funext a
  match a with
  | ⟨0, _⟩ => refine Fin.ext ?_; blk_simp [idx1 (pt1 (120 + s.val))]; rw [hp]; show s.val = (120 + s.val) % 15 + 0; omega
  | ⟨1, _⟩ => refine Fin.ext ?_; blk_simp [idx1 (pt1 (120 + s.val))]
  | ⟨2, _⟩ => refine Fin.ext ?_; blk_simp [idx1 (pt1 (120 + s.val))]

end Cert.V

end
-- ==== Proof.V.Ref.lean ====
module

public import proofs.«01_k».proof.Proof.V.Spec
public import proofs.«01_k».proof.Proof.Gen.ReferenceIdeal.Read
public import Idealize.ShloMosaic.Lib.TwoAxisContraction

@[expose] public section

set_option maxRecDepth 16384

noncomputable section

namespace Cert.V

open Idealize.ShloMosaic Idealize.ShloMosaic.TcCoe Cert.ReferenceIdeal Cert.ReferenceIdeal.Read

/-! The reference's results, each at an index, as the plain sums of the specification. -/

/-- A token's batch. -/
def bq (u : Fin 15360) : Fin 5 := ⟨u.val / 3072, by omega⟩
/-- A token's position in its batch. -/
def sq (u : Fin 15360) : Fin 3072 := ⟨u.val % 3072, by omega⟩
/-- The token of a batch and a position. -/
def tok (b : Fin 5) (s : Fin 3072) : Fin 15360 := ⟨b.val * 3072 + s.val, by omega⟩

theorem bq_tok (b : Fin 5) (s : Fin 3072) : bq (tok b s) = b := Fin.ext (by show (b.val * 3072 + s.val) / 3072 = b.val; omega)
theorem sq_tok (b : Fin 5) (s : Fin 3072) : sq (tok b s) = s := Fin.ext (by show (b.val * 3072 + s.val) % 3072 = s.val; omega)

/-- The arguments as the specification names them. -/
def inp (x0 : S5x3072x2880.Idx → EReal) (x1 : S5x3072x90.Idx → EReal) (x2 : S8640x2880.Idx → EReal) (x3 : S8640.Idx → EReal)
    (x4 : S8640x2880.Idx → EReal) (x5 : S8640.Idx → EReal) (x6 : S2880.Idx → EReal) (x7 : S5x3072x8640.Idx → EReal) : Inp where
  x u d := x0 (ix3 (bq u) (sq u) d)
  xs u k := x1 (ix3 (bq u) (sq u) k)
  w i d := x2 (ix2 i d)
  s1 i := x3 (ix1 i)
  s2 i d := x4 (ix2 i d)
  r i := x5 (ix1 i)
  c d := x6 (ix1 d)
  y u i := x7 (ix3 (bq u) (sq u) i)

theorem zero_f32 : FloatOps.ofBits (F := Ideal) .f32 0x00000000#32 = (0 : EReal) := by
  show Ideal.ofBits .f32 0x00000000#32 = 0
  simp [Ideal.ofBits, Ideal.ieee]

/-- A sum over batches and positions is the sum over tokens. -/
theorem sum_tok (f : Fin 15360 → EReal) : ∑ b : Fin 5, ∑ s : Fin 3072, f (tok b s) = ∑ u : Fin 15360, f u := by
  have h := Fin.sum_univ_univ_mul_add 5 3072 (ext0 f)
  rw [← sum_ext0 f]
  refine Eq.trans ?_ h
  exact Finset.sum_congr rfl fun b _ => Finset.sum_congr rfl fun s _ => (ext0_of f _ (tok b s).isLt).symm

section
variable (x0 : S5x3072x2880.Idx → EReal) (x1 : S5x3072x90.Idx → EReal) (x2 : S8640x2880.Idx → EReal) (x3 : S8640.Idx → EReal)
    (x4 : S8640x2880.Idx → EReal) (x5 : S8640.Idx → EReal) (x6 : S2880.Idx → EReal) (x7 : S5x3072x8640.Idx → EReal)

theorem v21_at (b : Fin 5) (s : Fin 3072) (d : Fin 2880) :
    val_main_v21 (F := Ideal) x1 x0 (ix3 b s d) = (inp x0 x1 x2 x3 x4 x5 x6 x7).X (tok b s) d := by
  rw [val_main_v21_apply, val_main_v20_apply, val_main_v19_apply, val_main_v18_apply]
  refine congrArg₂ (fun a b : EReal => a * b) (congrArg x0 ?_) (congrArg x1 ?_)
  · rw [bq_tok, sq_tok]
  · have hb := b.isLt
    have hs := s.isLt
    have hd := d.isLt
    refine funext fun a => Fin.ext ?_
    match a with
    | ⟨0, _⟩ => show ((b.val * 3072 + s.val) * 2880 + d.val) / 8847360 = (b.val * 3072 + s.val) / 3072; omega
    | ⟨1, _⟩ => show ((b.val * 3072 + s.val) * 2880 + d.val) / 2880 % 3072 = (b.val * 3072 + s.val) % 3072; omega
    | ⟨2, _⟩ => show ((b.val * 3072 + s.val) * 2880 + d.val) / 32 % 90 = d.val / 32; omega

variable (r1 : S8640x2880.Idx → EReal) (hr : ∀ i d, r1 (ix2 i d) = qz ((inp x0 x1 x2 x3 x4 x5 x6 x7).Z i d))
  (e0 : S8640x2880.Idx → EReal) (he : ∀ i d, e0 (ix2 i d) = (inp x0 x1 x2 x3 x4 x5 x6 x7).Z i d)

include hr in
theorem v27_at (b : Fin 5) (s : Fin 3072) (i : Fin 8640) :
    val_main_v27 (F := Ideal) x1 x3 x7 r1 x0 (ix3 b s i) = (inp x0 x1 x2 x3 x4 x5 x6 x7).R i (tok b s) := by
  rw [val_main_v27_apply, val_main_v25_apply, val_main_v26_apply, val_main_v24_apply, val_main_v23_apply, val_main_v22_apply]
  refine congrArg₂ (fun a b : EReal => a - b) (congrArg₂ (fun a b : EReal => a * b) (Finset.sum_congr rfl fun k _ => ?_) (congrArg x3 ?_)) (congrArg x7 ?_)
  · have e1 : lidx_main_v22 (ix3 b s i) k = ix3 b s k := by
      refine funext fun a => Fin.ext ?_
      match a with
      | ⟨0, _⟩ => rfl
      | ⟨1, _⟩ => rfl
      | ⟨2, _⟩ => rfl
    have e2 : ridx_main_v22 (ix3 b s i) k = ix2 i k := by
      refine funext fun a => Fin.ext ?_
      match a with
      | ⟨0, _⟩ => rfl
      | ⟨1, _⟩ => rfl
    rw [e1, e2, v21_at x0 x1 x2 x3 x4 x5 x6 x7, hr]
    exact mul_comm _ _
  · refine funext fun a => Fin.ext ?_
    match a with
    | ⟨0, _⟩ => rfl
  · rw [bq_tok, sq_tok]

include hr in
theorem v34_at (b : Fin 5) (s : Fin 3072) (i : Fin 8640) :
    val_main_v34 (F := Ideal) x1 x3 x7 r1 x0 (ix3 b s i) = (inp x0 x1 x2 x3 x4 x5 x6 x7).E i (tok b s) := by
  rw [val_main_v34_apply, val_main_v33_apply, v27_at x0 x1 x2 x3 x4 x5 x6 x7 r1 hr, val_main_v32_apply, val_main_cst_5_apply]
  rfl

theorem lhs_v35_2 (i : S8640x2880.Idx) (q : dot_S5x3072x8640_S5x3072x2880_S8640x2880_01_01_2_2_n_n.contr.Idx) :
    (dot_S5x3072x8640_S5x3072x2880_S8640x2880_01_01_2_2_n_n.lhsIdx i q 2).val = (i 0).val := by
  unfold DotDims.lhsIdx
  rw [dif_neg (show ¬(2 : Fin S5x3072x8640.rank) ∈ dot_S5x3072x8640_S5x3072x2880_S8640x2880_01_01_2_2_n_n.lhsBatch by decide), dif_pos (show (2 : Fin S5x3072x8640.rank) ∈ dot_S5x3072x8640_S5x3072x2880_S8640x2880_01_01_2_2_n_n.lhsNonContracting by decide)]
  rfl

theorem rhs_v35_2 (i : S8640x2880.Idx) (q : dot_S5x3072x8640_S5x3072x2880_S8640x2880_01_01_2_2_n_n.contr.Idx) :
    (dot_S5x3072x8640_S5x3072x2880_S8640x2880_01_01_2_2_n_n.rhsIdx i q 2).val = (i 1).val := by
  unfold DotDims.rhsIdx
  rw [dif_neg (show ¬(2 : Fin S5x3072x2880.rank) ∈ dot_S5x3072x8640_S5x3072x2880_S8640x2880_01_01_2_2_n_n.rhsBatch by decide), dif_pos (show (2 : Fin S5x3072x2880.rank) ∈ dot_S5x3072x8640_S5x3072x2880_S8640x2880_01_01_2_2_n_n.rhsNonContracting by decide)]
  rfl

theorem lhs_v35_0 (i : S8640x2880.Idx) (q : dot_S5x3072x8640_S5x3072x2880_S8640x2880_01_01_2_2_n_n.contr.Idx) :
    (dot_S5x3072x8640_S5x3072x2880_S8640x2880_01_01_2_2_n_n.lhsIdx i q 0).val = (q ⟨0, by decide⟩).val := by
  unfold DotDims.lhsIdx
  rw [dif_neg (show ¬(0 : Fin S5x3072x8640.rank) ∈ dot_S5x3072x8640_S5x3072x2880_S8640x2880_01_01_2_2_n_n.lhsBatch by decide), dif_neg (show ¬(0 : Fin S5x3072x8640.rank) ∈ dot_S5x3072x8640_S5x3072x2880_S8640x2880_01_01_2_2_n_n.lhsNonContracting by decide)]
  rfl

theorem lhs_v35_1 (i : S8640x2880.Idx) (q : dot_S5x3072x8640_S5x3072x2880_S8640x2880_01_01_2_2_n_n.contr.Idx) :
    (dot_S5x3072x8640_S5x3072x2880_S8640x2880_01_01_2_2_n_n.lhsIdx i q 1).val = (q ⟨1, by decide⟩).val := by
  unfold DotDims.lhsIdx
  rw [dif_neg (show ¬(1 : Fin S5x3072x8640.rank) ∈ dot_S5x3072x8640_S5x3072x2880_S8640x2880_01_01_2_2_n_n.lhsBatch by decide), dif_neg (show ¬(1 : Fin S5x3072x8640.rank) ∈ dot_S5x3072x8640_S5x3072x2880_S8640x2880_01_01_2_2_n_n.lhsNonContracting by decide)]
  rfl

theorem rhs_v35_0 (i : S8640x2880.Idx) (q : dot_S5x3072x8640_S5x3072x2880_S8640x2880_01_01_2_2_n_n.contr.Idx) :
    (dot_S5x3072x8640_S5x3072x2880_S8640x2880_01_01_2_2_n_n.rhsIdx i q 0).val = (q ⟨0, by decide⟩).val := by
  unfold DotDims.rhsIdx
  rw [dif_neg (show ¬(0 : Fin S5x3072x2880.rank) ∈ dot_S5x3072x8640_S5x3072x2880_S8640x2880_01_01_2_2_n_n.rhsBatch by decide), dif_neg (show ¬(0 : Fin S5x3072x2880.rank) ∈ dot_S5x3072x8640_S5x3072x2880_S8640x2880_01_01_2_2_n_n.rhsNonContracting by decide)]
  rfl

theorem rhs_v35_1 (i : S8640x2880.Idx) (q : dot_S5x3072x8640_S5x3072x2880_S8640x2880_01_01_2_2_n_n.contr.Idx) :
    (dot_S5x3072x8640_S5x3072x2880_S8640x2880_01_01_2_2_n_n.rhsIdx i q 1).val = (q ⟨1, by decide⟩).val := by
  unfold DotDims.rhsIdx
  rw [dif_neg (show ¬(1 : Fin S5x3072x2880.rank) ∈ dot_S5x3072x8640_S5x3072x2880_S8640x2880_01_01_2_2_n_n.rhsBatch by decide), dif_neg (show ¬(1 : Fin S5x3072x2880.rank) ∈ dot_S5x3072x8640_S5x3072x2880_S8640x2880_01_01_2_2_n_n.rhsNonContracting by decide)]
  rfl

/-- The product summed over batches and positions, at an index. -/
theorem dot2_at (p : S5x3072x8640.Idx → EReal) (q : S5x3072x2880.Idx → EReal) (i : Fin 8640) (d : Fin 2880) :
    Host.dotGeneral (F := Ideal) (φ₁ := .bf16) (φ₂ := .bf16) dot_S5x3072x8640_S5x3072x2880_S8640x2880_01_01_2_2_n_n none p q (ix2 i d)
      = ∑ b : Fin 5, ∑ s : Fin 3072, p (ix3 b s i) * q (ix3 b s d) := by
  simp only [Host.dotGeneral]
  rw [Ideal.dotGeneral_apply, ValueIdx.sum_contr2 dot_S5x3072x8640_S5x3072x2880_S8640x2880_01_01_2_2_n_n 5 3072 rfl rfl rfl]
  refine Finset.sum_congr rfl fun b _ => Finset.sum_congr rfl fun s _ => ?_
  have h0 := ValueIdx.contrEquiv2_symm_val0 dot_S5x3072x8640_S5x3072x2880_S8640x2880_01_01_2_2_n_n 5 3072 rfl rfl rfl (b, s)
  have h1 := ValueIdx.contrEquiv2_symm_val1 dot_S5x3072x8640_S5x3072x2880_S8640x2880_01_01_2_2_n_n 5 3072 rfl rfl rfl (b, s)
  generalize (ValueIdx.contrEquiv2 dot_S5x3072x8640_S5x3072x2880_S8640x2880_01_01_2_2_n_n 5 3072 rfl rfl rfl).symm (b, s) = k at h0 h1 ⊢
  refine congrArg₂ (fun a b : EReal => a * b) (congrArg p (funext fun a => Fin.ext ?_)) (congrArg q (funext fun a => Fin.ext ?_))
  · match a with
    | ⟨0, _⟩ => exact (lhs_v35_0 _ _).trans h0
    | ⟨1, _⟩ => exact (lhs_v35_1 _ _).trans h1
    | ⟨2, _⟩ => exact lhs_v35_2 _ _
  · match a with
    | ⟨0, _⟩ => exact (rhs_v35_0 _ _).trans h0
    | ⟨1, _⟩ => exact (rhs_v35_1 _ _).trans h1
    | ⟨2, _⟩ => exact rhs_v35_2 _ _

include hr in
theorem v35_at (i : Fin 8640) (d : Fin 2880) :
    val_main_v35 (F := Ideal) x1 x3 x7 r1 x0 (ix2 i d) = (inp x0 x1 x2 x3 x4 x5 x6 x7).G i d := by
  unfold val_main_v35
  refine (dot2_at _ _ i d).trans (Eq.trans ?_ (sum_tok fun u => (inp x0 x1 x2 x3 x4 x5 x6 x7).E i u * (inp x0 x1 x2 x3 x4 x5 x6 x7).X u d))
  refine Finset.sum_congr rfl fun b _ => Finset.sum_congr rfl fun s _ => ?_
  rw [v34_at x0 x1 x2 x3 x4 x5 x6 x7 r1 hr, v21_at x0 x1 x2 x3 x4 x5 x6 x7]

include he in
theorem v17_at (i : Fin 8640) (d : Fin 2880) :
    val_main_v17 (F := Ideal) e0 (ix2 i d) = mz ((inp x0 x1 x2 x3 x4 x5 x6 x7).Z i d) := by
  rw [val_main_v17_apply, val_main_v16_apply, val_main_v13_apply, val_main_v15_apply, val_main_v12_apply, val_main_v14_apply,
    val_main_call0_v0_apply, val_main_call0_v1_apply, val_main_cst_apply, val_main_cst_0_apply, val_main_cst_1_apply, val_main_cst_2_apply, zero_f32, he]
  rfl

include hr he in
theorem v41_at (i : Fin 8640) (d : Fin 2880) :
    val_main_v41 (F := Ideal) x1 x3 x7 r1 x0 e0 (ix2 i d) = (inp x0 x1 x2 x3 x4 x5 x6 x7).D2 i d := by
  rw [val_main_v41_apply, val_main_v40_apply, val_main_v39_apply, val_main_v38_apply, val_main_v37_apply, val_main_v36_apply,
    v17_at x0 x1 x2 x3 x4 x5 x6 x7 e0 he, v35_at x0 x1 x2 x3 x4 x5 x6 x7 r1 hr, he]
  have e1 : idx_main_v36 (idx_main_v38 (ix2 i d)) = ix1 i := by
    refine funext fun a => Fin.ext ?_
    match a with
    | ⟨0, _⟩ => rfl
  rw [e1]
  show ((-(x3 (ix1 i)) * mz _) * _) * _ = ((0 - x3 (ix1 i)) * (mz _ * _)) * _
  rw [zero_sub, mul_assoc (-(x3 (ix1 i)))]

include hr in
theorem v31_at (b : Fin 5) (s : Fin 3072) :
    val_main_v31 (F := Ideal) x1 x3 x7 r1 x0 (ix2 b s) = (inp x0 x1 x2 x3 x4 x5 x6 x7).rl (tok b s) := by
  rw [val_main_v31_apply, val_main_v30_apply, val_main_cst_4_apply, val_main_v29_apply, val_main_cst_3_apply, zero_f32]
  refine (div_8640 _).trans (congrArg (fun a : EReal => a * ((1 / 8640 : ℝ) : EReal)) ((zero_add _).trans (Finset.sum_congr rfl fun k _ => ?_)))
  have e1 : idx_main_v29 (ix2 b s) k = ix3 b s k := by
    refine funext fun a => Fin.ext ?_
    match a with
    | ⟨0, _⟩ => rfl
    | ⟨1, _⟩ => rfl
    | ⟨2, _⟩ => rfl
  rw [e1, val_main_v28_apply, v27_at x0 x1 x2 x3 x4 x5 x6 x7 r1 hr]
  rfl

include hr he in
theorem v42_at (i : Fin 8640) :
    val_main_v42 (F := Ideal) x1 x3 x7 r1 x0 e0 (ix1 i) = (inp x0 x1 x2 x3 x4 x5 x6 x7).dr i := by
  rw [val_main_v42_apply, val_main_cst_6_apply, zero_f32]
  refine (zero_add _).trans (Finset.sum_congr rfl fun k _ => ?_)
  have e1 : idx_main_v42 (ix1 i) k = ix2 i k := by
    refine funext fun a => Fin.ext ?_
    match a with
    | ⟨0, _⟩ => rfl
    | ⟨1, _⟩ => rfl
  rw [e1, v41_at x0 x1 x2 x3 x4 x5 x6 x7 r1 hr e0 he]

include hr he in
theorem v43_at (d : Fin 2880) :
    val_main_v43 (F := Ideal) x1 x3 x7 r1 x0 e0 (ix1 d) = (inp x0 x1 x2 x3 x4 x5 x6 x7).dc d := by
  rw [val_main_v43_apply, val_main_cst_7_apply, zero_f32]
  refine (zero_add _).trans (Finset.sum_congr rfl fun k _ => ?_)
  have e1 : idx_main_v43 (ix1 d) k = ix2 k d := by
    refine funext fun a => Fin.ext ?_
    match a with
    | ⟨0, _⟩ => rfl
    | ⟨1, _⟩ => rfl
  rw [e1, v41_at x0 x1 x2 x3 x4 x5 x6 x7 r1 hr e0 he]

include hr he in
theorem v47_at (i : Fin 8640) :
    val_main_v47 (F := Ideal) x1 x3 x7 r1 r1 x0 e0 (ix1 i) = (inp x0 x1 x2 x3 x4 x5 x6 x7).ds1 i := by
  rw [val_main_v47_apply, val_main_cst_8_apply, zero_f32]
  refine (zero_add _).trans (Finset.sum_congr rfl fun k _ => ?_)
  have e1 : idx_main_v47 (ix1 i) k = ix2 i k := by
    refine funext fun a => Fin.ext ?_
    match a with
    | ⟨0, _⟩ => rfl
    | ⟨1, _⟩ => rfl
  rw [e1, val_main_v46_apply, val_main_v45_apply, val_main_v44_apply, v17_at x0 x1 x2 x3 x4 x5 x6 x7 e0 he,
    v35_at x0 x1 x2 x3 x4 x5 x6 x7 r1 hr, he, hr]
  rfl

end

end Cert.V

end
-- ==== Proof.V.KRun.lean ====
module

public import proofs.«01_k».proof.Proof.V.KEpi
public import proofs.«01_k».proof.Proof.V.KMain
public import proofs.«01_k».proof.Proof.V.Ref
public import proofs.«01_k».proof.Proof.K.Run
public import Idealize.ShloMosaic.Lib.KernelVsHost

@[expose] public section

set_option maxRecDepth 16384

noncomputable section

namespace Cert.V

open Idealize.ShloMosaic Idealize.ShloMosaic.TcCoe Idealize.ShloMosaic.StableHlo Idealize.SL.Sem Cert.KernelIdeal Cert.KernelIdeal.Gen

/-! The kernel program's run: each result is the specification's. -/

variable (m : (ℓ : Loc nD τ sig) → Buf (Elt Ideal) ℓ) (c : Dev nD)

/-- The kernel program's arguments. -/
def kI : Inp := inp (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5))
  (m ((c.tc : Thread nD τ).loc main_arg6)) (m ((c.tc : Thread nD τ).loc main_arg7))

/-! ## The layouts -/

theorem re0_at {α : Type} (x : S5x3072x2880.Idx → α) (u : Fin 15360) (d : Fin 2880) :
    shapeCast S15360x2880 x shapeCasts_S5x3072x2880_S15360x2880 (ix2 u d) = x (ix3 (bq u) (sq u) d) := by
  refine shapeCast_apply x shapeCasts_S5x3072x2880_S15360x2880 (ix2 u d) (ix3 (bq u) (sq u) d) ?_
  rewrite [Shape.rowMajor_val_three, Shape.rowMajor_val_two]
  show (u.val / 3072 * 3072 + u.val % 3072) * 2880 + d.val = u.val * 2880 + d.val
  omega
theorem re1_at {α : Type} (x : S5x3072x90.Idx → α) (u : Fin 15360) (d : Fin 90) :
    shapeCast S15360x90 x shapeCasts_S5x3072x90_S15360x90 (ix2 u d) = x (ix3 (bq u) (sq u) d) := by
  refine shapeCast_apply x shapeCasts_S5x3072x90_S15360x90 (ix2 u d) (ix3 (bq u) (sq u) d) ?_
  rewrite [Shape.rowMajor_val_three, Shape.rowMajor_val_two]
  show (u.val / 3072 * 3072 + u.val % 3072) * 90 + d.val = u.val * 90 + d.val
  omega
theorem re7_at {α : Type} (x : S5x3072x8640.Idx → α) (u : Fin 15360) (d : Fin 8640) :
    shapeCast S15360x8640 x shapeCasts_S5x3072x8640_S15360x8640 (ix2 u d) = x (ix3 (bq u) (sq u) d) := by
  refine shapeCast_apply x shapeCasts_S5x3072x8640_S15360x8640 (ix2 u d) (ix3 (bq u) (sq u) d) ?_
  rewrite [Shape.rowMajor_val_three, Shape.rowMajor_val_two]
  show (u.val / 3072 * 3072 + u.val % 3072) * 8640 + d.val = u.val * 8640 + d.val
  omega
theorem reC_at {α : Type} (x : S8640.Idx → α) (i : Fin 8640) :
    shapeCast S8640x1 x shapeCasts_S8640_S8640x1 (ix2 i 0) = x (ix1 i) := by
  refine shapeCast_apply x shapeCasts_S8640_S8640x1 (ix2 i 0) (ix1 i) ?_
  rewrite [Shape.rowMajor_val_one, Shape.rowMajor_val_two]
  show i.val = i.val * 1 + 0
  omega
theorem reR_at {α : Type} (x : S2880.Idx → α) (d : Fin 2880) :
    shapeCast S1x2880 x shapeCasts_S2880_S1x2880 (ix2 0 d) = x (ix1 d) := by
  refine shapeCast_apply x shapeCasts_S2880_S1x2880 (ix2 0 d) (ix1 d) ?_
  rewrite [Shape.rowMajor_val_one, Shape.rowMajor_val_two]
  show d.val = 0 * 2880 + d.val
  omega
theorem reC'_at {α : Type} (x : S8640x1.Idx → α) (i : Fin 8640) :
    shapeCast S8640 x shapeCasts_S8640x1_S8640 (ix1 i) = x (ix2 i 0) := by
  refine shapeCast_apply x shapeCasts_S8640x1_S8640 (ix1 i) (ix2 i 0) ?_
  rewrite [Shape.rowMajor_val_one, Shape.rowMajor_val_two]
  show i.val * 1 + 0 = i.val
  omega
theorem reR'_at {α : Type} (x : S1x2880.Idx → α) (d : Fin 2880) :
    shapeCast S2880 x shapeCasts_S1x2880_S2880 (ix1 d) = x (ix2 0 d) := by
  refine shapeCast_apply x shapeCasts_S1x2880_S2880 (ix1 d) (ix2 0 d) ?_
  rewrite [Shape.rowMajor_val_one, Shape.rowMajor_val_two]
  show 0 * 2880 + d.val = d.val
  omega
theorem reL_at {α : Type} (x : S15x1x1024.Idx → α) (b : Fin 5) (s : Fin 3072) :
    shapeCast S5x3072 x shapeCasts_S15x1x1024_S5x3072 (ix2 b s)
      = x (ix3 (⟨(tok b s).val / 1024, by have := (tok b s).isLt; omega⟩ : Fin 15) (0 : Fin 1) (⟨(tok b s).val % 1024, by omega⟩ : Fin 1024)) := by
  refine shapeCast_apply x shapeCasts_S15x1x1024_S5x3072 (ix2 b s) _ ?_
  rewrite [Shape.rowMajor_val_three, Shape.rowMajor_val_two]
  show ((b.val * 3072 + s.val) / 1024 * 1 + 0) * 1024 + (b.val * 3072 + s.val) % 1024 = b.val * 3072 + s.val
  omega

/-! ## What the first kernel finds -/

theorem U3_arg (r : Ref sig .tc) (h3 : r ∉ hostOps0_2_W) (h2 : r ∉ hostOps0_1_W) (h1 : r ∉ hostOps0_W) : U3 m c r = m ((c : Thread nD τ).loc r) :=
  (V3_of m c r h3).trans <| (V2_of m c r h2).trans <| (V1_of m c r h1).trans rfl

theorem U3_v0 : U3 m c (Proc.devRef .tc main_v0) = shapeCast S15360x2880 (m ((c.tc : Thread nD τ).loc main_arg0)) shapeCasts_S5x3072x2880_S15360x2880 := by
  refine (V3_of m c main_v0 (by decide)).trans ((V2_of m c main_v0 (by decide)).trans ?_)
  show after hostOps0 (V0 m c) (Proc.devRef .tc main_v0) = _
  simp only [V0, hostOps0]
  after_results <;> rfl
theorem U3_v1 : U3 m c (Proc.devRef .tc main_v1) = shapeCast S15360x90 (m ((c.tc : Thread nD τ).loc main_arg1)) shapeCasts_S5x3072x90_S15360x90 := by
  refine (V3_of m c main_v1 (by decide)).trans ((V2_of m c main_v1 (by decide)).trans ?_)
  show after hostOps0 (V0 m c) (Proc.devRef .tc main_v1) = _
  simp only [V0, hostOps0]
  after_results <;> rfl
theorem V1_v2 : V1 m c (Proc.devRef .tc main_v2) = shapeCast S15360x8640 (m ((c.tc : Thread nD τ).loc main_arg7)) shapeCasts_S5x3072x8640_S15360x8640 := by
  show after hostOps0 (V0 m c) (Proc.devRef .tc main_v2) = _
  simp only [V0, hostOps0]
  after_results <;> rfl
/-- The labels with padding columns, whatever those hold. -/
theorem V2_v3 (V : Valuation τ sig (Elt Ideal)) : ∃ p : S_.Idx → EReal, after hostOps0_1 V (Proc.devRef .tc main_v3)
    = pad S15360x8704 ![0, 0] ![0, 64] ![0, 0] (V (Proc.devRef .tc main_v2)) p pads_S15360x8640_S15360x8704_000_0640 h_S_ := by
  refine ⟨?_, ?_⟩
  rotate_left
  · simp only [hostOps0_1, TRef.binary, TRef.unary, TRef.toBuf, TRef.ofBuf, cast_eq]
    after_results_simp <;> rfl
theorem U3_v4 : U3 m c (Proc.devRef .tc main_v4) = shapeCast S8640x1 (m ((c.tc : Thread nD τ).loc main_arg3)) shapeCasts_S8640_S8640x1 := by
  have e : V2 m c (Proc.devRef .tc main_arg3) = m ((c.tc : Thread nD τ).loc main_arg3) := (V2_of m c main_arg3 (by decide)).trans ((V1_of m c main_arg3 (by decide)).trans rfl)
  rw [← e]
  show after hostOps0_2 (V2 m c) (Proc.devRef .tc main_v4) = _
  generalize V2 m c = V
  simp only [hostOps0_2]
  after_results <;> rfl
theorem U3_v5 : U3 m c (Proc.devRef .tc main_v5) = shapeCast S8640x1 (m ((c.tc : Thread nD τ).loc main_arg5)) shapeCasts_S8640_S8640x1 := by
  have e : V2 m c (Proc.devRef .tc main_arg5) = m ((c.tc : Thread nD τ).loc main_arg5) := (V2_of m c main_arg5 (by decide)).trans ((V1_of m c main_arg5 (by decide)).trans rfl)
  rw [← e]
  show after hostOps0_2 (V2 m c) (Proc.devRef .tc main_v5) = _
  generalize V2 m c = V
  simp only [hostOps0_2]
  after_results <;> rfl
theorem U3_v6 : U3 m c (Proc.devRef .tc main_v6) = shapeCast S1x2880 (m ((c.tc : Thread nD τ).loc main_arg6)) shapeCasts_S2880_S1x2880 := by
  have e : V2 m c (Proc.devRef .tc main_arg6) = m ((c.tc : Thread nD τ).loc main_arg6) := (V2_of m c main_arg6 (by decide)).trans ((V1_of m c main_arg6 (by decide)).trans rfl)
  rw [← e]
  show after hostOps0_2 (V2 m c) (Proc.devRef .tc main_v6) = _
  generalize V2 m c = V
  simp only [hostOps0_2]
  after_results <;> rfl

theorem U3_v3_at (u : Fin 15360) (i : Fin 8640) (k : Fin 8704) (hk : k.val = i.val) : U3 m c (Proc.devRef .tc main_v3) (ix2 u k) = (kI m c).y u i := by
  have e : U3 m c (Proc.devRef .tc main_v3) = V2 m c (Proc.devRef .tc main_v3) := V3_of m c main_v3 (by decide)
  obtain ⟨p, hp⟩ := V2_v3 (V1 m c)
  rw [e]
  show after hostOps0_1 (V1 m c) (Proc.devRef .tc main_v3) (ix2 u k) = _
  rw [hp, V1_v2]
  refine (pad_apply_of_inside _ _ _ _ p _ _ (ix2 u k) (ix2 u i) ?_).trans (re7_at _ u i)
  intro a
  match a with
  | ⟨0, _⟩ => show u.val = 0 + u.val * (0 + 1); omega
  | ⟨1, _⟩ => show k.val = 0 + i.val * (0 + 1); omega

/-! ## What each kernel leaves -/

theorem Z3 : zA (U3 m c) = (kI m c).Z := by
  funext i d
  unfold zA zF
  rw [U3_v4, U3_v5, U3_v6, reC_at, reC_at, reR_at, U3_arg m c main_arg2 (by decide) (by decide) (by decide), U3_arg m c main_arg4 (by decide) (by decide) (by decide)]
  rfl

theorem U4_v7_0 : U4 m c (Proc.devRef .tc main_v7_0) = fun j : S8640x2880.Idx => cz ((kI m c).Z (j 0) (j 1)) := by
  refine (Pipeline.afterRegion_arr (dat0 (U3 m c) c) (U3 m c) launch0.win.arr_inj 5).trans ((codes_eq (U3 m c) c).trans ?_)
  rw [Z3]
theorem U4_v7_1 : U4 m c (Proc.devRef .tc main_v7_1) = fun j : S8640x3072.Idx => if h : (j 1).val < 2880 then qz ((kI m c).Z (j 0) ⟨(j 1).val, h⟩) else (0 : EReal) := by
  refine (Pipeline.afterRegion_arr (dat0 (U3 m c) c) (U3 m c) launch0.win.arr_inj 6).trans ((qbf_eq (U3 m c) c).trans ?_)
  rw [Z3]

theorem X4 : xA (U4 m c) = (kI m c).X := by
  funext u d
  unfold xA xF
  rw [U4_of m c main_v0 (by decide), U4_of m c main_v1 (by decide), U3_v0, U3_v1, re0_at, re1_at]
  rfl

theorem R4 : rA (U4 m c) = (kI m c).R := by
  funext i u
  unfold rA
  rw [X4, U4_of m c main_v4 (by decide), U4_of m c main_v3 (by decide), U3_v4, U4_v7_1]
  unfold rF
  rw [U3_v3_at m c u i _ rfl, reC_at]
  refine congrArg (fun a : EReal => a * (kI m c).s1 i - (kI m c).y u i) (Finset.sum_congr rfl fun d _ => ?_)
  exact congrArg (fun a : EReal => a * (kI m c).X u d) (dif_pos d.isLt)

theorem G4 : gA (U4 m c) = (kI m c).G := by
  funext i d
  unfold gA eA
  rw [X4, R4]
  rfl

theorem rl4 : rlA (U4 m c) = (kI m c).rl := by
  funext u
  unfold rlA
  rw [R4]
  rfl

theorem U5_v8_0 : U5 m c (Proc.devRef .tc main_v8_0) = fun j : S15x1x1024.Idx => (kI m c).rl ⟨(j 0).val * 1024 + (j 2).val, by
    have h0 : (j 0).val < 15 := (j 0).isLt
    have h2 : (j 2).val < 1024 := (j 2).isLt
    omega⟩ := by
  refine (Pipeline.afterRegion_arr (dat1 (U4 m c) c) (U4 m c) launch1.win.arr_inj 5).trans ((rl_eq (U4 m c) c).trans ?_)
  rw [rl4]
theorem U5_v8_1 : U5 m c (Proc.devRef .tc main_v8_1) = fun j : S8640x2880.Idx => (kI m c).G (j 0) (j 1) := by
  refine (Pipeline.afterRegion_arr (dat1 (U4 m c) c) (U4 m c) launch1.win.arr_inj 6).trans ((g_eq (U4 m c) c).trans ?_)
  rw [G4]

theorem Z5 : zA (U5 m c) = (kI m c).Z := by
  rw [← Z3]
  funext i d
  unfold zA
  rw [U5_of m c main_arg2 (by decide), U5_of m c main_v4 (by decide), U5_of m c main_arg4 (by decide), U5_of m c main_v5 (by decide), U5_of m c main_v6 (by decide),
    U4_of m c main_arg2 (by decide), U4_of m c main_v4 (by decide), U4_of m c main_arg4 (by decide), U4_of m c main_v5 (by decide), U4_of m c main_v6 (by decide)]

theorem D5 : d2A (U5 m c) = (kI m c).D2 := by
  funext i d
  unfold d2A
  rw [Z5, U5_v8_1, U5_of m c main_v4 (by decide), U4_of m c main_v4 (by decide), U3_v4]
  unfold d2F
  rw [reC_at]
  rfl

/-! ## The results -/

theorem res0 : U7 m c (Proc.devRef .tc main_v10) = fun j : S5x3072.Idx => (kI m c).rl (tok (j 0) (j 1)) := by
  have e : U7 m c (Proc.devRef .tc main_v10) = shapeCast S5x3072 (U6 m c (Proc.devRef .tc main_v8_0)) shapeCasts_S15x1x1024_S5x3072 := by
    unfold U7
    generalize U6 m c = V
    simp only [hostOps3]
    after_results <;> rfl
  rw [e, U6_of m c main_v8_0 (by decide), U5_v8_0]
  funext j
  obtain ⟨b, s, rfl⟩ : ∃ (b : Fin 5) (s : Fin 3072), j = ix2 b s := ⟨j 0, j 1, eq_ix2 j⟩
  refine (reL_at _ b s).trans (congrArg (kI m c).rl (Fin.ext ?_))
  show (tok b s).val / 1024 * 1024 + (tok b s).val % 1024 = (tok b s).val
  omega

theorem res1 : U7 m c (Proc.devRef .tc main_v9_0) = fun j : S8640x2880.Idx => (kI m c).D2 (j 0) (j 1) := by
  refine (U7_of m c main_v9_0 (by decide)).trans ((Pipeline.afterRegion_arr (dat2 (U5 m c) c) (U5 m c) launch2.win.arr_inj 6).trans ((ds2_eq (U5 m c) c).trans ?_))
  rw [D5]

theorem res2 : U7 m c (Proc.devRef .tc main_v11) = fun j : S8640.Idx => (kI m c).dr (j 0) := by
  have e : U7 m c (Proc.devRef .tc main_v11) = shapeCast S8640 (U6 m c (Proc.devRef .tc main_v9_1)) shapeCasts_S8640x1_S8640 := by
    unfold U7
    generalize U6 m c = V
    simp only [hostOps3]
    after_results <;> rfl
  have e1 : U6 m c (Proc.devRef .tc main_v9_1) = _ := (Pipeline.afterRegion_arr (dat2 (U5 m c) c) (U5 m c) launch2.win.arr_inj 7).trans (dr_eq (U5 m c) c)
  rw [e, e1, D5]
  funext j
  obtain ⟨i, rfl⟩ : ∃ (i : Fin 8640), j = ix1 i := ⟨j 0, eq_ix1 j⟩
  exact reC'_at _ i

theorem res3 : U7 m c (Proc.devRef .tc main_v13) = fun j : S2880.Idx => (kI m c).dc (j 0) := by
  have e : U7 m c (Proc.devRef .tc main_v13) = shapeCast S2880 (extractStridedSlice S1x2880 ![0, 0] (U6 m c (Proc.devRef .tc main_v9_3)) slices_S8x2880_S1x2880_0_0) shapeCasts_S1x2880_S2880 := by
    unfold U7
    generalize U6 m c = V
    simp only [hostOps3]
    after_results <;> rfl
  have e1 : U6 m c (Proc.devRef .tc main_v9_3) = _ := (Pipeline.afterRegion_arr (dat2 (U5 m c) c) (U5 m c) launch2.win.arr_inj 9).trans (dc_eq (U5 m c) c)
  rw [e, e1]
  funext j
  obtain ⟨d, rfl⟩ : ∃ (d : Fin 2880), j = ix1 d := ⟨j 0, eq_ix1 j⟩
  refine (reR'_at _ d).trans ((extractStridedSlice_apply _ _ slices_S8x2880_S1x2880_0_0 (ix2 0 d) (ix2 0 d) ?_).trans ((dcAt_last (U5 m c) d).trans ?_))
  · intro a
    match a with
    | ⟨0, _⟩ => rfl
    | ⟨1, _⟩ => show d.val = 0 + d.val; omega
  · rw [D5]; rfl

theorem res4 : U7 m c (Proc.devRef .tc main_v14) = fun j : S8640.Idx => (kI m c).ds1 (j 0) := by
  have e : U7 m c (Proc.devRef .tc main_v14) = shapeCast S8640 (U6 m c (Proc.devRef .tc main_v9_2)) shapeCasts_S8640x1_S8640 := by
    unfold U7
    generalize U6 m c = V
    simp only [hostOps3]
    after_results <;> rfl
  have e1 : U6 m c (Proc.devRef .tc main_v9_2) = _ := (Pipeline.afterRegion_arr (dat2 (U5 m c) c) (U5 m c) launch2.win.arr_inj 8).trans (ds1_eq (U5 m c) c)
  rw [e, e1, Z5, U5_v8_1]
  funext j
  obtain ⟨i, rfl⟩ : ∃ (i : Fin 8640), j = ix1 i := ⟨j 0, eq_ix1 j⟩
  exact reC'_at _ i

theorem res5 : U7 m c (Proc.devRef .tc main_v7_0) = fun j : S8640x2880.Idx => cz ((kI m c).Z (j 0) (j 1)) :=
  (U7_of m c main_v7_0 (by decide)).trans ((U6_of m c main_v7_0 (by decide)).trans ((U5_of m c main_v7_0 (by decide)).trans (U4_v7_0 m c)))

theorem res_arg (r : Ref sig .tc) (h : r ∈ ([main_arg0, main_arg1, main_arg2, main_arg3, main_arg4, main_arg5, main_arg6, main_arg7] : List (Ref sig .tc))) :
    U7 m c (Proc.devRef .tc r) = m ((c : Thread nD τ).loc r) := by
  have k : ∀ r ∈ ([main_arg0, main_arg1, main_arg2, main_arg3, main_arg4, main_arg5, main_arg6, main_arg7] : List (Ref sig .tc)),
      r ∉ hostOps3_W ∧ r ∉ ([main_v9_0, main_v9_1, main_v9_2, main_v9_3] : List (Ref sig .tc)) ∧ r ∉ ([main_v8_0, main_v8_1] : List (Ref sig .tc))
        ∧ r ∉ ([main_v7_0, main_v7_1] : List (Ref sig .tc)) ∧ r ∉ hostOps0_2_W ∧ r ∉ hostOps0_1_W ∧ r ∉ hostOps0_W := by decide
  obtain ⟨a, b, d, e, f, g, i⟩ := k r h
  exact U7_kept m c r a b d e f g i

variable (ρ : Dev nD → PrngReg)

/-- THE KERNEL PROGRAM'S RUN: every weakly fair execution terminates with each result the specification's, the arguments unchanged. -/
theorem ker_run :
    θ_run defs (onTc (τ := τ) (main (F := Ideal))) ⟨m, fun _ => 0, ρ⟩ fun r => ∀ c : Dev nD,
      r.2.mem ((c.tc : Thread nD τ).loc main_v10) = (fun j : S5x3072.Idx => (kI m c).rl (tok (j 0) (j 1)))
      ∧ r.2.mem ((c.tc : Thread nD τ).loc main_v9_0) = (fun j : S8640x2880.Idx => (kI m c).D2 (j 0) (j 1))
      ∧ r.2.mem ((c.tc : Thread nD τ).loc main_v11) = (fun j : S8640.Idx => (kI m c).dr (j 0))
      ∧ r.2.mem ((c.tc : Thread nD τ).loc main_v13) = (fun j : S2880.Idx => (kI m c).dc (j 0))
      ∧ r.2.mem ((c.tc : Thread nD τ).loc main_v14) = (fun j : S8640.Idx => (kI m c).ds1 (j 0))
      ∧ r.2.mem ((c.tc : Thread nD τ).loc main_v7_0) = (fun j : S8640x2880.Idx => cz ((kI m c).Z (j 0) (j 1)))
      ∧ r.2.mem ((c.tc : Thread nD τ).loc main_arg3) = m ((c.tc : Thread nD τ).loc main_arg3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (run_all m ρ)
  exact ⟨(run_read m h.1 c main_v10 rfl).trans (res0 m c), (run_read m h.1 c main_v9_0 rfl).trans (res1 m c),
    (run_read m h.1 c main_v11 rfl).trans (res2 m c), (run_read m h.1 c main_v13 rfl).trans (res3 m c),
    (run_read m h.1 c main_v14 rfl).trans (res4 m c), (run_read m h.1 c main_v7_0 rfl).trans (res5 m c),
    (run_read m h.1 c main_arg3 rfl).trans (res_arg m c main_arg3 (by decide)),
    (run_read m h.1 c main_arg0 rfl).trans (res_arg m c main_arg0 (by decide)),
    (run_read m h.1 c main_arg1 rfl).trans (res_arg m c main_arg1 (by decide)),
    (run_read m h.1 c main_arg2 rfl).trans (res_arg m c main_arg2 (by decide)),
    (run_read m h.1 c main_arg3 rfl).trans (res_arg m c main_arg3 (by decide)),
    (run_read m h.1 c main_arg4 rfl).trans (res_arg m c main_arg4 (by decide)),
    (run_read m h.1 c main_arg5 rfl).trans (res_arg m c main_arg5 (by decide)),
    (run_read m h.1 c main_arg6 rfl).trans (res_arg m c main_arg6 (by decide)),
    (run_read m h.1 c main_arg7 rfl).trans (res_arg m c main_arg7 (by decide))⟩

end Cert.V

end
-- ==== Proof.V.RefRun.lean ====
module

public import proofs.«01_k».proof.Proof.V.Ref
public import proofs.«01_k».proof.Proof.Gen.ReferenceIdeal.Run
public import Idealize.ShloMosaic.Lib.Pipeline.ValueKit

@[expose] public section

set_option maxRecDepth 16384

noncomputable section

namespace Cert.V

open Idealize.ShloMosaic Idealize.ShloMosaic.TcCoe Idealize.SL.Sem Cert.ReferenceIdeal Cert.ReferenceIdeal.Gen

/-! The reference's run: each result is the specification's. -/

/-- The weight over its scale, as the reference computes it. -/
theorem z_at (x2 : S8640x2880.Idx → EReal) (x3 : S8640.Idx → EReal) (x4 : S8640x2880.Idx → EReal) (x5 : S8640.Idx → EReal) (x6 : S2880.Idx → EReal)
    (i : Fin 8640) (d : Fin 2880) :
    Host.divf (F := Ideal) (φ := .f32) x2 (mulf (broadcastInDim S8640x2880 ![0, 1] bcast_S8640x1_S8640x2880_0_1 (broadcastInDim S8640x1 ![0] bcast_S8640_S8640x1_0 x3))
      (Host.exp (addf (addf x4 (broadcastInDim S8640x2880 ![0, 1] bcast_S8640x1_S8640x2880_0_1 (broadcastInDim S8640x1 ![0] bcast_S8640_S8640x1_0 x5)))
        (broadcastInDim S8640x2880 ![0, 1] bcast_S1x2880_S8640x2880_0_1 (broadcastInDim S1x2880 ![1] bcast_S2880_S1x2880_1 x6))))) (ix2 i d)
      = Ideal.div (x2 (ix2 i d)) (x3 (ix1 i) * Ideal.exp ((x4 (ix2 i d) + x5 (ix1 i)) + x6 (ix1 d))) := by
  pointwise

theorem rp1_at (v : S8640x2880.Idx → EReal) (y : S8640x2880.Idx) : k0_pay1 (F := Ideal) v y = cz (v y) := by
  obtain ⟨i, d, rfl⟩ : ∃ (i : Fin 8640) (d : Fin 2880), y = ix2 i d := ⟨y 0, y 1, eq_ix2 y⟩
  pointwise [k0_pay1]
  unfold cz qz
  rw [ofBits_7, ofBits_m8, show (7#32 : BitVec 32).toInt = 7 from rfl, show (4294967288#32 : BitVec 32).toInt = -8 from rfl,
    Int.cast_ofNat, Int.cast_neg, Int.cast_ofNat]
  rfl

theorem rp2_at (v : S8640x2880.Idx → EReal) (y : S8640x2880.Idx) : k0_pay2 (F := Ideal) v y = qz (v y) := by
  show (((k0_pay1 (F := Ideal) v y).toInt : ℝ) : EReal) = _
  rw [rp1_at, toInt_cz]

theorem rp3_at (v : S8640x2880.Idx → EReal) (y : S8640x2880.Idx) : k0_pay3 (F := Ideal) v y = qz (v y) := by
  show (((k0_pay1 (F := Ideal) v y).toInt : ℝ) : EReal) = _
  rw [rp1_at, toInt_cz]

theorem off2 : (![0, 0] : Fin 2 → Nat) = fun _ => 0 := by funext a; match a with | ⟨0, _⟩ => rfl | ⟨1, _⟩ => rfl
theorem off3 : (![0, 0, 0] : Fin 3 → Nat) = fun _ => 0 := by funext a; match a with | ⟨0, _⟩ => rfl | ⟨1, _⟩ => rfl | ⟨2, _⟩ => rfl

theorem out2_at (v : S8640x2880.Idx → EReal) (x : S5x3072x2880.Idx → EReal) (y : S8640x2880.Idx) : out0_2 (F := Ideal) v x y = cz (v y) := by
  unfold out0_2
  rw [View.canon_cons_unit_zero off2, View.ld_unit_zero off2]
  exact rp1_at v y
theorem out3_at (v : S8640x2880.Idx → EReal) (x : S5x3072x2880.Idx → EReal) (y : S8640x2880.Idx) : out0_3 (F := Ideal) v x y = qz (v y) := by
  unfold out0_3
  rw [View.canon_cons_unit_zero off2, View.ld_unit_zero off2]
  exact rp2_at v y
theorem out4_at (v : S8640x2880.Idx → EReal) (x : S5x3072x2880.Idx → EReal) (y : S8640x2880.Idx) : out0_4 (F := Ideal) v x y = qz (v y) := by
  unfold out0_4
  rw [View.canon_cons_unit_zero off2, View.ld_unit_zero off2]
  exact rp3_at v y
theorem out5_at (v : S8640x2880.Idx → EReal) (x : S5x3072x2880.Idx → EReal) (y : S5x3072x2880.Idx) : out0_5 (F := Ideal) v x y = x y := by
  unfold out0_5
  rw [View.canon_cons_unit_zero off3, View.ld_unit_zero off3]
  rfl

variable (m : (ℓ : Loc nD τ sig) → Buf (Elt Ideal) ℓ) (c : Dev nD)

/-- The reference's arguments. -/
def rI : Inp := inp (m ((c.tc : Thread nD τ).loc main_arg0)) (m ((c.tc : Thread nD τ).loc main_arg1)) (m ((c.tc : Thread nD τ).loc main_arg2))
  (m ((c.tc : Thread nD τ).loc main_arg3)) (m ((c.tc : Thread nD τ).loc main_arg4)) (m ((c.tc : Thread nD τ).loc main_arg5))
  (m ((c.tc : Thread nD τ).loc main_arg6)) (m ((c.tc : Thread nD τ).loc main_arg7))

theorem ez_at (i : Fin 8640) (d : Fin 2880) : Value.exitV m c (Proc.devRef .tc main_v10) (ix2 i d) = (rI m c).Z i d := by
  rw [Value.exit_main_v10]
  exact z_at _ _ _ _ _ i d

theorem V_z : V m c (Pipeline.arrRef spec0 0) = Value.exitV m c (Proc.devRef .tc main_v10) :=
  (A_eq m c 0).symm.trans (((dats m 0 c).arrAt_in 0 rfl cfg0.N).symm.trans (Pipeline.withArrays_arr spec0 launch0.win.arr_inj c (V0 m c) (fun w => (dats m 0 c).arrAt w cfg0.N) 0).symm)

theorem ridx0 : ∀ t : Fin cfg0.N, win0_0.index t = ![0, 0] ∧ win0_1.index t = ![0, 0, 0] ∧ win0_2.index t = ![0, 0] ∧ win0_3.index t = ![0, 0]
    ∧ win0_4.index t = ![0, 0] ∧ win0_5.index t = ![0, 0, 0] := (by decide +kernel : ∀ t : Fin grid0.N, _)

theorem iz_at (t : Fin cfg0.N) (i : Fin 8640) (d : Fin 2880) : iblk m c 0 t (ix2 i d) = (rI m c).Z i d := by
  refine Eq.trans ?_ (ez_at m c i d)
  rw [← V_z m c]
  blk_ext [iblk, ridx0 t]

theorem ix_at (t : Fin cfg0.N) (b : Fin 5) (s : Fin 3072) (d : Fin 2880) : iblk m c 1 t (ix3 b s d) = m ((c.tc : Thread nD τ).loc main_arg0) (ix3 b s d) := by
  rw [← V_main_arg0 m c]
  blk_ext [iblk, ridx0 t]

theorem reg0_at : Value.reg_main_v11_0 m c = fun j : S8640x2880.Idx => cz ((rI m c).Z (j 0) (j 1)) := by
  unfold Value.reg_main_v11_0
  refine (dats m 0 c).arrAt_eq_of_covers 2 _ (by decide +kernel) fun t hf y => ?_
  blk_simp
  rw [after0_2]
  obtain ⟨i, d, rfl⟩ : ∃ (i : Fin 8640) (d : Fin 2880), y = ix2 i d := ⟨y 0, y 1, eq_ix2 y⟩
  refine (out2_at _ _ _).trans (congrArg cz ((iz_at m c t i d).trans (congrArg₂ (rI m c).Z (Fin.ext ?_) (Fin.ext ?_))))
  · blk_simp [ridx0 t]
  · blk_simp [ridx0 t]

theorem reg1_at : Value.reg_main_v11_1 m c = fun j : S8640x2880.Idx => qz ((rI m c).Z (j 0) (j 1)) := by
  unfold Value.reg_main_v11_1
  refine (dats m 0 c).arrAt_eq_of_covers 3 _ (by decide +kernel) fun t hf y => ?_
  blk_simp
  rw [after0_3]
  obtain ⟨i, d, rfl⟩ : ∃ (i : Fin 8640) (d : Fin 2880), y = ix2 i d := ⟨y 0, y 1, eq_ix2 y⟩
  refine (out3_at _ _ _).trans (congrArg qz ((iz_at m c t i d).trans (congrArg₂ (rI m c).Z (Fin.ext ?_) (Fin.ext ?_))))
  · blk_simp [ridx0 t]
  · blk_simp [ridx0 t]

theorem reg2_at : Value.reg_main_v11_2 m c = fun j : S8640x2880.Idx => qz ((rI m c).Z (j 0) (j 1)) := by
  unfold Value.reg_main_v11_2
  refine (dats m 0 c).arrAt_eq_of_covers 4 _ (by decide +kernel) fun t hf y => ?_
  blk_simp
  rw [after0_4]
  obtain ⟨i, d, rfl⟩ : ∃ (i : Fin 8640) (d : Fin 2880), y = ix2 i d := ⟨y 0, y 1, eq_ix2 y⟩
  refine (out4_at _ _ _).trans (congrArg qz ((iz_at m c t i d).trans (congrArg₂ (rI m c).Z (Fin.ext ?_) (Fin.ext ?_))))
  · blk_simp [ridx0 t]
  · blk_simp [ridx0 t]

/-- The activation codes' array, as its argument holds it. -/
def x0F : S5x3072x2880.Idx → EReal := m ((c.tc : Thread nD τ).loc main_arg0)

theorem reg3_at : Value.reg_main_v11_3 m c = x0F m c := by
  unfold Value.reg_main_v11_3
  refine (dats m 0 c).arrAt_eq_of_covers 5 _ (by decide +kernel) fun t hf y => ?_
  blk_simp
  rw [after0_5]
  obtain ⟨b, s, d, rfl⟩ : ∃ (b : Fin 5) (s : Fin 3072) (d : Fin 2880), y = ix3 b s d := ⟨y 0, y 1, y 2, eq_ix3 y⟩
  refine (out5_at _ _ _).trans ((ix_at m c t b s d).trans (congrArg (x0F m c) (funext fun a => Fin.ext ?_)))
  match a with
  | ⟨0, _⟩ => blk_simp [ridx0 t]
  | ⟨1, _⟩ => blk_simp [ridx0 t]
  | ⟨2, _⟩ => blk_simp [ridx0 t]

/-- The reference's results, each from the specification. -/
theorem ref_v31 : Read.val_main_v31 (F := Ideal) (m ((c.tc : Thread nD τ).loc main_arg1)) (m ((c.tc : Thread nD τ).loc main_arg3)) (m ((c.tc : Thread nD τ).loc main_arg7))
    (Value.reg_main_v11_1 m c) (Value.reg_main_v11_3 m c) = fun j : S5x3072.Idx => (rI m c).rl (tok (j 0) (j 1)) := by
  rw [reg1_at, reg3_at]
  funext j
  obtain ⟨b, s, rfl⟩ : ∃ (b : Fin 5) (s : Fin 3072), j = ix2 b s := ⟨j 0, j 1, eq_ix2 j⟩
  exact v31_at _ _ _ _ _ _ _ _ _ (fun i d => rfl) b s
theorem ref_v41 : Read.val_main_v41 (F := Ideal) (m ((c.tc : Thread nD τ).loc main_arg1)) (m ((c.tc : Thread nD τ).loc main_arg3)) (m ((c.tc : Thread nD τ).loc main_arg7))
    (Value.reg_main_v11_1 m c) (Value.reg_main_v11_3 m c) (Value.exitV m c (Proc.devRef .tc main_v10)) = fun j : S8640x2880.Idx => (rI m c).D2 (j 0) (j 1) := by
  rw [reg1_at, reg3_at]
  funext j
  obtain ⟨i, d, rfl⟩ : ∃ (i : Fin 8640) (d : Fin 2880), j = ix2 i d := ⟨j 0, j 1, eq_ix2 j⟩
  exact v41_at _ _ _ _ _ _ _ _ _ (fun i d => rfl) _ (ez_at m c) i d
theorem ref_v42 : Read.val_main_v42 (F := Ideal) (m ((c.tc : Thread nD τ).loc main_arg1)) (m ((c.tc : Thread nD τ).loc main_arg3)) (m ((c.tc : Thread nD τ).loc main_arg7))
    (Value.reg_main_v11_1 m c) (Value.reg_main_v11_3 m c) (Value.exitV m c (Proc.devRef .tc main_v10)) = fun j : S8640.Idx => (rI m c).dr (j 0) := by
  rw [reg1_at, reg3_at]
  funext j
  obtain ⟨i, rfl⟩ : ∃ (i : Fin 8640), j = ix1 i := ⟨j 0, eq_ix1 j⟩
  exact v42_at _ _ _ _ _ _ _ _ _ (fun i d => rfl) _ (ez_at m c) i
theorem ref_v43 : Read.val_main_v43 (F := Ideal) (m ((c.tc : Thread nD τ).loc main_arg1)) (m ((c.tc : Thread nD τ).loc main_arg3)) (m ((c.tc : Thread nD τ).loc main_arg7))
    (Value.reg_main_v11_1 m c) (Value.reg_main_v11_3 m c) (Value.exitV m c (Proc.devRef .tc main_v10)) = fun j : S2880.Idx => (rI m c).dc (j 0) := by
  rw [reg1_at, reg3_at]
  funext j
  obtain ⟨d, rfl⟩ : ∃ (d : Fin 2880), j = ix1 d := ⟨j 0, eq_ix1 j⟩
  exact v43_at _ _ _ _ _ _ _ _ _ (fun i d => rfl) _ (ez_at m c) d
theorem ref_v47 : Read.val_main_v47 (F := Ideal) (m ((c.tc : Thread nD τ).loc main_arg1)) (m ((c.tc : Thread nD τ).loc main_arg3)) (m ((c.tc : Thread nD τ).loc main_arg7))
    (Value.reg_main_v11_1 m c) (Value.reg_main_v11_2 m c) (Value.reg_main_v11_3 m c) (Value.exitV m c (Proc.devRef .tc main_v10)) = fun j : S8640.Idx => (rI m c).ds1 (j 0) := by
  rw [reg1_at, reg2_at, reg3_at]
  funext j
  obtain ⟨i, rfl⟩ : ∃ (i : Fin 8640), j = ix1 i := ⟨j 0, eq_ix1 j⟩
  exact v47_at _ _ _ _ _ _ _ _ _ (fun i d => rfl) _ (ez_at m c) i

variable (ρ : Dev nD → PrngReg)

/-- THE REFERENCE'S RUN: every weakly fair execution terminates with each result the specification's, the arguments unchanged. -/
theorem ref_run :
    θ_run defs (onTc (τ := τ) (main (F := Ideal))) ⟨m, fun _ => 0, ρ⟩ fun r => ∀ c : Dev nD,
      r.2.mem ((c.tc : Thread nD τ).loc main_v31) = (fun j : S5x3072.Idx => (rI m c).rl (tok (j 0) (j 1)))
      ∧ r.2.mem ((c.tc : Thread nD τ).loc main_v41) = (fun j : S8640x2880.Idx => (rI m c).D2 (j 0) (j 1))
      ∧ r.2.mem ((c.tc : Thread nD τ).loc main_v42) = (fun j : S8640.Idx => (rI m c).dr (j 0))
      ∧ r.2.mem ((c.tc : Thread nD τ).loc main_v43) = (fun j : S2880.Idx => (rI m c).dc (j 0))
      ∧ r.2.mem ((c.tc : Thread nD τ).loc main_v47) = (fun j : S8640.Idx => (rI m c).ds1 (j 0))
      ∧ r.2.mem ((c.tc : Thread nD τ).loc main_v11_0) = (fun j : S8640x2880.Idx => cz ((rI m c).Z (j 0) (j 1)))
      ∧ r.2.mem ((c.tc : Thread nD τ).loc main_arg3) = m ((c.tc : Thread nD τ).loc main_arg3)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) := by
  refine (θ_run defs _ _).mono (fun r h c => ?_) (Value.run m ρ)
  obtain ⟨h0, h1, h2, h3, h4, h5, h6, hargs⟩ := h c
  refine ⟨h0.trans (Eq.trans ?_ (ref_v31 m c)), h1.trans (Eq.trans ?_ (ref_v41 m c)), h2.trans (Eq.trans ?_ (ref_v42 m c)),
    h3.trans (Eq.trans ?_ (ref_v43 m c)), h4.trans (Eq.trans ?_ (ref_v47 m c)), h5.trans (reg0_at m c), h6, hargs⟩
  · refine Eq.trans ?_ ((Read.val_main_v31_eq (Value.exitV m c)).trans ?_)
    all_goals rw [Value.exit_main_arg1, Value.exit_main_arg3, Value.exit_main_arg7, Value.exit_main_v11_3, Value.exit_main_v11_1]
  · rw [Value.exit_main_v10]; rfl
  · rw [Value.exit_main_v10]; rfl
  · rw [Value.exit_main_v10]; rfl
  · rw [Value.exit_main_v10]; rfl

end Cert.V

end
-- ==== Proof.V.Claim.lean ====
module

public import proofs.«01_k».proof.Proof.V.KRun
public import proofs.«01_k».proof.Proof.V.RefRun
public import proofs.«01_k».proof.Defs

@[expose] public section

set_option maxRecDepth 16384

noncomputable section

namespace Cert.V

open Idealize.ShloMosaic Idealize.ShloMosaic.TcCoe Idealize.SL.Sem

/-- From arguments that agree the specification is the same. -/
theorem inputs_eq (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) :
    rI m' c = kI m c := by
  obtain ⟨h0, h1, h2, h3, h4, h5, h6, h7⟩ := h
  unfold rI kI
  rw [h0, h1, h2, h3, h4, h5, h6, h7]

/-- THE VALUE CLAIM: from arguments that agree, both programs end with the same seven results. -/
theorem algebraic : Cert.algebraic_KernelIdeal_ReferenceIdeal := by
  intro m g m' g' _ hagree
  refine ⟨_, _, _, _, _, _, _, ker_run m g, (θ_run _ _ _).mono (fun r h c => ?_) (ref_run m' g')⟩
  have e := h c
  rw [inputs_eq m m' c (hagree c)] at e
  obtain ⟨a0, a1, a2, a3, a4, a5, a6, hargs⟩ := e
  exact ⟨a0, a1, a2, a3, a4, a5, a6.trans (hagree c).2.2.2.1, hargs⟩

end Cert.V

end
-- ==== Proof.lean ====
module

public import proofs.«01_k».proof.Proof.Same
public import proofs.«01_k».proof.Proof.K.Run
public import proofs.«01_k».proof.Proof.V.Claim
public import proofs.«01_k».proof.Proof.Gen.ReferenceIdeal.Read
public import proofs.«01_k».proof.Proof.Gen.ReferenceIdeal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import Idealize.ShloMosaic.Adequacy
public import Idealize.ShloMosaic.Init

@[expose] public section

noncomputable section

namespace Cert.Proof

open Idealize.ShloMosaic Idealize.SL.Sem Cert.Kernel

attribute [local instance] namedBits

theorem claim : Cert.Claim := ⟨Cert.Kernel.Gen.facts, Cert.KernelIdeal.Gen.facts, Cert.ReferenceIdeal.Gen.facts,
  fun m g _ => (frame_same.mpr (fun m g => Cert.KernelIdeal.Gen.frame (F := Bits) m g)) m g,
  fun m g _ => Cert.KernelIdeal.Gen.frame (F := Ideal) m g,
  fun m g _ => Cert.ReferenceIdeal.Gen.frame m g,
  IdealRules.named_const.statement Cert.KernelIdeal.κ "inv_o" .f32 0x38F2B9D6#32 ((1 / 8640 : ℝ) : EReal) rfl,
  Cert.V.algebraic⟩

end Cert.Proof

end
